-- ==== Defs.lean ====
def Pre_Kernel [hPre_sorted_segments : Cert.Pre_sorted_segments.Facts] (m : (ℓ : Loc Cert.Kernel.nD Cert.Kernel.τ Cert.Kernel.sig) → Buf (Elt Bits) ℓ) : Prop :=
  ∀ c : Dev Cert.Kernel.nD,
    (Cert.Pre_sorted_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sorted_segments : Cert.Pre_sorted_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sorted_segments : Cert.Pre_sorted_segments.Facts) (hPre_sorted_finite : Cert.Pre_sorted_finite.Facts),
    quiescent_Kernel (hKernel := hKernel) (hPre_sorted_segments := hPre_sorted_segments)
    ∧ quiescent_KernelIdeal (hKernelIdeal := hKernelIdeal) (hPre_sorted_segments := hPre_sorted_segments)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_sorted_finite.lean ====
abbrev S320000x128 : Shape := ⟨2, ![320000, 128]⟩
abbrev S320000 : Shape := ⟨1, ![320000]⟩
abbrev S64x128 : Shape := ⟨2, ![64, 128]⟩
abbrev S64 : Shape := ⟨1, ![64]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_1 : S320000.Slices ![1] S319999
  slices_S320000_S319999_0 : S320000.Slices ![0] S319999
  reducesTo_S319999_S_d0 : S319999.ReducesTo [0] S_
  bcast_S_S320000x128 : S_.BroadcastsInDim S320000x128 (![] : Fin 0 → Fin S320000x128.rank)
  reducesTo_S320000x128_S_d0_1 : S320000x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg3 : FVec F S64 .f32) (main_v10 : IVec S_ 1) (main_v14 : IVec S_ 1) (main_v15 : FVec F S64x128 .f32) (main_v16 : FVec F S64x128 .f32) : IVec S_ 1 :=
  let main_v17 : IVec S64x128 1 := cmpf .olt main_v15 main_v16
  let main_c_5 : IVec S_ 1 := constantI S_ 1 1#1
  let main_v18 : IVec S_ 1 := (fun x v => Host.reduce IntOp.andi x v reducesTo_S64x128_S_d0_1 h_S_) main_v17 main_c_5
  let main_v19 : IVec S_ 1 := andi main_v14 main_v18
  let main_v20 : FVec F S64 .f32 := Host.absf main_arg3
  let main_cst_6 : FVec F S_ .f32 := constant S_ .f32 0x7F800000#32
  let main_v21 : FVec F S64 .f32 := broadcastInDim S64 ![] bcast_S_S64 main_cst_6
  let main_v22 : IVec S64 1 := cmpf .olt main_v20 main_v21
  let main_c_7 : IVec S_ 1 := constantI S_ 1 1#1
  let main_v23 : IVec S_ 1 := (fun x v => Host.reduce IntOp.andi x v reducesTo_S64_S_d0 h_S_) main_v22 main_c_7
  let main_v24 : IVec S_ 1 := andi main_v19 main_v23
  let main_v25 : IVec S_ 1 := andi main_v10 main_v24
  main_v25

def fn {F : FTy → Type} [FloatOps F] (main_arg0 : FVec F S320000x128 .f32) (main_arg1 : IVec S320000 32) (main_arg2 : FVec F S64x128 .f32) (main_arg3 : FVec F S64 .f32) (main_arg4 : FVec F S64 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  let main_v6 : IVec S319999 32 := (extractStridedSlice S319999 ![1] · slices_S320000_S319999_1) main_arg1
  let main_v7 : IVec S319999 32 := (extractStridedSlice S319999 ![0] · slices_S320000_S319999_0) main_arg1
  let main_v8 : IVec S319999 1 := cmpi .sge main_v6 main_v7
  let main_c_2 : IVec S_ 1 := constantI S_ 1 1#1
  let main_v9 : IVec S_ 1 := (fun x v => Host.reduce IntOp.andi x v reducesTo_S319999_S_d0 h_S_) main_v8 main_c_2
  let main_v10 : IVec S_ 1 := andi main_v5 main_v9
  let main_v11 : FVec F S320000x128 .f32 := Host.absf main_arg0
  let main_cst : FVec F S_ .f32 := constant S_ .f32 0x7F800000#32
  let main_v12 : FVec F S320000x128 .f32 := broadcastInDim S320000x128 ![] bcast_S_S320000x128 main_cst
  let main_v13 : IVec S320000x128 1 := cmpf .olt main_v11 main_v12
  let main_c_3 : IVec S_ 1 := constantI S_ 1 1#1
  let main_v14 : IVec S_ 1 := (fun x v => Host.reduce IntOp.andi x v reducesTo_S320000x128_S_d0_1 h_S_) main_v13 main_c_3
  let main_v15 : FVec F S64x128 .f32 := Host.absf main_arg2
  let main_cst_4 : FVec F S_ .f32 := constant S_ .f32 0x7F800000#32
  let main_v16 : FVec F S64x128 .f32 := broadcastInDim S64x128 ![] bcast_S_S64x128 main_cst_4
  fn_part1 (F := F) main_arg3 main_v10 main_v14 main_v15 main_v16
-- ==== Pre_sorted_segments.lean ====
abbrev S320000x128 : Shape := ⟨2, ![320000, 128]⟩
abbrev S320000 : Shape := ⟨1, ![320000]⟩
abbrev S64x128 : Shape := ⟨2, ![64, 128]⟩
abbrev S64 : Shape := ⟨1, ![64]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_1 : S320000.Slices ![1] S319999
  slices_S320000_S319999_0 : S320000.Slices ![0] S319999
  reducesTo_S319999_S_d0 : S319999.ReducesTo [0] S_

variable [Facts]

def fn {F : FTy → Type} [FloatOps F] (main_arg0 : FVec F S320000x128 .f32) (main_arg1 : IVec S320000 32) (main_arg2 : FVec F S64x128 .f32) (main_arg3 : FVec F S64 .f32) (main_arg4 : FVec F S64 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  let main_v6 : IVec S319999 32 := (extractStridedSlice S319999 ![1] · slices_S320000_S319999_1) main_arg1
  let main_v7 : IVec S319999 32 := (extractStridedSlice S319999 ![0] · slices_S320000_S319999_0) main_arg1
  let main_v8 : IVec S319999 1 := cmpi .sge main_v6 main_v7
  let main_c_2 : IVec S_ 1 := constantI S_ 1 1#1
  let main_v9 : IVec S_ 1 := (fun x v => Host.reduce IntOp.andi x v reducesTo_S319999_S_d0 h_S_) main_v8 main_c_2
  let main_v10 : IVec S_ 1 := andi main_v5 main_v9
  main_v10
-- ==== Kernel.lean ====
abbrev S320000x128 : Shape := ⟨2, ![320000, 128]⟩
abbrev S320000 : Shape := ⟨1, ![320000]⟩
abbrev S64x128 : Shape := ⟨2, ![64, 128]⟩
abbrev S64 : Shape := ⟨1, ![64]⟩
abbrev S625x1x512 : Shape := ⟨3, ![625, 1, 512]⟩
abbrev S320512x64 : Shape := ⟨2, ![320512, 64]⟩
abbrev S8x64 : Shape := ⟨2, ![8, 64]⟩
abbrev S512x128 : Shape := ⟨2, ![512, 128]⟩
abbrev S1x1x512 : Shape := ⟨3, ![1, 1, 512]⟩
abbrev S512x64 : Shape := ⟨2, ![512, 64]⟩
abbrev S1x64 : Shape := ⟨2, ![1, 64]⟩
abbrev S512 : Shape := ⟨1, ![512]⟩
abbrev S64x1 : Shape := ⟨2, ![64, 1]⟩
abbrev S1x512 : Shape := ⟨2, ![1, 512]⟩
abbrev S64x512 : Shape := ⟨2, ![64, 512]⟩
abbrev S32x1 : Shape := ⟨2, ![32, 1]⟩
abbrev S32 : Shape := ⟨1, ![32]⟩
abbrev S_ : Shape := ⟨0, ![]⟩
abbrev S1 : Shape := ⟨1, ![1]⟩
abbrev S7 : Shape := ⟨1, ![7]⟩
abbrev S40 : Shape := ⟨1, ![40]⟩
abbrev S31 : Shape := ⟨1, ![31]⟩
abbrev S320520 : Shape := ⟨1, ![320520]⟩
abbrev S641024 : Shape := ⟨1, ![641024]⟩
abbrev S56 : Shape := ⟨1, ![56]⟩
abbrev S536 : Shape := ⟨1, ![536]⟩
abbrev S520x64 : Shape := ⟨2, ![520, 64]⟩
abbrev S20288 : Shape := ⟨1, ![20288]⟩
abbrev S16 : Shape := ⟨1, ![16]⟩
abbrev S520 : Shape := ⟨1, ![520]⟩
abbrev S1x16 : Shape := ⟨2, ![1, 16]⟩
abbrev S19968 : Shape := ⟨1, ![19968]⟩
abbrev S280 : Shape := ⟨1, ![280]⟩
abbrev S256x64 : Shape := ⟨2, ![256, 64]⟩
abbrev S20480 : Shape := ⟨1, ![20480]⟩
abbrev S256x128 : Shape := ⟨2, ![256, 128]⟩
abbrev S264 : Shape := ⟨1, ![264]⟩
abbrev S128x128 : Shape := ⟨2, ![128, 128]⟩
abbrev S32x128 : Shape := ⟨2, ![32, 128]⟩
abbrev S16x128 : Shape := ⟨2, ![16, 128]⟩
abbrev S8x128 : Shape := ⟨2, ![8, 128]⟩

abbrev nBuf : Table → Nat
  | .hbm => 49
  | .local .tc .vmem => 16
  | .local .scVector .vmem => 10
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S625x1x512, .i32⟩
  | .hbm, ⟨6, _⟩ => ⟨S320512x64, .f32⟩
  | .hbm, ⟨7, _⟩ => ⟨S8x64, .f32⟩
  | .hbm, ⟨8, _⟩ => ⟨S64x128, .i32⟩
  | .hbm, ⟨9, _⟩ => ⟨S1x64, .f32⟩
  | .hbm, ⟨10, _⟩ => ⟨S1x64, .f32⟩
  | .hbm, ⟨11, _⟩ => ⟨S320512x64, .f32⟩
  | .hbm, ⟨12, _⟩ => ⟨S32x1, .i32⟩
  | .hbm, ⟨13, _⟩ => ⟨S32, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S7, .i32⟩
  | .hbm, ⟨18, _⟩ => ⟨S40, .i32⟩
  | .hbm, ⟨19, _⟩ => ⟨S31, .i32⟩
  | .hbm, ⟨20, _⟩ => ⟨S_, .i32⟩
  | .hbm, ⟨21, _⟩ => ⟨S_, .i32⟩
  | .hbm, ⟨22, _⟩ => ⟨S31, .i32⟩
  | .hbm, ⟨23, _⟩ => ⟨S31, .i32⟩
  | .hbm, ⟨24, _⟩ => ⟨S31, .i32⟩
  | .hbm, ⟨25, _⟩ => ⟨S_, .i32⟩
  | .hbm, ⟨26, _⟩ => ⟨S31, .i32⟩
  | .hbm, ⟨27, _⟩ => ⟨S31, .i1⟩
  | .hbm, ⟨28, _⟩ => ⟨S31, .i32⟩
  | .hbm, ⟨29, _⟩ => ⟨S31, .i32⟩
  | .hbm, ⟨30, _⟩ => ⟨S_, .i32⟩
  | .hbm, ⟨31, _⟩ => ⟨S31, .i32⟩
  | .hbm, ⟨32, _⟩ => ⟨S31, .i1⟩
  | .hbm, ⟨33, _⟩ => ⟨S31, .i1⟩
  | .hbm, ⟨34, _⟩ => ⟨S_, .i32⟩
  | .hbm, ⟨35, _⟩ => ⟨S31, .i32⟩
  | .hbm, ⟨36, _⟩ => ⟨S31, .i32⟩
  | .hbm, ⟨37, _⟩ => ⟨S31, .i32⟩
  | .hbm, ⟨38, _⟩ => ⟨S_, .i32⟩
  | .hbm, ⟨39, _⟩ => ⟨S31, .i32⟩
  | .hbm, ⟨40, _⟩ => ⟨S31, .i32⟩
  | .hbm, ⟨41, _⟩ => ⟨S_, .i32⟩
  | .hbm, ⟨42, _⟩ => ⟨S1, .i32⟩
  | .hbm, ⟨43, _⟩ => ⟨S40, .i32⟩
  | .hbm, ⟨44, _⟩ => ⟨S_, .i32⟩
  | .hbm, ⟨45, _⟩ => ⟨S_, .i32⟩
  | .hbm, ⟨46, _⟩ => ⟨S320520, .i32⟩
  | .hbm, ⟨47, _⟩ => ⟨S641024, .f32⟩
  | .hbm, ⟨48, _⟩ => ⟨S320000x128, .f32⟩
  | .local .tc .vmem, ⟨0, _⟩ => ⟨S512x128, .f32⟩
  | .local .tc .vmem, ⟨1, _⟩ => ⟨S512x128, .f32⟩
  | .local .tc .vmem, ⟨2, _⟩ => ⟨S1x1x512, .i32⟩
  | .local .tc .vmem, ⟨3, _⟩ => ⟨S1x1x512, .i32⟩
  | .local .tc .vmem, ⟨4, _⟩ => ⟨S64x128, .f32⟩
  | .local .tc .vmem, ⟨5, _⟩ => ⟨S512x64, .f32⟩
  | .local .tc .vmem, ⟨6, _⟩ => ⟨S512x64, .f32⟩
  | .local .tc .vmem, ⟨7, _⟩ => ⟨S8x64, .f32⟩
  | .local .tc .vmem, ⟨8, _⟩ => ⟨S64x128, .i32⟩
  | .local .tc .vmem, ⟨9, _⟩ => ⟨S512x64, .f32⟩
  | .local .tc .vmem, ⟨10, _⟩ => ⟨S512x64, .f32⟩
  | .local .tc .vmem, ⟨11, _⟩ => ⟨S8x64, .f32⟩
  | .local .tc .vmem, ⟨12, _⟩ => ⟨S1x64, .f32⟩
  | .local .tc .vmem, ⟨13, _⟩ => ⟨S1x64, .f32⟩
  | .local .tc .vmem, ⟨14, _⟩ => ⟨S512x64, .f32⟩
  | .local .tc .vmem, ⟨15, _⟩ => ⟨S512x64, .f32⟩
  | .local .scVector .vmem, ⟨0, _⟩ => ⟨S56, .i32⟩
  | .local .scVector .vmem, ⟨1, _⟩ => ⟨S536, .i32⟩
  | .local .scVector .vmem, ⟨2, _⟩ => ⟨S520x64, .f32⟩
  | .local .scVector .vmem, ⟨3, _⟩ => ⟨S20288, .f32⟩
  | .local .scVector .vmem, ⟨4, _⟩ => ⟨S56, .i32⟩
  | .local .scVector .vmem, ⟨5, _⟩ => ⟨S280, .i32⟩
  | .local .scVector .vmem, ⟨6, _⟩ => ⟨S256x64, .f32⟩
  | .local .scVector .vmem, ⟨7, _⟩ => ⟨S20480, .f32⟩
  | .local .scVector .vmem, ⟨8, _⟩ => ⟨S64, .f32⟩
  | .local .scVector .vmem, ⟨9, _⟩ => ⟨S256x128, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | _ => false

abbrev sig : RefSig :=
  ofTables nBuf rfl bufTy 4 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_call1_v0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v4_scv : Ref sig .scVector := ⟨.hbm, 11, rfl⟩
abbrev main_v16_scv : Ref sig .scVector := ⟨.hbm, 46, rfl⟩
abbrev main_v9_scv : Ref sig .scVector := ⟨.hbm, 18, rfl⟩
abbrev main_v17_scv : Ref sig .scVector := ⟨.hbm, 47, rfl⟩
abbrev main_v15_scv : Ref sig .scVector := ⟨.hbm, 43, rfl⟩
abbrev main_v18_scv : Ref sig .scVector := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc3_scratch0 : Ref sig .scVector := ⟨.vmem, 4, rfl⟩
abbrev cc3_scratch1 : Ref sig .scVector := ⟨.vmem, 5, rfl⟩
abbrev cc3_scratch2 : Ref sig .scVector := ⟨.vmem, 6, rfl⟩
abbrev cc3_scratch3 : Ref sig .scVector := ⟨.vmem, 7, rfl⟩
abbrev cc3_scratch4 : Ref sig .scVector := ⟨.vmem, 8, rfl⟩
abbrev cc3_scratch5 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v2 : Index := Scalar.indexCast v1
  ![v2.toNat]
def k2_off2 (i : grid2.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v7 : BitVec 32 := Scalar.addi v1 c1_i32
  let v8 : Index := Scalar.indexCast v7
  ![v8.toNat]
@[reducible] def k2_t1_loop (v6 : BitVec 32) (v12 : BitVec 32) : Scf.Loop 32 :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_26 : BitVec 32 := 1#32
  ⟨c0_i32_24, v79, c1_i32_26⟩
def k2_cond1 (v6 : BitVec 32) (v12 : BitVec 32) : BitVec 1 :=
  let v13 : BitVec 32 := Scalar.subi v12 v6
  let c0_i32_22 : BitVec 32 := 0#32
  let v72 : BitVec 1 := Scalar.cmpi .sgt v13 c0_i32_22
  let v73 : BitVec 32 := Scalar.extui v72
  let c0_i32_23 : BitVec 32 := 0#32
  let v74 : BitVec 1 := Scalar.cmpi .ne v73 c0_i32_23
  v74

def k2_mult1 (v6 : BitVec 32) (v12 : BitVec 32) (k2_t1 : Fin (k2_t1_loop v6 v12).trips) : BitVec 32 :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  v129
def k2_off3 (v6 : BitVec 32) (v12 : BitVec 32) (k2_t1 : Fin (k2_t1_loop v6 v12).trips) : Fin 2 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let c0_i32_46_r1 : BitVec 32 := 0#32
  ![v130.toNat, 0]
def k2_off4 (v6 : BitVec 32) (v12 : BitVec 32) (k2_t1 : Fin (k2_t1_loop v6 v12).trips) : Fin 1 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  ![v130.toNat]
@[reducible] def k2_t2_loop (v6 : BitVec 32) (v12 : BitVec 32) (k2_t1 : Fin (k2_t1_loop v6 v12).trips) : Scf.Loop 32 :=
  let c0_i32_42 : BitVec 32 := 0#32
  let c512_i32_34 : BitVec 32 := 512#32
  let v13 : BitVec 32 := Scalar.subi v12 v6
  let c0_i32_24 : BitVec 32 := 0#32
  let c1_i32_26 : BitVec 32 := 1#32
  let arg10 : BitVec 32 := Scf.iv c0_i32_24 c1_i32_26 k2_t1
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_44 : BitVec 32 := 1#32
  ⟨c0_i32_42, v136, c1_i32_44⟩
def k2_off5 (v6 : BitVec 32) (v12 : BitVec 32) (k2_t1 : Fin (k2_t1_loop v6 v12).trips) (k2_t2 : Fin (k2_t2_loop v6 v12 k2_t1).trips) : Fin 1 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c1_i32_44 : BitVec 32 := 1#32
  let arg16 : BitVec 32 := Scf.iv c0_i32_42 c1_i32_44 k2_t2
  let v139 : BitVec 32 := Scalar.addi v131 arg16
  let v140 : Index := Scalar.indexCast v139
  ![v140.toNat]
def k2_off6 (i : grid2.Coords) (arg21 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v168 : BitVec 32 := Scalar.subi arg21 v31
  let c64_i32_47 : BitVec 32 := 64#32
  let v169 : BitVec 32 := Scalar.muli v168 c64_i32_47
  let v170 : Index := Scalar.indexCast v169
  ![v170.toNat]
def k2_cond2 (arg21 : BitVec 32) (v144 : BitVec 32) : BitVec 1 :=
  let v145 : BitVec 1 := Scalar.cmpi .ne v144 arg21
  let v146 : BitVec 32 := Scalar.extui v145
  let c0_i32_46 : BitVec 32 := 0#32
  let v147 : BitVec 1 := Scalar.cmpi .ne v146 c0_i32_46
  v147

def k2_off7 (i : grid2.Coords) (arg21 : BitVec 32) (c16_i32_48 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v168 : BitVec 32 := Scalar.subi arg21 v31
  let c64_i32_47 : BitVec 32 := 64#32
  let v169 : BitVec 32 := Scalar.muli v168 c64_i32_47
  let v174 : BitVec 32 := Scalar.addi v169 c16_i32_48
  let v175 : Index := Scalar.indexCast v174
  ![v175.toNat]

def k2_chk2 (i : grid2.Coords) (v6 : BitVec 32) (v12 : BitVec 32) (arg21 : BitVec 32) (v144 : BitVec 32) : Prop :=
  (∀ (k2_h1 : k2_cond1 v6 v12 = 1#1), ∀ (k2_h2 : k2_cond2 arg21 v144 = 1#1), ∀ a, (k2_off6 i arg21) a + S16.size a ≤ S20288.size a) ∧
  (∀ (k2_h1 : k2_cond1 v6 v12 = 1#1), ∀ (k2_h2 : k2_cond2 arg21 v144 = 1#1), ∀ (r : Fin 3), ∀ a, (k2_off7 i arg21 (BitVec.ofNat 32 (16 + 16 * r.val))) a + S16.size a ≤ S20288.size a)
theorem k2_off6_inb : ∀ (i : grid2.Coords) (v6 : BitVec 32) (v12 : BitVec 32) (arg21 : BitVec 32) (v144 : BitVec 32) (k2_hw2 : k2_chk2 i v6 v12 arg21 v144), ∀ (k2_h1 : k2_cond1 v6 v12 = 1#1), ∀ (k2_h2 : k2_cond2 arg21 v144 = 1#1), ∀ a, (k2_off6 i arg21) a + S16.size a ≤ S20288.size a := fun i v6 v12 arg21 v144 k2_hw2 k2_h1 k2_h2 => k2_hw2.1 k2_h1 k2_h2
theorem k2_off7_inb : ∀ (i : grid2.Coords) (v6 : BitVec 32) (v12 : BitVec 32) (arg21 : BitVec 32) (v144 : BitVec 32) (k2_hw2 : k2_chk2 i v6 v12 arg21 v144), ∀ (k2_h1 : k2_cond1 v6 v12 = 1#1), ∀ (k2_h2 : k2_cond2 arg21 v144 = 1#1), ∀ (r : Fin 3), ∀ a, (k2_off7 i arg21 (BitVec.ofNat 32 (16 + 16 * r.val))) a + S16.size a ≤ S20288.size a := fun i v6 v12 arg21 v144 k2_hw2 k2_h1 k2_h2 r => k2_hw2.2 k2_h1 k2_h2 r

def k2_off8 (v6 : BitVec 32) (v12 : BitVec 32) (k2_t1 : Fin (k2_t1_loop v6 v12).trips) (k2_t2 : Fin (k2_t2_loop v6 v12 k2_t1).trips) : Fin 2 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c1_i32_44 : BitVec 32 := 1#32
  let arg16 : BitVec 32 := Scf.iv c0_i32_42 c1_i32_44 k2_t2
  let v139 : BitVec 32 := Scalar.addi v131 arg16
  let v148 : Index := Scalar.indexCast v139
  let c0 : Index := 0#32
  ![v148.toNat, 0]
def k2_off9 (v6 : BitVec 32) (v12 : BitVec 32) (k2_t1 : Fin (k2_t1_loop v6 v12).trips) (k2_t2 : Fin (k2_t2_loop v6 v12 k2_t1).trips) : Fin 2 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c1_i32_44 : BitVec 32 := 1#32
  let arg16 : BitVec 32 := Scf.iv c0_i32_42 c1_i32_44 k2_t2
  let v139 : BitVec 32 := Scalar.addi v131 arg16
  let v151 : Index := Scalar.indexCast v139
  let c16 : Index := 16#32
  ![v151.toNat, 16]
def k2_off10 (v6 : BitVec 32) (v12 : BitVec 32) (k2_t1 : Fin (k2_t1_loop v6 v12).trips) (k2_t2 : Fin (k2_t2_loop v6 v12 k2_t1).trips) : Fin 2 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c1_i32_44 : BitVec 32 := 1#32
  let arg16 : BitVec 32 := Scf.iv c0_i32_42 c1_i32_44 k2_t2
  let v139 : BitVec 32 := Scalar.addi v131 arg16
  let v154 : Index := Scalar.indexCast v139
  let c32 : Index := 32#32
  ![v154.toNat, 32]
def k2_off11 (v6 : BitVec 32) (v12 : BitVec 32) (k2_t1 : Fin (k2_t1_loop v6 v12).trips) (k2_t2 : Fin (k2_t2_loop v6 v12 k2_t1).trips) : Fin 2 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c1_i32_44 : BitVec 32 := 1#32
  let arg16 : BitVec 32 := Scf.iv c0_i32_42 c1_i32_44 k2_t2
  let v139 : BitVec 32 := Scalar.addi v131 arg16
  let v157 : Index := Scalar.indexCast v139
  let c48 : Index := 48#32
  ![v157.toNat, 48]
@[reducible] def k2_t3_loop (v6 : BitVec 32) (v12 : BitVec 32) (k2_t1 : Fin (k2_t1_loop v6 v12).trips) : Scf.Loop 32 :=
  let c0_i32_42 : BitVec 32 := 0#32
  let c512_i32_34 : BitVec 32 := 512#32
  let v13 : BitVec 32 := Scalar.subi v12 v6
  let c0_i32_24 : BitVec 32 := 0#32
  let c1_i32_26 : BitVec 32 := 1#32
  let arg10 : BitVec 32 := Scf.iv c0_i32_24 c1_i32_26 k2_t1
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let v133 : BitVec 32 := Scalar.addi c0_i32_42 v132
  let c1_i32_45 : BitVec 32 := 1#32
  ⟨v136, v133, c1_i32_45⟩
def k2_off12 (v6 : BitVec 32) (v12 : BitVec 32) (k2_t1 : Fin (k2_t1_loop v6 v12).trips) (k2_t3 : Fin (k2_t3_loop v6 v12 k2_t1).trips) : Fin 1 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c512_i32_34 : BitVec 32 := 512#32
  let v13 : BitVec 32 := Scalar.subi v12 v6
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_45 : BitVec 32 := 1#32
  let arg16 : BitVec 32 := Scf.iv v136 c1_i32_45 k2_t3
  let v139 : BitVec 32 := Scalar.addi v131 arg16
  let v140 : Index := Scalar.indexCast v139
  ![v140.toNat]
def k2_off13 (i : grid2.Coords) (arg21 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v168 : BitVec 32 := Scalar.subi arg21 v31
  let c64_i32_47 : BitVec 32 := 64#32
  let v169 : BitVec 32 := Scalar.muli v168 c64_i32_47
  let v170 : Index := Scalar.indexCast v169
  ![v170.toNat]
def k2_cond3 (arg21 : BitVec 32) (v144 : BitVec 32) : BitVec 1 :=
  let v145 : BitVec 1 := Scalar.cmpi .ne v144 arg21
  let v146 : BitVec 32 := Scalar.extui v145
  let c0_i32_46 : BitVec 32 := 0#32
  let v147 : BitVec 1 := Scalar.cmpi .ne v146 c0_i32_46
  v147

def k2_off14 (i : grid2.Coords) (arg21 : BitVec 32) (c16_i32_48 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v168 : BitVec 32 := Scalar.subi arg21 v31
  let c64_i32_47 : BitVec 32 := 64#32
  let v169 : BitVec 32 := Scalar.muli v168 c64_i32_47
  let v174 : BitVec 32 := Scalar.addi v169 c16_i32_48
  let v175 : Index := Scalar.indexCast v174
  ![v175.toNat]

def k2_chk3 (i : grid2.Coords) (v6 : BitVec 32) (v12 : BitVec 32) (arg21 : BitVec 32) (v144 : BitVec 32) : Prop :=
  (∀ (k2_h1 : k2_cond1 v6 v12 = 1#1), ∀ (k2_h3 : k2_cond3 arg21 v144 = 1#1), ∀ a, (k2_off13 i arg21) a + S16.size a ≤ S20288.size a) ∧
  (∀ (k2_h1 : k2_cond1 v6 v12 = 1#1), ∀ (k2_h3 : k2_cond3 arg21 v144 = 1#1), ∀ (r : Fin 3), ∀ a, (k2_off14 i arg21 (BitVec.ofNat 32 (16 + 16 * r.val))) a + S16.size a ≤ S20288.size a)
theorem k2_off13_inb : ∀ (i : grid2.Coords) (v6 : BitVec 32) (v12 : BitVec 32) (arg21 : BitVec 32) (v144 : BitVec 32) (k2_hw3 : k2_chk3 i v6 v12 arg21 v144), ∀ (k2_h1 : k2_cond1 v6 v12 = 1#1), ∀ (k2_h3 : k2_cond3 arg21 v144 = 1#1), ∀ a, (k2_off13 i arg21) a + S16.size a ≤ S20288.size a := fun i v6 v12 arg21 v144 k2_hw3 k2_h1 k2_h3 => k2_hw3.1 k2_h1 k2_h3
theorem k2_off14_inb : ∀ (i : grid2.Coords) (v6 : BitVec 32) (v12 : BitVec 32) (arg21 : BitVec 32) (v144 : BitVec 32) (k2_hw3 : k2_chk3 i v6 v12 arg21 v144), ∀ (k2_h1 : k2_cond1 v6 v12 = 1#1), ∀ (k2_h3 : k2_cond3 arg21 v144 = 1#1), ∀ (r : Fin 3), ∀ a, (k2_off14 i arg21 (BitVec.ofNat 32 (16 + 16 * r.val))) a + S16.size a ≤ S20288.size a := fun i v6 v12 arg21 v144 k2_hw3 k2_h1 k2_h3 r => k2_hw3.2 k2_h1 k2_h3 r

def k2_off15 (v6 : BitVec 32) (v12 : BitVec 32) (k2_t1 : Fin (k2_t1_loop v6 v12).trips) (k2_t3 : Fin (k2_t3_loop v6 v12 k2_t1).trips) : Fin 2 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c512_i32_34 : BitVec 32 := 512#32
  let v13 : BitVec 32 := Scalar.subi v12 v6
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_45 : BitVec 32 := 1#32
  let arg16 : BitVec 32 := Scf.iv v136 c1_i32_45 k2_t3
  let v139 : BitVec 32 := Scalar.addi v131 arg16
  let v148 : Index := Scalar.indexCast v139
  let c0 : Index := 0#32
  ![v148.toNat, 0]
def k2_off16 (v6 : BitVec 32) (v12 : BitVec 32) (k2_t1 : Fin (k2_t1_loop v6 v12).trips) (k2_t3 : Fin (k2_t3_loop v6 v12 k2_t1).trips) : Fin 2 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c512_i32_34 : BitVec 32 := 512#32
  let v13 : BitVec 32 := Scalar.subi v12 v6
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_45 : BitVec 32 := 1#32
  let arg16 : BitVec 32 := Scf.iv v136 c1_i32_45 k2_t3
  let v139 : BitVec 32 := Scalar.addi v131 arg16
  let v151 : Index := Scalar.indexCast v139
  let c16 : Index := 16#32
  ![v151.toNat, 16]
def k2_off17 (v6 : BitVec 32) (v12 : BitVec 32) (k2_t1 : Fin (k2_t1_loop v6 v12).trips) (k2_t3 : Fin (k2_t3_loop v6 v12 k2_t1).trips) : Fin 2 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c512_i32_34 : BitVec 32 := 512#32
  let v13 : BitVec 32 := Scalar.subi v12 v6
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_45 : BitVec 32 := 1#32
  let arg16 : BitVec 32 := Scf.iv v136 c1_i32_45 k2_t3
  let v139 : BitVec 32 := Scalar.addi v131 arg16
  let v154 : Index := Scalar.indexCast v139
  let c32 : Index := 32#32
  ![v154.toNat, 32]
def k2_off18 (v6 : BitVec 32) (v12 : BitVec 32) (k2_t1 : Fin (k2_t1_loop v6 v12).trips) (k2_t3 : Fin (k2_t3_loop v6 v12 k2_t1).trips) : Fin 2 → Nat :=
  let c0_i32_24 : BitVec 32 := 0#32
  let c1_i32_26 : BitVec 32 := 1#32
  let arg10 : BitVec 32 := Scf.iv c0_i32_24 c1_i32_26 k2_t1
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c512_i32_34 : BitVec 32 := 512#32
  let v13 : BitVec 32 := Scalar.subi v12 v6
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_45 : BitVec 32 := 1#32
  let arg16 : BitVec 32 := Scf.iv v136 c1_i32_45 k2_t3
  let v139 : BitVec 32 := Scalar.addi v131 arg16
  let v157 : Index := Scalar.indexCast v139
  let c48 : Index := 48#32
  ![v157.toNat, 48]
@[reducible] def k2_t4_loop (v6 : BitVec 32) (v12 : BitVec 32) : Scf.Loop 32 :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let v76 : BitVec 32 := Scalar.addi c0_i32_24 v75
  let c1_i32_27 : BitVec 32 := 1#32
  ⟨v79, v76, c1_i32_27⟩
def k2_mult2 (v6 : BitVec 32) (v12 : BitVec 32) (k2_t4 : Fin (k2_t4_loop v6 v12).trips) : BitVec 32 :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  v129
def k2_off19 (v6 : BitVec 32) (v12 : BitVec 32) (k2_t4 : Fin (k2_t4_loop v6 v12).trips) : Fin 2 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let c0_i32_46_r3 : BitVec 32 := 0#32
  ![v130.toNat, 0]
def k2_off20 (v6 : BitVec 32) (v12 : BitVec 32) (k2_t4 : Fin (k2_t4_loop v6 v12).trips) : Fin 1 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  ![v130.toNat]
@[reducible] def k2_t5_loop (v6 : BitVec 32) (v12 : BitVec 32) (k2_t4 : Fin (k2_t4_loop v6 v12).trips) : Scf.Loop 32 :=
  let c0_i32_42 : BitVec 32 := 0#32
  let c512_i32_34 : BitVec 32 := 512#32
  let v13 : BitVec 32 := Scalar.subi v12 v6
  let c0_i32_24 : BitVec 32 := 0#32
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_44 : BitVec 32 := 1#32
  ⟨c0_i32_42, v136, c1_i32_44⟩
def k2_off21 (v6 : BitVec 32) (v12 : BitVec 32) (k2_t4 : Fin (k2_t4_loop v6 v12).trips) (k2_t5 : Fin (k2_t5_loop v6 v12 k2_t4).trips) : Fin 1 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c1_i32_44 : BitVec 32 := 1#32
  let arg16 : BitVec 32 := Scf.iv c0_i32_42 c1_i32_44 k2_t5
  let v139 : BitVec 32 := Scalar.addi v131 arg16
  let v140 : Index := Scalar.indexCast v139
  ![v140.toNat]
def k2_off22 (i : grid2.Coords) (arg21 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v168 : BitVec 32 := Scalar.subi arg21 v31
  let c64_i32_47 : BitVec 32 := 64#32
  let v169 : BitVec 32 := Scalar.muli v168 c64_i32_47
  let v170 : Index := Scalar.indexCast v169
  ![v170.toNat]
def k2_cond4 (arg21 : BitVec 32) (v144 : BitVec 32) : BitVec 1 :=
  let v145 : BitVec 1 := Scalar.cmpi .ne v144 arg21
  let v146 : BitVec 32 := Scalar.extui v145
  let c0_i32_46 : BitVec 32 := 0#32
  let v147 : BitVec 1 := Scalar.cmpi .ne v146 c0_i32_46
  v147

def k2_off23 (i : grid2.Coords) (arg21 : BitVec 32) (c16_i32_48 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v168 : BitVec 32 := Scalar.subi arg21 v31
  let c64_i32_47 : BitVec 32 := 64#32
  let v169 : BitVec 32 := Scalar.muli v168 c64_i32_47
  let v174 : BitVec 32 := Scalar.addi v169 c16_i32_48
  let v175 : Index := Scalar.indexCast v174
  ![v175.toNat]

def k2_chk4 (i : grid2.Coords) (v6 : BitVec 32) (v12 : BitVec 32) (arg21 : BitVec 32) (v144 : BitVec 32) : Prop :=
  (∀ (k2_h1 : k2_cond1 v6 v12 = 1#1), ∀ (k2_h4 : k2_cond4 arg21 v144 = 1#1), ∀ a, (k2_off22 i arg21) a + S16.size a ≤ S20288.size a) ∧
  (∀ (k2_h1 : k2_cond1 v6 v12 = 1#1), ∀ (k2_h4 : k2_cond4 arg21 v144 = 1#1), ∀ (r : Fin 3), ∀ a, (k2_off23 i arg21 (BitVec.ofNat 32 (16 + 16 * r.val))) a + S16.size a ≤ S20288.size a)
theorem k2_off22_inb : ∀ (i : grid2.Coords) (v6 : BitVec 32) (v12 : BitVec 32) (arg21 : BitVec 32) (v144 : BitVec 32) (k2_hw4 : k2_chk4 i v6 v12 arg21 v144), ∀ (k2_h1 : k2_cond1 v6 v12 = 1#1), ∀ (k2_h4 : k2_cond4 arg21 v144 = 1#1), ∀ a, (k2_off22 i arg21) a + S16.size a ≤ S20288.size a := fun i v6 v12 arg21 v144 k2_hw4 k2_h1 k2_h4 => k2_hw4.1 k2_h1 k2_h4
theorem k2_off23_inb : ∀ (i : grid2.Coords) (v6 : BitVec 32) (v12 : BitVec 32) (arg21 : BitVec 32) (v144 : BitVec 32) (k2_hw4 : k2_chk4 i v6 v12 arg21 v144), ∀ (k2_h1 : k2_cond1 v6 v12 = 1#1), ∀ (k2_h4 : k2_cond4 arg21 v144 = 1#1), ∀ (r : Fin 3), ∀ a, (k2_off23 i arg21 (BitVec.ofNat 32 (16 + 16 * r.val))) a + S16.size a ≤ S20288.size a := fun i v6 v12 arg21 v144 k2_hw4 k2_h1 k2_h4 r => k2_hw4.2 k2_h1 k2_h4 r

def k2_off24 (v6 : BitVec 32) (v12 : BitVec 32) (k2_t4 : Fin (k2_t4_loop v6 v12).trips) (k2_t5 : Fin (k2_t5_loop v6 v12 k2_t4).trips) : Fin 2 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c1_i32_44 : BitVec 32 := 1#32
  let arg16 : BitVec 32 := Scf.iv c0_i32_42 c1_i32_44 k2_t5
  let v139 : BitVec 32 := Scalar.addi v131 arg16
  let v148 : Index := Scalar.indexCast v139
  let c0 : Index := 0#32
  ![v148.toNat, 0]
def k2_off25 (v6 : BitVec 32) (v12 : BitVec 32) (k2_t4 : Fin (k2_t4_loop v6 v12).trips) (k2_t5 : Fin (k2_t5_loop v6 v12 k2_t4).trips) : Fin 2 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c1_i32_44 : BitVec 32 := 1#32
  let arg16 : BitVec 32 := Scf.iv c0_i32_42 c1_i32_44 k2_t5
  let v139 : BitVec 32 := Scalar.addi v131 arg16
  let v151 : Index := Scalar.indexCast v139
  let c16 : Index := 16#32
  ![v151.toNat, 16]
def k2_off26 (v6 : BitVec 32) (v12 : BitVec 32) (k2_t4 : Fin (k2_t4_loop v6 v12).trips) (k2_t5 : Fin (k2_t5_loop v6 v12 k2_t4).trips) : Fin 2 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c1_i32_44 : BitVec 32 := 1#32
  let arg16 : BitVec 32 := Scf.iv c0_i32_42 c1_i32_44 k2_t5
  let v139 : BitVec 32 := Scalar.addi v131 arg16
  let v154 : Index := Scalar.indexCast v139
  let c32 : Index := 32#32
  ![v154.toNat, 32]
def k2_off27 (v6 : BitVec 32) (v12 : BitVec 32) (k2_t4 : Fin (k2_t4_loop v6 v12).trips) (k2_t5 : Fin (k2_t5_loop v6 v12 k2_t4).trips) : Fin 2 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c1_i32_44 : BitVec 32 := 1#32
  let arg16 : BitVec 32 := Scf.iv c0_i32_42 c1_i32_44 k2_t5
  let v139 : BitVec 32 := Scalar.addi v131 arg16
  let v157 : Index := Scalar.indexCast v139
  let c48 : Index := 48#32
  ![v157.toNat, 48]
@[reducible] def k2_t6_loop (v6 : BitVec 32) (v12 : BitVec 32) (k2_t4 : Fin (k2_t4_loop v6 v12).trips) : Scf.Loop 32 :=
  let c0_i32_42 : BitVec 32 := 0#32
  let c512_i32_34 : BitVec 32 := 512#32
  let v13 : BitVec 32 := Scalar.subi v12 v6
  let c0_i32_24 : BitVec 32 := 0#32
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let v133 : BitVec 32 := Scalar.addi c0_i32_42 v132
  let c1_i32_45 : BitVec 32 := 1#32
  ⟨v136, v133, c1_i32_45⟩
def k2_off28 (v6 : BitVec 32) (v12 : BitVec 32) (k2_t4 : Fin (k2_t4_loop v6 v12).trips) (k2_t6 : Fin (k2_t6_loop v6 v12 k2_t4).trips) : Fin 1 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c512_i32_34 : BitVec 32 := 512#32
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_45 : BitVec 32 := 1#32
  let arg16 : BitVec 32 := Scf.iv v136 c1_i32_45 k2_t6
  let v139 : BitVec 32 := Scalar.addi v131 arg16
  let v140 : Index := Scalar.indexCast v139
  ![v140.toNat]
def k2_off29 (i : grid2.Coords) (arg21 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v168 : BitVec 32 := Scalar.subi arg21 v31
  let c64_i32_47 : BitVec 32 := 64#32
  let v169 : BitVec 32 := Scalar.muli v168 c64_i32_47
  let v170 : Index := Scalar.indexCast v169
  ![v170.toNat]
def k2_cond5 (arg21 : BitVec 32) (v144 : BitVec 32) : BitVec 1 :=
  let v145 : BitVec 1 := Scalar.cmpi .ne v144 arg21
  let v146 : BitVec 32 := Scalar.extui v145
  let c0_i32_46 : BitVec 32 := 0#32
  let v147 : BitVec 1 := Scalar.cmpi .ne v146 c0_i32_46
  v147

def k2_off30 (i : grid2.Coords) (arg21 : BitVec 32) (c16_i32_48 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v168 : BitVec 32 := Scalar.subi arg21 v31
  let c64_i32_47 : BitVec 32 := 64#32
  let v169 : BitVec 32 := Scalar.muli v168 c64_i32_47
  let v174 : BitVec 32 := Scalar.addi v169 c16_i32_48
  let v175 : Index := Scalar.indexCast v174
  ![v175.toNat]

def k2_chk5 (i : grid2.Coords) (v6 : BitVec 32) (v12 : BitVec 32) (arg21 : BitVec 32) (v144 : BitVec 32) : Prop :=
  (∀ (k2_h1 : k2_cond1 v6 v12 = 1#1), ∀ (k2_h5 : k2_cond5 arg21 v144 = 1#1), ∀ a, (k2_off29 i arg21) a + S16.size a ≤ S20288.size a) ∧
  (∀ (k2_h1 : k2_cond1 v6 v12 = 1#1), ∀ (k2_h5 : k2_cond5 arg21 v144 = 1#1), ∀ (r : Fin 3), ∀ a, (k2_off30 i arg21 (BitVec.ofNat 32 (16 + 16 * r.val))) a + S16.size a ≤ S20288.size a)
theorem k2_off29_inb : ∀ (i : grid2.Coords) (v6 : BitVec 32) (v12 : BitVec 32) (arg21 : BitVec 32) (v144 : BitVec 32) (k2_hw5 : k2_chk5 i v6 v12 arg21 v144), ∀ (k2_h1 : k2_cond1 v6 v12 = 1#1), ∀ (k2_h5 : k2_cond5 arg21 v144 = 1#1), ∀ a, (k2_off29 i arg21) a + S16.size a ≤ S20288.size a := fun i v6 v12 arg21 v144 k2_hw5 k2_h1 k2_h5 => k2_hw5.1 k2_h1 k2_h5
theorem k2_off30_inb : ∀ (i : grid2.Coords) (v6 : BitVec 32) (v12 : BitVec 32) (arg21 : BitVec 32) (v144 : BitVec 32) (k2_hw5 : k2_chk5 i v6 v12 arg21 v144), ∀ (k2_h1 : k2_cond1 v6 v12 = 1#1), ∀ (k2_h5 : k2_cond5 arg21 v144 = 1#1), ∀ (r : Fin 3), ∀ a, (k2_off30 i arg21 (BitVec.ofNat 32 (16 + 16 * r.val))) a + S16.size a ≤ S20288.size a := fun i v6 v12 arg21 v144 k2_hw5 k2_h1 k2_h5 r => k2_hw5.2 k2_h1 k2_h5 r

def k2_off31 (v6 : BitVec 32) (v12 : BitVec 32) (k2_t4 : Fin (k2_t4_loop v6 v12).trips) (k2_t6 : Fin (k2_t6_loop v6 v12 k2_t4).trips) : Fin 2 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c512_i32_34 : BitVec 32 := 512#32
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_45 : BitVec 32 := 1#32
  let arg16 : BitVec 32 := Scf.iv v136 c1_i32_45 k2_t6
  let v139 : BitVec 32 := Scalar.addi v131 arg16
  let v148 : Index := Scalar.indexCast v139
  let c0 : Index := 0#32
  ![v148.toNat, 0]
def k2_off32 (v6 : BitVec 32) (v12 : BitVec 32) (k2_t4 : Fin (k2_t4_loop v6 v12).trips) (k2_t6 : Fin (k2_t6_loop v6 v12 k2_t4).trips) : Fin 2 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c512_i32_34 : BitVec 32 := 512#32
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_45 : BitVec 32 := 1#32
  let arg16 : BitVec 32 := Scf.iv v136 c1_i32_45 k2_t6
  let v139 : BitVec 32 := Scalar.addi v131 arg16
  let v151 : Index := Scalar.indexCast v139
  let c16 : Index := 16#32
  ![v151.toNat, 16]
def k2_off33 (v6 : BitVec 32) (v12 : BitVec 32) (k2_t4 : Fin (k2_t4_loop v6 v12).trips) (k2_t6 : Fin (k2_t6_loop v6 v12 k2_t4).trips) : Fin 2 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c512_i32_34 : BitVec 32 := 512#32
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_45 : BitVec 32 := 1#32
  let arg16 : BitVec 32 := Scf.iv v136 c1_i32_45 k2_t6
  let v139 : BitVec 32 := Scalar.addi v131 arg16
  let v154 : Index := Scalar.indexCast v139
  let c32 : Index := 32#32
  ![v154.toNat, 32]
def k2_off34 (v6 : BitVec 32) (v12 : BitVec 32) (k2_t4 : Fin (k2_t4_loop v6 v12).trips) (k2_t6 : Fin (k2_t6_loop v6 v12 k2_t4).trips) : Fin 2 → Nat :=
  let c0_i32_24 : BitVec 32 := 0#32
  let v13 : BitVec 32 := Scalar.subi v12 v6
  let c512_i32 : BitVec 32 := 512#32
  let v52 : BitVec 32 := Scalar.addi v13 c512_i32
  let c1_i32_14 : BitVec 32 := 1#32
  let v53 : BitVec 32 := Scalar.subi v52 c1_i32_14
  let c0_i32_16 : BitVec 32 := 0#32
  let v55 : BitVec 1 := Scalar.cmpi .sgt v53 c0_i32_16
  let v56 : BitVec 32 := Scalar.extui v55
  let c0_i32_17 : BitVec 32 := 0#32
  let v57 : BitVec 1 := Scalar.cmpi .slt v53 c0_i32_17
  let v58 : BitVec 32 := Scalar.extui v57
  let v59 : BitVec 32 := Scalar.subi v56 v58
  let c512_i32_15 : BitVec 32 := 512#32
  let c0_i32_18 : BitVec 32 := 0#32
  let v60 : BitVec 1 := Scalar.cmpi .sgt c512_i32_15 c0_i32_18
  let v61 : BitVec 32 := Scalar.extui v60
  let c0_i32_19 : BitVec 32 := 0#32
  let v62 : BitVec 1 := Scalar.cmpi .slt c512_i32_15 c0_i32_19
  let v63 : BitVec 32 := Scalar.extui v62
  let v64 : BitVec 32 := Scalar.subi v61 v63
  let v65 : BitVec 1 := Scalar.cmpi .ne v59 v64
  let v66 : BitVec 32 := Scalar.remsi v53 c512_i32_15
  let c0_i32_20 : BitVec 32 := 0#32
  let v67 : BitVec 1 := Scalar.cmpi .ne v66 c0_i32_20
  let v68 : BitVec 1 := Scalar.andi v65 v67
  let v54 : BitVec 32 := Scalar.divsi v53 c512_i32_15
  let c1_i32_21 : BitVec 32 := 1#32
  let v69 : BitVec 32 := Scalar.subi v54 c1_i32_21
  let v70 : BitVec 32 := Scalar.select v68 v69 v54
  let v75 : BitVec 32 := Scalar.subi v70 c0_i32_24
  let c1_i32_25 : BitVec 32 := 1#32
  let v77 : BitVec 32 := Scalar.divsi v75 c1_i32_25
  let v78 : BitVec 32 := Scalar.muli v77 c1_i32_25
  let v79 : BitVec 32 := Scalar.addi c0_i32_24 v78
  let c1_i32_27 : BitVec 32 := 1#32
  let arg10 : BitVec 32 := Scf.iv v79 c1_i32_27 k2_t4
  let c512_i32_32 : BitVec 32 := 512#32
  let v107 : BitVec 32 := Scalar.muli arg10 c512_i32_32
  let v108 : BitVec 32 := Scalar.addi v6 v107
  let c0_i32_35 : BitVec 32 := 0#32
  let v113 : BitVec 1 := Scalar.cmpi .sgt v108 c0_i32_35
  let v114 : BitVec 32 := Scalar.extui v113
  let c0_i32_36 : BitVec 32 := 0#32
  let v115 : BitVec 1 := Scalar.cmpi .slt v108 c0_i32_36
  let v116 : BitVec 32 := Scalar.extui v115
  let v117 : BitVec 32 := Scalar.subi v114 v116
  let c8_i32 : BitVec 32 := 8#32
  let c0_i32_37 : BitVec 32 := 0#32
  let v118 : BitVec 1 := Scalar.cmpi .sgt c8_i32 c0_i32_37
  let v119 : BitVec 32 := Scalar.extui v118
  let c0_i32_38 : BitVec 32 := 0#32
  let v120 : BitVec 1 := Scalar.cmpi .slt c8_i32 c0_i32_38
  let v121 : BitVec 32 := Scalar.extui v120
  let v122 : BitVec 32 := Scalar.subi v119 v121
  let v123 : BitVec 1 := Scalar.cmpi .ne v117 v122
  let v124 : BitVec 32 := Scalar.remsi v108 c8_i32
  let c0_i32_39 : BitVec 32 := 0#32
  let v125 : BitVec 1 := Scalar.cmpi .ne v124 c0_i32_39
  let v126 : BitVec 1 := Scalar.andi v123 v125
  let v112 : BitVec 32 := Scalar.divsi v108 c8_i32
  let c1_i32_40 : BitVec 32 := 1#32
  let v127 : BitVec 32 := Scalar.subi v112 c1_i32_40
  let v128 : BitVec 32 := Scalar.select v126 v127 v112
  let c8_i32_41 : BitVec 32 := 8#32
  let v129 : BitVec 32 := Scalar.muli v128 c8_i32_41
  let v130 : BitVec 32 := v129
  let v131 : BitVec 32 := Scalar.subi v108 v130
  let c0_i32_42 : BitVec 32 := 0#32
  let c512_i32_34 : BitVec 32 := 512#32
  let c512_i32_33 : BitVec 32 := 512#32
  let v109 : BitVec 32 := Scalar.muli arg10 c512_i32_33
  let v110 : BitVec 32 := Scalar.subi v13 v109
  let v111 : BitVec 32 := Scalar.minsi c512_i32_34 v110
  let v132 : BitVec 32 := Scalar.subi v111 c0_i32_42
  let c1_i32_43 : BitVec 32 := 1#32
  let v134 : BitVec 32 := Scalar.divsi v132 c1_i32_43
  let v135 : BitVec 32 := Scalar.muli v134 c1_i32_43
  let v136 : BitVec 32 := Scalar.addi c0_i32_42 v135
  let c1_i32_45 : BitVec 32 := 1#32
  let arg16 : BitVec 32 := Scf.iv v136 c1_i32_45 k2_t6
  let v139 : BitVec 32 := Scalar.addi v131 arg16
  let v157 : Index := Scalar.indexCast v139
  let c48 : Index := 48#32
  ![v157.toNat, 48]

def k2_chk1 (v6 : BitVec 32) (v12 : BitVec 32) : Prop :=
  (∀ (k2_h1 : k2_cond1 v6 v12 = 1#1), (k2_t1_loop v6 v12).OK) ∧
  (∀ k2_t1 : Fin (k2_t1_loop v6 v12).trips, ∀ (k2_h1 : k2_cond1 v6 v12 = 1#1), 8 ∣ (k2_mult1 v6 v12 k2_t1).toNat) ∧
  (∀ k2_t1 : Fin (k2_t1_loop v6 v12).trips, ∀ (k2_h1 : k2_cond1 v6 v12 = 1#1), ∀ a, (k2_off3 v6 v12 k2_t1) a + S520x64.size a ≤ S320512x64.size a) ∧
  (∀ k2_t1 : Fin (k2_t1_loop v6 v12).trips, ∀ (k2_h1 : k2_cond1 v6 v12 = 1#1), ∀ a, (k2_off4 v6 v12 k2_t1) a + S520.size a ≤ S320520.size a) ∧
  (∀ k2_t1 : Fin (k2_t1_loop v6 v12).trips, ∀ (k2_h1 : k2_cond1 v6 v12 = 1#1), (k2_t2_loop v6 v12 k2_t1).OK) ∧
  (∀ (k2_t1 : Fin (k2_t1_loop v6 v12).trips) (k2_t2 : Fin (k2_t2_loop v6 v12 k2_t1).trips), ∀ (k2_h1 : k2_cond1 v6 v12 = 1#1), ∀ a, (k2_off5 v6 v12 k2_t1 k2_t2) a + S16.size a ≤ S536.size a) ∧
  (∀ (k2_t1 : Fin (k2_t1_loop v6 v12).trips) (k2_t2 : Fin (k2_t2_loop v6 v12 k2_t1).trips), ∀ (k2_h1 : k2_cond1 v6 v12 = 1#1), ∀ a, (k2_off8 v6 v12 k2_t1 k2_t2) a + S1x16.size a ≤ S520x64.size a) ∧
  (∀ (k2_t1 : Fin (k2_t1_loop v6 v12).trips) (k2_t2 : Fin (k2_t2_loop v6 v12 k2_t1).trips), ∀ (k2_h1 : k2_cond1 v6 v12 = 1#1), ∀ a, (k2_off9 v6 v12 k2_t1 k2_t2) a + S1x16.size a ≤ S520x64.size a) ∧
  (∀ (k2_t1 : Fin (k2_t1_loop v6 v12).trips) (k2_t2 : Fin (k2_t2_loop v6 v12 k2_t1).trips), ∀ (k2_h1 : k2_cond1 v6 v12 = 1#1), ∀ a, (k2_off10 v6 v12 k2_t1 k2_t2) a + S1x16.size a ≤ S520x64.size a) ∧
  (∀ (k2_t1 : Fin (k2_t1_loop v6 v12).trips) (k2_t2 : Fin (k2_t2_loop v6 v12 k2_t1).trips), ∀ (k2_h1 : k2_cond1 v6 v12 = 1#1), ∀ a, (k2_off11 v6 v12 k2_t1 k2_t2) a + S1x16.size a ≤ S520x64.size a) ∧
  (∀ k2_t1 : Fin (k2_t1_loop v6 v12).trips, ∀ (k2_h1 : k2_cond1 v6 v12 = 1#1), (k2_t3_loop v6 v12 k2_t1).OK) ∧
  (∀ (k2_t1 : Fin (k2_t1_loop v6 v12).trips) (k2_t3 : Fin (k2_t3_loop v6 v12 k2_t1).trips), ∀ (k2_h1 : k2_cond1 v6 v12 = 1#1), ∀ a, (k2_off12 v6 v12 k2_t1 k2_t3) a + S16.size a ≤ S536.size a) ∧
  (∀ (k2_t1 : Fin (k2_t1_loop v6 v12).trips) (k2_t3 : Fin (k2_t3_loop v6 v12 k2_t1).trips), ∀ (k2_h1 : k2_cond1 v6 v12 = 1#1), ∀ a, (k2_off15 v6 v12 k2_t1 k2_t3) a + S1x16.size a ≤ S520x64.size a) ∧
  (∀ (k2_t1 : Fin (k2_t1_loop v6 v12).trips) (k2_t3 : Fin (k2_t3_loop v6 v12 k2_t1).trips), ∀ (k2_h1 : k2_cond1 v6 v12 = 1#1), ∀ a, (k2_off16 v6 v12 k2_t1 k2_t3) a + S1x16.size a ≤ S520x64.size a) ∧
  (∀ (k2_t1 : Fin (k2_t1_loop v6 v12).trips) (k2_t3 : Fin (k2_t3_loop v6 v12 k2_t1).trips), ∀ (k2_h1 : k2_cond1 v6 v12 = 1#1), ∀ a, (k2_off17 v6 v12 k2_t1 k2_t3) a + S1x16.size a ≤ S520x64.size a) ∧
  (∀ (k2_t1 : Fin (k2_t1_loop v6 v12).trips) (k2_t3 : Fin (k2_t3_loop v6 v12 k2_t1).trips), ∀ (k2_h1 : k2_cond1 v6 v12 = 1#1), ∀ a, (k2_off18 v6 v12 k2_t1 k2_t3) a + S1x16.size a ≤ S520x64.size a) ∧
  (∀ (k2_h1 : k2_cond1 v6 v12 = 1#1), (k2_t4_loop v6 v12).OK) ∧
  (∀ k2_t4 : Fin (k2_t4_loop v6 v12).trips, ∀ (k2_h1 : k2_cond1 v6 v12 = 1#1), 8 ∣ (k2_mult2 v6 v12 k2_t4).toNat) ∧
  (∀ k2_t4 : Fin (k2_t4_loop v6 v12).trips, ∀ (k2_h1 : k2_cond1 v6 v12 = 1#1), ∀ a, (k2_off19 v6 v12 k2_t4) a + S520x64.size a ≤ S320512x64.size a) ∧
  (∀ k2_t4 : Fin (k2_t4_loop v6 v12).trips, ∀ (k2_h1 : k2_cond1 v6 v12 = 1#1), ∀ a, (k2_off20 v6 v12 k2_t4) a + S520.size a ≤ S320520.size a) ∧
  (∀ k2_t4 : Fin (k2_t4_loop v6 v12).trips, ∀ (k2_h1 : k2_cond1 v6 v12 = 1#1), (k2_t5_loop v6 v12 k2_t4).OK) ∧
  (∀ (k2_t4 : Fin (k2_t4_loop v6 v12).trips) (k2_t5 : Fin (k2_t5_loop v6 v12 k2_t4).trips), ∀ (k2_h1 : k2_cond1 v6 v12 = 1#1), ∀ a, (k2_off21 v6 v12 k2_t4 k2_t5) a + S16.size a ≤ S536.size a) ∧
  (∀ (k2_t4 : Fin (k2_t4_loop v6 v12).trips) (k2_t5 : Fin (k2_t5_loop v6 v12 k2_t4).trips), ∀ (k2_h1 : k2_cond1 v6 v12 = 1#1), ∀ a, (k2_off24 v6 v12 k2_t4 k2_t5) a + S1x16.size a ≤ S520x64.size a) ∧
  (∀ (k2_t4 : Fin (k2_t4_loop v6 v12).trips) (k2_t5 : Fin (k2_t5_loop v6 v12 k2_t4).trips), ∀ (k2_h1 : k2_cond1 v6 v12 = 1#1), ∀ a, (k2_off25 v6 v12 k2_t4 k2_t5) a + S1x16.size a ≤ S520x64.size a) ∧
  (∀ (k2_t4 : Fin (k2_t4_loop v6 v12).trips) (k2_t5 : Fin (k2_t5_loop v6 v12 k2_t4).trips), ∀ (k2_h1 : k2_cond1 v6 v12 = 1#1), ∀ a, (k2_off26 v6 v12 k2_t4 k2_t5) a + S1x16.size a ≤ S520x64.size a) ∧
  (∀ (k2_t4 : Fin (k2_t4_loop v6 v12).trips) (k2_t5 : Fin (k2_t5_loop v6 v12 k2_t4).trips), ∀ (k2_h1 : k2_cond1 v6 v12 = 1#1), ∀ a, (k2_off27 v6 v12 k2_t4 k2_t5) a + S1x16.size a ≤ S520x64.size a) ∧
  (∀ k2_t4 : Fin (k2_t4_loop v6 v12).trips, ∀ (k2_h1 : k2_cond1 v6 v12 = 1#1), (k2_t6_loop v6 v12 k2_t4).OK) ∧
  (∀ (k2_t4 : Fin (k2_t4_loop v6 v12).trips) (k2_t6 : Fin (k2_t6_loop v6 v12 k2_t4).trips), ∀ (k2_h1 : k2_cond1 v6 v12 = 1#1), ∀ a, (k2_off28 v6 v12 k2_t4 k2_t6) a + S16.size a ≤ S536.size a) ∧
  (∀ (k2_t4 : Fin (k2_t4_loop v6 v12).trips) (k2_t6 : Fin (k2_t6_loop v6 v12 k2_t4).trips), ∀ (k2_h1 : k2_cond1 v6 v12 = 1#1), ∀ a, (k2_off31 v6 v12 k2_t4 k2_t6) a + S1x16.size a ≤ S520x64.size a) ∧
  (∀ (k2_t4 : Fin (k2_t4_loop v6 v12).trips) (k2_t6 : Fin (k2_t6_loop v6 v12 k2_t4).trips), ∀ (k2_h1 : k2_cond1 v6 v12 = 1#1), ∀ a, (k2_off32 v6 v12 k2_t4 k2_t6) a + S1x16.size a ≤ S520x64.size a) ∧
  (∀ (k2_t4 : Fin (k2_t4_loop v6 v12).trips) (k2_t6 : Fin (k2_t6_loop v6 v12 k2_t4).trips), ∀ (k2_h1 : k2_cond1 v6 v12 = 1#1), ∀ a, (k2_off33 v6 v12 k2_t4 k2_t6) a + S1x16.size a ≤ S520x64.size a) ∧
  (∀ (k2_t4 : Fin (k2_t4_loop v6 v12).trips) (k2_t6 : Fin (k2_t6_loop v6 v12 k2_t4).trips), ∀ (k2_h1 : k2_cond1 v6 v12 = 1#1), ∀ a, (k2_off34 v6 v12 k2_t4 k2_t6) a + S1x16.size a ≤ S520x64.size a)
theorem k2_t1_ok : ∀ (v6 : BitVec 32) (v12 : BitVec 32) (k2_hw1 : k2_chk1 v6 v12), ∀ (k2_h1 : k2_cond1 v6 v12 = 1#1), (k2_t1_loop v6 v12).OK := fun v6 v12 k2_hw1 k2_h1 => k2_hw1.1 k2_h1
theorem k2_mult1_dvd : ∀ (v6 : BitVec 32) (v12 : BitVec 32) (k2_hw1 : k2_chk1 v6 v12) (k2_t1 : Fin (k2_t1_loop v6 v12).trips), ∀ (k2_h1 : k2_cond1 v6 v12 = 1#1), 8 ∣ (k2_mult1 v6 v12 k2_t1).toNat := fun v6 v12 k2_hw1 k2_t1 k2_h1 => k2_hw1.2.1 k2_t1 k2_h1
theorem k2_off3_inb : ∀ (v6 : BitVec 32) (v12 : BitVec 32) (k2_hw1 : k2_chk1 v6 v12) (k2_t1 : Fin (k2_t1_loop v6 v12).trips), ∀ (k2_h1 : k2_cond1 v6 v12 = 1#1), ∀ a, (k2_off3 v6 v12 k2_t1) a + S520x64.size a ≤ S320512x64.size a := fun v6 v12 k2_hw1 k2_t1 k2_h1 => k2_hw1.2.2.1 k2_t1 k2_h1
theorem k2_off4_inb : ∀ (v6 : BitVec 32) (v12 : BitVec 32) (k2_hw1 : k2_chk1 v6 v12) (k2_t1 : Fin (k2_t1_loop v6 v12).trips), ∀ (k2_h1 : k2_cond1 v6 v12 = 1#1), ∀ a, (k2_off4 v6 v12 k2_t1) a + S520.size a ≤ S320520.size a := fun v6 v12 k2_hw1 k2_t1 k2_h1 => k2_hw1.2.2.2.1 k2_t1 k2_h1
theorem k2_t2_ok : ∀ (v6 : BitVec 32) (v12 : BitVec 32) (k2_hw1 : k2_chk1 v6 v12) (k2_t1 : Fin (k2_t1_loop v6 v12).trips), ∀ (k2_h1 : k2_cond1 v6 v12 = 1#1), (k2_t2_loop v6 v12 k2_t1).OK := fun v6 v12 k2_hw1 k2_t1 k2_h1 => k2_hw1.2.2.2.2.1 k2_t1 k2_h1
theorem k2_off5_inb : ∀ (v6 : BitVec 32) (v12 : BitVec 32) (k2_hw1 : k2_chk1 v6 v12) (k2_t1 : Fin (k2_t1_loop v6 v12).trips) (k2_t2 : Fin (k2_t2_loop v6 v12 k2_t1).trips), ∀ (k2_h1 : k2_cond1 v6 v12 = 1#1), ∀ a, (k2_off5 v6 v12 k2_t1 k2_t2) a + S16.size a ≤ S536.size a := fun v6 v12 k2_hw1 k2_t1 k2_t2 k2_h1 => k2_hw1.2.2.2.2.2.1 k2_t1 k2_t2 k2_h1
theorem k2_off8_inb : ∀ (v6 : BitVec 32) (v12 : BitVec 32) (k2_hw1 : k2_chk1 v6 v12) (k2_t1 : Fin (k2_t1_loop v6 v12).trips) (k2_t2 : Fin (k2_t2_loop v6 v12 k2_t1).trips), ∀ (k2_h1 : k2_cond1 v6 v12 = 1#1), ∀ a, (k2_off8 v6 v12 k2_t1 k2_t2) a + S1x16.size a ≤ S520x64.size a := fun v6 v12 k2_hw1 k2_t1 k2_t2 k2_h1 => k2_hw1.2.2.2.2.2.2.1 k2_t1 k2_t2 k2_h1
theorem k2_off9_inb : ∀ (v6 : BitVec 32) (v12 : BitVec 32) (k2_hw1 : k2_chk1 v6 v12) (k2_t1 : Fin (k2_t1_loop v6 v12).trips) (k2_t2 : Fin (k2_t2_loop v6 v12 k2_t1).trips), ∀ (k2_h1 : k2_cond1 v6 v12 = 1#1), ∀ a, (k2_off9 v6 v12 k2_t1 k2_t2) a + S1x16.size a ≤ S520x64.size a := fun v6 v12 k2_hw1 k2_t1 k2_t2 k2_h1 => k2_hw1.2.2.2.2.2.2.2.1 k2_t1 k2_t2 k2_h1
theorem k2_off10_inb : ∀ (v6 : BitVec 32) (v12 : BitVec 32) (k2_hw1 : k2_chk1 v6 v12) (k2_t1 : Fin (k2_t1_loop v6 v12).trips) (k2_t2 : Fin (k2_t2_loop v6 v12 k2_t1).trips), ∀ (k2_h1 : k2_cond1 v6 v12 = 1#1), ∀ a, (k2_off10 v6 v12 k2_t1 k2_t2) a + S1x16.size a ≤ S520x64.size a := fun v6 v12 k2_hw1 k2_t1 k2_t2 k2_h1 => k2_hw1.2.2.2.2.2.2.2.2.1 k2_t1 k2_t2 k2_h1
theorem k2_off11_inb : ∀ (v6 : BitVec 32) (v12 : BitVec 32) (k2_hw1 : k2_chk1 v6 v12) (k2_t1 : Fin (k2_t1_loop v6 v12).trips) (k2_t2 : Fin (k2_t2_loop v6 v12 k2_t1).trips), ∀ (k2_h1 : k2_cond1 v6 v12 = 1#1), ∀ a, (k2_off11 v6 v12 k2_t1 k2_t2) a + S1x16.size a ≤ S520x64.size a := fun v6 v12 k2_hw1 k2_t1 k2_t2 k2_h1 => k2_hw1.2.2.2.2.2.2.2.2.2.1 k2_t1 k2_t2 k2_h1
theorem k2_t3_ok : ∀ (v6 : BitVec 32) (v12 : BitVec 32) (k2_hw1 : k2_chk1 v6 v12) (k2_t1 : Fin (k2_t1_loop v6 v12).trips), ∀ (k2_h1 : k2_cond1 v6 v12 = 1#1), (k2_t3_loop v6 v12 k2_t1).OK := fun v6 v12 k2_hw1 k2_t1 k2_h1 => k2_hw1.2.2.2.2.2.2.2.2.2.2.1 k2_t1 k2_h1
theorem k2_off12_inb : ∀ (v6 : BitVec 32) (v12 : BitVec 32) (k2_hw1 : k2_chk1 v6 v12) (k2_t1 : Fin (k2_t1_loop v6 v12).trips) (k2_t3 : Fin (k2_t3_loop v6 v12 k2_t1).trips), ∀ (k2_h1 : k2_cond1 v6 v12 = 1#1), ∀ a, (k2_off12 v6 v12 k2_t1 k2_t3) a + S16.size a ≤ S536.size a := fun v6 v12 k2_hw1 k2_t1 k2_t3 k2_h1 => k2_hw1.2.2.2.2.2.2.2.2.2.2.2.1 k2_t1 k2_t3 k2_h1
theorem k2_off15_inb : ∀ (v6 : BitVec 32) (v12 : BitVec 32) (k2_hw1 : k2_chk1 v6 v12) (k2_t1 : Fin (k2_t1_loop v6 v12).trips) (k2_t3 : Fin (k2_t3_loop v6 v12 k2_t1).trips), ∀ (k2_h1 : k2_cond1 v6 v12 = 1#1), ∀ a, (k2_off15 v6 v12 k2_t1 k2_t3) a + S1x16.size a ≤ S520x64.size a := fun v6 v12 k2_hw1 k2_t1 k2_t3 k2_h1 => k2_hw1.2.2.2.2.2.2.2.2.2.2.2.2.1 k2_t1 k2_t3 k2_h1
theorem k2_off16_inb : ∀ (v6 : BitVec 32) (v12 : BitVec 32) (k2_hw1 : k2_chk1 v6 v12) (k2_t1 : Fin (k2_t1_loop v6 v12).trips) (k2_t3 : Fin (k2_t3_loop v6 v12 k2_t1).trips), ∀ (k2_h1 : k2_cond1 v6 v12 = 1#1), ∀ a, (k2_off16 v6 v12 k2_t1 k2_t3) a + S1x16.size a ≤ S520x64.size a := fun v6 v12 k2_hw1 k2_t1 k2_t3 k2_h1 => k2_hw1.2.2.2.2.2.2.2.2.2.2.2.2.2.1 k2_t1 k2_t3 k2_h1
theorem k2_off17_inb : ∀ (v6 : BitVec 32) (v12 : BitVec 32) (k2_hw1 : k2_chk1 v6 v12) (k2_t1 : Fin (k2_t1_loop v6 v12).trips) (k2_t3 : Fin (k2_t3_loop v6 v12 k2_t1).trips), ∀ (k2_h1 : k2_cond1 v6 v12 = 1#1), ∀ a, (k2_off17 v6 v12 k2_t1 k2_t3) a + S1x16.size a ≤ S520x64.size a := fun v6 v12 k2_hw1 k2_t1 k2_t3 k2_h1 => k2_hw1.2.2.2.2.2.2.2.2.2.2.2.2.2.2.1 k2_t1 k2_t3 k2_h1
theorem k2_off18_inb : ∀ (v6 : BitVec 32) (v12 : BitVec 32) (k2_hw1 : k2_chk1 v6 v12) (k2_t1 : Fin (k2_t1_loop v6 v12).trips) (k2_t3 : Fin (k2_t3_loop v6 v12 k2_t1).trips), ∀ (k2_h1 : k2_cond1 v6 v12 = 1#1), ∀ a, (k2_off18 v6 v12 k2_t1 k2_t3) a + S1x16.size a ≤ S520x64.size a := fun v6 v12 k2_hw1 k2_t1 k2_t3 k2_h1 => k2_hw1.2.2.2.2.2.2.2.2.2.2.2.2.2.2.2.1 k2_t1 k2_t3 k2_h1
theorem k2_t4_ok : ∀ (v6 : BitVec 32) (v12 : BitVec 32) (k2_hw1 : k2_chk1 v6 v12), ∀ (k2_h1 : k2_cond1 v6 v12 = 1#1), (k2_t4_loop v6 v12).OK := fun v6 v12 k2_hw1 k2_h1 => k2_hw1.2.2.2.2.2.2.2.2.2.2.2.2.2.2.2.2.1 k2_h1
theorem k2_mult2_dvd : ∀ (v6 : BitVec 32) (v12 : BitVec 32) (k2_hw1 : k2_chk1 v6 v12) (k2_t4 : Fin (k2_t4_loop v6 v12).trips), ∀ (k2_h1 : k2_cond1 v6 v12 = 1#1), 8 ∣ (k2_mult2 v6 v12 k2_t4).toNat := fun v6 v12 k2_hw1 k2_t4 k2_h1 => k2_hw1.2.2.2.2.2.2.2.2.2.2.2.2.2.2.2.2.2.1 k2_t4 k2_h1
theorem k2_off19_inb : ∀ (v6 : BitVec 32) (v12 : BitVec 32) (k2_hw1 : k2_chk1 v6 v12) (k2_t4 : Fin (k2_t4_loop v6 v12).trips), ∀ (k2_h1 : k2_cond1 v6 v12 = 1#1), ∀ a, (k2_off19 v6 v12 k2_t4) a + S520x64.size a ≤ S320512x64.size a := fun v6 v12 k2_hw1 k2_t4 k2_h1 => k2_hw1.2.2.2.2.2.2.2.2.2.2.2.2.2.2.2.2.2.2.1 k2_t4 k2_h1
theorem k2_off20_inb : ∀ (v6 : BitVec 32) (v12 : BitVec 32) (k2_hw1 : k2_chk1 v6 v12) (k2_t4 : Fin (k2_t4_loop v6 v12).trips), ∀ (k2_h1 : k2_cond1 v6 v12 = 1#1), ∀ a, (k2_off20 v6 v12 k2_t4) a + S520.size a ≤ S320520.size a := fun v6 v12 k2_hw1 k2_t4 k2_h1 => k2_hw1.2.2.2.2.2.2.2.2.2.2.2.2.2.2.2.2.2.2.2.1 k2_t4 k2_h1
theorem k2_t5_ok : ∀ (v6 : BitVec 32) (v12 : BitVec 32) (k2_hw1 : k2_chk1 v6 v12) (k2_t4 : Fin (k2_t4_loop v6 v12).trips), ∀ (k2_h1 : k2_cond1 v6 v12 = 1#1), (k2_t5_loop v6 v12 k2_t4).OK := fun v6 v12 k2_hw1 k2_t4 k2_h1 => k2_hw1.2.2.2.2.2.2.2.2.2.2.2.2.2.2.2.2.2.2.2.2.1 k2_t4 k2_h1
theorem k2_off21_inb : ∀ (v6 : BitVec 32) (v12 : BitVec 32) (k2_hw1 : k2_chk1 v6 v12) (k2_t4 : Fin (k2_t4_loop v6 v12).trips) (k2_t5 : Fin (k2_t5_loop v6 v12 k2_t4).trips), ∀ (k2_h1 : k2_cond1 v6 v12 = 1#1), ∀ a, (k2_off21 v6 v12 k2_t4 k2_t5) a + S16.size a ≤ S536.size a := fun v6 v12 k2_hw1 k2_t4 k2_t5 k2_h1 => k2_hw1.2.2.2.2.2.2.2.2.2.2.2.2.2.2.2.2.2.2.2.2.2.1 k2_t4 k2_t5 k2_h1
theorem k2_off24_inb : ∀ (v6 : BitVec 32) (v12 : BitVec 32) (k2_hw1 : k2_chk1 v6 v12) (k2_t4 : Fin (k2_t4_loop v6 v12).trips) (k2_t5 : Fin (k2_t5_loop v6 v12 k2_t4).trips), ∀ (k2_h1 : k2_cond1 v6 v12 = 1#1), ∀ a, (k2_off24 v6 v12 k2_t4 k2_t5) a + S1x16.size a ≤ S520x64.size a := fun v6 v12 k2_hw1 k2_t4 k2_t5 k2_h1 => k2_hw1.2.2.2.2.2.2.2.2.2.2.2.2.2.2.2.2.2.2.2.2.2.2.1 k2_t4 k2_t5 k2_h1
theorem k2_off25_inb : ∀ (v6 : BitVec 32) (v12 : BitVec 32) (k2_hw1 : k2_chk1 v6 v12) (k2_t4 : Fin (k2_t4_loop v6 v12).trips) (k2_t5 : Fin (k2_t5_loop v6 v12 k2_t4).trips), ∀ (k2_h1 : k2_cond1 v6 v12 = 1#1), ∀ a, (k2_off25 v6 v12 k2_t4 k2_t5) a + S1x16.size a ≤ S520x64.size a := fun v6 v12 k2_hw1 k2_t4 k2_t5 k2_h1 => k2_hw1.2.2.2.2.2.2.2.2.2.2.2.2.2.2.2.2.2.2.2.2.2.2.2.1 k2_t4 k2_t5 k2_h1
theorem k2_off26_inb : ∀ (v6 : BitVec 32) (v12 : BitVec 32) (k2_hw1 : k2_chk1 v6 v12) (k2_t4 : Fin (k2_t4_loop v6 v12).trips) (k2_t5 : Fin (k2_t5_loop v6 v12 k2_t4).trips), ∀ (k2_h1 : k2_cond1 v6 v12 = 1#1), ∀ a, (k2_off26 v6 v12 k2_t4 k2_t5) a + S1x16.size a ≤ S520x64.size a := fun v6 v12 k2_hw1 k2_t4 k2_t5 k2_h1 => k2_hw1.2.2.2.2.2.2.2.2.2.2.2.2.2.2.2.2.2.2.2.2.2.2.2.2.1 k2_t4 k2_t5 k2_h1
theorem k2_off27_inb : ∀ (v6 : BitVec 32) (v12 : BitVec 32) (k2_hw1 : k2_chk1 v6 v12) (k2_t4 : Fin (k2_t4_loop v6 v12).trips) (k2_t5 : Fin (k2_t5_loop v6 v12 k2_t4).trips), ∀ (k2_h1 : k2_cond1 v6 v12 = 1#1), ∀ a, (k2_off27 v6 v12 k2_t4 k2_t5) a + S1x16.size a ≤ S520x64.size a := fun v6 v12 k2_hw1 k2_t4 k2_t5 k2_h1 => k2_hw1.2.2.2.2.2.2.2.2.2.2.2.2.2.2.2.2.2.2.2.2.2.2.2.2.2.1 k2_t4 k2_t5 k2_h1
theorem k2_t6_ok : ∀ (v6 : BitVec 32) (v12 : BitVec 32) (k2_hw1 : k2_chk1 v6 v12) (k2_t4 : Fin (k2_t4_loop v6 v12).trips), ∀ (k2_h1 : k2_cond1 v6 v12 = 1#1), (k2_t6_loop v6 v12 k2_t4).OK := fun v6 v12 k2_hw1 k2_t4 k2_h1 => k2_hw1.2.2.2.2.2.2.2.2.2.2.2.2.2.2.2.2.2.2.2.2.2.2.2.2.2.2.1 k2_t4 k2_h1
theorem k2_off28_inb : ∀ (v6 : BitVec 32) (v12 : BitVec 32) (k2_hw1 : k2_chk1 v6 v12) (k2_t4 : Fin (k2_t4_loop v6 v12).trips) (k2_t6 : Fin (k2_t6_loop v6 v12 k2_t4).trips), ∀ (k2_h1 : k2_cond1 v6 v12 = 1#1), ∀ a, (k2_off28 v6 v12 k2_t4 k2_t6) a + S16.size a ≤ S536.size a := fun v6 v12 k2_hw1 k2_t4 k2_t6 k2_h1 => k2_hw1.2.2.2.2.2.2.2.2.2.2.2.2.2.2.2.2.2.2.2.2.2.2.2.2.2.2.2.1 k2_t4 k2_t6 k2_h1
theorem k2_off31_inb : ∀ (v6 : BitVec 32) (v12 : BitVec 32) (k2_hw1 : k2_chk1 v6 v12) (k2_t4 : Fin (k2_t4_loop v6 v12).trips) (k2_t6 : Fin (k2_t6_loop v6 v12 k2_t4).trips), ∀ (k2_h1 : k2_cond1 v6 v12 = 1#1), ∀ a, (k2_off31 v6 v12 k2_t4 k2_t6) a + S1x16.size a ≤ S520x64.size a := fun v6 v12 k2_hw1 k2_t4 k2_t6 k2_h1 => k2_hw1.2.2.2.2.2.2.2.2.2.2.2.2.2.2.2.2.2.2.2.2.2.2.2.2.2.2.2.2.1 k2_t4 k2_t6 k2_h1
theorem k2_off32_inb : ∀ (v6 : BitVec 32) (v12 : BitVec 32) (k2_hw1 : k2_chk1 v6 v12) (k2_t4 : Fin (k2_t4_loop v6 v12).trips) (k2_t6 : Fin (k2_t6_loop v6 v12 k2_t4).trips), ∀ (k2_h1 : k2_cond1 v6 v12 = 1#1), ∀ a, (k2_off32 v6 v12 k2_t4 k2_t6) a + S1x16.size a ≤ S520x64.size a := fun v6 v12 k2_hw1 k2_t4 k2_t6 k2_h1 => k2_hw1.2.2.2.2.2.2.2.2.2.2.2.2.2.2.2.2.2.2.2.2.2.2.2.2.2.2.2.2.2.1 k2_t4 k2_t6 k2_h1
theorem k2_off33_inb : ∀ (v6 : BitVec 32) (v12 : BitVec 32) (k2_hw1 : k2_chk1 v6 v12) (k2_t4 : Fin (k2_t4_loop v6 v12).trips) (k2_t6 : Fin (k2_t6_loop v6 v12 k2_t4).trips), ∀ (k2_h1 : k2_cond1 v6 v12 = 1#1), ∀ a, (k2_off33 v6 v12 k2_t4 k2_t6) a + S1x16.size a ≤ S520x64.size a := fun v6 v12 k2_hw1 k2_t4 k2_t6 k2_h1 => k2_hw1.2.2.2.2.2.2.2.2.2.2.2.2.2.2.2.2.2.2.2.2.2.2.2.2.2.2.2.2.2.2.1 k2_t4 k2_t6 k2_h1
theorem k2_off34_inb : ∀ (v6 : BitVec 32) (v12 : BitVec 32) (k2_hw1 : k2_chk1 v6 v12) (k2_t4 : Fin (k2_t4_loop v6 v12).trips) (k2_t6 : Fin (k2_t6_loop v6 v12 k2_t4).trips), ∀ (k2_h1 : k2_cond1 v6 v12 = 1#1), ∀ a, (k2_off34 v6 v12 k2_t4 k2_t6) a + S1x16.size a ≤ S520x64.size a := fun v6 v12 k2_hw1 k2_t4 k2_t6 k2_h1 => k2_hw1.2.2.2.2.2.2.2.2.2.2.2.2.2.2.2.2.2.2.2.2.2.2.2.2.2.2.2.2.2.2.2 k2_t4 k2_t6 k2_h1

def k2_off35 (i : grid2.Coords) (v81_4 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v82 : BitVec 32 := Scalar.subi v81_4 v31
  let c64_i32 : BitVec 32 := 64#32
  let v83 : BitVec 32 := Scalar.muli v82 c64_i32
  let v84 : Index := Scalar.indexCast v83
  ![v84.toNat]

def k2_off36 (i : grid2.Coords) (v81_4 : BitVec 32) (c16_i32_28 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v82 : BitVec 32 := Scalar.subi v81_4 v31
  let c64_i32 : BitVec 32 := 64#32
  let v83 : BitVec 32 := Scalar.muli v82 c64_i32
  let v88 : BitVec 32 := Scalar.addi v83 c16_i32_28
  let v89 : Index := Scalar.indexCast v88
  ![v89.toNat]

def k2_chk6 (i : grid2.Coords) (v6 : BitVec 32) (v12 : BitVec 32) (v81_4 : BitVec 32) : Prop :=
  (∀ (k2_h1 : k2_cond1 v6 v12 = 1#1), ∀ a, (k2_off35 i v81_4) a + S16.size a ≤ S20288.size a) ∧
  (∀ (k2_h1 : k2_cond1 v6 v12 = 1#1), ∀ (r : Fin 3), ∀ a, (k2_off36 i v81_4 (BitVec.ofNat 32 (16 + 16 * r.val))) a + S16.size a ≤ S20288.size a)
theorem k2_off35_inb : ∀ (i : grid2.Coords) (v6 : BitVec 32) (v12 : BitVec 32) (v81_4 : BitVec 32) (k2_hw6 : k2_chk6 i v6 v12 v81_4), ∀ (k2_h1 : k2_cond1 v6 v12 = 1#1), ∀ a, (k2_off35 i v81_4) a + S16.size a ≤ S20288.size a := fun i v6 v12 v81_4 k2_hw6 k2_h1 => k2_hw6.1 k2_h1
theorem k2_off36_inb : ∀ (i : grid2.Coords) (v6 : BitVec 32) (v12 : BitVec 32) (v81_4 : BitVec 32) (k2_hw6 : k2_chk6 i v6 v12 v81_4), ∀ (k2_h1 : k2_cond1 v6 v12 = 1#1), ∀ (r : Fin 3), ∀ a, (k2_off36 i v81_4 (BitVec.ofNat 32 (16 + 16 * r.val))) a + S16.size a ≤ S20288.size a := fun i v6 v12 v81_4 k2_hw6 k2_h1 r => k2_hw6.2 k2_h1 r

def k2_off37 (i : grid2.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let c64_i32_30 : BitVec 32 := 64#32
  let v103 : BitVec 32 := Scalar.muli v31 c64_i32_30
  ![v103.toNat]
def k2_cond6 (i : grid2.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_5 : BitVec 32 := 1#32
  let v32 : BitVec 32 := Scalar.addi v1 c1_i32_5
  let c10000_i32_6 : BitVec 32 := 10000#32
  let v33 : BitVec 32 := Scalar.muli v32 c10000_i32_6
  let c0_i32_8 : BitVec 32 := 0#32
  let v35 : BitVec 1 := Scalar.cmpi .sgt v33 c0_i32_8
  let v36 : BitVec 32 := Scalar.extui v35
  let c0_i32_9 : BitVec 32 := 0#32
  let v37 : BitVec 1 := Scalar.cmpi .slt v33 c0_i32_9
  let v38 : BitVec 32 := Scalar.extui v37
  let v39 : BitVec 32 := Scalar.subi v36 v38
  let c32_i32_7 : BitVec 32 := 32#32
  let c0_i32_10 : BitVec 32 := 0#32
  let v40 : BitVec 1 := Scalar.cmpi .sgt c32_i32_7 c0_i32_10
  let v41 : BitVec 32 := Scalar.extui v40
  let c0_i32_11 : BitVec 32 := 0#32
  let v42 : BitVec 1 := Scalar.cmpi .slt c32_i32_7 c0_i32_11
  let v43 : BitVec 32 := Scalar.extui v42
  let v44 : BitVec 32 := Scalar.subi v41 v43
  let v45 : BitVec 1 := Scalar.cmpi .ne v39 v44
  let v46 : BitVec 32 := Scalar.remsi v33 c32_i32_7
  let c0_i32_12 : BitVec 32 := 0#32
  let v47 : BitVec 1 := Scalar.cmpi .ne v46 c0_i32_12
  let v48 : BitVec 1 := Scalar.andi v45 v47
  let v34 : BitVec 32 := Scalar.divsi v33 c32_i32_7
  let c1_i32_13 : BitVec 32 := 1#32
  let v49 : BitVec 32 := Scalar.subi v34 c1_i32_13
  let v50 : BitVec 32 := Scalar.select v48 v49 v34
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v51 : BitVec 32 := Scalar.subi v50 v31
  let c312_i32 : BitVec 32 := 312#32
  let v104 : BitVec 1 := Scalar.cmpi .sgt v51 c312_i32
  let v105 : BitVec 32 := Scalar.extui v104
  let c0_i32_31 : BitVec 32 := 0#32
  let v106 : BitVec 1 := Scalar.cmpi .ne v105 c0_i32_31
  v106

def k2_off38 (i : grid2.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let c312_i32_32 : BitVec 32 := 312#32
  let v107 : BitVec 32 := Scalar.addi v31 c312_i32_32
  let c64_i32_33 : BitVec 32 := 64#32
  let v108 : BitVec 32 := Scalar.muli v107 c64_i32_33
  ![v108.toNat]
abbrev grid3 : Pipeline.Grid := ⟨2, ![2, 16], ![false, false]⟩

def k3_off1 (i : grid3.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v2 : Index := Scalar.indexCast v1
  ![v2.toNat]
def k3_off2 (i : grid3.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v7 : BitVec 32 := Scalar.addi v1 c1_i32
  let v8 : Index := Scalar.indexCast v7
  ![v8.toNat]
def k3_off3 (i : grid3.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let c64_i32 : BitVec 32 := 64#32
  let v51 : BitVec 32 := Scalar.muli v31 c64_i32
  ![v51.toNat]
@[reducible] def k3_t1_loop (v6 : BitVec 32) (v12 : BitVec 32) : Scf.Loop 32 :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_18 : BitVec 32 := 1#32
  ⟨c0_i32_15, v59, c1_i32_18⟩
def k3_cond1 (v6 : BitVec 32) (v12 : BitVec 32) : BitVec 1 :=
  let v13 : BitVec 32 := Scalar.subi v12 v6
  let c0_i32_13 : BitVec 32 := 0#32
  let v52 : BitVec 1 := Scalar.cmpi .sgt v13 c0_i32_13
  let v53 : BitVec 32 := Scalar.extui v52
  let c0_i32_14 : BitVec 32 := 0#32
  let v54 : BitVec 1 := Scalar.cmpi .ne v53 c0_i32_14
  v54

def k3_mult1 (v6 : BitVec 32) (v12 : BitVec 32) (k3_t1 : Fin (k3_t1_loop v6 v12).trips) : BitVec 32 :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  v63
def k3_off4 (v6 : BitVec 32) (v12 : BitVec 32) (k3_t1 : Fin (k3_t1_loop v6 v12).trips) : Fin 2 → Nat :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_33_r2 : BitVec 32 := 0#32
  ![v64.toNat, 0]
def k3_off5 (v6 : BitVec 32) (v12 : BitVec 32) (k3_t1 : Fin (k3_t1_loop v6 v12).trips) : Fin 1 → Nat :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  ![v64.toNat]
@[reducible] def k3_t2_loop (v6 : BitVec 32) (v12 : BitVec 32) (k3_t1 : Fin (k3_t1_loop v6 v12).trips) : Scf.Loop 32 :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_26 : BitVec 32 := 1#32
  ⟨c0_i32_23, v72, c1_i32_26⟩
def k3_off6 (v6 : BitVec 32) (v12 : BitVec 32) (k3_t1 : Fin (k3_t1_loop v6 v12).trips) (k3_t2 : Fin (k3_t2_loop v6 v12 k3_t1).trips) : Fin 1 → Nat :=
  let c0_i32_23 : BitVec 32 := 0#32
  let c1_i32_26 : BitVec 32 := 1#32
  let arg15 : BitVec 32 := Scf.iv c0_i32_23 c1_i32_26 k3_t2
  let v81 : Index := Scalar.indexCast arg15
  ![v81.toNat]
def k3_off7 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v87 : Index := Scalar.indexCast arg15
  let c0 : Index := 0#32
  ![v87.toNat, 0]
def k3_off8 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v90 : Index := Scalar.indexCast arg15
  let c0_33 : Index := 0#32
  ![v90.toNat, 0]
def k3_off9 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v94 : Index := Scalar.indexCast arg15
  let c16 : Index := 16#32
  ![v94.toNat, 16]
def k3_off10 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v97 : Index := Scalar.indexCast arg15
  let c16_34 : Index := 16#32
  ![v97.toNat, 16]
def k3_off11 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v101 : Index := Scalar.indexCast arg15
  let c32 : Index := 32#32
  ![v101.toNat, 32]
def k3_off12 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v104 : Index := Scalar.indexCast arg15
  let c32_35 : Index := 32#32
  ![v104.toNat, 32]
def k3_off13 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v108 : Index := Scalar.indexCast arg15
  let c48 : Index := 48#32
  ![v108.toNat, 48]
def k3_off14 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v111 : Index := Scalar.indexCast arg15
  let c48_36 : Index := 48#32
  ![v111.toNat, 48]
def k3_off15 (i : grid3.Coords) (v85 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c64_i32_42 : BitVec 32 := 64#32
  let v121 : BitVec 32 := Scalar.muli v86 c64_i32_42
  let v122 : Index := Scalar.indexCast v121
  ![v122.toNat]
def k3_cond2 (i : grid3.Coords) (v85 : BitVec 32) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c0_i32_37 : BitVec 32 := 0#32
  let v115 : BitVec 1 := Scalar.cmpi .sge v86 c0_i32_37
  let v116 : BitVec 32 := Scalar.extui v115
  let c0_i32_38 : BitVec 32 := 0#32
  let v117 : BitVec 1 := Scalar.cmpi .ne v116 c0_i32_38
  v117

def k3_off16 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v125 : Index := Scalar.indexCast arg15
  let c64 : Index := 64#32
  ![v125.toNat, 64]
def k3_off17 (i : grid3.Coords) (v85 : BitVec 32) (c16_i32_43 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c64_i32_42 : BitVec 32 := 64#32
  let v121 : BitVec 32 := Scalar.muli v86 c64_i32_42
  let v129 : BitVec 32 := Scalar.addi v121 c16_i32_43
  let v130 : Index := Scalar.indexCast v129
  ![v130.toNat]
def k3_off18 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v133 : Index := Scalar.indexCast arg15
  let c80 : Index := 80#32
  ![v133.toNat, 80]
def k3_off19 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v141 : Index := Scalar.indexCast arg15
  let c96 : Index := 96#32
  ![v141.toNat, 96]
def k3_off20 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v149 : Index := Scalar.indexCast arg15
  let c112 : Index := 112#32
  ![v149.toNat, 112]
def k3_off21 (v85 : BitVec 32) : Fin 1 → Nat :=
  let c64_i32_42 : BitVec 32 := 64#32
  let v121 : BitVec 32 := Scalar.muli v85 c64_i32_42
  ![v121.toNat]
def k3_cond3 (i : grid3.Coords) (v85 : BitVec 32) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c0_i32_39 : BitVec 32 := 0#32
  let v118 : BitVec 1 := Scalar.cmpi .slt v86 c0_i32_39
  let v119 : BitVec 32 := Scalar.extui v118
  let c0_i32_40 : BitVec 32 := 0#32
  let v120 : BitVec 1 := Scalar.cmpi .ne v119 c0_i32_40
  v120

def k3_off22 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v124 : Index := Scalar.indexCast arg15
  let c64 : Index := 64#32
  ![v124.toNat, 64]
def k3_off23 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v130 : Index := Scalar.indexCast arg15
  let c80 : Index := 80#32
  ![v130.toNat, 80]
def k3_off24 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v136 : Index := Scalar.indexCast arg15
  let c96 : Index := 96#32
  ![v136.toNat, 96]
def k3_off25 (v6 : BitVec 32) (v12 : BitVec 32) (k3_t1 : Fin (k3_t1_loop v6 v12).trips) (k3_t2 : Fin (k3_t2_loop v6 v12 k3_t1).trips) : Fin 2 → Nat :=
  let c0_i32_23 : BitVec 32 := 0#32
  let c1_i32_26 : BitVec 32 := 1#32
  let arg15 : BitVec 32 := Scf.iv c0_i32_23 c1_i32_26 k3_t2
  let v142 : Index := Scalar.indexCast arg15
  let c112 : Index := 112#32
  ![v142.toNat, 112]

def k3_chk2 (i : grid3.Coords) (v6 : BitVec 32) (v12 : BitVec 32) (k3_t1 : Fin (k3_t1_loop v6 v12).trips) (k3_t2 : Fin (k3_t2_loop v6 v12 k3_t1).trips) (v85 : BitVec 32) : Prop :=
  (∀ (k3_h1 : k3_cond1 v6 v12 = 1#1), ∀ (k3_h2 : k3_cond2 i v85 = 1#1), ∀ a, (k3_off15 i v85) a + S16.size a ≤ S20480.size a) ∧
  (∀ (k3_h1 : k3_cond1 v6 v12 = 1#1), ∀ (k3_h2 : k3_cond2 i v85 = 1#1), ∀ a, (k3_off16 v6 v12 k3_t1 k3_t2) a + S1x16.size a ≤ S256x128.size a) ∧
  (∀ (k3_h1 : k3_cond1 v6 v12 = 1#1), ∀ (k3_h2 : k3_cond2 i v85 = 1#1), ∀ (r : Fin 3), ∀ a, (k3_off17 i v85 (BitVec.ofNat 32 (16 + 16 * r.val))) a + S16.size a ≤ S20480.size a) ∧
  (∀ (k3_h1 : k3_cond1 v6 v12 = 1#1), ∀ (k3_h2 : k3_cond2 i v85 = 1#1), ∀ a, (k3_off18 v6 v12 k3_t1 k3_t2) a + S1x16.size a ≤ S256x128.size a) ∧
  (∀ (k3_h1 : k3_cond1 v6 v12 = 1#1), ∀ (k3_h2 : k3_cond2 i v85 = 1#1), ∀ a, (k3_off19 v6 v12 k3_t1 k3_t2) a + S1x16.size a ≤ S256x128.size a) ∧
  (∀ (k3_h1 : k3_cond1 v6 v12 = 1#1), ∀ (k3_h2 : k3_cond2 i v85 = 1#1), ∀ a, (k3_off20 v6 v12 k3_t1 k3_t2) a + S1x16.size a ≤ S256x128.size a) ∧
  (∀ (k3_h1 : k3_cond1 v6 v12 = 1#1), ∀ (k3_h3 : k3_cond3 i v85 = 1#1), ∀ a, (k3_off21 v85) a + S64.size a ≤ S641024.size a) ∧
  (∀ (k3_h1 : k3_cond1 v6 v12 = 1#1), ∀ (k3_h3 : k3_cond3 i v85 = 1#1), ∀ a, (k3_off22 v6 v12 k3_t1 k3_t2) a + S1x16.size a ≤ S256x128.size a) ∧
  (∀ (k3_h1 : k3_cond1 v6 v12 = 1#1), ∀ (k3_h3 : k3_cond3 i v85 = 1#1), ∀ a, (k3_off23 v6 v12 k3_t1 k3_t2) a + S1x16.size a ≤ S256x128.size a) ∧
  (∀ (k3_h1 : k3_cond1 v6 v12 = 1#1), ∀ (k3_h3 : k3_cond3 i v85 = 1#1), ∀ a, (k3_off24 v6 v12 k3_t1 k3_t2) a + S1x16.size a ≤ S256x128.size a) ∧
  (∀ (k3_h1 : k3_cond1 v6 v12 = 1#1), ∀ (k3_h3 : k3_cond3 i v85 = 1#1), ∀ a, (k3_off25 v6 v12 k3_t1 k3_t2) a + S1x16.size a ≤ S256x128.size a)
theorem k3_off15_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h2 : k3_cond2 i v85 = 1#1), ∀ a, (k3_off15 i v85) a + S16.size a ≤ S20480.size a := fun i v6 v12 k3_t1 k3_t2 v85 k3_hw2 k3_h1 k3_h2 => k3_hw2.1 k3_h1 k3_h2
theorem k3_off16_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h2 : k3_cond2 i v85 = 1#1), ∀ a, (k3_off16 v6 v12 k3_t1 k3_t2) a + S1x16.size a ≤ S256x128.size a := fun i v6 v12 k3_t1 k3_t2 v85 k3_hw2 k3_h1 k3_h2 => k3_hw2.2.1 k3_h1 k3_h2
theorem k3_off17_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h2 : k3_cond2 i v85 = 1#1), ∀ (r : Fin 3), ∀ a, (k3_off17 i v85 (BitVec.ofNat 32 (16 + 16 * r.val))) a + S16.size a ≤ S20480.size a := fun i v6 v12 k3_t1 k3_t2 v85 k3_hw2 k3_h1 k3_h2 r => k3_hw2.2.2.1 k3_h1 k3_h2 r
theorem k3_off18_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h2 : k3_cond2 i v85 = 1#1), ∀ a, (k3_off18 v6 v12 k3_t1 k3_t2) a + S1x16.size a ≤ S256x128.size a := fun i v6 v12 k3_t1 k3_t2 v85 k3_hw2 k3_h1 k3_h2 => k3_hw2.2.2.2.1 k3_h1 k3_h2
theorem k3_off19_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h2 : k3_cond2 i v85 = 1#1), ∀ a, (k3_off19 v6 v12 k3_t1 k3_t2) a + S1x16.size a ≤ S256x128.size a := fun i v6 v12 k3_t1 k3_t2 v85 k3_hw2 k3_h1 k3_h2 => k3_hw2.2.2.2.2.1 k3_h1 k3_h2
theorem k3_off20_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h2 : k3_cond2 i v85 = 1#1), ∀ a, (k3_off20 v6 v12 k3_t1 k3_t2) a + S1x16.size a ≤ S256x128.size a := fun i v6 v12 k3_t1 k3_t2 v85 k3_hw2 k3_h1 k3_h2 => k3_hw2.2.2.2.2.2.1 k3_h1 k3_h2
theorem k3_off21_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h3 : k3_cond3 i v85 = 1#1), ∀ a, (k3_off21 v85) a + S64.size a ≤ S641024.size a := fun i v6 v12 k3_t1 k3_t2 v85 k3_hw2 k3_h1 k3_h3 => k3_hw2.2.2.2.2.2.2.1 k3_h1 k3_h3
theorem k3_off22_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h3 : k3_cond3 i v85 = 1#1), ∀ a, (k3_off22 v6 v12 k3_t1 k3_t2) a + S1x16.size a ≤ S256x128.size a := fun i v6 v12 k3_t1 k3_t2 v85 k3_hw2 k3_h1 k3_h3 => k3_hw2.2.2.2.2.2.2.2.1 k3_h1 k3_h3
theorem k3_off23_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h3 : k3_cond3 i v85 = 1#1), ∀ a, (k3_off23 v6 v12 k3_t1 k3_t2) a + S1x16.size a ≤ S256x128.size a := fun i v6 v12 k3_t1 k3_t2 v85 k3_hw2 k3_h1 k3_h3 => k3_hw2.2.2.2.2.2.2.2.2.1 k3_h1 k3_h3
theorem k3_off24_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h3 : k3_cond3 i v85 = 1#1), ∀ a, (k3_off24 v6 v12 k3_t1 k3_t2) a + S1x16.size a ≤ S256x128.size a := fun i v6 v12 k3_t1 k3_t2 v85 k3_hw2 k3_h1 k3_h3 => k3_hw2.2.2.2.2.2.2.2.2.2.1 k3_h1 k3_h3
theorem k3_off25_inb : ∀ (i : grid3.Coords) (v6 : BitVec 32) (v12 : BitVec 32) (k3_t1 : Fin (k3_t1_loop v6 v12).trips) (k3_t2 : Fin (k3_t2_loop v6 v12 k3_t1).trips) (v85 : BitVec 32) (k3_hw2 : k3_chk2 i v6 v12 k3_t1 k3_t2 v85), ∀ (k3_h1 : k3_cond1 v6 v12 = 1#1), ∀ (k3_h3 : k3_cond3 i v85 = 1#1), ∀ a, (k3_off25 v6 v12 k3_t1 k3_t2) a + S1x16.size a ≤ S256x128.size a := fun i v6 v12 k3_t1 k3_t2 v85 k3_hw2 k3_h1 k3_h3 => k3_hw2.2.2.2.2.2.2.2.2.2.2 k3_h1 k3_h3

@[reducible] def k3_t3_loop (v6 : BitVec 32) (v12 : BitVec 32) (k3_t1 : Fin (k3_t1_loop v6 v12).trips) : Scf.Loop 32 :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let v69 : BitVec 32 := Scalar.addi c0_i32_23 v68
  let c1_i32_27 : BitVec 32 := 1#32
  ⟨v72, v69, c1_i32_27⟩
def k3_off26 (v6 : BitVec 32) (v12 : BitVec 32) (k3_t1 : Fin (k3_t1_loop v6 v12).trips) (k3_t3 : Fin (k3_t3_loop v6 v12 k3_t1).trips) : Fin 1 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v81 : Index := Scalar.indexCast arg15
  ![v81.toNat]
def k3_off27 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v87 : Index := Scalar.indexCast arg15
  let c0 : Index := 0#32
  ![v87.toNat, 0]
def k3_off28 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v90 : Index := Scalar.indexCast arg15
  let c0_33 : Index := 0#32
  ![v90.toNat, 0]
def k3_off29 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v94 : Index := Scalar.indexCast arg15
  let c16 : Index := 16#32
  ![v94.toNat, 16]
def k3_off30 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v97 : Index := Scalar.indexCast arg15
  let c16_34 : Index := 16#32
  ![v97.toNat, 16]
def k3_off31 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v101 : Index := Scalar.indexCast arg15
  let c32 : Index := 32#32
  ![v101.toNat, 32]
def k3_off32 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v104 : Index := Scalar.indexCast arg15
  let c32_35 : Index := 32#32
  ![v104.toNat, 32]
def k3_off33 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v108 : Index := Scalar.indexCast arg15
  let c48 : Index := 48#32
  ![v108.toNat, 48]
def k3_off34 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v111 : Index := Scalar.indexCast arg15
  let c48_36 : Index := 48#32
  ![v111.toNat, 48]
def k3_off35 (i : grid3.Coords) (v85 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c64_i32_42 : BitVec 32 := 64#32
  let v121 : BitVec 32 := Scalar.muli v86 c64_i32_42
  let v122 : Index := Scalar.indexCast v121
  ![v122.toNat]
def k3_cond4 (i : grid3.Coords) (v85 : BitVec 32) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c0_i32_37 : BitVec 32 := 0#32
  let v115 : BitVec 1 := Scalar.cmpi .sge v86 c0_i32_37
  let v116 : BitVec 32 := Scalar.extui v115
  let c0_i32_38 : BitVec 32 := 0#32
  let v117 : BitVec 1 := Scalar.cmpi .ne v116 c0_i32_38
  v117

def k3_off36 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v125 : Index := Scalar.indexCast arg15
  let c64 : Index := 64#32
  ![v125.toNat, 64]
def k3_off37 (i : grid3.Coords) (v85 : BitVec 32) (c16_i32_43 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c64_i32_42 : BitVec 32 := 64#32
  let v121 : BitVec 32 := Scalar.muli v86 c64_i32_42
  let v129 : BitVec 32 := Scalar.addi v121 c16_i32_43
  let v130 : Index := Scalar.indexCast v129
  ![v130.toNat]
def k3_off38 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v133 : Index := Scalar.indexCast arg15
  let c80 : Index := 80#32
  ![v133.toNat, 80]
def k3_off39 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v141 : Index := Scalar.indexCast arg15
  let c96 : Index := 96#32
  ![v141.toNat, 96]
def k3_off40 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v149 : Index := Scalar.indexCast arg15
  let c112 : Index := 112#32
  ![v149.toNat, 112]
def k3_off41 (v85 : BitVec 32) : Fin 1 → Nat :=
  let c64_i32_42 : BitVec 32 := 64#32
  let v121 : BitVec 32 := Scalar.muli v85 c64_i32_42
  ![v121.toNat]
def k3_cond5 (i : grid3.Coords) (v85 : BitVec 32) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c0_i32_39 : BitVec 32 := 0#32
  let v118 : BitVec 1 := Scalar.cmpi .slt v86 c0_i32_39
  let v119 : BitVec 32 := Scalar.extui v118
  let c0_i32_40 : BitVec 32 := 0#32
  let v120 : BitVec 1 := Scalar.cmpi .ne v119 c0_i32_40
  v120

def k3_off42 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v124 : Index := Scalar.indexCast arg15
  let c64 : Index := 64#32
  ![v124.toNat, 64]
def k3_off43 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v130 : Index := Scalar.indexCast arg15
  let c80 : Index := 80#32
  ![v130.toNat, 80]
def k3_off44 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v136 : Index := Scalar.indexCast arg15
  let c96 : Index := 96#32
  ![v136.toNat, 96]
def k3_off45 (v6 : BitVec 32) (v12 : BitVec 32) (k3_t1 : Fin (k3_t1_loop v6 v12).trips) (k3_t3 : Fin (k3_t3_loop v6 v12 k3_t1).trips) : Fin 2 → Nat :=
  let c0_i32_23 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t3
  let v142 : Index := Scalar.indexCast arg15
  let c112 : Index := 112#32
  ![v142.toNat, 112]

def k3_chk3 (i : grid3.Coords) (v6 : BitVec 32) (v12 : BitVec 32) (k3_t1 : Fin (k3_t1_loop v6 v12).trips) (k3_t3 : Fin (k3_t3_loop v6 v12 k3_t1).trips) (v85 : BitVec 32) : Prop :=
  (∀ (k3_h1 : k3_cond1 v6 v12 = 1#1), ∀ (k3_h4 : k3_cond4 i v85 = 1#1), ∀ a, (k3_off35 i v85) a + S16.size a ≤ S20480.size a) ∧
  (∀ (k3_h1 : k3_cond1 v6 v12 = 1#1), ∀ (k3_h4 : k3_cond4 i v85 = 1#1), ∀ a, (k3_off36 v6 v12 k3_t1 k3_t3) a + S1x16.size a ≤ S256x128.size a) ∧
  (∀ (k3_h1 : k3_cond1 v6 v12 = 1#1), ∀ (k3_h4 : k3_cond4 i v85 = 1#1), ∀ (r : Fin 3), ∀ a, (k3_off37 i v85 (BitVec.ofNat 32 (16 + 16 * r.val))) a + S16.size a ≤ S20480.size a) ∧
  (∀ (k3_h1 : k3_cond1 v6 v12 = 1#1), ∀ (k3_h4 : k3_cond4 i v85 = 1#1), ∀ a, (k3_off38 v6 v12 k3_t1 k3_t3) a + S1x16.size a ≤ S256x128.size a) ∧
  (∀ (k3_h1 : k3_cond1 v6 v12 = 1#1), ∀ (k3_h4 : k3_cond4 i v85 = 1#1), ∀ a, (k3_off39 v6 v12 k3_t1 k3_t3) a + S1x16.size a ≤ S256x128.size a) ∧
  (∀ (k3_h1 : k3_cond1 v6 v12 = 1#1), ∀ (k3_h4 : k3_cond4 i v85 = 1#1), ∀ a, (k3_off40 v6 v12 k3_t1 k3_t3) a + S1x16.size a ≤ S256x128.size a) ∧
  (∀ (k3_h1 : k3_cond1 v6 v12 = 1#1), ∀ (k3_h5 : k3_cond5 i v85 = 1#1), ∀ a, (k3_off41 v85) a + S64.size a ≤ S641024.size a) ∧
  (∀ (k3_h1 : k3_cond1 v6 v12 = 1#1), ∀ (k3_h5 : k3_cond5 i v85 = 1#1), ∀ a, (k3_off42 v6 v12 k3_t1 k3_t3) a + S1x16.size a ≤ S256x128.size a) ∧
  (∀ (k3_h1 : k3_cond1 v6 v12 = 1#1), ∀ (k3_h5 : k3_cond5 i v85 = 1#1), ∀ a, (k3_off43 v6 v12 k3_t1 k3_t3) a + S1x16.size a ≤ S256x128.size a) ∧
  (∀ (k3_h1 : k3_cond1 v6 v12 = 1#1), ∀ (k3_h5 : k3_cond5 i v85 = 1#1), ∀ a, (k3_off44 v6 v12 k3_t1 k3_t3) a + S1x16.size a ≤ S256x128.size a) ∧
  (∀ (k3_h1 : k3_cond1 v6 v12 = 1#1), ∀ (k3_h5 : k3_cond5 i v85 = 1#1), ∀ a, (k3_off45 v6 v12 k3_t1 k3_t3) a + S1x16.size a ≤ S256x128.size a)
theorem k3_off35_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h4 : k3_cond4 i v85 = 1#1), ∀ a, (k3_off35 i v85) a + S16.size a ≤ S20480.size a := fun i v6 v12 k3_t1 k3_t3 v85 k3_hw3 k3_h1 k3_h4 => k3_hw3.1 k3_h1 k3_h4
theorem k3_off36_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h4 : k3_cond4 i v85 = 1#1), ∀ a, (k3_off36 v6 v12 k3_t1 k3_t3) a + S1x16.size a ≤ S256x128.size a := fun i v6 v12 k3_t1 k3_t3 v85 k3_hw3 k3_h1 k3_h4 => k3_hw3.2.1 k3_h1 k3_h4
theorem k3_off37_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h4 : k3_cond4 i v85 = 1#1), ∀ (r : Fin 3), ∀ a, (k3_off37 i v85 (BitVec.ofNat 32 (16 + 16 * r.val))) a + S16.size a ≤ S20480.size a := fun i v6 v12 k3_t1 k3_t3 v85 k3_hw3 k3_h1 k3_h4 r => k3_hw3.2.2.1 k3_h1 k3_h4 r
theorem k3_off38_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h4 : k3_cond4 i v85 = 1#1), ∀ a, (k3_off38 v6 v12 k3_t1 k3_t3) a + S1x16.size a ≤ S256x128.size a := fun i v6 v12 k3_t1 k3_t3 v85 k3_hw3 k3_h1 k3_h4 => k3_hw3.2.2.2.1 k3_h1 k3_h4
theorem k3_off39_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h4 : k3_cond4 i v85 = 1#1), ∀ a, (k3_off39 v6 v12 k3_t1 k3_t3) a + S1x16.size a ≤ S256x128.size a := fun i v6 v12 k3_t1 k3_t3 v85 k3_hw3 k3_h1 k3_h4 => k3_hw3.2.2.2.2.1 k3_h1 k3_h4
theorem k3_off40_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h4 : k3_cond4 i v85 = 1#1), ∀ a, (k3_off40 v6 v12 k3_t1 k3_t3) a + S1x16.size a ≤ S256x128.size a := fun i v6 v12 k3_t1 k3_t3 v85 k3_hw3 k3_h1 k3_h4 => k3_hw3.2.2.2.2.2.1 k3_h1 k3_h4
theorem k3_off41_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h5 : k3_cond5 i v85 = 1#1), ∀ a, (k3_off41 v85) a + S64.size a ≤ S641024.size a := fun i v6 v12 k3_t1 k3_t3 v85 k3_hw3 k3_h1 k3_h5 => k3_hw3.2.2.2.2.2.2.1 k3_h1 k3_h5
theorem k3_off42_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h5 : k3_cond5 i v85 = 1#1), ∀ a, (k3_off42 v6 v12 k3_t1 k3_t3) a + S1x16.size a ≤ S256x128.size a := fun i v6 v12 k3_t1 k3_t3 v85 k3_hw3 k3_h1 k3_h5 => k3_hw3.2.2.2.2.2.2.2.1 k3_h1 k3_h5
theorem k3_off43_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h5 : k3_cond5 i v85 = 1#1), ∀ a, (k3_off43 v6 v12 k3_t1 k3_t3) a + S1x16.size a ≤ S256x128.size a := fun i v6 v12 k3_t1 k3_t3 v85 k3_hw3 k3_h1 k3_h5 => k3_hw3.2.2.2.2.2.2.2.2.1 k3_h1 k3_h5
theorem k3_off44_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h5 : k3_cond5 i v85 = 1#1), ∀ a, (k3_off44 v6 v12 k3_t1 k3_t3) a + S1x16.size a ≤ S256x128.size a := fun i v6 v12 k3_t1 k3_t3 v85 k3_hw3 k3_h1 k3_h5 => k3_hw3.2.2.2.2.2.2.2.2.2.1 k3_h1 k3_h5
theorem k3_off45_inb : ∀ (i : grid3.Coords) (v6 : BitVec 32) (v12 : BitVec 32) (k3_t1 : Fin (k3_t1_loop v6 v12).trips) (k3_t3 : Fin (k3_t3_loop v6 v12 k3_t1).trips) (v85 : BitVec 32) (k3_hw3 : k3_chk3 i v6 v12 k3_t1 k3_t3 v85), ∀ (k3_h1 : k3_cond1 v6 v12 = 1#1), ∀ (k3_h5 : k3_cond5 i v85 = 1#1), ∀ a, (k3_off45 v6 v12 k3_t1 k3_t3) a + S1x16.size a ≤ S256x128.size a := fun i v6 v12 k3_t1 k3_t3 v85 k3_hw3 k3_h1 k3_h5 => k3_hw3.2.2.2.2.2.2.2.2.2.2 k3_h1 k3_h5

def k3_off46 (v6 : BitVec 32) (v12 : BitVec 32) (k3_t1 : Fin (k3_t1_loop v6 v12).trips) : Fin 2 → Nat :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_33_r6 : BitVec 32 := 0#32
  ![v64.toNat, 0]
def k3_cond6 (v6 : BitVec 32) (v12 : BitVec 32) (k3_t1 : Fin (k3_t1_loop v6 v12).trips) : BitVec 1 :=
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c256_i32_28 : BitVec 32 := 256#32
  let v75 : BitVec 1 := Scalar.cmpi .eq v67 c256_i32_28
  let v76 : BitVec 32 := Scalar.extui v75
  let c0_i32_29 : BitVec 32 := 0#32
  let v77 : BitVec 1 := Scalar.cmpi .ne v76 c0_i32_29
  v77

def k3_mult2 (v6 : BitVec 32) (v12 : BitVec 32) (k3_t1 : Fin (k3_t1_loop v6 v12).trips) : BitVec 32 :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_34 : BitVec 32 := 0#32
  let v111 : BitVec 32 := Scalar.addi v64 c0_i32_34
  v111
def k3_cond7 (v6 : BitVec 32) (v12 : BitVec 32) (k3_t1 : Fin (k3_t1_loop v6 v12).trips) : BitVec 1 :=
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c256_i32_30 : BitVec 32 := 256#32
  let v78 : BitVec 1 := Scalar.cmpi .slt v67 c256_i32_30
  let v79 : BitVec 32 := Scalar.extui v78
  let c0_i32_31 : BitVec 32 := 0#32
  let v80 : BitVec 1 := Scalar.cmpi .ne v79 c0_i32_31
  v80

def k3_cond8 (v6 : BitVec 32) (v12 : BitVec 32) (k3_t1 : Fin (k3_t1_loop v6 v12).trips) : BitVec 1 :=
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let v83 : BitVec 32 := Scalar.extui v82
  let c0_i32_35 : BitVec 32 := 0#32
  let v84 : BitVec 1 := Scalar.cmpi .ne v83 c0_i32_35
  v84

def k3_off47 (v6 : BitVec 32) (v12 : BitVec 32) (k3_t1 : Fin (k3_t1_loop v6 v12).trips) : Fin 2 → Nat :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_34 : BitVec 32 := 0#32
  let v111 : BitVec 32 := Scalar.addi v64 c0_i32_34
  let v112 : BitVec 32 := v111
  let c0_i32_59_r7 : BitVec 32 := 0#32
  ![v112.toNat, 0]
def k3_mult3 (v6 : BitVec 32) (v12 : BitVec 32) (k3_t1 : Fin (k3_t1_loop v6 v12).trips) : BitVec 32 :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let v13 : BitVec 32 := Scalar.subi v12 v6
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let v111 : BitVec 32 := Scalar.addi v64 v86
  v111
def k3_cond9 (v6 : BitVec 32) (v12 : BitVec 32) (k3_t1 : Fin (k3_t1_loop v6 v12).trips) : BitVec 1 :=
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c64_i32_39 : BitVec 32 := 64#32
  let v87 : BitVec 32 := Scalar.andi v67 c64_i32_39
  let c0_i32_40 : BitVec 32 := 0#32
  let v88 : BitVec 1 := Scalar.cmpi .ne v87 c0_i32_40
  let v89 : BitVec 32 := Scalar.extui v88
  let c0_i32_41 : BitVec 32 := 0#32
  let v90 : BitVec 1 := Scalar.cmpi .ne v89 c0_i32_41
  v90

def k3_off48 (v6 : BitVec 32) (v12 : BitVec 32) (k3_t1 : Fin (k3_t1_loop v6 v12).trips) : Fin 2 → Nat :=
  let c0_i32_38 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c0_i32_58_r8 : BitVec 32 := 0#32
  ![v86.toNat, 0]
def k3_off49 (v6 : BitVec 32) (v12 : BitVec 32) (k3_t1 : Fin (k3_t1_loop v6 v12).trips) : Fin 2 → Nat :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let v13 : BitVec 32 := Scalar.subi v12 v6
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let v111 : BitVec 32 := Scalar.addi v64 v86
  let v112 : BitVec 32 := v111
  let c0_i32_59_r8 : BitVec 32 := 0#32
  ![v112.toNat, 0]
def k3_mult4 (v6 : BitVec 32) (v12 : BitVec 32) (k3_t1 : Fin (k3_t1_loop v6 v12).trips) : BitVec 32 :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let v13 : BitVec 32 := Scalar.subi v12 v6
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let v111 : BitVec 32 := Scalar.addi v64 v92
  v111
def k3_cond10 (v6 : BitVec 32) (v12 : BitVec 32) (k3_t1 : Fin (k3_t1_loop v6 v12).trips) : BitVec 1 :=
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c32_i32_44 : BitVec 32 := 32#32
  let v93 : BitVec 32 := Scalar.andi v67 c32_i32_44
  let c0_i32_45 : BitVec 32 := 0#32
  let v94 : BitVec 1 := Scalar.cmpi .ne v93 c0_i32_45
  let v95 : BitVec 32 := Scalar.extui v94
  let c0_i32_46 : BitVec 32 := 0#32
  let v96 : BitVec 1 := Scalar.cmpi .ne v95 c0_i32_46
  v96

def k3_off50 (v6 : BitVec 32) (v12 : BitVec 32) (k3_t1 : Fin (k3_t1_loop v6 v12).trips) : Fin 2 → Nat :=
  let c0_i32_38 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c0_i32_58_r9 : BitVec 32 := 0#32
  ![v92.toNat, 0]
def k3_off51 (v6 : BitVec 32) (v12 : BitVec 32) (k3_t1 : Fin (k3_t1_loop v6 v12).trips) : Fin 2 → Nat :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let v13 : BitVec 32 := Scalar.subi v12 v6
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let v111 : BitVec 32 := Scalar.addi v64 v92
  let v112 : BitVec 32 := v111
  let c0_i32_59_r9 : BitVec 32 := 0#32
  ![v112.toNat, 0]
def k3_mult5 (v6 : BitVec 32) (v12 : BitVec 32) (k3_t1 : Fin (k3_t1_loop v6 v12).trips) : BitVec 32 :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let v13 : BitVec 32 := Scalar.subi v12 v6
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let v111 : BitVec 32 := Scalar.addi v64 v98
  v111
def k3_cond11 (v6 : BitVec 32) (v12 : BitVec 32) (k3_t1 : Fin (k3_t1_loop v6 v12).trips) : BitVec 1 :=
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c16_i32_49 : BitVec 32 := 16#32
  let v99 : BitVec 32 := Scalar.andi v67 c16_i32_49
  let c0_i32_50 : BitVec 32 := 0#32
  let v100 : BitVec 1 := Scalar.cmpi .ne v99 c0_i32_50
  let v101 : BitVec 32 := Scalar.extui v100
  let c0_i32_51 : BitVec 32 := 0#32
  let v102 : BitVec 1 := Scalar.cmpi .ne v101 c0_i32_51
  v102

def k3_off52 (v6 : BitVec 32) (v12 : BitVec 32) (k3_t1 : Fin (k3_t1_loop v6 v12).trips) : Fin 2 → Nat :=
  let c0_i32_38 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let c0_i32_58_r10 : BitVec 32 := 0#32
  ![v98.toNat, 0]
def k3_off53 (v6 : BitVec 32) (v12 : BitVec 32) (k3_t1 : Fin (k3_t1_loop v6 v12).trips) : Fin 2 → Nat :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let v13 : BitVec 32 := Scalar.subi v12 v6
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let v111 : BitVec 32 := Scalar.addi v64 v98
  let v112 : BitVec 32 := v111
  let c0_i32_59_r10 : BitVec 32 := 0#32
  ![v112.toNat, 0]
def k3_mult6 (v6 : BitVec 32) (v12 : BitVec 32) (k3_t1 : Fin (k3_t1_loop v6 v12).trips) : BitVec 32 :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let v13 : BitVec 32 := Scalar.subi v12 v6
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let c16_i32_49 : BitVec 32 := 16#32
  let v99 : BitVec 32 := Scalar.andi v67 c16_i32_49
  let c0_i32_50 : BitVec 32 := 0#32
  let v100 : BitVec 1 := Scalar.cmpi .ne v99 c0_i32_50
  let c16_i32_52 : BitVec 32 := 16#32
  let c0_i32_53 : BitVec 32 := 0#32
  let v103 : BitVec 32 := Scalar.select v100 c16_i32_52 c0_i32_53
  let v104 : BitVec 32 := Scalar.addi v98 v103
  let v111 : BitVec 32 := Scalar.addi v64 v104
  v111
def k3_cond12 (v6 : BitVec 32) (v12 : BitVec 32) (k3_t1 : Fin (k3_t1_loop v6 v12).trips) : BitVec 1 :=
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c8_i32 : BitVec 32 := 8#32
  let v105 : BitVec 32 := Scalar.andi v67 c8_i32
  let c0_i32_54 : BitVec 32 := 0#32
  let v106 : BitVec 1 := Scalar.cmpi .ne v105 c0_i32_54
  let v107 : BitVec 32 := Scalar.extui v106
  let c0_i32_55 : BitVec 32 := 0#32
  let v108 : BitVec 1 := Scalar.cmpi .ne v107 c0_i32_55
  v108

def k3_off54 (v6 : BitVec 32) (v12 : BitVec 32) (k3_t1 : Fin (k3_t1_loop v6 v12).trips) : Fin 2 → Nat :=
  let c0_i32_38 : BitVec 32 := 0#32
  let c256_i32_22 : BitVec 32 := 256#32
  let v13 : BitVec 32 := Scalar.subi v12 v6
  let c0_i32_15 : BitVec 32 := 0#32
  let c1_i32_18 : BitVec 32 := 1#32
  let arg13 : BitVec 32 := Scf.iv c0_i32_15 c1_i32_18 k3_t1
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let c16_i32_49 : BitVec 32 := 16#32
  let v99 : BitVec 32 := Scalar.andi v67 c16_i32_49
  let c0_i32_50 : BitVec 32 := 0#32
  let v100 : BitVec 1 := Scalar.cmpi .ne v99 c0_i32_50
  let c16_i32_52 : BitVec 32 := 16#32
  let c0_i32_53 : BitVec 32 := 0#32
  let v103 : BitVec 32 := Scalar.select v100 c16_i32_52 c0_i32_53
  let v104 : BitVec 32 := Scalar.addi v98 v103
  let c0_i32_58_r11 : BitVec 32 := 0#32
  ![v104.toNat, 0]
def k3_off55 (v6 : BitVec 32) (v12 : BitVec 32) (k3_t1 : Fin (k3_t1_loop v6 v12).trips) : Fin 2 → Nat :=
  let c0_i32_15 : BitVec 32 := 0#32
  let c1_i32_18 : BitVec 32 := 1#32
  let arg13 : BitVec 32 := Scf.iv c0_i32_15 c1_i32_18 k3_t1
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let v13 : BitVec 32 := Scalar.subi v12 v6
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let c16_i32_49 : BitVec 32 := 16#32
  let v99 : BitVec 32 := Scalar.andi v67 c16_i32_49
  let c0_i32_50 : BitVec 32 := 0#32
  let v100 : BitVec 1 := Scalar.cmpi .ne v99 c0_i32_50
  let c16_i32_52 : BitVec 32 := 16#32
  let c0_i32_53 : BitVec 32 := 0#32
  let v103 : BitVec 32 := Scalar.select v100 c16_i32_52 c0_i32_53
  let v104 : BitVec 32 := Scalar.addi v98 v103
  let v111 : BitVec 32 := Scalar.addi v64 v104
  let v112 : BitVec 32 := v111
  let c0_i32_59_r11 : BitVec 32 := 0#32
  ![v112.toNat, 0]
@[reducible] def k3_t4_loop (v6 : BitVec 32) (v12 : BitVec 32) : Scf.Loop 32 :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let v56 : BitVec 32 := Scalar.addi c0_i32_15 v55
  let c1_i32_19 : BitVec 32 := 1#32
  ⟨v59, v56, c1_i32_19⟩
def k3_mult7 (v6 : BitVec 32) (v12 : BitVec 32) (k3_t4 : Fin (k3_t4_loop v6 v12).trips) : BitVec 32 :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  v63
def k3_off56 (v6 : BitVec 32) (v12 : BitVec 32) (k3_t4 : Fin (k3_t4_loop v6 v12).trips) : Fin 2 → Nat :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_33_r12 : BitVec 32 := 0#32
  ![v64.toNat, 0]
def k3_off57 (v6 : BitVec 32) (v12 : BitVec 32) (k3_t4 : Fin (k3_t4_loop v6 v12).trips) : Fin 1 → Nat :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  ![v64.toNat]
@[reducible] def k3_t5_loop (v6 : BitVec 32) (v12 : BitVec 32) (k3_t4 : Fin (k3_t4_loop v6 v12).trips) : Scf.Loop 32 :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_26 : BitVec 32 := 1#32
  ⟨c0_i32_23, v72, c1_i32_26⟩
def k3_off58 (v6 : BitVec 32) (v12 : BitVec 32) (k3_t4 : Fin (k3_t4_loop v6 v12).trips) (k3_t5 : Fin (k3_t5_loop v6 v12 k3_t4).trips) : Fin 1 → Nat :=
  let c0_i32_23 : BitVec 32 := 0#32
  let c1_i32_26 : BitVec 32 := 1#32
  let arg15 : BitVec 32 := Scf.iv c0_i32_23 c1_i32_26 k3_t5
  let v81 : Index := Scalar.indexCast arg15
  ![v81.toNat]
def k3_off59 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v87 : Index := Scalar.indexCast arg15
  let c0 : Index := 0#32
  ![v87.toNat, 0]
def k3_off60 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v90 : Index := Scalar.indexCast arg15
  let c0_33 : Index := 0#32
  ![v90.toNat, 0]
def k3_off61 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v94 : Index := Scalar.indexCast arg15
  let c16 : Index := 16#32
  ![v94.toNat, 16]
def k3_off62 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v97 : Index := Scalar.indexCast arg15
  let c16_34 : Index := 16#32
  ![v97.toNat, 16]
def k3_off63 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v101 : Index := Scalar.indexCast arg15
  let c32 : Index := 32#32
  ![v101.toNat, 32]
def k3_off64 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v104 : Index := Scalar.indexCast arg15
  let c32_35 : Index := 32#32
  ![v104.toNat, 32]
def k3_off65 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v108 : Index := Scalar.indexCast arg15
  let c48 : Index := 48#32
  ![v108.toNat, 48]
def k3_off66 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v111 : Index := Scalar.indexCast arg15
  let c48_36 : Index := 48#32
  ![v111.toNat, 48]
def k3_off67 (i : grid3.Coords) (v85 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c64_i32_42 : BitVec 32 := 64#32
  let v121 : BitVec 32 := Scalar.muli v86 c64_i32_42
  let v122 : Index := Scalar.indexCast v121
  ![v122.toNat]
def k3_cond13 (i : grid3.Coords) (v85 : BitVec 32) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c0_i32_37 : BitVec 32 := 0#32
  let v115 : BitVec 1 := Scalar.cmpi .sge v86 c0_i32_37
  let v116 : BitVec 32 := Scalar.extui v115
  let c0_i32_38 : BitVec 32 := 0#32
  let v117 : BitVec 1 := Scalar.cmpi .ne v116 c0_i32_38
  v117

def k3_off68 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v125 : Index := Scalar.indexCast arg15
  let c64 : Index := 64#32
  ![v125.toNat, 64]
def k3_off69 (i : grid3.Coords) (v85 : BitVec 32) (c16_i32_43 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c64_i32_42 : BitVec 32 := 64#32
  let v121 : BitVec 32 := Scalar.muli v86 c64_i32_42
  let v129 : BitVec 32 := Scalar.addi v121 c16_i32_43
  let v130 : Index := Scalar.indexCast v129
  ![v130.toNat]
def k3_off70 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v133 : Index := Scalar.indexCast arg15
  let c80 : Index := 80#32
  ![v133.toNat, 80]
def k3_off71 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v141 : Index := Scalar.indexCast arg15
  let c96 : Index := 96#32
  ![v141.toNat, 96]
def k3_off72 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v149 : Index := Scalar.indexCast arg15
  let c112 : Index := 112#32
  ![v149.toNat, 112]
def k3_off73 (v85 : BitVec 32) : Fin 1 → Nat :=
  let c64_i32_42 : BitVec 32 := 64#32
  let v121 : BitVec 32 := Scalar.muli v85 c64_i32_42
  ![v121.toNat]
def k3_cond14 (i : grid3.Coords) (v85 : BitVec 32) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c0_i32_39 : BitVec 32 := 0#32
  let v118 : BitVec 1 := Scalar.cmpi .slt v86 c0_i32_39
  let v119 : BitVec 32 := Scalar.extui v118
  let c0_i32_40 : BitVec 32 := 0#32
  let v120 : BitVec 1 := Scalar.cmpi .ne v119 c0_i32_40
  v120

def k3_off74 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v124 : Index := Scalar.indexCast arg15
  let c64 : Index := 64#32
  ![v124.toNat, 64]
def k3_off75 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v130 : Index := Scalar.indexCast arg15
  let c80 : Index := 80#32
  ![v130.toNat, 80]
def k3_off76 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v136 : Index := Scalar.indexCast arg15
  let c96 : Index := 96#32
  ![v136.toNat, 96]
def k3_off77 (v6 : BitVec 32) (v12 : BitVec 32) (k3_t4 : Fin (k3_t4_loop v6 v12).trips) (k3_t5 : Fin (k3_t5_loop v6 v12 k3_t4).trips) : Fin 2 → Nat :=
  let c0_i32_23 : BitVec 32 := 0#32
  let c1_i32_26 : BitVec 32 := 1#32
  let arg15 : BitVec 32 := Scf.iv c0_i32_23 c1_i32_26 k3_t5
  let v142 : Index := Scalar.indexCast arg15
  let c112 : Index := 112#32
  ![v142.toNat, 112]

def k3_chk4 (i : grid3.Coords) (v6 : BitVec 32) (v12 : BitVec 32) (k3_t4 : Fin (k3_t4_loop v6 v12).trips) (k3_t5 : Fin (k3_t5_loop v6 v12 k3_t4).trips) (v85 : BitVec 32) : Prop :=
  (∀ (k3_h1 : k3_cond1 v6 v12 = 1#1), ∀ (k3_h13 : k3_cond13 i v85 = 1#1), ∀ a, (k3_off67 i v85) a + S16.size a ≤ S20480.size a) ∧
  (∀ (k3_h1 : k3_cond1 v6 v12 = 1#1), ∀ (k3_h13 : k3_cond13 i v85 = 1#1), ∀ a, (k3_off68 v6 v12 k3_t4 k3_t5) a + S1x16.size a ≤ S256x128.size a) ∧
  (∀ (k3_h1 : k3_cond1 v6 v12 = 1#1), ∀ (k3_h13 : k3_cond13 i v85 = 1#1), ∀ (r : Fin 3), ∀ a, (k3_off69 i v85 (BitVec.ofNat 32 (16 + 16 * r.val))) a + S16.size a ≤ S20480.size a) ∧
  (∀ (k3_h1 : k3_cond1 v6 v12 = 1#1), ∀ (k3_h13 : k3_cond13 i v85 = 1#1), ∀ a, (k3_off70 v6 v12 k3_t4 k3_t5) a + S1x16.size a ≤ S256x128.size a) ∧
  (∀ (k3_h1 : k3_cond1 v6 v12 = 1#1), ∀ (k3_h13 : k3_cond13 i v85 = 1#1), ∀ a, (k3_off71 v6 v12 k3_t4 k3_t5) a + S1x16.size a ≤ S256x128.size a) ∧
  (∀ (k3_h1 : k3_cond1 v6 v12 = 1#1), ∀ (k3_h13 : k3_cond13 i v85 = 1#1), ∀ a, (k3_off72 v6 v12 k3_t4 k3_t5) a + S1x16.size a ≤ S256x128.size a) ∧
  (∀ (k3_h1 : k3_cond1 v6 v12 = 1#1), ∀ (k3_h14 : k3_cond14 i v85 = 1#1), ∀ a, (k3_off73 v85) a + S64.size a ≤ S641024.size a) ∧
  (∀ (k3_h1 : k3_cond1 v6 v12 = 1#1), ∀ (k3_h14 : k3_cond14 i v85 = 1#1), ∀ a, (k3_off74 v6 v12 k3_t4 k3_t5) a + S1x16.size a ≤ S256x128.size a) ∧
  (∀ (k3_h1 : k3_cond1 v6 v12 = 1#1), ∀ (k3_h14 : k3_cond14 i v85 = 1#1), ∀ a, (k3_off75 v6 v12 k3_t4 k3_t5) a + S1x16.size a ≤ S256x128.size a) ∧
  (∀ (k3_h1 : k3_cond1 v6 v12 = 1#1), ∀ (k3_h14 : k3_cond14 i v85 = 1#1), ∀ a, (k3_off76 v6 v12 k3_t4 k3_t5) a + S1x16.size a ≤ S256x128.size a) ∧
  (∀ (k3_h1 : k3_cond1 v6 v12 = 1#1), ∀ (k3_h14 : k3_cond14 i v85 = 1#1), ∀ a, (k3_off77 v6 v12 k3_t4 k3_t5) a + S1x16.size a ≤ S256x128.size a)
theorem k3_off67_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h13 : k3_cond13 i v85 = 1#1), ∀ a, (k3_off67 i v85) a + S16.size a ≤ S20480.size a := fun i v6 v12 k3_t4 k3_t5 v85 k3_hw4 k3_h1 k3_h13 => k3_hw4.1 k3_h1 k3_h13
theorem k3_off68_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h13 : k3_cond13 i v85 = 1#1), ∀ a, (k3_off68 v6 v12 k3_t4 k3_t5) a + S1x16.size a ≤ S256x128.size a := fun i v6 v12 k3_t4 k3_t5 v85 k3_hw4 k3_h1 k3_h13 => k3_hw4.2.1 k3_h1 k3_h13
theorem k3_off69_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h13 : k3_cond13 i v85 = 1#1), ∀ (r : Fin 3), ∀ a, (k3_off69 i v85 (BitVec.ofNat 32 (16 + 16 * r.val))) a + S16.size a ≤ S20480.size a := fun i v6 v12 k3_t4 k3_t5 v85 k3_hw4 k3_h1 k3_h13 r => k3_hw4.2.2.1 k3_h1 k3_h13 r
theorem k3_off70_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h13 : k3_cond13 i v85 = 1#1), ∀ a, (k3_off70 v6 v12 k3_t4 k3_t5) a + S1x16.size a ≤ S256x128.size a := fun i v6 v12 k3_t4 k3_t5 v85 k3_hw4 k3_h1 k3_h13 => k3_hw4.2.2.2.1 k3_h1 k3_h13
theorem k3_off71_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h13 : k3_cond13 i v85 = 1#1), ∀ a, (k3_off71 v6 v12 k3_t4 k3_t5) a + S1x16.size a ≤ S256x128.size a := fun i v6 v12 k3_t4 k3_t5 v85 k3_hw4 k3_h1 k3_h13 => k3_hw4.2.2.2.2.1 k3_h1 k3_h13
theorem k3_off72_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h13 : k3_cond13 i v85 = 1#1), ∀ a, (k3_off72 v6 v12 k3_t4 k3_t5) a + S1x16.size a ≤ S256x128.size a := fun i v6 v12 k3_t4 k3_t5 v85 k3_hw4 k3_h1 k3_h13 => k3_hw4.2.2.2.2.2.1 k3_h1 k3_h13
theorem k3_off73_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h14 : k3_cond14 i v85 = 1#1), ∀ a, (k3_off73 v85) a + S64.size a ≤ S641024.size a := fun i v6 v12 k3_t4 k3_t5 v85 k3_hw4 k3_h1 k3_h14 => k3_hw4.2.2.2.2.2.2.1 k3_h1 k3_h14
theorem k3_off74_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h14 : k3_cond14 i v85 = 1#1), ∀ a, (k3_off74 v6 v12 k3_t4 k3_t5) a + S1x16.size a ≤ S256x128.size a := fun i v6 v12 k3_t4 k3_t5 v85 k3_hw4 k3_h1 k3_h14 => k3_hw4.2.2.2.2.2.2.2.1 k3_h1 k3_h14
theorem k3_off75_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h14 : k3_cond14 i v85 = 1#1), ∀ a, (k3_off75 v6 v12 k3_t4 k3_t5) a + S1x16.size a ≤ S256x128.size a := fun i v6 v12 k3_t4 k3_t5 v85 k3_hw4 k3_h1 k3_h14 => k3_hw4.2.2.2.2.2.2.2.2.1 k3_h1 k3_h14
theorem k3_off76_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h14 : k3_cond14 i v85 = 1#1), ∀ a, (k3_off76 v6 v12 k3_t4 k3_t5) a + S1x16.size a ≤ S256x128.size a := fun i v6 v12 k3_t4 k3_t5 v85 k3_hw4 k3_h1 k3_h14 => k3_hw4.2.2.2.2.2.2.2.2.2.1 k3_h1 k3_h14
theorem k3_off77_inb : ∀ (i : grid3.Coords) (v6 : BitVec 32) (v12 : BitVec 32) (k3_t4 : Fin (k3_t4_loop v6 v12).trips) (k3_t5 : Fin (k3_t5_loop v6 v12 k3_t4).trips) (v85 : BitVec 32) (k3_hw4 : k3_chk4 i v6 v12 k3_t4 k3_t5 v85), ∀ (k3_h1 : k3_cond1 v6 v12 = 1#1), ∀ (k3_h14 : k3_cond14 i v85 = 1#1), ∀ a, (k3_off77 v6 v12 k3_t4 k3_t5) a + S1x16.size a ≤ S256x128.size a := fun i v6 v12 k3_t4 k3_t5 v85 k3_hw4 k3_h1 k3_h14 => k3_hw4.2.2.2.2.2.2.2.2.2.2 k3_h1 k3_h14

@[reducible] def k3_t6_loop (v6 : BitVec 32) (v12 : BitVec 32) (k3_t4 : Fin (k3_t4_loop v6 v12).trips) : Scf.Loop 32 :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let v69 : BitVec 32 := Scalar.addi c0_i32_23 v68
  let c1_i32_27 : BitVec 32 := 1#32
  ⟨v72, v69, c1_i32_27⟩
def k3_off78 (v6 : BitVec 32) (v12 : BitVec 32) (k3_t4 : Fin (k3_t4_loop v6 v12).trips) (k3_t6 : Fin (k3_t6_loop v6 v12 k3_t4).trips) : Fin 1 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v81 : Index := Scalar.indexCast arg15
  ![v81.toNat]
def k3_off79 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v87 : Index := Scalar.indexCast arg15
  let c0 : Index := 0#32
  ![v87.toNat, 0]
def k3_off80 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v90 : Index := Scalar.indexCast arg15
  let c0_33 : Index := 0#32
  ![v90.toNat, 0]
def k3_off81 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v94 : Index := Scalar.indexCast arg15
  let c16 : Index := 16#32
  ![v94.toNat, 16]
def k3_off82 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v97 : Index := Scalar.indexCast arg15
  let c16_34 : Index := 16#32
  ![v97.toNat, 16]
def k3_off83 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v101 : Index := Scalar.indexCast arg15
  let c32 : Index := 32#32
  ![v101.toNat, 32]
def k3_off84 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v104 : Index := Scalar.indexCast arg15
  let c32_35 : Index := 32#32
  ![v104.toNat, 32]
def k3_off85 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v108 : Index := Scalar.indexCast arg15
  let c48 : Index := 48#32
  ![v108.toNat, 48]
def k3_off86 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v111 : Index := Scalar.indexCast arg15
  let c48_36 : Index := 48#32
  ![v111.toNat, 48]
def k3_off87 (i : grid3.Coords) (v85 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c64_i32_42 : BitVec 32 := 64#32
  let v121 : BitVec 32 := Scalar.muli v86 c64_i32_42
  let v122 : Index := Scalar.indexCast v121
  ![v122.toNat]
def k3_cond15 (i : grid3.Coords) (v85 : BitVec 32) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c0_i32_37 : BitVec 32 := 0#32
  let v115 : BitVec 1 := Scalar.cmpi .sge v86 c0_i32_37
  let v116 : BitVec 32 := Scalar.extui v115
  let c0_i32_38 : BitVec 32 := 0#32
  let v117 : BitVec 1 := Scalar.cmpi .ne v116 c0_i32_38
  v117

def k3_off88 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v125 : Index := Scalar.indexCast arg15
  let c64 : Index := 64#32
  ![v125.toNat, 64]
def k3_off89 (i : grid3.Coords) (v85 : BitVec 32) (c16_i32_43 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c64_i32_42 : BitVec 32 := 64#32
  let v121 : BitVec 32 := Scalar.muli v86 c64_i32_42
  let v129 : BitVec 32 := Scalar.addi v121 c16_i32_43
  let v130 : Index := Scalar.indexCast v129
  ![v130.toNat]
def k3_off90 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v133 : Index := Scalar.indexCast arg15
  let c80 : Index := 80#32
  ![v133.toNat, 80]
def k3_off91 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v141 : Index := Scalar.indexCast arg15
  let c96 : Index := 96#32
  ![v141.toNat, 96]
def k3_off92 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v149 : Index := Scalar.indexCast arg15
  let c112 : Index := 112#32
  ![v149.toNat, 112]
def k3_off93 (v85 : BitVec 32) : Fin 1 → Nat :=
  let c64_i32_42 : BitVec 32 := 64#32
  let v121 : BitVec 32 := Scalar.muli v85 c64_i32_42
  ![v121.toNat]
def k3_cond16 (i : grid3.Coords) (v85 : BitVec 32) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v14 : BitVec 32 := Scalar.muli v1 c10000_i32
  let c0_i32 : BitVec 32 := 0#32
  let v16 : BitVec 1 := Scalar.cmpi .sgt v14 c0_i32
  let v17 : BitVec 32 := Scalar.extui v16
  let c0_i32_0 : BitVec 32 := 0#32
  let v18 : BitVec 1 := Scalar.cmpi .slt v14 c0_i32_0
  let v19 : BitVec 32 := Scalar.extui v18
  let v20 : BitVec 32 := Scalar.subi v17 v19
  let c32_i32 : BitVec 32 := 32#32
  let c0_i32_1 : BitVec 32 := 0#32
  let v21 : BitVec 1 := Scalar.cmpi .sgt c32_i32 c0_i32_1
  let v22 : BitVec 32 := Scalar.extui v21
  let c0_i32_2 : BitVec 32 := 0#32
  let v23 : BitVec 1 := Scalar.cmpi .slt c32_i32 c0_i32_2
  let v24 : BitVec 32 := Scalar.extui v23
  let v25 : BitVec 32 := Scalar.subi v22 v24
  let v26 : BitVec 1 := Scalar.cmpi .ne v20 v25
  let v27 : BitVec 32 := Scalar.remsi v14 c32_i32
  let c0_i32_3 : BitVec 32 := 0#32
  let v28 : BitVec 1 := Scalar.cmpi .ne v27 c0_i32_3
  let v29 : BitVec 1 := Scalar.andi v26 v28
  let v15 : BitVec 32 := Scalar.divsi v14 c32_i32
  let c1_i32_4 : BitVec 32 := 1#32
  let v30 : BitVec 32 := Scalar.subi v15 c1_i32_4
  let v31 : BitVec 32 := Scalar.select v29 v30 v15
  let v86 : BitVec 32 := Scalar.subi v85 v31
  let c0_i32_39 : BitVec 32 := 0#32
  let v118 : BitVec 1 := Scalar.cmpi .slt v86 c0_i32_39
  let v119 : BitVec 32 := Scalar.extui v118
  let c0_i32_40 : BitVec 32 := 0#32
  let v120 : BitVec 1 := Scalar.cmpi .ne v119 c0_i32_40
  v120

def k3_off94 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v124 : Index := Scalar.indexCast arg15
  let c64 : Index := 64#32
  ![v124.toNat, 64]
def k3_off95 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v130 : Index := Scalar.indexCast arg15
  let c80 : Index := 80#32
  ![v130.toNat, 80]
def k3_off96 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v136 : Index := Scalar.indexCast arg15
  let c96 : Index := 96#32
  ![v136.toNat, 96]
def k3_off97 (v6 : BitVec 32) (v12 : BitVec 32) (k3_t4 : Fin (k3_t4_loop v6 v12).trips) (k3_t6 : Fin (k3_t6_loop v6 v12 k3_t4).trips) : Fin 2 → Nat :=
  let c0_i32_23 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let v68 : BitVec 32 := Scalar.subi v67 c0_i32_23
  let c1_i32_25 : BitVec 32 := 1#32
  let v70 : BitVec 32 := Scalar.divsi v68 c1_i32_25
  let v71 : BitVec 32 := Scalar.muli v70 c1_i32_25
  let v72 : BitVec 32 := Scalar.addi c0_i32_23 v71
  let c1_i32_27 : BitVec 32 := 1#32
  let arg15 : BitVec 32 := Scf.iv v72 c1_i32_27 k3_t6
  let v142 : Index := Scalar.indexCast arg15
  let c112 : Index := 112#32
  ![v142.toNat, 112]

def k3_chk5 (i : grid3.Coords) (v6 : BitVec 32) (v12 : BitVec 32) (k3_t4 : Fin (k3_t4_loop v6 v12).trips) (k3_t6 : Fin (k3_t6_loop v6 v12 k3_t4).trips) (v85 : BitVec 32) : Prop :=
  (∀ (k3_h1 : k3_cond1 v6 v12 = 1#1), ∀ (k3_h15 : k3_cond15 i v85 = 1#1), ∀ a, (k3_off87 i v85) a + S16.size a ≤ S20480.size a) ∧
  (∀ (k3_h1 : k3_cond1 v6 v12 = 1#1), ∀ (k3_h15 : k3_cond15 i v85 = 1#1), ∀ a, (k3_off88 v6 v12 k3_t4 k3_t6) a + S1x16.size a ≤ S256x128.size a) ∧
  (∀ (k3_h1 : k3_cond1 v6 v12 = 1#1), ∀ (k3_h15 : k3_cond15 i v85 = 1#1), ∀ (r : Fin 3), ∀ a, (k3_off89 i v85 (BitVec.ofNat 32 (16 + 16 * r.val))) a + S16.size a ≤ S20480.size a) ∧
  (∀ (k3_h1 : k3_cond1 v6 v12 = 1#1), ∀ (k3_h15 : k3_cond15 i v85 = 1#1), ∀ a, (k3_off90 v6 v12 k3_t4 k3_t6) a + S1x16.size a ≤ S256x128.size a) ∧
  (∀ (k3_h1 : k3_cond1 v6 v12 = 1#1), ∀ (k3_h15 : k3_cond15 i v85 = 1#1), ∀ a, (k3_off91 v6 v12 k3_t4 k3_t6) a + S1x16.size a ≤ S256x128.size a) ∧
  (∀ (k3_h1 : k3_cond1 v6 v12 = 1#1), ∀ (k3_h15 : k3_cond15 i v85 = 1#1), ∀ a, (k3_off92 v6 v12 k3_t4 k3_t6) a + S1x16.size a ≤ S256x128.size a) ∧
  (∀ (k3_h1 : k3_cond1 v6 v12 = 1#1), ∀ (k3_h16 : k3_cond16 i v85 = 1#1), ∀ a, (k3_off93 v85) a + S64.size a ≤ S641024.size a) ∧
  (∀ (k3_h1 : k3_cond1 v6 v12 = 1#1), ∀ (k3_h16 : k3_cond16 i v85 = 1#1), ∀ a, (k3_off94 v6 v12 k3_t4 k3_t6) a + S1x16.size a ≤ S256x128.size a) ∧
  (∀ (k3_h1 : k3_cond1 v6 v12 = 1#1), ∀ (k3_h16 : k3_cond16 i v85 = 1#1), ∀ a, (k3_off95 v6 v12 k3_t4 k3_t6) a + S1x16.size a ≤ S256x128.size a) ∧
  (∀ (k3_h1 : k3_cond1 v6 v12 = 1#1), ∀ (k3_h16 : k3_cond16 i v85 = 1#1), ∀ a, (k3_off96 v6 v12 k3_t4 k3_t6) a + S1x16.size a ≤ S256x128.size a) ∧
  (∀ (k3_h1 : k3_cond1 v6 v12 = 1#1), ∀ (k3_h16 : k3_cond16 i v85 = 1#1), ∀ a, (k3_off97 v6 v12 k3_t4 k3_t6) a + S1x16.size a ≤ S256x128.size a)
theorem k3_off87_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h15 : k3_cond15 i v85 = 1#1), ∀ a, (k3_off87 i v85) a + S16.size a ≤ S20480.size a := fun i v6 v12 k3_t4 k3_t6 v85 k3_hw5 k3_h1 k3_h15 => k3_hw5.1 k3_h1 k3_h15
theorem k3_off88_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h15 : k3_cond15 i v85 = 1#1), ∀ a, (k3_off88 v6 v12 k3_t4 k3_t6) a + S1x16.size a ≤ S256x128.size a := fun i v6 v12 k3_t4 k3_t6 v85 k3_hw5 k3_h1 k3_h15 => k3_hw5.2.1 k3_h1 k3_h15
theorem k3_off89_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h15 : k3_cond15 i v85 = 1#1), ∀ (r : Fin 3), ∀ a, (k3_off89 i v85 (BitVec.ofNat 32 (16 + 16 * r.val))) a + S16.size a ≤ S20480.size a := fun i v6 v12 k3_t4 k3_t6 v85 k3_hw5 k3_h1 k3_h15 r => k3_hw5.2.2.1 k3_h1 k3_h15 r
theorem k3_off90_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h15 : k3_cond15 i v85 = 1#1), ∀ a, (k3_off90 v6 v12 k3_t4 k3_t6) a + S1x16.size a ≤ S256x128.size a := fun i v6 v12 k3_t4 k3_t6 v85 k3_hw5 k3_h1 k3_h15 => k3_hw5.2.2.2.1 k3_h1 k3_h15
theorem k3_off91_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h15 : k3_cond15 i v85 = 1#1), ∀ a, (k3_off91 v6 v12 k3_t4 k3_t6) a + S1x16.size a ≤ S256x128.size a := fun i v6 v12 k3_t4 k3_t6 v85 k3_hw5 k3_h1 k3_h15 => k3_hw5.2.2.2.2.1 k3_h1 k3_h15
theorem k3_off92_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h15 : k3_cond15 i v85 = 1#1), ∀ a, (k3_off92 v6 v12 k3_t4 k3_t6) a + S1x16.size a ≤ S256x128.size a := fun i v6 v12 k3_t4 k3_t6 v85 k3_hw5 k3_h1 k3_h15 => k3_hw5.2.2.2.2.2.1 k3_h1 k3_h15
theorem k3_off93_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h16 : k3_cond16 i v85 = 1#1), ∀ a, (k3_off93 v85) a + S64.size a ≤ S641024.size a := fun i v6 v12 k3_t4 k3_t6 v85 k3_hw5 k3_h1 k3_h16 => k3_hw5.2.2.2.2.2.2.1 k3_h1 k3_h16
theorem k3_off94_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h16 : k3_cond16 i v85 = 1#1), ∀ a, (k3_off94 v6 v12 k3_t4 k3_t6) a + S1x16.size a ≤ S256x128.size a := fun i v6 v12 k3_t4 k3_t6 v85 k3_hw5 k3_h1 k3_h16 => k3_hw5.2.2.2.2.2.2.2.1 k3_h1 k3_h16
theorem k3_off95_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h16 : k3_cond16 i v85 = 1#1), ∀ a, (k3_off95 v6 v12 k3_t4 k3_t6) a + S1x16.size a ≤ S256x128.size a := fun i v6 v12 k3_t4 k3_t6 v85 k3_hw5 k3_h1 k3_h16 => k3_hw5.2.2.2.2.2.2.2.2.1 k3_h1 k3_h16
theorem k3_off96_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h16 : k3_cond16 i v85 = 1#1), ∀ a, (k3_off96 v6 v12 k3_t4 k3_t6) a + S1x16.size a ≤ S256x128.size a := fun i v6 v12 k3_t4 k3_t6 v85 k3_hw5 k3_h1 k3_h16 => k3_hw5.2.2.2.2.2.2.2.2.2.1 k3_h1 k3_h16
theorem k3_off97_inb : ∀ (i : grid3.Coords) (v6 : BitVec 32) (v12 : BitVec 32) (k3_t4 : Fin (k3_t4_loop v6 v12).trips) (k3_t6 : Fin (k3_t6_loop v6 v12 k3_t4).trips) (v85 : BitVec 32) (k3_hw5 : k3_chk5 i v6 v12 k3_t4 k3_t6 v85), ∀ (k3_h1 : k3_cond1 v6 v12 = 1#1), ∀ (k3_h16 : k3_cond16 i v85 = 1#1), ∀ a, (k3_off97 v6 v12 k3_t4 k3_t6) a + S1x16.size a ≤ S256x128.size a := fun i v6 v12 k3_t4 k3_t6 v85 k3_hw5 k3_h1 k3_h16 => k3_hw5.2.2.2.2.2.2.2.2.2.2 k3_h1 k3_h16

def k3_off98 (v6 : BitVec 32) (v12 : BitVec 32) (k3_t4 : Fin (k3_t4_loop v6 v12).trips) : Fin 2 → Nat :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_33_r16 : BitVec 32 := 0#32
  ![v64.toNat, 0]
def k3_cond17 (v6 : BitVec 32) (v12 : BitVec 32) (k3_t4 : Fin (k3_t4_loop v6 v12).trips) : BitVec 1 :=
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c256_i32_28 : BitVec 32 := 256#32
  let v75 : BitVec 1 := Scalar.cmpi .eq v67 c256_i32_28
  let v76 : BitVec 32 := Scalar.extui v75
  let c0_i32_29 : BitVec 32 := 0#32
  let v77 : BitVec 1 := Scalar.cmpi .ne v76 c0_i32_29
  v77

def k3_mult8 (v6 : BitVec 32) (v12 : BitVec 32) (k3_t4 : Fin (k3_t4_loop v6 v12).trips) : BitVec 32 :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_34 : BitVec 32 := 0#32
  let v111 : BitVec 32 := Scalar.addi v64 c0_i32_34
  v111
def k3_cond18 (v6 : BitVec 32) (v12 : BitVec 32) (k3_t4 : Fin (k3_t4_loop v6 v12).trips) : BitVec 1 :=
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c256_i32_30 : BitVec 32 := 256#32
  let v78 : BitVec 1 := Scalar.cmpi .slt v67 c256_i32_30
  let v79 : BitVec 32 := Scalar.extui v78
  let c0_i32_31 : BitVec 32 := 0#32
  let v80 : BitVec 1 := Scalar.cmpi .ne v79 c0_i32_31
  v80

def k3_cond19 (v6 : BitVec 32) (v12 : BitVec 32) (k3_t4 : Fin (k3_t4_loop v6 v12).trips) : BitVec 1 :=
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let v83 : BitVec 32 := Scalar.extui v82
  let c0_i32_35 : BitVec 32 := 0#32
  let v84 : BitVec 1 := Scalar.cmpi .ne v83 c0_i32_35
  v84

def k3_off99 (v6 : BitVec 32) (v12 : BitVec 32) (k3_t4 : Fin (k3_t4_loop v6 v12).trips) : Fin 2 → Nat :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_34 : BitVec 32 := 0#32
  let v111 : BitVec 32 := Scalar.addi v64 c0_i32_34
  let v112 : BitVec 32 := v111
  let c0_i32_59_r17 : BitVec 32 := 0#32
  ![v112.toNat, 0]
def k3_mult9 (v6 : BitVec 32) (v12 : BitVec 32) (k3_t4 : Fin (k3_t4_loop v6 v12).trips) : BitVec 32 :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let v111 : BitVec 32 := Scalar.addi v64 v86
  v111
def k3_cond20 (v6 : BitVec 32) (v12 : BitVec 32) (k3_t4 : Fin (k3_t4_loop v6 v12).trips) : BitVec 1 :=
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c64_i32_39 : BitVec 32 := 64#32
  let v87 : BitVec 32 := Scalar.andi v67 c64_i32_39
  let c0_i32_40 : BitVec 32 := 0#32
  let v88 : BitVec 1 := Scalar.cmpi .ne v87 c0_i32_40
  let v89 : BitVec 32 := Scalar.extui v88
  let c0_i32_41 : BitVec 32 := 0#32
  let v90 : BitVec 1 := Scalar.cmpi .ne v89 c0_i32_41
  v90

def k3_off100 (v6 : BitVec 32) (v12 : BitVec 32) (k3_t4 : Fin (k3_t4_loop v6 v12).trips) : Fin 2 → Nat :=
  let c0_i32_38 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c0_i32_58_r18 : BitVec 32 := 0#32
  ![v86.toNat, 0]
def k3_off101 (v6 : BitVec 32) (v12 : BitVec 32) (k3_t4 : Fin (k3_t4_loop v6 v12).trips) : Fin 2 → Nat :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let v111 : BitVec 32 := Scalar.addi v64 v86
  let v112 : BitVec 32 := v111
  let c0_i32_59_r18 : BitVec 32 := 0#32
  ![v112.toNat, 0]
def k3_mult10 (v6 : BitVec 32) (v12 : BitVec 32) (k3_t4 : Fin (k3_t4_loop v6 v12).trips) : BitVec 32 :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let v111 : BitVec 32 := Scalar.addi v64 v92
  v111
def k3_cond21 (v6 : BitVec 32) (v12 : BitVec 32) (k3_t4 : Fin (k3_t4_loop v6 v12).trips) : BitVec 1 :=
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c32_i32_44 : BitVec 32 := 32#32
  let v93 : BitVec 32 := Scalar.andi v67 c32_i32_44
  let c0_i32_45 : BitVec 32 := 0#32
  let v94 : BitVec 1 := Scalar.cmpi .ne v93 c0_i32_45
  let v95 : BitVec 32 := Scalar.extui v94
  let c0_i32_46 : BitVec 32 := 0#32
  let v96 : BitVec 1 := Scalar.cmpi .ne v95 c0_i32_46
  v96

def k3_off102 (v6 : BitVec 32) (v12 : BitVec 32) (k3_t4 : Fin (k3_t4_loop v6 v12).trips) : Fin 2 → Nat :=
  let c0_i32_38 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c0_i32_58_r19 : BitVec 32 := 0#32
  ![v92.toNat, 0]
def k3_off103 (v6 : BitVec 32) (v12 : BitVec 32) (k3_t4 : Fin (k3_t4_loop v6 v12).trips) : Fin 2 → Nat :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let v111 : BitVec 32 := Scalar.addi v64 v92
  let v112 : BitVec 32 := v111
  let c0_i32_59_r19 : BitVec 32 := 0#32
  ![v112.toNat, 0]
def k3_mult11 (v6 : BitVec 32) (v12 : BitVec 32) (k3_t4 : Fin (k3_t4_loop v6 v12).trips) : BitVec 32 :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let v111 : BitVec 32 := Scalar.addi v64 v98
  v111
def k3_cond22 (v6 : BitVec 32) (v12 : BitVec 32) (k3_t4 : Fin (k3_t4_loop v6 v12).trips) : BitVec 1 :=
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c16_i32_49 : BitVec 32 := 16#32
  let v99 : BitVec 32 := Scalar.andi v67 c16_i32_49
  let c0_i32_50 : BitVec 32 := 0#32
  let v100 : BitVec 1 := Scalar.cmpi .ne v99 c0_i32_50
  let v101 : BitVec 32 := Scalar.extui v100
  let c0_i32_51 : BitVec 32 := 0#32
  let v102 : BitVec 1 := Scalar.cmpi .ne v101 c0_i32_51
  v102

def k3_off104 (v6 : BitVec 32) (v12 : BitVec 32) (k3_t4 : Fin (k3_t4_loop v6 v12).trips) : Fin 2 → Nat :=
  let c0_i32_38 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let c0_i32_58_r20 : BitVec 32 := 0#32
  ![v98.toNat, 0]
def k3_off105 (v6 : BitVec 32) (v12 : BitVec 32) (k3_t4 : Fin (k3_t4_loop v6 v12).trips) : Fin 2 → Nat :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let v111 : BitVec 32 := Scalar.addi v64 v98
  let v112 : BitVec 32 := v111
  let c0_i32_59_r20 : BitVec 32 := 0#32
  ![v112.toNat, 0]
def k3_mult12 (v6 : BitVec 32) (v12 : BitVec 32) (k3_t4 : Fin (k3_t4_loop v6 v12).trips) : BitVec 32 :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let c16_i32_49 : BitVec 32 := 16#32
  let v99 : BitVec 32 := Scalar.andi v67 c16_i32_49
  let c0_i32_50 : BitVec 32 := 0#32
  let v100 : BitVec 1 := Scalar.cmpi .ne v99 c0_i32_50
  let c16_i32_52 : BitVec 32 := 16#32
  let c0_i32_53 : BitVec 32 := 0#32
  let v103 : BitVec 32 := Scalar.select v100 c16_i32_52 c0_i32_53
  let v104 : BitVec 32 := Scalar.addi v98 v103
  let v111 : BitVec 32 := Scalar.addi v64 v104
  v111
def k3_cond23 (v6 : BitVec 32) (v12 : BitVec 32) (k3_t4 : Fin (k3_t4_loop v6 v12).trips) : BitVec 1 :=
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c8_i32 : BitVec 32 := 8#32
  let v105 : BitVec 32 := Scalar.andi v67 c8_i32
  let c0_i32_54 : BitVec 32 := 0#32
  let v106 : BitVec 1 := Scalar.cmpi .ne v105 c0_i32_54
  let v107 : BitVec 32 := Scalar.extui v106
  let c0_i32_55 : BitVec 32 := 0#32
  let v108 : BitVec 1 := Scalar.cmpi .ne v107 c0_i32_55
  v108

def k3_off106 (v6 : BitVec 32) (v12 : BitVec 32) (k3_t4 : Fin (k3_t4_loop v6 v12).trips) : Fin 2 → Nat :=
  let c0_i32_38 : BitVec 32 := 0#32
  let c256_i32_22 : BitVec 32 := 256#32
  let v13 : BitVec 32 := Scalar.subi v12 v6
  let c0_i32_15 : BitVec 32 := 0#32
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let c16_i32_49 : BitVec 32 := 16#32
  let v99 : BitVec 32 := Scalar.andi v67 c16_i32_49
  let c0_i32_50 : BitVec 32 := 0#32
  let v100 : BitVec 1 := Scalar.cmpi .ne v99 c0_i32_50
  let c16_i32_52 : BitVec 32 := 16#32
  let c0_i32_53 : BitVec 32 := 0#32
  let v103 : BitVec 32 := Scalar.select v100 c16_i32_52 c0_i32_53
  let v104 : BitVec 32 := Scalar.addi v98 v103
  let c0_i32_58_r21 : BitVec 32 := 0#32
  ![v104.toNat, 0]
def k3_off107 (v6 : BitVec 32) (v12 : BitVec 32) (k3_t4 : Fin (k3_t4_loop v6 v12).trips) : Fin 2 → Nat :=
  let c0_i32_15 : BitVec 32 := 0#32
  let v13 : BitVec 32 := Scalar.subi v12 v6
  let c256_i32 : BitVec 32 := 256#32
  let v32 : BitVec 32 := Scalar.addi v13 c256_i32
  let c1_i32_5 : BitVec 32 := 1#32
  let v33 : BitVec 32 := Scalar.subi v32 c1_i32_5
  let c0_i32_7 : BitVec 32 := 0#32
  let v35 : BitVec 1 := Scalar.cmpi .sgt v33 c0_i32_7
  let v36 : BitVec 32 := Scalar.extui v35
  let c0_i32_8 : BitVec 32 := 0#32
  let v37 : BitVec 1 := Scalar.cmpi .slt v33 c0_i32_8
  let v38 : BitVec 32 := Scalar.extui v37
  let v39 : BitVec 32 := Scalar.subi v36 v38
  let c256_i32_6 : BitVec 32 := 256#32
  let c0_i32_9 : BitVec 32 := 0#32
  let v40 : BitVec 1 := Scalar.cmpi .sgt c256_i32_6 c0_i32_9
  let v41 : BitVec 32 := Scalar.extui v40
  let c0_i32_10 : BitVec 32 := 0#32
  let v42 : BitVec 1 := Scalar.cmpi .slt c256_i32_6 c0_i32_10
  let v43 : BitVec 32 := Scalar.extui v42
  let v44 : BitVec 32 := Scalar.subi v41 v43
  let v45 : BitVec 1 := Scalar.cmpi .ne v39 v44
  let v46 : BitVec 32 := Scalar.remsi v33 c256_i32_6
  let c0_i32_11 : BitVec 32 := 0#32
  let v47 : BitVec 1 := Scalar.cmpi .ne v46 c0_i32_11
  let v48 : BitVec 1 := Scalar.andi v45 v47
  let v34 : BitVec 32 := Scalar.divsi v33 c256_i32_6
  let c1_i32_12 : BitVec 32 := 1#32
  let v49 : BitVec 32 := Scalar.subi v34 c1_i32_12
  let v50 : BitVec 32 := Scalar.select v48 v49 v34
  let v55 : BitVec 32 := Scalar.subi v50 c0_i32_15
  let c1_i32_17 : BitVec 32 := 1#32
  let v57 : BitVec 32 := Scalar.divsi v55 c1_i32_17
  let v58 : BitVec 32 := Scalar.muli v57 c1_i32_17
  let v59 : BitVec 32 := Scalar.addi c0_i32_15 v58
  let c1_i32_19 : BitVec 32 := 1#32
  let arg13 : BitVec 32 := Scf.iv v59 c1_i32_19 k3_t4
  let c256_i32_20 : BitVec 32 := 256#32
  let v62 : BitVec 32 := Scalar.muli arg13 c256_i32_20
  let v63 : BitVec 32 := Scalar.addi v6 v62
  let v64 : BitVec 32 := v63
  let c0_i32_38 : BitVec 32 := 0#32
  let c256_i32_22 : BitVec 32 := 256#32
  let c256_i32_21 : BitVec 32 := 256#32
  let v65 : BitVec 32 := Scalar.muli arg13 c256_i32_21
  let v66 : BitVec 32 := Scalar.subi v13 v65
  let v67 : BitVec 32 := Scalar.minsi c256_i32_22 v66
  let c128_i32 : BitVec 32 := 128#32
  let v81 : BitVec 32 := Scalar.andi v67 c128_i32
  let c0_i32_33 : BitVec 32 := 0#32
  let v82 : BitVec 1 := Scalar.cmpi .ne v81 c0_i32_33
  let c128_i32_36 : BitVec 32 := 128#32
  let c0_i32_37 : BitVec 32 := 0#32
  let v85 : BitVec 32 := Scalar.select v82 c128_i32_36 c0_i32_37
  let v86 : BitVec 32 := Scalar.addi c0_i32_38 v85
  let c64_i32_39 : BitVec 32 := 64#32
  let v87 : BitVec 32 := Scalar.andi v67 c64_i32_39
  let c0_i32_40 : BitVec 32 := 0#32
  let v88 : BitVec 1 := Scalar.cmpi .ne v87 c0_i32_40
  let c64_i32_42 : BitVec 32 := 64#32
  let c0_i32_43 : BitVec 32 := 0#32
  let v91 : BitVec 32 := Scalar.select v88 c64_i32_42 c0_i32_43
  let v92 : BitVec 32 := Scalar.addi v86 v91
  let c32_i32_44 : BitVec 32 := 32#32
  let v93 : BitVec 32 := Scalar.andi v67 c32_i32_44
  let c0_i32_45 : BitVec 32 := 0#32
  let v94 : BitVec 1 := Scalar.cmpi .ne v93 c0_i32_45
  let c32_i32_47 : BitVec 32 := 32#32
  let c0_i32_48 : BitVec 32 := 0#32
  let v97 : BitVec 32 := Scalar.select v94 c32_i32_47 c0_i32_48
  let v98 : BitVec 32 := Scalar.addi v92 v97
  let c16_i32_49 : BitVec 32 := 16#32
  let v99 : BitVec 32 := Scalar.andi v67 c16_i32_49
  let c0_i32_50 : BitVec 32 := 0#32
  let v100 : BitVec 1 := Scalar.cmpi .ne v99 c0_i32_50
  let c16_i32_52 : BitVec 32 := 16#32
  let c0_i32_53 : BitVec 32 := 0#32
  let v103 : BitVec 32 := Scalar.select v100 c16_i32_52 c0_i32_53
  let v104 : BitVec 32 := Scalar.addi v98 v103
  let v111 : BitVec 32 := Scalar.addi v64 v104
  let v112 : BitVec 32 := v111
  let c0_i32_59_r21 : BitVec 32 := 0#32
  ![v112.toNat, 0]

def k3_chk1_0 (v6 : BitVec 32) (v12 : BitVec 32) : Prop :=
  (∀ (k3_h1 : k3_cond1 v6 v12 = 1#1), (k3_t1_loop v6 v12).OK) ∧
  (∀ k3_t1 : Fin (k3_t1_loop v6 v12).trips, ∀ (k3_h1 : k3_cond1 v6 v12 = 1#1), 8 ∣ (k3_mult1 v6 v12 k3_t1).toNat) ∧
  (∀ k3_t1 : Fin (k3_t1_loop v6 v12).trips, ∀ (k3_h1 : k3_cond1 v6 v12 = 1#1), ∀ a, (k3_off4 v6 v12 k3_t1) a + S256x64.size a ≤ S320512x64.size a) ∧
  (∀ k3_t1 : Fin (k3_t1_loop v6 v12).trips, ∀ (k3_h1 : k3_cond1 v6 v12 = 1#1), ∀ a, (k3_off5 v6 v12 k3_t1) a + S264.size a ≤ S320520.size a) ∧
  (∀ k3_t1 : Fin (k3_t1_loop v6 v12).trips, ∀ (k3_h1 : k3_cond1 v6 v12 = 1#1), (k3_t2_loop v6 v12 k3_t1).OK) ∧
  (∀ (k3_t1 : Fin (k3_t1_loop v6 v12).trips) (k3_t2 : Fin (k3_t2_loop v6 v12 k3_t1).trips), ∀ (k3_h1 : k3_cond1 v6 v12 = 1#1), ∀ a, (k3_off6 v6 v12 k3_t1 k3_t2) a + S16.size a ≤ S280.size a) ∧
  (∀ (k3_t1 : Fin (k3_t1_loop v6 v12).trips) (k3_t2 : Fin (k3_t2_loop v6 v12 k3_t1).trips), ∀ (k3_h1 : k3_cond1 v6 v12 = 1#1), ∀ a, (k3_off7 v6 v12 k3_t1 k3_t2) a + S1x16.size a ≤ S256x64.size a) ∧
  (∀ (k3_t1 : Fin (k3_t1_loop v6 v12).trips) (k3_t2 : Fin (k3_t2_loop v6 v12 k3_t1).trips), ∀ (k3_h1 : k3_cond1 v6 v12 = 1#1), ∀ a, (k3_off8 v6 v12 k3_t1 k3_t2) a + S1x16.size a ≤ S256x128.size a) ∧
  (∀ (k3_t1 : Fin (k3_t1_loop v6 v12).trips) (k3_t2 : Fin (k3_t2_loop v6 v12 k3_t1).trips), ∀ (k3_h1 : k3_cond1 v6 v12 = 1#1), ∀ a, (k3_off9 v6 v12 k3_t1 k3_t2) a + S1x16.size a ≤ S256x64.size a) ∧
  (∀ (k3_t1 : Fin (k3_t1_loop v6 v12).trips) (k3_t2 : Fin (k3_t2_loop v6 v12 k3_t1).trips), ∀ (k3_h1 : k3_cond1 v6 v12 = 1#1), ∀ a, (k3_off10 v6 v12 k3_t1 k3_t2) a + S1x16.size a ≤ S256x128.size a) ∧
  (∀ (k3_t1 : Fin (k3_t1_loop v6 v12).trips) (k3_t2 : Fin (k3_t2_loop v6 v12 k3_t1).trips), ∀ (k3_h1 : k3_cond1 v6 v12 = 1#1), ∀ a, (k3_off11 v6 v12 k3_t1 k3_t2) a + S1x16.size a ≤ S256x64.size a) ∧
  (∀ (k3_t1 : Fin (k3_t1_loop v6 v12).trips) (k3_t2 : Fin (k3_t2_loop v6 v12 k3_t1).trips), ∀ (k3_h1 : k3_cond1 v6 v12 = 1#1), ∀ a, (k3_off12 v6 v12 k3_t1 k3_t2) a + S1x16.size a ≤ S256x128.size a) ∧
  (∀ (k3_t1 : Fin (k3_t1_loop v6 v12).trips) (k3_t2 : Fin (k3_t2_loop v6 v12 k3_t1).trips), ∀ (k3_h1 : k3_cond1 v6 v12 = 1#1), ∀ a, (k3_off13 v6 v12 k3_t1 k3_t2) a + S1x16.size a ≤ S256x64.size a) ∧
  (∀ (k3_t1 : Fin (k3_t1_loop v6 v12).trips) (k3_t2 : Fin (k3_t2_loop v6 v12 k3_t1).trips), ∀ (k3_h1 : k3_cond1 v6 v12 = 1#1), ∀ a, (k3_off14 v6 v12 k3_t1 k3_t2) a + S1x16.size a ≤ S256x128.size a) ∧
  (∀ k3_t1 : Fin (k3_t1_loop v6 v12).trips, ∀ (k3_h1 : k3_cond1 v6 v12 = 1#1), (k3_t3_loop v6 v12 k3_t1).OK) ∧
  (∀ (k3_t1 : Fin (k3_t1_loop v6 v12).trips) (k3_t3 : Fin (k3_t3_loop v6 v12 k3_t1).trips), ∀ (k3_h1 : k3_cond1 v6 v12 = 1#1), ∀ a, (k3_off26 v6 v12 k3_t1 k3_t3) a + S16.size a ≤ S280.size a) ∧
  (∀ (k3_t1 : Fin (k3_t1_loop v6 v12).trips) (k3_t3 : Fin (k3_t3_loop v6 v12 k3_t1).trips), ∀ (k3_h1 : k3_cond1 v6 v12 = 1#1), ∀ a, (k3_off27 v6 v12 k3_t1 k3_t3) a + S1x16.size a ≤ S256x64.size a) ∧
  (∀ (k3_t1 : Fin (k3_t1_loop v6 v12).trips) (k3_t3 : Fin (k3_t3_loop v6 v12 k3_t1).trips), ∀ (k3_h1 : k3_cond1 v6 v12 = 1#1), ∀ a, (k3_off28 v6 v12 k3_t1 k3_t3) a + S1x16.size a ≤ S256x128.size a) ∧
  (∀ (k3_t1 : Fin (k3_t1_loop v6 v12).trips) (k3_t3 : Fin (k3_t3_loop v6 v12 k3_t1).trips), ∀ (k3_h1 : k3_cond1 v6 v12 = 1#1), ∀ a, (k3_off29 v6 v12 k3_t1 k3_t3) a + S1x16.size a ≤ S256x64.size a) ∧
  (∀ (k3_t1 : Fin (k3_t1_loop v6 v12).trips) (k3_t3 : Fin (k3_t3_loop v6 v12 k3_t1).trips), ∀ (k3_h1 : k3_cond1 v6 v12 = 1#1), ∀ a, (k3_off30 v6 v12 k3_t1 k3_t3) a + S1x16.size a ≤ S256x128.size a) ∧
  (∀ (k3_t1 : Fin (k3_t1_loop v6 v12).trips) (k3_t3 : Fin (k3_t3_loop v6 v12 k3_t1).trips), ∀ (k3_h1 : k3_cond1 v6 v12 = 1#1), ∀ a, (k3_off31 v6 v12 k3_t1 k3_t3) a + S1x16.size a ≤ S256x64.size a) ∧
  (∀ (k3_t1 : Fin (k3_t1_loop v6 v12).trips) (k3_t3 : Fin (k3_t3_loop v6 v12 k3_t1).trips), ∀ (k3_h1 : k3_cond1 v6 v12 = 1#1), ∀ a, (k3_off32 v6 v12 k3_t1 k3_t3) a + S1x16.size a ≤ S256x128.size a) ∧
  (∀ (k3_t1 : Fin (k3_t1_loop v6 v12).trips) (k3_t3 : Fin (k3_t3_loop v6 v12 k3_t1).trips), ∀ (k3_h1 : k3_cond1 v6 v12 = 1#1), ∀ a, (k3_off33 v6 v12 k3_t1 k3_t3) a + S1x16.size a ≤ S256x64.size a) ∧
  (∀ (k3_t1 : Fin (k3_t1_loop v6 v12).trips) (k3_t3 : Fin (k3_t3_loop v6 v12 k3_t1).trips), ∀ (k3_h1 : k3_cond1 v6 v12 = 1#1), ∀ a, (k3_off34 v6 v12 k3_t1 k3_t3) a + S1x16.size a ≤ S256x128.size a) ∧
  (∀ k3_t1 : Fin (k3_t1_loop v6 v12).trips, ∀ (k3_h1 : k3_cond1 v6 v12 = 1#1), ∀ (k3_h6 : k3_cond6 v6 v12 k3_t1 = 1#1), ∀ a, (k3_off46 v6 v12 k3_t1) a + S256x128.size a ≤ S320000x128.size a) ∧
  (∀ k3_t1 : Fin (k3_t1_loop v6 v12).trips, ∀ (k3_h1 : k3_cond1 v6 v12 = 1#1), ∀ (k3_h7 : k3_cond7 v6 v12 k3_t1 = 1#1), ∀ (k3_h8 : k3_cond8 v6 v12 k3_t1 = 1#1), 8 ∣ (k3_mult2 v6 v12 k3_t1).toNat) ∧
  (∀ k3_t1 : Fin (k3_t1_loop v6 v12).trips, ∀ (k3_h1 : k3_cond1 v6 v12 = 1#1), ∀ (k3_h7 : k3_cond7 v6 v12 k3_t1 = 1#1), ∀ (k3_h8 : k3_cond8 v6 v12 k3_t1 = 1#1), ∀ a, (k3_off47 v6 v12 k3_t1) a + S128x128.size a ≤ S320000x128.size a) ∧
  (∀ k3_t1 : Fin (k3_t1_loop v6 v12).trips, ∀ (k3_h1 : k3_cond1 v6 v12 = 1#1), ∀ (k3_h7 : k3_cond7 v6 v12 k3_t1 = 1#1), ∀ (k3_h9 : k3_cond9 v6 v12 k3_t1 = 1#1), 8 ∣ (k3_mult3 v6 v12 k3_t1).toNat) ∧
  (∀ k3_t1 : Fin (k3_t1_loop v6 v12).trips, ∀ (k3_h1 : k3_cond1 v6 v12 = 1#1), ∀ (k3_h7 : k3_cond7 v6 v12 k3_t1 = 1#1), ∀ (k3_h9 : k3_cond9 v6 v12 k3_t1 = 1#1), ∀ a, (k3_off48 v6 v12 k3_t1) a + S64x128.size a ≤ S256x128.size a) ∧
  (∀ k3_t1 : Fin (k3_t1_loop v6 v12).trips, ∀ (k3_h1 : k3_cond1 v6 v12 = 1#1), ∀ (k3_h7 : k3_cond7 v6 v12 k3_t1 = 1#1), ∀ (k3_h9 : k3_cond9 v6 v12 k3_t1 = 1#1), ∀ a, (k3_off49 v6 v12 k3_t1) a + S64x128.size a ≤ S320000x128.size a) ∧
  (∀ k3_t1 : Fin (k3_t1_loop v6 v12).trips, ∀ (k3_h1 : k3_cond1 v6 v12 = 1#1), ∀ (k3_h7 : k3_cond7 v6 v12 k3_t1 = 1#1), ∀ (k3_h10 : k3_cond10 v6 v12 k3_t1 = 1#1), 8 ∣ (k3_mult4 v6 v12 k3_t1).toNat) ∧
  (∀ k3_t1 : Fin (k3_t1_loop v6 v12).trips, ∀ (k3_h1 : k3_cond1 v6 v12 = 1#1), ∀ (k3_h7 : k3_cond7 v6 v12 k3_t1 = 1#1), ∀ (k3_h10 : k3_cond10 v6 v12 k3_t1 = 1#1), ∀ a, (k3_off50 v6 v12 k3_t1) a + S32x128.size a ≤ S256x128.size a)
def k3_chk1_1 (v6 : BitVec 32) (v12 : BitVec 32) : Prop :=
  (∀ k3_t1 : Fin (k3_t1_loop v6 v12).trips, ∀ (k3_h1 : k3_cond1 v6 v12 = 1#1), ∀ (k3_h7 : k3_cond7 v6 v12 k3_t1 = 1#1), ∀ (k3_h10 : k3_cond10 v6 v12 k3_t1 = 1#1), ∀ a, (k3_off51 v6 v12 k3_t1) a + S32x128.size a ≤ S320000x128.size a) ∧
  (∀ k3_t1 : Fin (k3_t1_loop v6 v12).trips, ∀ (k3_h1 : k3_cond1 v6 v12 = 1#1), ∀ (k3_h7 : k3_cond7 v6 v12 k3_t1 = 1#1), ∀ (k3_h11 : k3_cond11 v6 v12 k3_t1 = 1#1), 8 ∣ (k3_mult5 v6 v12 k3_t1).toNat) ∧
  (∀ k3_t1 : Fin (k3_t1_loop v6 v12).trips, ∀ (k3_h1 : k3_cond1 v6 v12 = 1#1), ∀ (k3_h7 : k3_cond7 v6 v12 k3_t1 = 1#1), ∀ (k3_h11 : k3_cond11 v6 v12 k3_t1 = 1#1), ∀ a, (k3_off52 v6 v12 k3_t1) a + S16x128.size a ≤ S256x128.size a) ∧
  (∀ k3_t1 : Fin (k3_t1_loop v6 v12).trips, ∀ (k3_h1 : k3_cond1 v6 v12 = 1#1), ∀ (k3_h7 : k3_cond7 v6 v12 k3_t1 = 1#1), ∀ (k3_h11 : k3_cond11 v6 v12 k3_t1 = 1#1), ∀ a, (k3_off53 v6 v12 k3_t1) a + S16x128.size a ≤ S320000x128.size a) ∧
  (∀ k3_t1 : Fin (k3_t1_loop v6 v12).trips, ∀ (k3_h1 : k3_cond1 v6 v12 = 1#1), ∀ (k3_h7 : k3_cond7 v6 v12 k3_t1 = 1#1), ∀ (k3_h12 : k3_cond12 v6 v12 k3_t1 = 1#1), 8 ∣ (k3_mult6 v6 v12 k3_t1).toNat) ∧
  (∀ k3_t1 : Fin (k3_t1_loop v6 v12).trips, ∀ (k3_h1 : k3_cond1 v6 v12 = 1#1), ∀ (k3_h7 : k3_cond7 v6 v12 k3_t1 = 1#1), ∀ (k3_h12 : k3_cond12 v6 v12 k3_t1 = 1#1), ∀ a, (k3_off54 v6 v12 k3_t1) a + S8x128.size a ≤ S256x128.size a) ∧
  (∀ k3_t1 : Fin (k3_t1_loop v6 v12).trips, ∀ (k3_h1 : k3_cond1 v6 v12 = 1#1), ∀ (k3_h7 : k3_cond7 v6 v12 k3_t1 = 1#1), ∀ (k3_h12 : k3_cond12 v6 v12 k3_t1 = 1#1), ∀ a, (k3_off55 v6 v12 k3_t1) a + S8x128.size a ≤ S320000x128.size a) ∧
  (∀ (k3_h1 : k3_cond1 v6 v12 = 1#1), (k3_t4_loop v6 v12).OK) ∧
  (∀ k3_t4 : Fin (k3_t4_loop v6 v12).trips, ∀ (k3_h1 : k3_cond1 v6 v12 = 1#1), 8 ∣ (k3_mult7 v6 v12 k3_t4).toNat) ∧
  (∀ k3_t4 : Fin (k3_t4_loop v6 v12).trips, ∀ (k3_h1 : k3_cond1 v6 v12 = 1#1), ∀ a, (k3_off56 v6 v12 k3_t4) a + S256x64.size a ≤ S320512x64.size a) ∧
  (∀ k3_t4 : Fin (k3_t4_loop v6 v12).trips, ∀ (k3_h1 : k3_cond1 v6 v12 = 1#1), ∀ a, (k3_off57 v6 v12 k3_t4) a + S264.size a ≤ S320520.size a) ∧
  (∀ k3_t4 : Fin (k3_t4_loop v6 v12).trips, ∀ (k3_h1 : k3_cond1 v6 v12 = 1#1), (k3_t5_loop v6 v12 k3_t4).OK) ∧
  (∀ (k3_t4 : Fin (k3_t4_loop v6 v12).trips) (k3_t5 : Fin (k3_t5_loop v6 v12 k3_t4).trips), ∀ (k3_h1 : k3_cond1 v6 v12 = 1#1), ∀ a, (k3_off58 v6 v12 k3_t4 k3_t5) a + S16.size a ≤ S280.size a) ∧
  (∀ (k3_t4 : Fin (k3_t4_loop v6 v12).trips) (k3_t5 : Fin (k3_t5_loop v6 v12 k3_t4).trips), ∀ (k3_h1 : k3_cond1 v6 v12 = 1#1), ∀ a, (k3_off59 v6 v12 k3_t4 k3_t5) a + S1x16.size a ≤ S256x64.size a) ∧
  (∀ (k3_t4 : Fin (k3_t4_loop v6 v12).trips) (k3_t5 : Fin (k3_t5_loop v6 v12 k3_t4).trips), ∀ (k3_h1 : k3_cond1 v6 v12 = 1#1), ∀ a, (k3_off60 v6 v12 k3_t4 k3_t5) a + S1x16.size a ≤ S256x128.size a) ∧
  (∀ (k3_t4 : Fin (k3_t4_loop v6 v12).trips) (k3_t5 : Fin (k3_t5_loop v6 v12 k3_t4).trips), ∀ (k3_h1 : k3_cond1 v6 v12 = 1#1), ∀ a, (k3_off61 v6 v12 k3_t4 k3_t5) a + S1x16.size a ≤ S256x64.size a) ∧
  (∀ (k3_t4 : Fin (k3_t4_loop v6 v12).trips) (k3_t5 : Fin (k3_t5_loop v6 v12 k3_t4).trips), ∀ (k3_h1 : k3_cond1 v6 v12 = 1#1), ∀ a, (k3_off62 v6 v12 k3_t4 k3_t5) a + S1x16.size a ≤ S256x128.size a) ∧
  (∀ (k3_t4 : Fin (k3_t4_loop v6 v12).trips) (k3_t5 : Fin (k3_t5_loop v6 v12 k3_t4).trips), ∀ (k3_h1 : k3_cond1 v6 v12 = 1#1), ∀ a, (k3_off63 v6 v12 k3_t4 k3_t5) a + S1x16.size a ≤ S256x64.size a) ∧
  (∀ (k3_t4 : Fin (k3_t4_loop v6 v12).trips) (k3_t5 : Fin (k3_t5_loop v6 v12 k3_t4).trips), ∀ (k3_h1 : k3_cond1 v6 v12 = 1#1), ∀ a, (k3_off64 v6 v12 k3_t4 k3_t5) a + S1x16.size a ≤ S256x128.size a) ∧
  (∀ (k3_t4 : Fin (k3_t4_loop v6 v12).trips) (k3_t5 : Fin (k3_t5_loop v6 v12 k3_t4).trips), ∀ (k3_h1 : k3_cond1 v6 v12 = 1#1), ∀ a, (k3_off65 v6 v12 k3_t4 k3_t5) a + S1x16.size a ≤ S256x64.size a) ∧
  (∀ (k3_t4 : Fin (k3_t4_loop v6 v12).trips) (k3_t5 : Fin (k3_t5_loop v6 v12 k3_t4).trips), ∀ (k3_h1 : k3_cond1 v6 v12 = 1#1), ∀ a, (k3_off66 v6 v12 k3_t4 k3_t5) a + S1x16.size a ≤ S256x128.size a) ∧
  (∀ k3_t4 : Fin (k3_t4_loop v6 v12).trips, ∀ (k3_h1 : k3_cond1 v6 v12 = 1#1), (k3_t6_loop v6 v12 k3_t4).OK) ∧
  (∀ (k3_t4 : Fin (k3_t4_loop v6 v12).trips) (k3_t6 : Fin (k3_t6_loop v6 v12 k3_t4).trips), ∀ (k3_h1 : k3_cond1 v6 v12 = 1#1), ∀ a, (k3_off78 v6 v12 k3_t4 k3_t6) a + S16.size a ≤ S280.size a) ∧
  (∀ (k3_t4 : Fin (k3_t4_loop v6 v12).trips) (k3_t6 : Fin (k3_t6_loop v6 v12 k3_t4).trips), ∀ (k3_h1 : k3_cond1 v6 v12 = 1#1), ∀ a, (k3_off79 v6 v12 k3_t4 k3_t6) a + S1x16.size a ≤ S256x64.size a) ∧
  (∀ (k3_t4 : Fin (k3_t4_loop v6 v12).trips) (k3_t6 : Fin (k3_t6_loop v6 v12 k3_t4).trips), ∀ (k3_h1 : k3_cond1 v6 v12 = 1#1), ∀ a, (k3_off80 v6 v12 k3_t4 k3_t6) a + S1x16.size a ≤ S256x128.size a) ∧
  (∀ (k3_t4 : Fin (k3_t4_loop v6 v12).trips) (k3_t6 : Fin (k3_t6_loop v6 v12 k3_t4).trips), ∀ (k3_h1 : k3_cond1 v6 v12 = 1#1), ∀ a, (k3_off81 v6 v12 k3_t4 k3_t6) a + S1x16.size a ≤ S256x64.size a) ∧
  (∀ (k3_t4 : Fin (k3_t4_loop v6 v12).trips) (k3_t6 : Fin (k3_t6_loop v6 v12 k3_t4).trips), ∀ (k3_h1 : k3_cond1 v6 v12 = 1#1), ∀ a, (k3_off82 v6 v12 k3_t4 k3_t6) a + S1x16.size a ≤ S256x128.size a) ∧
  (∀ (k3_t4 : Fin (k3_t4_loop v6 v12).trips) (k3_t6 : Fin (k3_t6_loop v6 v12 k3_t4).trips), ∀ (k3_h1 : k3_cond1 v6 v12 = 1#1), ∀ a, (k3_off83 v6 v12 k3_t4 k3_t6) a + S1x16.size a ≤ S256x64.size a) ∧
  (∀ (k3_t4 : Fin (k3_t4_loop v6 v12).trips) (k3_t6 : Fin (k3_t6_loop v6 v12 k3_t4).trips), ∀ (k3_h1 : k3_cond1 v6 v12 = 1#1), ∀ a, (k3_off84 v6 v12 k3_t4 k3_t6) a + S1x16.size a ≤ S256x128.size a) ∧
  (∀ (k3_t4 : Fin (k3_t4_loop v6 v12).trips) (k3_t6 : Fin (k3_t6_loop v6 v12 k3_t4).trips), ∀ (k3_h1 : k3_cond1 v6 v12 = 1#1), ∀ a, (k3_off85 v6 v12 k3_t4 k3_t6) a + S1x16.size a ≤ S256x64.size a) ∧
  (∀ (k3_t4 : Fin (k3_t4_loop v6 v12).trips) (k3_t6 : Fin (k3_t6_loop v6 v12 k3_t4).trips), ∀ (k3_h1 : k3_cond1 v6 v12 = 1#1), ∀ a, (k3_off86 v6 v12 k3_t4 k3_t6) a + S1x16.size a ≤ S256x128.size a) ∧
  (∀ k3_t4 : Fin (k3_t4_loop v6 v12).trips, ∀ (k3_h1 : k3_cond1 v6 v12 = 1#1), ∀ (k3_h17 : k3_cond17 v6 v12 k3_t4 = 1#1), ∀ a, (k3_off98 v6 v12 k3_t4) a + S256x128.size a ≤ S320000x128.size a)
def k3_chk1_2 (v6 : BitVec 32) (v12 : BitVec 32) : Prop :=
  (∀ k3_t4 : Fin (k3_t4_loop v6 v12).trips, ∀ (k3_h1 : k3_cond1 v6 v12 = 1#1), ∀ (k3_h18 : k3_cond18 v6 v12 k3_t4 = 1#1), ∀ (k3_h19 : k3_cond19 v6 v12 k3_t4 = 1#1), 8 ∣ (k3_mult8 v6 v12 k3_t4).toNat) ∧
  (∀ k3_t4 : Fin (k3_t4_loop v6 v12).trips, ∀ (k3_h1 : k3_cond1 v6 v12 = 1#1), ∀ (k3_h18 : k3_cond18 v6 v12 k3_t4 = 1#1), ∀ (k3_h19 : k3_cond19 v6 v12 k3_t4 = 1#1), ∀ a, (k3_off99 v6 v12 k3_t4) a + S128x128.size a ≤ S320000x128.size a) ∧
  (∀ k3_t4 : Fin (k3_t4_loop v6 v12).trips, ∀ (k3_h1 : k3_cond1 v6 v12 = 1#1), ∀ (k3_h18 : k3_cond18 v6 v12 k3_t4 = 1#1), ∀ (k3_h20 : k3_cond20 v6 v12 k3_t4 = 1#1), 8 ∣ (k3_mult9 v6 v12 k3_t4).toNat) ∧
  (∀ k3_t4 : Fin (k3_t4_loop v6 v12).trips, ∀ (k3_h1 : k3_cond1 v6 v12 = 1#1), ∀ (k3_h18 : k3_cond18 v6 v12 k3_t4 = 1#1), ∀ (k3_h20 : k3_cond20 v6 v12 k3_t4 = 1#1), ∀ a, (k3_off100 v6 v12 k3_t4) a + S64x128.size a ≤ S256x128.size a) ∧
  (∀ k3_t4 : Fin (k3_t4_loop v6 v12).trips, ∀ (k3_h1 : k3_cond1 v6 v12 = 1#1), ∀ (k3_h18 : k3_cond18 v6 v12 k3_t4 = 1#1), ∀ (k3_h20 : k3_cond20 v6 v12 k3_t4 = 1#1), ∀ a, (k3_off101 v6 v12 k3_t4) a + S64x128.size a ≤ S320000x128.size a) ∧
  (∀ k3_t4 : Fin (k3_t4_loop v6 v12).trips, ∀ (k3_h1 : k3_cond1 v6 v12 = 1#1), ∀ (k3_h18 : k3_cond18 v6 v12 k3_t4 = 1#1), ∀ (k3_h21 : k3_cond21 v6 v12 k3_t4 = 1#1), 8 ∣ (k3_mult10 v6 v12 k3_t4).toNat) ∧
  (∀ k3_t4 : Fin (k3_t4_loop v6 v12).trips, ∀ (k3_h1 : k3_cond1 v6 v12 = 1#1), ∀ (k3_h18 : k3_cond18 v6 v12 k3_t4 = 1#1), ∀ (k3_h21 : k3_cond21 v6 v12 k3_t4 = 1#1), ∀ a, (k3_off102 v6 v12 k3_t4) a + S32x128.size a ≤ S256x128.size a) ∧
  (∀ k3_t4 : Fin (k3_t4_loop v6 v12).trips, ∀ (k3_h1 : k3_cond1 v6 v12 = 1#1), ∀ (k3_h18 : k3_cond18 v6 v12 k3_t4 = 1#1), ∀ (k3_h21 : k3_cond21 v6 v12 k3_t4 = 1#1), ∀ a, (k3_off103 v6 v12 k3_t4) a + S32x128.size a ≤ S320000x128.size a) ∧
  (∀ k3_t4 : Fin (k3_t4_loop v6 v12).trips, ∀ (k3_h1 : k3_cond1 v6 v12 = 1#1), ∀ (k3_h18 : k3_cond18 v6 v12 k3_t4 = 1#1), ∀ (k3_h22 : k3_cond22 v6 v12 k3_t4 = 1#1), 8 ∣ (k3_mult11 v6 v12 k3_t4).toNat) ∧
  (∀ k3_t4 : Fin (k3_t4_loop v6 v12).trips, ∀ (k3_h1 : k3_cond1 v6 v12 = 1#1), ∀ (k3_h18 : k3_cond18 v6 v12 k3_t4 = 1#1), ∀ (k3_h22 : k3_cond22 v6 v12 k3_t4 = 1#1), ∀ a, (k3_off104 v6 v12 k3_t4) a + S16x128.size a ≤ S256x128.size a) ∧
  (∀ k3_t4 : Fin (k3_t4_loop v6 v12).trips, ∀ (k3_h1 : k3_cond1 v6 v12 = 1#1), ∀ (k3_h18 : k3_cond18 v6 v12 k3_t4 = 1#1), ∀ (k3_h22 : k3_cond22 v6 v12 k3_t4 = 1#1), ∀ a, (k3_off105 v6 v12 k3_t4) a + S16x128.size a ≤ S320000x128.size a) ∧
  (∀ k3_t4 : Fin (k3_t4_loop v6 v12).trips, ∀ (k3_h1 : k3_cond1 v6 v12 = 1#1), ∀ (k3_h18 : k3_cond18 v6 v12 k3_t4 = 1#1), ∀ (k3_h23 : k3_cond23 v6 v12 k3_t4 = 1#1), 8 ∣ (k3_mult12 v6 v12 k3_t4).toNat) ∧
  (∀ k3_t4 : Fin (k3_t4_loop v6 v12).trips, ∀ (k3_h1 : k3_cond1 v6 v12 = 1#1), ∀ (k3_h18 : k3_cond18 v6 v12 k3_t4 = 1#1), ∀ (k3_h23 : k3_cond23 v6 v12 k3_t4 = 1#1), ∀ a, (k3_off106 v6 v12 k3_t4) a + S8x128.size a ≤ S256x128.size a) ∧
  (∀ k3_t4 : Fin (k3_t4_loop v6 v12).trips, ∀ (k3_h1 : k3_cond1 v6 v12 = 1#1), ∀ (k3_h18 : k3_cond18 v6 v12 k3_t4 = 1#1), ∀ (k3_h23 : k3_cond23 v6 v12 k3_t4 = 1#1), ∀ a, (k3_off107 v6 v12 k3_t4) a + S8x128.size a ≤ S320000x128.size a)
def k3_chk1 (v6 : BitVec 32) (v12 : BitVec 32) : Prop :=
  k3_chk1_0 v6 v12 ∧
  k3_chk1_1 v6 v12 ∧
  k3_chk1_2 v6 v12
theorem k3_t1_ok : ∀ (v6 : BitVec 32) (v12 : BitVec 32) (k3_hw1 : k3_chk1 v6 v12), ∀ (k3_h1 : k3_cond1 v6 v12 = 1#1), (k3_t1_loop v6 v12).OK := fun v6 v12 k3_hw1 k3_h1 => k3_hw1.1.1 k3_h1
theorem k3_mult1_dvd : ∀ (v6 : BitVec 32) (v12 : BitVec 32) (k3_hw1 : k3_chk1 v6 v12) (k3_t1 : Fin (k3_t1_loop v6 v12).trips), ∀ (k3_h1 : k3_cond1 v6 v12 = 1#1), 8 ∣ (k3_mult1 v6 v12 k3_t1).toNat := fun v6 v12 k3_hw1 k3_t1 k3_h1 => k3_hw1.1.2.1 k3_t1 k3_h1
theorem k3_off4_inb : ∀ (v6 : BitVec 32) (v12 : BitVec 32) (k3_hw1 : k3_chk1 v6 v12) (k3_t1 : Fin (k3_t1_loop v6 v12).trips), ∀ (k3_h1 : k3_cond1 v6 v12 = 1#1), ∀ a, (k3_off4 v6 v12 k3_t1) a + S256x64.size a ≤ S320512x64.size a := fun v6 v12 k3_hw1 k3_t1 k3_h1 => k3_hw1.1.2.2.1 k3_t1 k3_h1
theorem k3_off5_inb : ∀ (v6 : BitVec 32) (v12 : BitVec 32) (k3_hw1 : k3_chk1 v6 v12) (k3_t1 : Fin (k3_t1_loop v6 v12).trips), ∀ (k3_h1 : k3_cond1 v6 v12 = 1#1), ∀ a, (k3_off5 v6 v12 k3_t1) a + S264.size a ≤ S320520.size a := fun v6 v12 k3_hw1 k3_t1 k3_h1 => k3_hw1.1.2.2.2.1 k3_t1 k3_h1
theorem k3_t2_ok : ∀ (v6 : BitVec 32) (v12 : BitVec 32) (k3_hw1 : k3_chk1 v6 v12) (k3_t1 : Fin (k3_t1_loop v6 v12).trips), ∀ (k3_h1 : k3_cond1 v6 v12 = 1#1), (k3_t2_loop v6 v12 k3_t1).OK := fun v6 v12 k3_hw1 k3_t1 k3_h1 => k3_hw1.1.2.2.2.2.1 k3_t1 k3_h1
theorem k3_off6_inb : ∀ (v6 : BitVec 32) (v12 : BitVec 32) (k3_hw1 : k3_chk1 v6 v12) (k3_t1 : Fin (k3_t1_loop v6 v12).trips) (k3_t2 : Fin (k3_t2_loop v6 v12 k3_t1).trips), ∀ (k3_h1 : k3_cond1 v6 v12 = 1#1), ∀ a, (k3_off6 v6 v12 k3_t1 k3_t2) a + S16.size a ≤ S280.size a := fun v6 v12 k3_hw1 k3_t1 k3_t2 k3_h1 => k3_hw1.1.2.2.2.2.2.1 k3_t1 k3_t2 k3_h1
theorem k3_off7_inb : ∀ (v6 : BitVec 32) (v12 : BitVec 32) (k3_hw1 : k3_chk1 v6 v12) (k3_t1 : Fin (k3_t1_loop v6 v12).trips) (k3_t2 : Fin (k3_t2_loop v6 v12 k3_t1).trips), ∀ (k3_h1 : k3_cond1 v6 v12 = 1#1), ∀ a, (k3_off7 v6 v12 k3_t1 k3_t2) a + S1x16.size a ≤ S256x64.size a := fun v6 v12 k3_hw1 k3_t1 k3_t2 k3_h1 => k3_hw1.1.2.2.2.2.2.2.1 k3_t1 k3_t2 k3_h1
theorem k3_off8_inb : ∀ (v6 : BitVec 32) (v12 : BitVec 32) (k3_hw1 : k3_chk1 v6 v12) (k3_t1 : Fin (k3_t1_loop v6 v12).trips) (k3_t2 : Fin (k3_t2_loop v6 v12 k3_t1).trips), ∀ (k3_h1 : k3_cond1 v6 v12 = 1#1), ∀ a, (k3_off8 v6 v12 k3_t1 k3_t2) a + S1x16.size a ≤ S256x128.size a := fun v6 v12 k3_hw1 k3_t1 k3_t2 k3_h1 => k3_hw1.1.2.2.2.2.2.2.2.1 k3_t1 k3_t2 k3_h1
theorem k3_off9_inb : ∀ (v6 : BitVec 32) (v12 : BitVec 32) (k3_hw1 : k3_chk1 v6 v12) (k3_t1 : Fin (k3_t1_loop v6 v12).trips) (k3_t2 : Fin (k3_t2_loop v6 v12 k3_t1).trips), ∀ (k3_h1 : k3_cond1 v6 v12 = 1#1), ∀ a, (k3_off9 v6 v12 k3_t1 k3_t2) a + S1x16.size a ≤ S256x64.size a := fun v6 v12 k3_hw1 k3_t1 k3_t2 k3_h1 => k3_hw1.1.2.2.2.2.2.2.2.2.1 k3_t1 k3_t2 k3_h1
theorem k3_off10_inb : ∀ (v6 : BitVec 32) (v12 : BitVec 32) (k3_hw1 : k3_chk1 v6 v12) (k3_t1 : Fin (k3_t1_loop v6 v12).trips) (k3_t2 : Fin (k3_t2_loop v6 v12 k3_t1).trips), ∀ (k3_h1 : k3_cond1 v6 v12 = 1#1), ∀ a, (k3_off10 v6 v12 k3_t1 k3_t2) a + S1x16.size a ≤ S256x128.size a := fun v6 v12 k3_hw1 k3_t1 k3_t2 k3_h1 => k3_hw1.1.2.2.2.2.2.2.2.2.2.1 k3_t1 k3_t2 k3_h1
theorem k3_off11_inb : ∀ (v6 : BitVec 32) (v12 : BitVec 32) (k3_hw1 : k3_chk1 v6 v12) (k3_t1 : Fin (k3_t1_loop v6 v12).trips) (k3_t2 : Fin (k3_t2_loop v6 v12 k3_t1).trips), ∀ (k3_h1 : k3_cond1 v6 v12 = 1#1), ∀ a, (k3_off11 v6 v12 k3_t1 k3_t2) a + S1x16.size a ≤ S256x64.size a := fun v6 v12 k3_hw1 k3_t1 k3_t2 k3_h1 => k3_hw1.1.2.2.2.2.2.2.2.2.2.2.1 k3_t1 k3_t2 k3_h1
theorem k3_off12_inb : ∀ (v6 : BitVec 32) (v12 : BitVec 32) (k3_hw1 : k3_chk1 v6 v12) (k3_t1 : Fin (k3_t1_loop v6 v12).trips) (k3_t2 : Fin (k3_t2_loop v6 v12 k3_t1).trips), ∀ (k3_h1 : k3_cond1 v6 v12 = 1#1), ∀ a, (k3_off12 v6 v12 k3_t1 k3_t2) a + S1x16.size a ≤ S256x128.size a := fun v6 v12 k3_hw1 k3_t1 k3_t2 k3_h1 => k3_hw1.1.2.2.2.2.2.2.2.2.2.2.2.1 k3_t1 k3_t2 k3_h1
theorem k3_off13_inb : ∀ (v6 : BitVec 32) (v12 : BitVec 32) (k3_hw1 : k3_chk1 v6 v12) (k3_t1 : Fin (k3_t1_loop v6 v12).trips) (k3_t2 : Fin (k3_t2_loop v6 v12 k3_t1).trips), ∀ (k3_h1 : k3_cond1 v6 v12 = 1#1), ∀ a, (k3_off13 v6 v12 k3_t1 k3_t2) a + S1x16.size a ≤ S256x64.size a := fun v6 v12 k3_hw1 k3_t1 k3_t2 k3_h1 => k3_hw1.1.2.2.2.2.2.2.2.2.2.2.2.2.1 k3_t1 k3_t2 k3_h1
theorem k3_off14_inb : ∀ (v6 : BitVec 32) (v12 : BitVec 32) (k3_hw1 : k3_chk1 v6 v12) (k3_t1 : Fin (k3_t1_loop v6 v12).trips) (k3_t2 : Fin (k3_t2_loop v6 v12 k3_t1).trips), ∀ (k3_h1 : k3_cond1 v6 v12 = 1#1), ∀ a, (k3_off14 v6 v12 k3_t1 k3_t2) a + S1x16.size a ≤ S256x128.size a := fun v6 v12 k3_hw1 k3_t1 k3_t2 k3_h1 => k3_hw1.1.2.2.2.2.2.2.2.2.2.2.2.2.2.1 k3_t1 k3_t2 k3_h1
theorem k3_t3_ok : ∀ (v6 : BitVec 32) (v12 : BitVec 32) (k3_hw1 : k3_chk1 v6 v12) (k3_t1 : Fin (k3_t1_loop v6 v12).trips), ∀ (k3_h1 : k3_cond1 v6 v12 = 1#1), (k3_t3_loop v6 v12 k3_t1).OK := fun v6 v12 k3_hw1 k3_t1 k3_h1 => k3_hw1.1.2.2.2.2.2.2.2.2.2.2.2.2.2.2.1 k3_t1 k3_h1
theorem k3_off26_inb : ∀ (v6 : BitVec 32) (v12 : BitVec 32) (k3_hw1 : k3_chk1 v6 v12) (k3_t1 : Fin (k3_t1_loop v6 v12).trips) (k3_t3 : Fin (k3_t3_loop v6 v12 k3_t1).trips), ∀ (k3_h1 : k3_cond1 v6 v12 = 1#1), ∀ a, (k3_off26 v6 v12 k3_t1 k3_t3) a + S16.size a ≤ S280.size a := fun v6 v12 k3_hw1 k3_t1 k3_t3 k3_h1 => k3_hw1.1.2.2.2.2.2.2.2.2.2.2.2.2.2.2.2.1 k3_t1 k3_t3 k3_h1
theorem k3_off27_inb : ∀ (v6 : BitVec 32) (v12 : BitVec 32) (k3_hw1 : k3_chk1 v6 v12) (k3_t1 : Fin (k3_t1_loop v6 v12).trips) (k3_t3 : Fin (k3_t3_loop v6 v12 k3_t1).trips), ∀ (k3_h1 : k3_cond1 v6 v12 = 1#1), ∀ a, (k3_off27 v6 v12 k3_t1 k3_t3) a + S1x16.size a ≤ S256x64.size a := fun v6 v12 k3_hw1 k3_t1 k3_t3 k3_h1 => k3_hw1.1.2.2.2.2.2.2.2.2.2.2.2.2.2.2.2.2.1 k3_t1 k3_t3 k3_h1
theorem k3_off28_inb : ∀ (v6 : BitVec 32) (v12 : BitVec 32) (k3_hw1 : k3_chk1 v6 v12) (k3_t1 : Fin (k3_t1_loop v6 v12).trips) (k3_t3 : Fin (k3_t3_loop v6 v12 k3_t1).trips), ∀ (k3_h1 : k3_cond1 v6 v12 = 1#1), ∀ a, (k3_off28 v6 v12 k3_t1 k3_t3) a + S1x16.size a ≤ S256x128.size a := fun v6 v12 k3_hw1 k3_t1 k3_t3 k3_h1 => k3_hw1.1.2.2.2.2.2.2.2.2.2.2.2.2.2.2.2.2.2.1 k3_t1 k3_t3 k3_h1
theorem k3_off29_inb : ∀ (v6 : BitVec 32) (v12 : BitVec 32) (k3_hw1 : k3_chk1 v6 v12) (k3_t1 : Fin (k3_t1_loop v6 v12).trips) (k3_t3 : Fin (k3_t3_loop v6 v12 k3_t1).trips), ∀ (k3_h1 : k3_cond1 v6 v12 = 1#1), ∀ a, (k3_off29 v6 v12 k3_t1 k3_t3) a + S1x16.size a ≤ S256x64.size a := fun v6 v12 k3_hw1 k3_t1 k3_t3 k3_h1 => k3_hw1.1.2.2.2.2.2.2.2.2.2.2.2.2.2.2.2.2.2.2.1 k3_t1 k3_t3 k3_h1
theorem k3_off30_inb : ∀ (v6 : BitVec 32) (v12 : BitVec 32) (k3_hw1 : k3_chk1 v6 v12) (k3_t1 : Fin (k3_t1_loop v6 v12).trips) (k3_t3 : Fin (k3_t3_loop v6 v12 k3_t1).trips), ∀ (k3_h1 : k3_cond1 v6 v12 = 1#1), ∀ a, (k3_off30 v6 v12 k3_t1 k3_t3) a + S1x16.size a ≤ S256x128.size a := fun v6 v12 k3_hw1 k3_t1 k3_t3 k3_h1 => k3_hw1.1.2.2.2.2.2.2.2.2.2.2.2.2.2.2.2.2.2.2.2.1 k3_t1 k3_t3 k3_h1
theorem k3_off31_inb : ∀ (v6 : BitVec 32) (v12 : BitVec 32) (k3_hw1 : k3_chk1 v6 v12) (k3_t1 : Fin (k3_t1_loop v6 v12).trips) (k3_t3 : Fin (k3_t3_loop v6 v12 k3_t1).trips), ∀ (k3_h1 : k3_cond1 v6 v12 = 1#1), ∀ a, (k3_off31 v6 v12 k3_t1 k3_t3) a + S1x16.size a ≤ S256x64.size a := fun v6 v12 k3_hw1 k3_t1 k3_t3 k3_h1 => k3_hw1.1.2.2.2.2.2.2.2.2.2.2.2.2.2.2.2.2.2.2.2.2.1 k3_t1 k3_t3 k3_h1
theorem k3_off32_inb : ∀ (v6 : BitVec 32) (v12 : BitVec 32) (k3_hw1 : k3_chk1 v6 v12) (k3_t1 : Fin (k3_t1_loop v6 v12).trips) (k3_t3 : Fin (k3_t3_loop v6 v12 k3_t1).trips), ∀ (k3_h1 : k3_cond1 v6 v12 = 1#1), ∀ a, (k3_off32 v6 v12 k3_t1 k3_t3) a + S1x16.size a ≤ S256x128.size a := fun v6 v12 k3_hw1 k3_t1 k3_t3 k3_h1 => k3_hw1.1.2.2.2.2.2.2.2.2.2.2.2.2.2.2.2.2.2.2.2.2.2.1 k3_t1 k3_t3 k3_h1
theorem k3_off33_inb : ∀ (v6 : BitVec 32) (v12 : BitVec 32) (k3_hw1 : k3_chk1 v6 v12) (k3_t1 : Fin (k3_t1_loop v6 v12).trips) (k3_t3 : Fin (k3_t3_loop v6 v12 k3_t1).trips), ∀ (k3_h1 : k3_cond1 v6 v12 = 1#1), ∀ a, (k3_off33 v6 v12 k3_t1 k3_t3) a + S1x16.size a ≤ S256x64.size a := fun v6 v12 k3_hw1 k3_t1 k3_t3 k3_h1 => k3_hw1.1.2.2.2.2.2.2.2.2.2.2.2.2.2.2.2.2.2.2.2.2.2.2.1 k3_t1 k3_t3 k3_h1
theorem k3_off34_inb : ∀ (v6 : BitVec 32) (v12 : BitVec 32) (k3_hw1 : k3_chk1 v6 v12) (k3_t1 : Fin (k3_t1_loop v6 v12).trips) (k3_t3 : Fin (k3_t3_loop v6 v12 k3_t1).trips), ∀ (k3_h1 : k3_cond1 v6 v12 = 1#1), ∀ a, (k3_off34 v6 v12 k3_t1 k3_t3) a + S1x16.size a ≤ S256x128.size a := fun v6 v12 k3_hw1 k3_t1 k3_t3 k3_h1 => k3_hw1.1.2.2.2.2.2.2.2.2.2.2.2.2.2.2.2.2.2.2.2.2.2.2.2.1 k3_t1 k3_t3 k3_h1
theorem k3_off46_inb : ∀ (v6 : BitVec 32) (v12 : BitVec 32) (k3_hw1 : k3_chk1 v6 v12) (k3_t1 : Fin (k3_t1_loop v6 v12).trips), ∀ (k3_h1 : k3_cond1 v6 v12 = 1#1), ∀ (k3_h6 : k3_cond6 v6 v12 k3_t1 = 1#1), ∀ a, (k3_off46 v6 v12 k3_t1) a + S256x128.size a ≤ S320000x128.size a := fun v6 v12 k3_hw1 k3_t1 k3_h1 k3_h6 => k3_hw1.1.2.2.2.2.2.2.2.2.2.2.2.2.2.2.2.2.2.2.2.2.2.2.2.2.1 k3_t1 k3_h1 k3_h6
theorem k3_mult2_dvd : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h8 : k3_cond8 v6 v12 k3_t1 = 1#1), 8 ∣ (k3_mult2 v6 v12 k3_t1).toNat := fun v6 v12 k3_hw1 k3_t1 k3_h1 k3_h7 k3_h8 => k3_hw1.1.2.2.2.2.2.2.2.2.2.2.2.2.2.2.2.2.2.2.2.2.2.2.2.2.2.1 k3_t1 k3_h1 k3_h7 k3_h8
theorem k3_off47_inb : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h8 : k3_cond8 v6 v12 k3_t1 = 1#1), ∀ a, (k3_off47 v6 v12 k3_t1) a + S128x128.size a ≤ S320000x128.size a := fun v6 v12 k3_hw1 k3_t1 k3_h1 k3_h7 k3_h8 => k3_hw1.1.2.2.2.2.2.2.2.2.2.2.2.2.2.2.2.2.2.2.2.2.2.2.2.2.2.2.1 k3_t1 k3_h1 k3_h7 k3_h8
theorem k3_mult3_dvd : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h9 : k3_cond9 v6 v12 k3_t1 = 1#1), 8 ∣ (k3_mult3 v6 v12 k3_t1).toNat := fun v6 v12 k3_hw1 k3_t1 k3_h1 k3_h7 k3_h9 => k3_hw1.1.2.2.2.2.2.2.2.2.2.2.2.2.2.2.2.2.2.2.2.2.2.2.2.2.2.2.2.1 k3_t1 k3_h1 k3_h7 k3_h9
theorem k3_off48_inb : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h9 : k3_cond9 v6 v12 k3_t1 = 1#1), ∀ a, (k3_off48 v6 v12 k3_t1) a + S64x128.size a ≤ S256x128.size a := fun v6 v12 k3_hw1 k3_t1 k3_h1 k3_h7 k3_h9 => k3_hw1.1.2.2.2.2.2.2.2.2.2.2.2.2.2.2.2.2.2.2.2.2.2.2.2.2.2.2.2.2.1 k3_t1 k3_h1 k3_h7 k3_h9
theorem k3_off49_inb : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h9 : k3_cond9 v6 v12 k3_t1 = 1#1), ∀ a, (k3_off49 v6 v12 k3_t1) a + S64x128.size a ≤ S320000x128.size a := fun v6 v12 k3_hw1 k3_t1 k3_h1 k3_h7 k3_h9 => k3_hw1.1.2.2.2.2.2.2.2.2.2.2.2.2.2.2.2.2.2.2.2.2.2.2.2.2.2.2.2.2.2.1 k3_t1 k3_h1 k3_h7 k3_h9
theorem k3_mult4_dvd : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h10 : k3_cond10 v6 v12 k3_t1 = 1#1), 8 ∣ (k3_mult4 v6 v12 k3_t1).toNat := fun v6 v12 k3_hw1 k3_t1 k3_h1 k3_h7 k3_h10 => k3_hw1.1.2.2.2.2.2.2.2.2.2.2.2.2.2.2.2.2.2.2.2.2.2.2.2.2.2.2.2.2.2.2.1 k3_t1 k3_h1 k3_h7 k3_h10
theorem k3_off50_inb : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h10 : k3_cond10 v6 v12 k3_t1 = 1#1), ∀ a, (k3_off50 v6 v12 k3_t1) a + S32x128.size a ≤ S256x128.size a := fun v6 v12 k3_hw1 k3_t1 k3_h1 k3_h7 k3_h10 => k3_hw1.1.2.2.2.2.2.2.2.2.2.2.2.2.2.2.2.2.2.2.2.2.2.2.2.2.2.2.2.2.2.2.2 k3_t1 k3_h1 k3_h7 k3_h10
theorem k3_off51_inb : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h10 : k3_cond10 v6 v12 k3_t1 = 1#1), ∀ a, (k3_off51 v6 v12 k3_t1) a + S32x128.size a ≤ S320000x128.size a := fun v6 v12 k3_hw1 k3_t1 k3_h1 k3_h7 k3_h10 => k3_hw1.2.1.1 k3_t1 k3_h1 k3_h7 k3_h10
theorem k3_mult5_dvd : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h11 : k3_cond11 v6 v12 k3_t1 = 1#1), 8 ∣ (k3_mult5 v6 v12 k3_t1).toNat := fun v6 v12 k3_hw1 k3_t1 k3_h1 k3_h7 k3_h11 => k3_hw1.2.1.2.1 k3_t1 k3_h1 k3_h7 k3_h11
theorem k3_off52_inb : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h11 : k3_cond11 v6 v12 k3_t1 = 1#1), ∀ a, (k3_off52 v6 v12 k3_t1) a + S16x128.size a ≤ S256x128.size a := fun v6 v12 k3_hw1 k3_t1 k3_h1 k3_h7 k3_h11 => k3_hw1.2.1.2.2.1 k3_t1 k3_h1 k3_h7 k3_h11
theorem k3_off53_inb : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h11 : k3_cond11 v6 v12 k3_t1 = 1#1), ∀ a, (k3_off53 v6 v12 k3_t1) a + S16x128.size a ≤ S320000x128.size a := fun v6 v12 k3_hw1 k3_t1 k3_h1 k3_h7 k3_h11 => k3_hw1.2.1.2.2.2.1 k3_t1 k3_h1 k3_h7 k3_h11
theorem k3_mult6_dvd : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h12 : k3_cond12 v6 v12 k3_t1 = 1#1), 8 ∣ (k3_mult6 v6 v12 k3_t1).toNat := fun v6 v12 k3_hw1 k3_t1 k3_h1 k3_h7 k3_h12 => k3_hw1.2.1.2.2.2.2.1 k3_t1 k3_h1 k3_h7 k3_h12
theorem k3_off54_inb : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h12 : k3_cond12 v6 v12 k3_t1 = 1#1), ∀ a, (k3_off54 v6 v12 k3_t1) a + S8x128.size a ≤ S256x128.size a := fun v6 v12 k3_hw1 k3_t1 k3_h1 k3_h7 k3_h12 => k3_hw1.2.1.2.2.2.2.2.1 k3_t1 k3_h1 k3_h7 k3_h12
theorem k3_off55_inb : ∀ (v6 : BitVec 32) (v12 : BitVec 32) (k3_hw1 : k3_chk1 v6 v12) (k3_t1 : Fin (k3_t1_loop v6 v12).trips), ∀ (k3_h1 : k3_cond1 v6 v12 = 1#1), ∀ (k3_h7 : k3_cond7 v6 v12 k3_t1 = 1#1), ∀ (k3_h12 : k3_cond12 v6 v12 k3_t1 = 1#1), ∀ a, (k3_off55 v6 v12 k3_t1) a + S8x128.size a ≤ S320000x128.size a := fun v6 v12 k3_hw1 k3_t1 k3_h1 k3_h7 k3_h12 => k3_hw1.2.1.2.2.2.2.2.2.1 k3_t1 k3_h1 k3_h7 k3_h12
theorem k3_t4_ok : ∀ (v6 : BitVec 32) (v12 : BitVec 32) (k3_hw1 : k3_chk1 v6 v12), ∀ (k3_h1 : k3_cond1 v6 v12 = 1#1), (k3_t4_loop v6 v12).OK := fun v6 v12 k3_hw1 k3_h1 => k3_hw1.2.1.2.2.2.2.2.2.2.1 k3_h1
theorem k3_mult7_dvd : ∀ (v6 : BitVec 32) (v12 : BitVec 32) (k3_hw1 : k3_chk1 v6 v12) (k3_t4 : Fin (k3_t4_loop v6 v12).trips), ∀ (k3_h1 : k3_cond1 v6 v12 = 1#1), 8 ∣ (k3_mult7 v6 v12 k3_t4).toNat := fun v6 v12 k3_hw1 k3_t4 k3_h1 => k3_hw1.2.1.2.2.2.2.2.2.2.2.1 k3_t4 k3_h1
theorem k3_off56_inb : ∀ (v6 : BitVec 32) (v12 : BitVec 32) (k3_hw1 : k3_chk1 v6 v12) (k3_t4 : Fin (k3_t4_loop v6 v12).trips), ∀ (k3_h1 : k3_cond1 v6 v12 = 1#1), ∀ a, (k3_off56 v6 v12 k3_t4) a + S256x64.size a ≤ S320512x64.size a := fun v6 v12 k3_hw1 k3_t4 k3_h1 => k3_hw1.2.1.2.2.2.2.2.2.2.2.2.1 k3_t4 k3_h1
theorem k3_off57_inb : ∀ (v6 : BitVec 32) (v12 : BitVec 32) (k3_hw1 : k3_chk1 v6 v12) (k3_t4 : Fin (k3_t4_loop v6 v12).trips), ∀ (k3_h1 : k3_cond1 v6 v12 = 1#1), ∀ a, (k3_off57 v6 v12 k3_t4) a + S264.size a ≤ S320520.size a := fun v6 v12 k3_hw1 k3_t4 k3_h1 => k3_hw1.2.1.2.2.2.2.2.2.2.2.2.2.1 k3_t4 k3_h1
theorem k3_t5_ok : ∀ (v6 : BitVec 32) (v12 : BitVec 32) (k3_hw1 : k3_chk1 v6 v12) (k3_t4 : Fin (k3_t4_loop v6 v12).trips), ∀ (k3_h1 : k3_cond1 v6 v12 = 1#1), (k3_t5_loop v6 v12 k3_t4).OK := fun v6 v12 k3_hw1 k3_t4 k3_h1 => k3_hw1.2.1.2.2.2.2.2.2.2.2.2.2.2.1 k3_t4 k3_h1
theorem k3_off58_inb : ∀ (v6 : BitVec 32) (v12 : BitVec 32) (k3_hw1 : k3_chk1 v6 v12) (k3_t4 : Fin (k3_t4_loop v6 v12).trips) (k3_t5 : Fin (k3_t5_loop v6 v12 k3_t4).trips), ∀ (k3_h1 : k3_cond1 v6 v12 = 1#1), ∀ a, (k3_off58 v6 v12 k3_t4 k3_t5) a + S16.size a ≤ S280.size a := fun v6 v12 k3_hw1 k3_t4 k3_t5 k3_h1 => k3_hw1.2.1.2.2.2.2.2.2.2.2.2.2.2.2.1 k3_t4 k3_t5 k3_h1
theorem k3_off59_inb : ∀ (v6 : BitVec 32) (v12 : BitVec 32) (k3_hw1 : k3_chk1 v6 v12) (k3_t4 : Fin (k3_t4_loop v6 v12).trips) (k3_t5 : Fin (k3_t5_loop v6 v12 k3_t4).trips), ∀ (k3_h1 : k3_cond1 v6 v12 = 1#1), ∀ a, (k3_off59 v6 v12 k3_t4 k3_t5) a + S1x16.size a ≤ S256x64.size a := fun v6 v12 k3_hw1 k3_t4 k3_t5 k3_h1 => k3_hw1.2.1.2.2.2.2.2.2.2.2.2.2.2.2.2.1 k3_t4 k3_t5 k3_h1
theorem k3_off60_inb : ∀ (v6 : BitVec 32) (v12 : BitVec 32) (k3_hw1 : k3_chk1 v6 v12) (k3_t4 : Fin (k3_t4_loop v6 v12).trips) (k3_t5 : Fin (k3_t5_loop v6 v12 k3_t4).trips), ∀ (k3_h1 : k3_cond1 v6 v12 = 1#1), ∀ a, (k3_off60 v6 v12 k3_t4 k3_t5) a + S1x16.size a ≤ S256x128.size a := fun v6 v12 k3_hw1 k3_t4 k3_t5 k3_h1 => k3_hw1.2.1.2.2.2.2.2.2.2.2.2.2.2.2.2.2.1 k3_t4 k3_t5 k3_h1
theorem k3_off61_inb : ∀ (v6 : BitVec 32) (v12 : BitVec 32) (k3_hw1 : k3_chk1 v6 v12) (k3_t4 : Fin (k3_t4_loop v6 v12).trips) (k3_t5 : Fin (k3_t5_loop v6 v12 k3_t4).trips), ∀ (k3_h1 : k3_cond1 v6 v12 = 1#1), ∀ a, (k3_off61 v6 v12 k3_t4 k3_t5) a + S1x16.size a ≤ S256x64.size a := fun v6 v12 k3_hw1 k3_t4 k3_t5 k3_h1 => k3_hw1.2.1.2.2.2.2.2.2.2.2.2.2.2.2.2.2.2.1 k3_t4 k3_t5 k3_h1
theorem k3_off62_inb : ∀ (v6 : BitVec 32) (v12 : BitVec 32) (k3_hw1 : k3_chk1 v6 v12) (k3_t4 : Fin (k3_t4_loop v6 v12).trips) (k3_t5 : Fin (k3_t5_loop v6 v12 k3_t4).trips), ∀ (k3_h1 : k3_cond1 v6 v12 = 1#1), ∀ a, (k3_off62 v6 v12 k3_t4 k3_t5) a + S1x16.size a ≤ S256x128.size a := fun v6 v12 k3_hw1 k3_t4 k3_t5 k3_h1 => k3_hw1.2.1.2.2.2.2.2.2.2.2.2.2.2.2.2.2.2.2.1 k3_t4 k3_t5 k3_h1
theorem k3_off63_inb : ∀ (v6 : BitVec 32) (v12 : BitVec 32) (k3_hw1 : k3_chk1 v6 v12) (k3_t4 : Fin (k3_t4_loop v6 v12).trips) (k3_t5 : Fin (k3_t5_loop v6 v12 k3_t4).trips), ∀ (k3_h1 : k3_cond1 v6 v12 = 1#1), ∀ a, (k3_off63 v6 v12 k3_t4 k3_t5) a + S1x16.size a ≤ S256x64.size a := fun v6 v12 k3_hw1 k3_t4 k3_t5 k3_h1 => k3_hw1.2.1.2.2.2.2.2.2.2.2.2.2.2.2.2.2.2.2.2.1 k3_t4 k3_t5 k3_h1
theorem k3_off64_inb : ∀ (v6 : BitVec 32) (v12 : BitVec 32) (k3_hw1 : k3_chk1 v6 v12) (k3_t4 : Fin (k3_t4_loop v6 v12).trips) (k3_t5 : Fin (k3_t5_loop v6 v12 k3_t4).trips), ∀ (k3_h1 : k3_cond1 v6 v12 = 1#1), ∀ a, (k3_off64 v6 v12 k3_t4 k3_t5) a + S1x16.size a ≤ S256x128.size a := fun v6 v12 k3_hw1 k3_t4 k3_t5 k3_h1 => k3_hw1.2.1.2.2.2.2.2.2.2.2.2.2.2.2.2.2.2.2.2.2.1 k3_t4 k3_t5 k3_h1
theorem k3_off65_inb : ∀ (v6 : BitVec 32) (v12 : BitVec 32) (k3_hw1 : k3_chk1 v6 v12) (k3_t4 : Fin (k3_t4_loop v6 v12).trips) (k3_t5 : Fin (k3_t5_loop v6 v12 k3_t4).trips), ∀ (k3_h1 : k3_cond1 v6 v12 = 1#1), ∀ a, (k3_off65 v6 v12 k3_t4 k3_t5) a + S1x16.size a ≤ S256x64.size a := fun v6 v12 k3_hw1 k3_t4 k3_t5 k3_h1 => k3_hw1.2.1.2.2.2.2.2.2.2.2.2.2.2.2.2.2.2.2.2.2.2.1 k3_t4 k3_t5 k3_h1
theorem k3_off66_inb : ∀ (v6 : BitVec 32) (v12 : BitVec 32) (k3_hw1 : k3_chk1 v6 v12) (k3_t4 : Fin (k3_t4_loop v6 v12).trips) (k3_t5 : Fin (k3_t5_loop v6 v12 k3_t4).trips), ∀ (k3_h1 : k3_cond1 v6 v12 = 1#1), ∀ a, (k3_off66 v6 v12 k3_t4 k3_t5) a + S1x16.size a ≤ S256x128.size a := fun v6 v12 k3_hw1 k3_t4 k3_t5 k3_h1 => k3_hw1.2.1.2.2.2.2.2.2.2.2.2.2.2.2.2.2.2.2.2.2.2.2.1 k3_t4 k3_t5 k3_h1
theorem k3_t6_ok : ∀ (v6 : BitVec 32) (v12 : BitVec 32) (k3_hw1 : k3_chk1 v6 v12) (k3_t4 : Fin (k3_t4_loop v6 v12).trips), ∀ (k3_h1 : k3_cond1 v6 v12 = 1#1), (k3_t6_loop v6 v12 k3_t4).OK := fun v6 v12 k3_hw1 k3_t4 k3_h1 => k3_hw1.2.1.2.2.2.2.2.2.2.2.2.2.2.2.2.2.2.2.2.2.2.2.2.1 k3_t4 k3_h1
theorem k3_off78_inb : ∀ (v6 : BitVec 32) (v12 : BitVec 32) (k3_hw1 : k3_chk1 v6 v12) (k3_t4 : Fin (k3_t4_loop v6 v12).trips) (k3_t6 : Fin (k3_t6_loop v6 v12 k3_t4).trips), ∀ (k3_h1 : k3_cond1 v6 v12 = 1#1), ∀ a, (k3_off78 v6 v12 k3_t4 k3_t6) a + S16.size a ≤ S280.size a := fun v6 v12 k3_hw1 k3_t4 k3_t6 k3_h1 => k3_hw1.2.1.2.2.2.2.2.2.2.2.2.2.2.2.2.2.2.2.2.2.2.2.2.2.1 k3_t4 k3_t6 k3_h1
theorem k3_off79_inb : ∀ (v6 : BitVec 32) (v12 : BitVec 32) (k3_hw1 : k3_chk1 v6 v12) (k3_t4 : Fin (k3_t4_loop v6 v12).trips) (k3_t6 : Fin (k3_t6_loop v6 v12 k3_t4).trips), ∀ (k3_h1 : k3_cond1 v6 v12 = 1#1), ∀ a, (k3_off79 v6 v12 k3_t4 k3_t6) a + S1x16.size a ≤ S256x64.size a := fun v6 v12 k3_hw1 k3_t4 k3_t6 k3_h1 => k3_hw1.2.1.2.2.2.2.2.2.2.2.2.2.2.2.2.2.2.2.2.2.2.2.2.2.2.1 k3_t4 k3_t6 k3_h1
theorem k3_off80_inb : ∀ (v6 : BitVec 32) (v12 : BitVec 32) (k3_hw1 : k3_chk1 v6 v12) (k3_t4 : Fin (k3_t4_loop v6 v12).trips) (k3_t6 : Fin (k3_t6_loop v6 v12 k3_t4).trips), ∀ (k3_h1 : k3_cond1 v6 v12 = 1#1), ∀ a, (k3_off80 v6 v12 k3_t4 k3_t6) a + S1x16.size a ≤ S256x128.size a := fun v6 v12 k3_hw1 k3_t4 k3_t6 k3_h1 => k3_hw1.2.1.2.2.2.2.2.2.2.2.2.2.2.2.2.2.2.2.2.2.2.2.2.2.2.2.1 k3_t4 k3_t6 k3_h1
theorem k3_off81_inb : ∀ (v6 : BitVec 32) (v12 : BitVec 32) (k3_hw1 : k3_chk1 v6 v12) (k3_t4 : Fin (k3_t4_loop v6 v12).trips) (k3_t6 : Fin (k3_t6_loop v6 v12 k3_t4).trips), ∀ (k3_h1 : k3_cond1 v6 v12 = 1#1), ∀ a, (k3_off81 v6 v12 k3_t4 k3_t6) a + S1x16.size a ≤ S256x64.size a := fun v6 v12 k3_hw1 k3_t4 k3_t6 k3_h1 => k3_hw1.2.1.2.2.2.2.2.2.2.2.2.2.2.2.2.2.2.2.2.2.2.2.2.2.2.2.2.1 k3_t4 k3_t6 k3_h1
theorem k3_off82_inb : ∀ (v6 : BitVec 32) (v12 : BitVec 32) (k3_hw1 : k3_chk1 v6 v12) (k3_t4 : Fin (k3_t4_loop v6 v12).trips) (k3_t6 : Fin (k3_t6_loop v6 v12 k3_t4).trips), ∀ (k3_h1 : k3_cond1 v6 v12 = 1#1), ∀ a, (k3_off82 v6 v12 k3_t4 k3_t6) a + S1x16.size a ≤ S256x128.size a := fun v6 v12 k3_hw1 k3_t4 k3_t6 k3_h1 => k3_hw1.2.1.2.2.2.2.2.2.2.2.2.2.2.2.2.2.2.2.2.2.2.2.2.2.2.2.2.2.1 k3_t4 k3_t6 k3_h1
theorem k3_off83_inb : ∀ (v6 : BitVec 32) (v12 : BitVec 32) (k3_hw1 : k3_chk1 v6 v12) (k3_t4 : Fin (k3_t4_loop v6 v12).trips) (k3_t6 : Fin (k3_t6_loop v6 v12 k3_t4).trips), ∀ (k3_h1 : k3_cond1 v6 v12 = 1#1), ∀ a, (k3_off83 v6 v12 k3_t4 k3_t6) a + S1x16.size a ≤ S256x64.size a := fun v6 v12 k3_hw1 k3_t4 k3_t6 k3_h1 => k3_hw1.2.1.2.2.2.2.2.2.2.2.2.2.2.2.2.2.2.2.2.2.2.2.2.2.2.2.2.2.2.1 k3_t4 k3_t6 k3_h1
theorem k3_off84_inb : ∀ (v6 : BitVec 32) (v12 : BitVec 32) (k3_hw1 : k3_chk1 v6 v12) (k3_t4 : Fin (k3_t4_loop v6 v12).trips) (k3_t6 : Fin (k3_t6_loop v6 v12 k3_t4).trips), ∀ (k3_h1 : k3_cond1 v6 v12 = 1#1), ∀ a, (k3_off84 v6 v12 k3_t4 k3_t6) a + S1x16.size a ≤ S256x128.size a := fun v6 v12 k3_hw1 k3_t4 k3_t6 k3_h1 => k3_hw1.2.1.2.2.2.2.2.2.2.2.2.2.2.2.2.2.2.2.2.2.2.2.2.2.2.2.2.2.2.2.1 k3_t4 k3_t6 k3_h1
theorem k3_off85_inb : ∀ (v6 : BitVec 32) (v12 : BitVec 32) (k3_hw1 : k3_chk1 v6 v12) (k3_t4 : Fin (k3_t4_loop v6 v12).trips) (k3_t6 : Fin (k3_t6_loop v6 v12 k3_t4).trips), ∀ (k3_h1 : k3_cond1 v6 v12 = 1#1), ∀ a, (k3_off85 v6 v12 k3_t4 k3_t6) a + S1x16.size a ≤ S256x64.size a := fun v6 v12 k3_hw1 k3_t4 k3_t6 k3_h1 => k3_hw1.2.1.2.2.2.2.2.2.2.2.2.2.2.2.2.2.2.2.2.2.2.2.2.2.2.2.2.2.2.2.2.1 k3_t4 k3_t6 k3_h1
theorem k3_off86_inb : ∀ (v6 : BitVec 32) (v12 : BitVec 32) (k3_hw1 : k3_chk1 v6 v12) (k3_t4 : Fin (k3_t4_loop v6 v12).trips) (k3_t6 : Fin (k3_t6_loop v6 v12 k3_t4).trips), ∀ (k3_h1 : k3_cond1 v6 v12 = 1#1), ∀ a, (k3_off86 v6 v12 k3_t4 k3_t6) a + S1x16.size a ≤ S256x128.size a := fun v6 v12 k3_hw1 k3_t4 k3_t6 k3_h1 => k3_hw1.2.1.2.2.2.2.2.2.2.2.2.2.2.2.2.2.2.2.2.2.2.2.2.2.2.2.2.2.2.2.2.2.1 k3_t4 k3_t6 k3_h1
theorem k3_off98_inb : ∀ (v6 : BitVec 32) (v12 : BitVec 32) (k3_hw1 : k3_chk1 v6 v12) (k3_t4 : Fin (k3_t4_loop v6 v12).trips), ∀ (k3_h1 : k3_cond1 v6 v12 = 1#1), ∀ (k3_h17 : k3_cond17 v6 v12 k3_t4 = 1#1), ∀ a, (k3_off98 v6 v12 k3_t4) a + S256x128.size a ≤ S320000x128.size a := fun v6 v12 k3_hw1 k3_t4 k3_h1 k3_h17 => k3_hw1.2.1.2.2.2.2.2.2.2.2.2.2.2.2.2.2.2.2.2.2.2.2.2.2.2.2.2.2.2.2.2.2.2 k3_t4 k3_h1 k3_h17
theorem k3_mult8_dvd : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h19 : k3_cond19 v6 v12 k3_t4 = 1#1), 8 ∣ (k3_mult8 v6 v12 k3_t4).toNat := fun v6 v12 k3_hw1 k3_t4 k3_h1 k3_h18 k3_h19 => k3_hw1.2.2.1 k3_t4 k3_h1 k3_h18 k3_h19
theorem k3_off99_inb : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h19 : k3_cond19 v6 v12 k3_t4 = 1#1), ∀ a, (k3_off99 v6 v12 k3_t4) a + S128x128.size a ≤ S320000x128.size a := fun v6 v12 k3_hw1 k3_t4 k3_h1 k3_h18 k3_h19 => k3_hw1.2.2.2.1 k3_t4 k3_h1 k3_h18 k3_h19
theorem k3_mult9_dvd : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h20 : k3_cond20 v6 v12 k3_t4 = 1#1), 8 ∣ (k3_mult9 v6 v12 k3_t4).toNat := fun v6 v12 k3_hw1 k3_t4 k3_h1 k3_h18 k3_h20 => k3_hw1.2.2.2.2.1 k3_t4 k3_h1 k3_h18 k3_h20
theorem k3_off100_inb : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h20 : k3_cond20 v6 v12 k3_t4 = 1#1), ∀ a, (k3_off100 v6 v12 k3_t4) a + S64x128.size a ≤ S256x128.size a := fun v6 v12 k3_hw1 k3_t4 k3_h1 k3_h18 k3_h20 => k3_hw1.2.2.2.2.2.1 k3_t4 k3_h1 k3_h18 k3_h20
theorem k3_off101_inb : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h20 : k3_cond20 v6 v12 k3_t4 = 1#1), ∀ a, (k3_off101 v6 v12 k3_t4) a + S64x128.size a ≤ S320000x128.size a := fun v6 v12 k3_hw1 k3_t4 k3_h1 k3_h18 k3_h20 => k3_hw1.2.2.2.2.2.2.1 k3_t4 k3_h1 k3_h18 k3_h20
theorem k3_mult10_dvd : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h21 : k3_cond21 v6 v12 k3_t4 = 1#1), 8 ∣ (k3_mult10 v6 v12 k3_t4).toNat := fun v6 v12 k3_hw1 k3_t4 k3_h1 k3_h18 k3_h21 => k3_hw1.2.2.2.2.2.2.2.1 k3_t4 k3_h1 k3_h18 k3_h21
theorem k3_off102_inb : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h21 : k3_cond21 v6 v12 k3_t4 = 1#1), ∀ a, (k3_off102 v6 v12 k3_t4) a + S32x128.size a ≤ S256x128.size a := fun v6 v12 k3_hw1 k3_t4 k3_h1 k3_h18 k3_h21 => k3_hw1.2.2.2.2.2.2.2.2.1 k3_t4 k3_h1 k3_h18 k3_h21
theorem k3_off103_inb : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h21 : k3_cond21 v6 v12 k3_t4 = 1#1), ∀ a, (k3_off103 v6 v12 k3_t4) a + S32x128.size a ≤ S320000x128.size a := fun v6 v12 k3_hw1 k3_t4 k3_h1 k3_h18 k3_h21 => k3_hw1.2.2.2.2.2.2.2.2.2.1 k3_t4 k3_h1 k3_h18 k3_h21
theorem k3_mult11_dvd : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h22 : k3_cond22 v6 v12 k3_t4 = 1#1), 8 ∣ (k3_mult11 v6 v12 k3_t4).toNat := fun v6 v12 k3_hw1 k3_t4 k3_h1 k3_h18 k3_h22 => k3_hw1.2.2.2.2.2.2.2.2.2.2.1 k3_t4 k3_h1 k3_h18 k3_h22
theorem k3_off104_inb : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h22 : k3_cond22 v6 v12 k3_t4 = 1#1), ∀ a, (k3_off104 v6 v12 k3_t4) a + S16x128.size a ≤ S256x128.size a := fun v6 v12 k3_hw1 k3_t4 k3_h1 k3_h18 k3_h22 => k3_hw1.2.2.2.2.2.2.2.2.2.2.2.1 k3_t4 k3_h1 k3_h18 k3_h22
theorem k3_off105_inb : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h22 : k3_cond22 v6 v12 k3_t4 = 1#1), ∀ a, (k3_off105 v6 v12 k3_t4) a + S16x128.size a ≤ S320000x128.size a := fun v6 v12 k3_hw1 k3_t4 k3_h1 k3_h18 k3_h22 => k3_hw1.2.2.2.2.2.2.2.2.2.2.2.2.1 k3_t4 k3_h1 k3_h18 k3_h22
theorem k3_mult12_dvd : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h23 : k3_cond23 v6 v12 k3_t4 = 1#1), 8 ∣ (k3_mult12 v6 v12 k3_t4).toNat := fun v6 v12 k3_hw1 k3_t4 k3_h1 k3_h18 k3_h23 => k3_hw1.2.2.2.2.2.2.2.2.2.2.2.2.2.1 k3_t4 k3_h1 k3_h18 k3_h23
theorem k3_off106_inb : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h23 : k3_cond23 v6 v12 k3_t4 = 1#1), ∀ a, (k3_off106 v6 v12 k3_t4) a + S8x128.size a ≤ S256x128.size a := fun v6 v12 k3_hw1 k3_t4 k3_h1 k3_h18 k3_h23 => k3_hw1.2.2.2.2.2.2.2.2.2.2.2.2.2.2.1 k3_t4 k3_h1 k3_h18 k3_h23
theorem k3_off107_inb : ∀ (v6 : BitVec 32) (v12 : BitVec 32) (k3_hw1 : k3_chk1 v6 v12) (k3_t4 : Fin (k3_t4_loop v6 v12).trips), ∀ (k3_h1 : k3_cond1 v6 v12 = 1#1), ∀ (k3_h18 : k3_cond18 v6 v12 k3_t4 = 1#1), ∀ (k3_h23 : k3_cond23 v6 v12 k3_t4 = 1#1), ∀ a, (k3_off107 v6 v12 k3_t4) a + S8x128.size a ≤ S320000x128.size a := fun v6 v12 k3_hw1 k3_t4 k3_h1 k3_h18 k3_h23 => k3_hw1.2.2.2.2.2.2.2.2.2.2.2.2.2.2.2 k3_t4 k3_h1 k3_h18 k3_h23

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S320000x128 : Shape := ⟨2, ![320000, 128]⟩
abbrev S320000 : Shape := ⟨1, ![320000]⟩
abbrev S64x128 : Shape := ⟨2, ![64, 128]⟩
abbrev S64 : Shape := ⟨1, ![64]⟩
abbrev S128x64 : Shape := ⟨2, ![128, 64]⟩
abbrev S320000x64 : Shape := ⟨2, ![320000, 64]⟩
abbrev S_ : Shape := ⟨0, ![]⟩
abbrev S1x64 : Shape := ⟨2, ![1, 64]⟩
abbrev S10000 : Shape := ⟨1, ![10000]⟩
abbrev S10000x64 : Shape := ⟨2, ![10000, 64]⟩
abbrev S1 : Shape := ⟨1, ![1]⟩
abbrev S320000x1 : Shape := ⟨2, ![320000, 1]⟩

abbrev nBuf : Space → Nat
  | .hbm => 98
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S320000x64, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S_, .f32⟩
  | .hbm, ⟨14, _⟩ => ⟨S64, .f32⟩
  | .hbm, ⟨15, _⟩ => ⟨S1x64, .f32⟩
  | .hbm, ⟨16, _⟩ => ⟨S_, .f32⟩
  | .hbm, ⟨17, _⟩ => ⟨S1x64, .f32⟩
  | .hbm, ⟨18, _⟩ => ⟨S1x64, .f32⟩
  | .hbm, ⟨19, _⟩ => ⟨S320000x64, .f32⟩
  | .hbm, ⟨20, _⟩ => ⟨S320000x64, .f32⟩
  | .hbm, ⟨21, _⟩ => ⟨S320000x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S320000x64, .f32⟩
  | .hbm, ⟨37, _⟩ => ⟨S320000x64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S320000x64, .f32⟩
  | .hbm, ⟨44, _⟩ => ⟨S320000x64, .f32⟩
  | .hbm, ⟨45, _⟩ => ⟨S1x64, .f32⟩
  | .hbm, ⟨46, _⟩ => ⟨S320000x64, .f32⟩
  | .hbm, ⟨47, _⟩ => ⟨S320000x64, .f32⟩
  | .hbm, ⟨48, _⟩ => ⟨S1x64, .f32⟩
  | .hbm, ⟨49, _⟩ => ⟨S320000x64, .f32⟩
  | .hbm, ⟨50, _⟩ => ⟨S320000x64, .f32⟩
  | .hbm, ⟨51, _⟩ => ⟨S320000x64, .f32⟩
  | .hbm, ⟨52, _⟩ => ⟨S320000x64, .f32⟩
  | .hbm, ⟨53, _⟩ => ⟨S_, .f32⟩
  | .hbm, ⟨54, _⟩ => ⟨S320000x64, .f32⟩
  | .hbm, ⟨55, _⟩ => ⟨S320000x64, .f32⟩
  | .hbm, ⟨56, _⟩ => ⟨S_, .f32⟩
  | .hbm, ⟨57, _⟩ => ⟨S320000x64, .f32⟩
  | .hbm, ⟨58, _⟩ => ⟨S320000x64, .f32⟩
  | .hbm, ⟨59, _⟩ => ⟨S320000x64, .f32⟩
  | .hbm, ⟨60, _⟩ => ⟨S10000, .i32⟩
  | .hbm, ⟨61, _⟩ => ⟨S_, .f32⟩
  | .hbm, ⟨62, _⟩ => ⟨S10000x64, .f32⟩
  | .hbm, ⟨63, _⟩ => ⟨S_, .i32⟩
  | .hbm, ⟨64, _⟩ => ⟨S10000, .i32⟩
  | .hbm, ⟨65, _⟩ => ⟨S320000, .i32⟩
  | .hbm, ⟨66, _⟩ => ⟨S320000x64, .f32⟩
  | .hbm, ⟨67, _⟩ => ⟨S_, .i32⟩
  | .hbm, ⟨68, _⟩ => ⟨S10000x64, .f32⟩
  | .hbm, ⟨69, _⟩ => ⟨S_, .i32⟩
  | .hbm, ⟨70, _⟩ => ⟨S_, .i1⟩
  | .hbm, ⟨71, _⟩ => ⟨S1, .i32⟩
  | .hbm, ⟨72, _⟩ => ⟨S_, .i32⟩
  | .hbm, ⟨73, _⟩ => ⟨S320000, .i32⟩
  | .hbm, ⟨74, _⟩ => ⟨S320000, .i1⟩
  | .hbm, ⟨75, _⟩ => ⟨S320000x1, .i1⟩
  | .hbm, ⟨76, _⟩ => ⟨S_, .f32⟩
  | .hbm, ⟨77, _⟩ => ⟨S_, .f32⟩
  | .hbm, ⟨78, _⟩ => ⟨S320000x64, .i1⟩
  | .hbm, ⟨79, _⟩ => ⟨S320000x64, .f32⟩
  | .hbm, ⟨80, _⟩ => ⟨S320000x64, .f32⟩
  | .hbm, ⟨81, _⟩ => ⟨S_, .f32⟩
  | .hbm, ⟨82, _⟩ => ⟨S64, .f32⟩
  | .hbm, ⟨83, _⟩ => ⟨S1x64, .f32⟩
  | .hbm, ⟨84, _⟩ => ⟨S_, .i32⟩
  | .hbm, ⟨85, _⟩ => ⟨S10000x64, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S320000, .i32⟩
  | .hbm, ⟨90, _⟩ => ⟨S320000, .i1⟩
  | .hbm, ⟨91, _⟩ => ⟨S_, .i32⟩
  | .hbm, ⟨92, _⟩ => ⟨S320000, .i32⟩
  | .hbm, ⟨93, _⟩ => ⟨S320000, .i32⟩
  | .hbm, ⟨94, _⟩ => ⟨S320000, .i32⟩
  | .hbm, ⟨95, _⟩ => ⟨S320000x1, .i32⟩
  | .hbm, ⟨96, _⟩ => ⟨S320000x64, .f32⟩
  | .hbm, ⟨97, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_2 : Ref sig .tc := ⟨.hbm, 53, rfl⟩
abbrev main_v23 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_4 : Ref sig .tc := ⟨.hbm, 61, rfl⟩
abbrev main_v29 : Ref sig .tc := ⟨.hbm, 62, rfl⟩
abbrev main_c_5 : Ref sig .tc := ⟨.hbm, 63, rfl⟩
abbrev main_v30_0 : Ref sig .tc := ⟨.hbm, 64, rfl⟩
abbrev main_v30_1 : Ref sig .tc := ⟨.hbm, 65, rfl⟩
abbrev main_v30_2 : Ref sig .tc := ⟨.hbm, 66, rfl⟩
abbrev main_v30_3 : Ref sig .tc := ⟨.hbm, 67, rfl⟩
abbrev main_v30_4 : Ref sig .tc := ⟨.hbm, 68, rfl⟩
abbrev main_while0c_c_12 : Ref sig .tc := ⟨.hbm, 69, rfl⟩
abbrev main_while0c_v39 : Ref sig .tc := ⟨.hbm, 70, rfl⟩
abbrev main_while0b_call1_v0 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_cst_12 : Ref sig .tc := ⟨.hbm, 76, rfl⟩
abbrev main_while0b_call2_v0 : Ref sig .tc := ⟨.hbm, 77, rfl⟩
abbrev main_while0b_call2_v1 : Ref sig .tc := ⟨.hbm, 78, rfl⟩
abbrev main_while0b_call2_v2 : Ref sig .tc := ⟨.hbm, 79, rfl⟩
abbrev main_while0b_v43 : Ref sig .tc := ⟨.hbm, 80, rfl⟩
abbrev main_while0b_cst_13 : Ref sig .tc := ⟨.hbm, 81, rfl⟩
abbrev main_while0b_v44 : Ref sig .tc := ⟨.hbm, 82, rfl⟩
abbrev main_while0b_call3_v0 : Ref sig .tc := ⟨.hbm, 83, rfl⟩
abbrev main_while0b_call3_c : Ref sig .tc := ⟨.hbm, 84, rfl⟩
abbrev main_while0b_v45 : Ref sig .tc := ⟨.hbm, 85, rfl⟩
abbrev main_while0b_c_14 : Ref sig .tc := ⟨.hbm, 86, rfl⟩
abbrev main_while0b_v46 : Ref sig .tc := ⟨.hbm, 87, rfl⟩
abbrev main_c_6 : Ref sig .tc := ⟨.hbm, 88, rfl⟩
abbrev main_v31 : Ref sig .tc := ⟨.hbm, 89, rfl⟩
abbrev main_v32 : Ref sig .tc := ⟨.hbm, 90, rfl⟩
abbrev main_c_7 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩

abbrev nD : Nat := 1
abbrev τ : Topo := Topo.v7x

variable {F : FTy → Type} [FloatOps F]

abbrev main_while0_count : Scf.Loop 32 := ⟨0#32, 10000#32, 1#32⟩
-- ==== Proof.Words.lean ====
module

public import Idealize.ShloMosaic.Lib.Affine
public import Idealize.ShloMosaic.Lib.LoopRemainder
public import Idealize.ShloMosaic.PureOps

/-! Integer words shared by both printings: the quotient rounded down as the kernels compute it, read back as the
quotient of natural numbers. -/

@[expose] public section

namespace Cert.Words

open Idealize.ShloMosaic Idealize.ShloMosaic.Affine

/-- The sign of a word as the kernels compute it: the bit of `0 < x` less the bit of `x < 0`. -/
def sgn (x : BitVec 32) : BitVec 32 :=
  Scalar.subi (Scalar.extui (Scalar.cmpi .sgt x 0#32)) (Scalar.extui (Scalar.cmpi .slt x 0#32))

/-- The quotient rounded down, as the kernels compute it from the quotient rounded towards zero. -/
def fdiv (x d : BitVec 32) : BitVec 32 :=
  Scalar.select (Scalar.andi (Scalar.cmpi .ne (sgn x) (sgn d)) (Scalar.cmpi .ne (Scalar.remsi x d) 0#32))
    (Scalar.subi (Scalar.divsi x d) 1#32) (Scalar.divsi x d)

/-- A small literal reads as itself. -/
theorem lit (n : ℕ) (h : n < 2 ^ 31) : IsInt (BitVec.ofNat 32 n) (n : ℤ) := Affine.ofNat n ⟨rfl, h⟩

/-- The sign of a positive word is one. -/
theorem sgn_pos {x : BitVec 32} {e : ℤ} (hx : IsInt x e) (h : 0 < e) : IsInt (sgn x) 1 :=
  Affine.subi (Affine.extui_holds (Affine.sgt_holds hx (lit 0 (by decide)) (by simpa using h)) rfl)
    (Affine.extui_fails (Affine.slt_fails hx (lit 0 (by decide)) (by simp; omega)) rfl) (by decide)

/-- The quotient rounded down of a word that is not negative by a positive one. -/
theorem fdiv_isInt {x d : BitVec 32} {e k : ℤ} (hx : IsInt x e) (hd : IsInt d k) (he : 0 ≤ e) (hk : 0 < k) :
    IsInt (fdiv x d) (e / k) := by
  have hr := Affine.remsi hx hd ⟨rfl, he, hk⟩
  have hq := Affine.divsi hx hd ⟨rfl, he, hk⟩
  have hq' : IsInt (Scalar.subi (Scalar.divsi x d) 1#32) (e / k - 1) := by
    refine Affine.subi hq (lit 1 (by decide)) ⟨rfl, ?_, ?_⟩
    · have := Int.ediv_nonneg he hk.le; omega
    · have h1 := Affine.word_range (Scalar.divsi x d)
      have h2 := Affine.toNat_of hq (Int.ediv_nonneg he hk.le)
      have h3 := (Scalar.divsi x d).isLt
      have h4 : (Scalar.divsi x d).toInt ≤ (e / k) := Affine.le_of hq _ le_rfl
      have h5 : (e/k) ≤ e := Int.ediv_le_self _ he
      have h6 := Affine.word_range x
      have h7 : (x.toNat : ℤ) = e := Affine.toNat_of hx he
      have h8 : x.toInt = e := by
        have : IsInt x x.toInt := Affine.word x
        by_contra hne
        have a1 := Affine.le_of hx e le_rfl
        have : IsInt x (x.toInt) := Affine.word x
        have a2 : x.toInt < 0 ∨ 0 ≤ x.toInt := by omega
        rcases a2 with a2 | a2
        · have := Affine.slt_holds (Affine.word x) (lit 0 (by decide)) (by simpa using a2)
          exact Affine.slt_fails hx (lit 0 (by decide)) (by simp; omega) this
        · have := Affine.toNat_of (Affine.word x) a2
          omega
      omega
  rcases lt_or_ge 0 e with h | h
  · refine Affine.select_fails ?_ hq' hq rfl
    exact Affine.andi_fails_left (Affine.ne_fails (sgn_pos hx h) (sgn_pos hd hk) rfl) trivial
  · have h0 : e = 0 := by omega
    refine Affine.select_fails ?_ hq' hq rfl
    exact Affine.andi_fails_right trivial (Affine.ne_fails hr (lit 0 (by decide)) (by subst h0; simp))

/-- Dividing by one and multiplying by one changes nothing. -/
theorem bound_eq (x : BitVec 32) :
    Scalar.addi 0#32 (Scalar.muli (Scalar.divsi (Scalar.subi x 0#32) 1#32) 1#32) = x := by
  rw [Scalar.muli_divsi_one]
  simp [Scalar.addi, Scalar.subi, IntOp.addi, IntOp.subi]

/-- A word read signed as a natural number is that natural number's word. -/
theorem eq_ofNat {x : BitVec 32} {n : ℕ} (h : IsInt x n) : x = BitVec.ofNat 32 n := by
  have := Affine.toNat_of h (by omega)
  apply BitVec.eq_of_toNat_eq
  have h2 := x.isLt
  rw [BitVec.toNat_ofNat, Nat.mod_eq_of_lt (by omega)]
  omega

/-- Two words read as naturals are equal when the naturals are. -/
theorem toNat_eq {x : BitVec 32} {n : ℕ} (h : IsInt x n) : x.toNat = n := by
  have := Affine.toNat_of h (by omega); omega

/-- A word whose unsigned reading is small reads signed the same. -/
theorem isInt_of_toNat {x : BitVec 32} {n : ℕ} (h : x.toNat = n) (hn : n < 2 ^ 31) : IsInt x n := by
  have : x = BitVec.ofNat 32 n := by
    apply BitVec.eq_of_toNat_eq; rw [BitVec.toNat_ofNat, Nat.mod_eq_of_lt (by omega), h]
  rw [this]; exact lit n hn

/-- A loop from zero to `n` by ones makes `n` trips. -/
theorem loop_trips {b : BitVec 32} {n : ℕ} (h : IsInt b (n : ℤ)) : Scf.trips 0#32 b 1#32 = n :=
  Affine.trips_eq (el := 0) (k := 1) (lit 0 (by decide)) h (lit 1 (by decide)) n ⟨by decide, by rw [Int.ediv_one]; omega⟩

/-- A loop from zero to `n` by ones has a meaning. -/
theorem loop_ok {b : BitVec 32} {n : ℕ} (h : IsInt b (n : ℤ)) (hn : n < 2 ^ 31) : Scf.OK 0#32 b 1#32 := by
  refine Affine.ok (el := 0) (k := 1) (lit 0 (by decide)) h (lit 1 (by decide)) ⟨by decide, ?_⟩
  rw [Int.ediv_one]; omega

end Cert.Words
-- ==== Proof.Runs.lean ====
module

public import Idealize.ShloMosaic.Lib.Affine

@[expose] public section

/-! # The running maximum of a contiguous range of points

The points are sorted by segment, so a tile that owns whole segments owns one contiguous range of rows, and
the maximum of a segment is what a running maximum holds at the segment's last row. `prev` and `run` are the two
carried values after a number of rows: the segment of the row just seen, and the maximum so far over it. -/

namespace Cert.Runs

variable {α : Type}

/-- The segment carried after `k` rows from row `lo`: the tile's first segment at the start, then the last row's. -/
def prev (id : ℕ → ℕ) (sb lo : ℕ) : ℕ → ℕ
  | 0 => sb
  | k + 1 => id (lo + k)

/-- The maximum carried after `k` rows from row `lo`: a row of another segment starts it anew. -/
def run (mx : α → α → α) (bot : α) (id : ℕ → ℕ) (y : ℕ → α) (sb lo : ℕ) : ℕ → α
  | 0 => bot
  | k + 1 => if id (lo + k) ≠ prev id sb lo k then y (lo + k) else mx (run mx bot id y sb lo k) (y (lo + k))

/-- The segments of a tile's rows lie in order, from its first segment to the one before `sb'`. -/
structure InTile (id : ℕ → ℕ) (sb sb' lo hi : ℕ) : Prop where
  /-- the tile's rows are among the points -/
  hi_le : hi ≤ 320000
  /-- the range is not reversed -/
  le : lo ≤ hi
  /-- a row's segment is one of the tile's -/
  mem : ∀ r, lo ≤ r → r < hi → sb ≤ id r ∧ id r < sb'
  /-- the segments do not decrease -/
  mono : ∀ r r', lo ≤ r → r ≤ r' → r' < hi → id r ≤ id r'
  /-- the tile has some segment -/
  pos : sb < sb'

/-- The segment of a tile's earlier point is one of the tile's. -/
theorem InTile.prev_mem {id : ℕ → ℕ} {sb sb' lo hi : ℕ} (h : InTile id sb sb' lo hi) {k : ℕ} (hk : lo + k ≤ hi) :
    sb ≤ prev id sb lo k ∧ prev id sb lo k < sb' := by
  cases k with
  | zero => exact ⟨le_rfl, h.pos⟩
  | succ k => exact h.mem _ (by omega) (by omega)

/-- The slots the scratch holds for good after `k` rows: those of the segments that ended before row `k - 1`. -/
def Done {β : Type} (slot : β → ℕ) (mx : α → α → α) (bot : α) (id : ℕ → ℕ) (y : ℕ → ℕ → α) (sb lo k : ℕ)
    (f : β → α) : Prop :=
  ∀ k', k' + 1 < k → id (lo + (k' + 1)) ≠ id (lo + k') → ∀ x c, c < 64 → slot x = (id (lo + k') - sb) * 64 + c →
    f x = run mx bot id (fun r => y r c) sb lo (k' + 1)

/-- What the scratch holds at the end: at the slot of each segment that has rows, its maximum. -/
def Final {β : Type} (slot : β → ℕ) (mx : α → α → α) (bot : α) (id : ℕ → ℕ) (y : ℕ → ℕ → α) (sb lo n : ℕ)
    (f : β → α) : Prop :=
  ∀ k', k' < n → (k' + 1 = n ∨ id (lo + (k' + 1)) ≠ id (lo + k')) → ∀ x c, c < 64 → slot x = (id (lo + k') - sb) * 64 + c →
    f x = run mx bot id (fun r => y r c) sb lo (k' + 1)

section
variable {β : Type} {slot : β → ℕ} {mx : α → α → α} {bot : α} {id : ℕ → ℕ} {y : ℕ → ℕ → α} {sb sb' lo hi k : ℕ} {f g : β → α}

/-- A row of the same segment as the row before it finishes no slot. -/
theorem Done.keep (h : Done slot mx bot id y sb lo k f) (he : id (lo + k) = prev id sb lo k) :
    Done slot mx bot id y sb lo (k + 1) f := by
  intro k' hk hne x c hc hx
  rcases Nat.lt_or_ge (k' + 1) k with h1 | h1
  · exact h k' h1 hne x c hc hx
  · obtain rfl : k = k' + 1 := by omega
    exact absurd he hne

/-- Slots finished earlier are not the one of the segment that ends here. -/
theorem slot_ne (ht : InTile id sb sb' lo hi) {k k' : ℕ} (hk : k' + 1 < k) (hhi : lo + k ≤ hi) (hne : id (lo + (k' + 1)) ≠ id (lo + k')) :
    id (lo + k') - sb ≠ prev id sb lo k - sb := by
  obtain ⟨j, rfl⟩ : ∃ j, k = j + 1 := ⟨k - 1, by omega⟩
  have h1 := ht.mono (lo + k') (lo + (k' + 1)) (by omega) (by omega) (by omega)
  have h2 := ht.mono (lo + (k' + 1)) (lo + j) (by omega) (by omega) (by omega)
  have h3 := ht.mem (lo + k') (by omega) (by omega)
  have h4 := ht.mem (lo + j) (by omega) (by omega)
  show id (lo + k') - sb ≠ id (lo + j) - sb
  omega

/-- A row of another segment finishes the slot of the segment before it. -/
theorem Done.store (ht : InTile id sb sb' lo hi) (hhi : lo + k ≤ hi) (h : Done slot mx bot id y sb lo k f)
    (hnew : ∀ x c, c < 64 → slot x = (prev id sb lo k - sb) * 64 + c → g x = run mx bot id (fun r => y r c) sb lo k)
    (hold : ∀ x m c, m ≠ prev id sb lo k - sb → c < 64 → slot x = m * 64 + c → g x = f x) :
    Done slot mx bot id y sb lo (k + 1) g := by
  intro k' hk hne x c hc hx
  rcases Nat.lt_or_ge (k' + 1) k with h1 | h1
  · rw [hold x _ c (slot_ne ht h1 hhi hne) hc hx]
    exact h k' h1 hne x c hc hx
  · obtain rfl : k = k' + 1 := by omega
    exact hnew x c hc hx

/-- The store after the last row finishes the last segment's slot. -/
theorem Final.of_store (ht : InTile id sb sb' lo hi) (hhi : lo + k ≤ hi) (h : Done slot mx bot id y sb lo k f)
    (hnew : ∀ x c, c < 64 → slot x = (prev id sb lo k - sb) * 64 + c → g x = run mx bot id (fun r => y r c) sb lo k)
    (hold : ∀ x m c, m ≠ prev id sb lo k - sb → c < 64 → slot x = m * 64 + c → g x = f x) :
    Final slot mx bot id y sb lo k g := by
  intro k' hk hne x c hc hx
  rcases Nat.lt_or_ge (k' + 1) k with h1 | h1
  · have hne := hne.resolve_left (by omega)
    rw [hold x _ c (slot_ne ht h1 hhi hne) hc hx]
    exact h k' h1 hne x c hc hx
  · obtain rfl : k = k' + 1 := by omega
    exact hnew x c hc hx

end

end Cert.Runs
-- ==== Proof.Arith1.lean ====
module

public import proofs.«01_k».proof.Proof.Gen.KernelIdeal
public import proofs.«01_k».proof.Proof.Words

/-! The integer arithmetic of the first SparseCore call: what its loop bounds and offsets are as natural numbers, when the
two boundaries it reads are ordered and within the array. -/

@[expose] public section

namespace Cert.KernelIdeal.Sc1

open Idealize.ShloMosaic Idealize.ShloMosaic.Affine Cert.Words

/-- The tile's number: 16 per core. -/
def wid (i : grid2.Coords) : ℕ := 16 * (i 0).val + (i 1).val

/-- The tiles are numbered below 32. -/
theorem wid_lt (i : grid2.Coords) : wid i < 32 := by
  have h0 : (i 0).val < 2 := (i 0).isLt
  have h1 : (i 1).val < 16 := (i 1).isLt
  unfold wid; omega

/-- The first segment of tile `w`. -/
def seg (w : ℕ) : ℕ := w * 10000 / 32

/-- A tile has 312 or 313 segments. -/
theorem seg_succ (w : ℕ) : seg (w + 1) = seg w + 312 ∨ seg (w + 1) = seg w + 313 := by
  unfold seg; omega

/-- The tiles' segments are among the 10000. -/
theorem seg_le {w : ℕ} (h : w < 32) : seg (w + 1) ≤ 10000 := by unfold seg; omega

/-- The tile's number as the kernel computes it. -/
def widW (i : grid2.Coords) : BitVec 32 :=
  Scalar.addi (Scalar.muli (BitVec.ofNat 32 (i 0).val) 16#32) (BitVec.ofNat 32 (i 1).val)

/-- The kernel's word for the tile's number holds it. -/
theorem widW_isInt (i : grid2.Coords) : IsInt (widW i) (wid i : ℕ) := by
  have h0 : (i 0).val < 2 := (i 0).isLt
  have h1 : (i 1).val < 16 := (i 1).isLt
  refine Affine.addi (Affine.muli (lit (i 0).val (by omega)) (lit 16 (by decide)) ⟨rfl, ?_, ?_⟩) (lit (i 1).val (by omega)) ⟨?_, ?_, ?_⟩
    <;> simp only [wid] <;> push_cast <;> omega

/-- The first segment of the tile as the kernel computes it. -/
def segW (i : grid2.Coords) : BitVec 32 := fdiv (Scalar.muli (widW i) 10000#32) 32#32

/-- The kernel's word for the tile's first segment holds it. -/
theorem segW_isInt (i : grid2.Coords) : IsInt (segW i) (seg (wid i) : ℕ) := by
  have h := wid_lt i
  have := fdiv_isInt (Affine.muli (widW_isInt i) (lit 10000 (by decide)) ⟨rfl, by push_cast; omega, by push_cast; omega⟩)
    (lit 32 (by decide)) (by push_cast; omega) (by decide)
  refine Affine.relit this ?_
  simp only [seg]; push_cast; omega

/-- The first segment of the next tile as the kernel computes it. -/
def segW' (i : grid2.Coords) : BitVec 32 := fdiv (Scalar.muli (Scalar.addi (widW i) 1#32) 10000#32) 32#32

/-- The kernel's word for the next tile's first segment holds it. -/
theorem segW'_isInt (i : grid2.Coords) : IsInt (segW' i) (seg (wid i + 1) : ℕ) := by
  have h := wid_lt i
  have := fdiv_isInt (Affine.muli (Affine.addi (widW_isInt i) (lit 1 (by decide)) ⟨rfl, by push_cast; omega, by push_cast; omega⟩)
    (lit 10000 (by decide)) ⟨rfl, by push_cast; omega, by push_cast; omega⟩)
    (lit 32 (by decide)) (by push_cast; omega) (by decide)
  refine Affine.relit this ?_
  simp only [seg]; push_cast; omega

/-- The tile's lower bound is read at its number. -/
theorem off1_eq (i : grid2.Coords) : k2_off1 i = ![wid i] :=
  Affine.vec_cons (widW_isInt i) rfl Affine.vec_nil

/-- The tile's upper bound is read one further. -/
theorem off2_eq (i : grid2.Coords) : k2_off2 i = ![wid i + 1] := by
  have h := wid_lt i
  exact Affine.vec_cons (Affine.addi (widW_isInt i) (lit 1 (by decide)) ⟨rfl, by push_cast; omega, by push_cast; omega⟩)
    (by push_cast; rfl) Affine.vec_nil

/-- Where the tile's part of the segment array starts. -/
theorem off37_eq (i : grid2.Coords) : k2_off37 i = ![seg (wid i) * 64] := by
  have h := wid_lt i
  have h2 := seg_le h
  have h3 := seg_succ (wid i)
  exact Affine.vec_cons (Affine.muli (segW_isInt i) (lit 64 (by decide)) ⟨rfl, by push_cast; omega, by push_cast; omega⟩)
    (by push_cast; rfl) Affine.vec_nil

/-- The row copied when a tile has 313 segments starts after 312 rows. -/
theorem off38_eq (i : grid2.Coords) : k2_off38 i = ![(seg (wid i) + 312) * 64] := by
  have h := wid_lt i
  have h2 := seg_le h
  have h3 := seg_succ (wid i)
  exact Affine.vec_cons (Affine.muli (Affine.addi (segW_isInt i) (lit 312 (by decide)) ⟨rfl, by push_cast; omega, by push_cast; omega⟩)
    (lit 64 (by decide)) ⟨rfl, by push_cast; omega, by push_cast; omega⟩)
    (by push_cast; rfl) Affine.vec_nil

/-- A condition word that is widened and compared to zero is the condition. -/
theorem cond_iff (c : BitVec 1) : Scalar.cmpi .ne (Scalar.extui c : BitVec 32) 0#32 = 1#1 ↔ c = 1#1 := by
  revert c; decide

/-- The last row of segments is copied exactly when the tile has 313 of them. -/
theorem cond6_iff (i : grid2.Coords) : k2_cond6 i = 1#1 ↔ seg (wid i + 1) = seg (wid i) + 313 := by
  have h := wid_lt i
  have h2 := seg_le h
  have h3 := seg_succ (wid i)
  have hs := Affine.subi (segW'_isInt i) (segW_isInt i) ⟨rfl, by omega, by omega⟩
  have e : k2_cond6 i = Scalar.cmpi .ne (Scalar.extui (Scalar.cmpi .sgt (Scalar.subi (segW' i) (segW i)) 312#32)) 0#32 := rfl
  rw [e, cond_iff]
  constructor
  · intro hc
    by_contra hn
    exact Affine.sgt_fails hs (lit 312 (by decide)) (by push_cast; omega) hc
  · intro hn
    exact Affine.sgt_holds hs (lit 312 (by decide)) (by push_cast; omega)

/-! ### The rows of a tile -/

section Rows
variable {v6 v12 : BitVec 32} {lo hi : ℕ}

/-- The number of the tile's points, as a word. -/
theorem n_isInt (h6 : IsInt v6 lo) (h12 : IsInt v12 hi) (hle : lo ≤ hi) (hhi : hi ≤ 320000) :
    IsInt (Scalar.subi v12 v6) ((hi - lo : ℕ) : ℤ) :=
  Affine.subi h12 h6 ⟨by omega, by omega, by omega⟩

/-- The tile works exactly when it has a row. -/
theorem cond1_iff (h6 : IsInt v6 lo) (h12 : IsInt v12 hi) (hle : lo ≤ hi) (hhi : hi ≤ 320000) :
    k2_cond1 v6 v12 = 1#1 ↔ lo < hi := by
  have e : k2_cond1 v6 v12 = Scalar.cmpi .ne (Scalar.extui (Scalar.cmpi .sgt (Scalar.subi v12 v6) 0#32)) 0#32 := rfl
  rw [e, cond_iff]
  have hn := n_isInt h6 h12 hle hhi
  constructor
  · intro hc
    by_contra hcon
    exact Affine.sgt_fails hn (lit 0 (by decide)) (by push_cast; omega) hc
  · intro hlt
    exact Affine.sgt_holds hn (lit 0 (by decide)) (by push_cast; omega)

/-- The number of blocks of 512 rows, as the kernel computes it. -/
def chunksW (v6 v12 : BitVec 32) : BitVec 32 :=
  fdiv (Scalar.subi (Scalar.addi (Scalar.subi v12 v6) 512#32) 1#32) 512#32

/-- The number of the tile's chunks of 512 points, as a word. -/
theorem chunksW_isInt (h6 : IsInt v6 lo) (h12 : IsInt v12 hi) (hle : lo ≤ hi) (hhi : hi ≤ 320000) :
    IsInt (chunksW v6 v12) (((hi - lo + 511) / 512 : ℕ) : ℤ) := by
  have := fdiv_isInt (Affine.subi (Affine.addi (n_isInt h6 h12 hle hhi) (lit 512 (by decide)) ⟨rfl, by push_cast; omega, by push_cast; omega⟩)
    (lit 1 (by decide)) ⟨rfl, by push_cast; omega, by push_cast; omega⟩) (lit 512 (by decide)) (by push_cast; omega) (by decide)
  refine Affine.relit this ?_
  push_cast; omega

/-- The loop over the chunks, with its bounds. -/
theorem t1_loop_eq (v6 v12 : BitVec 32) : k2_t1_loop v6 v12 = ⟨0#32, chunksW v6 v12, 1#32⟩ := by
  have e : k2_t1_loop v6 v12 = ⟨0#32, Scalar.addi 0#32 (Scalar.muli (Scalar.divsi (Scalar.subi (chunksW v6 v12) 0#32) 1#32) 1#32), 1#32⟩ := rfl
  rw [e, bound_eq]

/-- The loop over the chunks goes around once a chunk. -/
theorem t1_trips (h6 : IsInt v6 lo) (h12 : IsInt v12 hi) (hle : lo ≤ hi) (hhi : hi ≤ 320000) :
    (k2_t1_loop v6 v12).trips = (hi - lo + 511) / 512 := by
  rw [t1_loop_eq]
  exact loop_trips (chunksW_isInt h6 h12 hle hhi)

/-- The loop over the chunks has bounds that a loop can have. -/
theorem t1_ok (h6 : IsInt v6 lo) (h12 : IsInt v12 hi) (hle : lo ≤ hi) (hhi : hi ≤ 320000) : (k2_t1_loop v6 v12).OK := by
  rw [t1_loop_eq]
  exact loop_ok (chunksW_isInt h6 h12 hle hhi) (by omega)

/-- The counter of a loop from zero by ones. -/
theorem iv_isInt (t : ℕ) (h : t < 2 ^ 31) : IsInt (Scf.iv 0#32 1#32 t) (t : ℤ) :=
  Affine.iv (lit 0 (by decide)) (lit 1 (by decide)) t ⟨by push_cast; omega, by omega, by omega⟩

/-- The first row of block `t`, as the kernel computes it. -/
def rowW (v6 : BitVec 32) (t : ℕ) : BitVec 32 := Scalar.addi v6 (Scalar.muli (Scf.iv 0#32 1#32 t) 512#32)

/-- The first point of a chunk, as a word. -/
theorem rowW_isInt (h6 : IsInt v6 lo) {t : ℕ} (ht : lo + 512 * t ≤ 320000) : IsInt (rowW v6 t) ((lo + 512 * t : ℕ) : ℤ) :=
  Affine.addi h6 (Affine.muli (iv_isInt t (by omega)) (lit 512 (by decide)) ⟨rfl, by push_cast; omega, by push_cast; omega⟩)
    ⟨by push_cast; omega, by push_cast; omega, by push_cast; omega⟩

/-- The same row rounded down to a multiple of 8. -/
def alW (v6 : BitVec 32) (t : ℕ) : BitVec 32 := Scalar.muli (fdiv (rowW v6 t) 8#32) 8#32

/-- The first point of a chunk rounded down to a multiple of eight, as a word. -/
theorem alW_isInt (h6 : IsInt v6 lo) {t : ℕ} (ht : lo + 512 * t ≤ 320000) :
    IsInt (alW v6 t) (((lo + 512 * t) / 8 * 8 : ℕ) : ℤ) := by
  have := Affine.muli (fdiv_isInt (rowW_isInt h6 ht) (lit 8 (by decide)) (by push_cast; omega) (by decide)) (lit 8 (by decide))
    ⟨rfl, by push_cast; omega, by push_cast; omega⟩
  exact Affine.relit this (by push_cast; omega)

/-- Each chunk has a point. -/
theorem row_lt (h6 : IsInt v6 lo) (h12 : IsInt v12 hi) (hle : lo ≤ hi) (hhi : hi ≤ 320000)
    (t : Fin (k2_t1_loop v6 v12).trips) : lo + 512 * t.val < hi := by
  have h := t.isLt.trans_eq (t1_trips h6 h12 hle hhi)
  omega

/-- A chunk's rows are fetched from its rounded first point. -/
theorem off3_eq (h6 : IsInt v6 lo) (h12 : IsInt v12 hi) (hle : lo ≤ hi) (hhi : hi ≤ 320000)
    (t : Fin (k2_t1_loop v6 v12).trips) : k2_off3 v6 v12 t = ![(lo + 512 * t.val) / 8 * 8, 0] := by
  have := row_lt h6 h12 hle hhi t
  exact Affine.vec_cons (alW_isInt h6 (t := t.val) (by omega)) rfl rfl

/-- A chunk's segment numbers are fetched from its rounded first point. -/
theorem off4_eq (h6 : IsInt v6 lo) (h12 : IsInt v12 hi) (hle : lo ≤ hi) (hhi : hi ≤ 320000)
    (t : Fin (k2_t1_loop v6 v12).trips) : k2_off4 v6 v12 t = ![(lo + 512 * t.val) / 8 * 8] := by
  have := row_lt h6 h12 hle hhi t
  exact Affine.vec_cons (alW_isInt h6 (t := t.val) (by omega)) rfl rfl

/-- The place a chunk is fetched from is a multiple of eight. -/
theorem mult1_dvd (h6 : IsInt v6 lo) (h12 : IsInt v12 hi) (hle : lo ≤ hi) (hhi : hi ≤ 320000)
    (t : Fin (k2_t1_loop v6 v12).trips) : 8 ∣ (k2_mult1 v6 v12 t).toNat := by
  have := row_lt h6 h12 hle hhi t
  exact Affine.dvd_of (a := alW v6 t.val) (alW_isInt h6 (t := t.val) (by omega)) 8 ⟨by push_cast; omega, by omega⟩

/-- The rows of block `t`, as the kernel counts them. -/
def restW (v6 v12 : BitVec 32) (t : ℕ) : BitVec 32 :=
  Scalar.minsi 512#32 (Scalar.subi (Scalar.subi v12 v6) (Scalar.muli (Scf.iv 0#32 1#32 t) 512#32))

/-- The number of a chunk's points, as a word. -/
theorem restW_isInt (h6 : IsInt v6 lo) (h12 : IsInt v12 hi) (hle : lo ≤ hi) (hhi : hi ≤ 320000)
    {t : ℕ} (ht : lo + 512 * t < hi) : IsInt (restW v6 v12 t) ((min 512 (hi - lo - 512 * t) : ℕ) : ℤ) :=
  Affine.minsi (lit 512 (by decide)) (Affine.subi (n_isInt h6 h12 hle hhi)
    (Affine.muli (iv_isInt t (by omega)) (lit 512 (by decide)) ⟨rfl, by push_cast; omega, by push_cast; omega⟩)
      ⟨rfl, by push_cast; omega, by push_cast; omega⟩) (by push_cast; omega)

/-- The loop over a chunk's points, with its bounds. -/
theorem t2_loop_eq (v6 v12 : BitVec 32) (t : Fin (k2_t1_loop v6 v12).trips) :
    k2_t2_loop v6 v12 t = ⟨0#32, restW v6 v12 t.val, 1#32⟩ := by
  have e : k2_t2_loop v6 v12 t = ⟨0#32, Scalar.addi 0#32 (Scalar.muli (Scalar.divsi (Scalar.subi (restW v6 v12 t.val) 0#32) 1#32) 1#32), 1#32⟩ := rfl
  rw [e, bound_eq]

/-- The loop over a chunk goes around once a point. -/
theorem t2_trips (h6 : IsInt v6 lo) (h12 : IsInt v12 hi) (hle : lo ≤ hi) (hhi : hi ≤ 320000)
    (t : Fin (k2_t1_loop v6 v12).trips) : (k2_t2_loop v6 v12 t).trips = min 512 (hi - lo - 512 * t.val) := by
  rw [t2_loop_eq]
  exact loop_trips (restW_isInt h6 h12 hle hhi (row_lt h6 h12 hle hhi t))

/-- The loop over a chunk has bounds that a loop can have. -/
theorem t2_ok (h6 : IsInt v6 lo) (h12 : IsInt v12 hi) (hle : lo ≤ hi) (hhi : hi ≤ 320000)
    (t : Fin (k2_t1_loop v6 v12).trips) : (k2_t2_loop v6 v12 t).OK := by
  rw [t2_loop_eq]
  exact loop_ok (restW_isInt h6 h12 hle hhi (row_lt h6 h12 hle hhi t)) (by omega)

/-- The place of row `s` of block `t` in the staged rows: the rows skipped by rounding down, and `s` more. -/
def place (lo t s : ℕ) : ℕ := (lo + 512 * t) % 8 + s

/-- That place as the kernel computes it. -/
def placeW (v6 : BitVec 32) (t s : ℕ) : BitVec 32 :=
  Scalar.addi (Scalar.subi (rowW v6 t) (alW v6 t)) (Scf.iv 0#32 1#32 s)

/-- The place of a point in the fetched chunk, as a word. -/
theorem placeW_isInt (h6 : IsInt v6 lo) {t s : ℕ} (ht : lo + 512 * t ≤ 320000) (hs : s < 512) :
    IsInt (placeW v6 t s) ((place lo t s : ℕ) : ℤ) := by
  refine Affine.addi (Affine.subi (rowW_isInt h6 ht) (alW_isInt h6 ht) ⟨rfl, by push_cast; omega, by push_cast; omega⟩)
    (iv_isInt s (by omega)) ⟨?_, ?_, ?_⟩ <;> simp only [place] <;> push_cast <;> omega

section
variable (h6 : IsInt v6 lo) (h12 : IsInt v12 hi) (hle : lo ≤ hi) (hhi : hi ≤ 320000)
  (t : Fin (k2_t1_loop v6 v12).trips) (s : Fin (k2_t2_loop v6 v12 t).trips)
include h6 h12 hle hhi

/-- A point of a chunk is one of the tile's points, and a chunk has at most 512. -/
theorem s_lt : s.val < 512 ∧ lo + 512 * t.val + s.val < hi := by
  have h := s.isLt.trans_eq (t2_trips h6 h12 hle hhi t)
  have ht := row_lt h6 h12 hle hhi t
  omega

/-- The segment number of a point is read at its place. -/
theorem off5_eq : k2_off5 v6 v12 t s = ![place lo t.val s.val] := by
  have := s_lt h6 h12 hle hhi t s
  exact Affine.vec_cons (placeW_isInt h6 (t := t.val) (s := s.val) (by omega) this.1) rfl rfl

/-- The first sixteen entries of a point's row. -/
theorem off8_eq : k2_off8 v6 v12 t s = ![place lo t.val s.val, 0] := by
  have := s_lt h6 h12 hle hhi t s
  exact Affine.vec_cons (placeW_isInt h6 (t := t.val) (s := s.val) (by omega) this.1) rfl rfl

/-- The second sixteen entries of a point's row. -/
theorem off9_eq : k2_off9 v6 v12 t s = ![place lo t.val s.val, 16] := by
  have := s_lt h6 h12 hle hhi t s
  exact Affine.vec_cons (placeW_isInt h6 (t := t.val) (s := s.val) (by omega) this.1) rfl rfl

/-- The third sixteen entries of a point's row. -/
theorem off10_eq : k2_off10 v6 v12 t s = ![place lo t.val s.val, 32] := by
  have := s_lt h6 h12 hle hhi t s
  exact Affine.vec_cons (placeW_isInt h6 (t := t.val) (s := s.val) (by omega) this.1) rfl rfl

/-- The last sixteen entries of a point's row. -/
theorem off11_eq : k2_off11 v6 v12 t s = ![place lo t.val s.val, 48] := by
  have := s_lt h6 h12 hle hhi t s
  exact Affine.vec_cons (placeW_isInt h6 (t := t.val) (s := s.val) (by omega) this.1) rfl rfl
end

/-- The remainder of the loop over the rows of a block makes no trip. -/
theorem t3_none (v6 v12 : BitVec 32) (t : Fin (k2_t1_loop v6 v12).trips) : (k2_t3_loop v6 v12 t).trips = 0 :=
  Scf.rem_trips 0#32 (Scalar.subi (restW v6 v12 t.val) 0#32)

/-- The remainder of the loop over the blocks makes no trip. -/
theorem t4_none (v6 v12 : BitVec 32) : (k2_t4_loop v6 v12).trips = 0 :=
  Scf.rem_trips 0#32 (Scalar.subi (chunksW v6 v12) 0#32)

/-- The remainder of the loop over a chunk has bounds that a loop can have. -/
theorem t3_ok (v6 v12 : BitVec 32) (t : Fin (k2_t1_loop v6 v12).trips) : (k2_t3_loop v6 v12 t).OK :=
  Scf.rem_ok 0#32 (Scalar.subi (restW v6 v12 t.val) 0#32)

/-- The remainder of the loop over the chunks has bounds that a loop can have. -/
theorem t4_ok (v6 v12 : BitVec 32) : (k2_t4_loop v6 v12).OK :=
  Scf.rem_ok 0#32 (Scalar.subi (chunksW v6 v12) 0#32)

/-- Everything the body assumes of the two boundaries. -/
theorem chk1 (h6 : IsInt v6 lo) (h12 : IsInt v12 hi) (hle : lo ≤ hi) (hhi : hi ≤ 320000) : k2_chk1 v6 v12 := by
  have no3 : ∀ t, Fin (k2_t3_loop v6 v12 t).trips → False := fun t s => absurd (s.isLt.trans_eq (t3_none v6 v12 t)) (Nat.not_lt_zero _)
  have no4 : Fin (k2_t4_loop v6 v12).trips → False := fun s => absurd (s.isLt.trans_eq (t4_none v6 v12)) (Nat.not_lt_zero _)
  have hp : ∀ t s, place lo t s = (lo + 512 * t) % 8 + s := fun _ _ => rfl
  unfold k2_chk1
  refine ⟨fun _ => t1_ok h6 h12 hle hhi, fun t _ => mult1_dvd h6 h12 hle hhi t, fun t _ a => ?_, fun t _ a => ?_,
    fun t _ => t2_ok h6 h12 hle hhi t, fun t s _ a => ?_, fun t s _ a => ?_, fun t s _ a => ?_, fun t s _ a => ?_, fun t s _ a => ?_,
    fun t _ => t3_ok v6 v12 t, fun t s => (no3 t s).elim, fun t s => (no3 t s).elim, fun t s => (no3 t s).elim, fun t s => (no3 t s).elim,
    fun t s => (no3 t s).elim, fun _ => t4_ok v6 v12, fun t => (no4 t).elim, fun t => (no4 t).elim, fun t => (no4 t).elim, fun t => (no4 t).elim,
    fun t => (no4 t).elim, fun t => (no4 t).elim, fun t => (no4 t).elim, fun t => (no4 t).elim, fun t => (no4 t).elim, fun t => (no4 t).elim,
    fun t => (no4 t).elim, fun t => (no4 t).elim, fun t => (no4 t).elim, fun t => (no4 t).elim, fun t => (no4 t).elim⟩
  · have := row_lt h6 h12 hle hhi t
    rw [off3_eq h6 h12 hle hhi]; fin_cases a <;> simp [Shape.size] <;> omega
  · have := row_lt h6 h12 hle hhi t
    rw [off4_eq h6 h12 hle hhi]; fin_cases a; simp [Shape.size]; omega
  · have := s_lt h6 h12 hle hhi t s
    rw [off5_eq h6 h12 hle hhi]; fin_cases a; simp [Shape.size, hp]; omega
  · have := s_lt h6 h12 hle hhi t s
    rw [off8_eq h6 h12 hle hhi]; fin_cases a <;> simp [Shape.size, hp] <;> omega
  · have := s_lt h6 h12 hle hhi t s
    rw [off9_eq h6 h12 hle hhi]; fin_cases a <;> simp [Shape.size, hp] <;> omega
  · have := s_lt h6 h12 hle hhi t s
    rw [off10_eq h6 h12 hle hhi]; fin_cases a <;> simp [Shape.size, hp] <;> omega
  · have := s_lt h6 h12 hle hhi t s
    rw [off11_eq h6 h12 hle hhi]; fin_cases a <;> simp [Shape.size, hp] <;> omega

end Rows

/-! ### The place of a segment in the tile's scratch array -/

section Slots
variable {p : BitVec 32} {n : ℕ} (i : grid2.Coords)

/-- The start of a segment's row among the tile's rows, as a word. -/
theorem slot_isInt (hp : IsInt p n) (h1 : seg (wid i) ≤ n) (h2 : n < 10000) :
    IsInt (Scalar.muli (Scalar.subi p (segW i)) 64#32) (((n - seg (wid i)) * 64 : ℕ) : ℤ) :=
  Affine.muli (Affine.subi hp (segW_isInt i) ⟨rfl, by omega, by omega⟩) (lit 64 (by decide)) ⟨by push_cast; omega, by push_cast; omega, by push_cast; omega⟩

/-- A segment's row starts at 64 times its number in the tile. -/
theorem off6_eq (hp : IsInt p n) (h1 : seg (wid i) ≤ n) (h2 : n < 10000) : k2_off6 i p = ![(n - seg (wid i)) * 64] :=
  Affine.vec_cons (slot_isInt i hp h1 h2) rfl rfl

/-- The further sixteens of a segment's row. -/
theorem off7_eq (hp : IsInt p n) (h1 : seg (wid i) ≤ n) (h2 : n < 10000) (k : ℕ) (hk : k < 64) :
    k2_off7 i p (BitVec.ofNat 32 k) = ![(n - seg (wid i)) * 64 + k] :=
  Affine.vec_cons (Affine.addi (slot_isInt i hp h1 h2) (lit k (by omega)) ⟨rfl, by push_cast; omega, by push_cast; omega⟩)
    (by push_cast; rfl) rfl

/-- The last segment's row starts at 64 times its number in the tile. -/
theorem off35_eq (hp : IsInt p n) (h1 : seg (wid i) ≤ n) (h2 : n < 10000) : k2_off35 i p = ![(n - seg (wid i)) * 64] :=
  Affine.vec_cons (slot_isInt i hp h1 h2) rfl rfl

/-- The further sixteens of the last segment's row. -/
theorem off36_eq (hp : IsInt p n) (h1 : seg (wid i) ≤ n) (h2 : n < 10000) (k : ℕ) (hk : k < 64) :
    k2_off36 i p (BitVec.ofNat 32 k) = ![(n - seg (wid i)) * 64 + k] :=
  Affine.vec_cons (Affine.addi (slot_isInt i hp h1 h2) (lit k (by omega)) ⟨rfl, by push_cast; omega, by push_cast; omega⟩)
    (by push_cast; rfl) rfl

/-- The row of a segment of the tile lies in the tile's buffer. -/
theorem chk2 (v6 v12 v : BitVec 32) (hp : IsInt p n) (h1 : seg (wid i) ≤ n) (h2 : n < seg (wid i + 1)) : k2_chk2 i v6 v12 p v := by
  have h := wid_lt i
  have h3 := seg_le h
  have h4 := seg_succ (wid i)
  refine ⟨fun _ _ a => ?_, fun _ _ r a => ?_⟩
  · rw [off6_eq i hp h1 (by omega)]; fin_cases a; simp [Shape.size]; omega
  · have hr := r.isLt
    rw [off7_eq i hp h1 (by omega) _ (by omega)]; fin_cases a; simp [Shape.size]; omega

/-- The row of the last segment lies in the tile's buffer. -/
theorem chk6 (v6 v12 : BitVec 32) (hp : IsInt p n) (h1 : seg (wid i) ≤ n) (h2 : n < seg (wid i + 1)) : k2_chk6 i v6 v12 p := by
  have h := wid_lt i
  have h3 := seg_le h
  have h4 := seg_succ (wid i)
  refine ⟨fun _ a => ?_, fun _ r a => ?_⟩
  · rw [off35_eq i hp h1 (by omega)]; fin_cases a; simp [Shape.size]; omega
  · have hr := r.isLt
    rw [off36_eq i hp h1 (by omega) _ (by omega)]; fin_cases a; simp [Shape.size]; omega

/-- The store of a finished segment happens exactly when the row's segment differs from the one carried. -/
theorem cond2_iff (p v : BitVec 32) : k2_cond2 p v = 1#1 ↔ v ≠ p := by
  have e : k2_cond2 p v = Scalar.cmpi .ne (Scalar.extui (Scalar.cmpi .ne v p)) 0#32 := rfl
  rw [e, cond_iff]
  constructor
  · intro hc he
    exact Affine.ne_fails (Affine.word v) (Affine.word p) (by rw [he]) hc
  · intro he
    exact Affine.ne_holds (Affine.word v) (Affine.word p) fun hh => he (BitVec.eq_of_toInt_eq hh)

end Slots

end Cert.KernelIdeal.Sc1
-- ==== Proof.Sc1Body.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.LoopRemainder
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Words
public import proofs.«01_k».proof.Proof.Runs
public import proofs.«01_k».proof.Proof.Arith1

@[expose] public section
noncomputable section
namespace Cert.KernelIdeal.Sc1

open Cert.KernelIdeal.Gen Cert.Words Cert.Runs
open Idealize.ShloMosaic Idealize.ShloMosaic.Affine
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 2) (Elt F) ℕ U ℕ

abbrev yM : Memref sig .scVector .hbm S320512x64 .f32 := Memref.whole main_v4_scv
abbrev iM : Memref sig .scVector .hbm S320520 .i32 := Memref.whole main_v16_scv
abbrev bM : Memref sig .scVector .hbm S40 .i32 := Memref.whole main_v9_scv
abbrev fM : Memref sig .scVector .hbm S641024 .f32 := Memref.whole main_v17_scv
abbrev s0 : Memref sig .scVector .vmem S56 .i32 := Memref.whole cc2_scratch0
abbrev s1 : Memref sig .scVector .vmem S536 .i32 := Memref.whole cc2_scratch1
abbrev s2 : Memref sig .scVector .vmem S520x64 .f32 := Memref.whole cc2_scratch2
abbrev s3 : Memref sig .scVector .vmem S20288 .f32 := Memref.whole cc2_scratch3

/-- The tile at grid coordinates `i`, as a thread of device `d`. -/
abbrev tile (d : Dev nD) (i : grid2.Coords) : Thread nD τ := V d ((i 0).castLE hcore2) ((i 1).castLE hsub2)

abbrev Carry (F : FTy → Type) : Type := FVec F S16 .f32 × FVec F S16 .f32 × FVec F S16 .f32 × FVec F S16 .f32 × BitVec 32

/-- The smallest value, what the carry starts at. -/
abbrev bot : F .f32 := Scalar.ofBits .f32 0xFF800000#32

/-- The running maximum of this kernel. -/
abbrev runK (id : ℕ → ℕ) (y : ℕ → ℕ → F .f32) (sb lo c k : ℕ) : F .f32 :=
  run FloatOps.maximumf bot id (fun r => y r c) sb lo k

/-- What is carried after `k` rows, in registers and in the scratch. -/
structure St (id : ℕ → ℕ) (y : ℕ → ℕ → F .f32) (sb lo k : ℕ) (c : Carry F) (f : S20288.Idx → F .f32) : Prop where
  m0 : ∀ l : S16.Idx, c.1 l = runK id y sb lo (l 0).val k
  m1 : ∀ l : S16.Idx, c.2.1 l = runK id y sb lo (16 + (l 0).val) k
  m2 : ∀ l : S16.Idx, c.2.2.1 l = runK id y sb lo (32 + (l 0).val) k
  m3 : ∀ l : S16.Idx, c.2.2.2.1 l = runK id y sb lo (48 + (l 0).val) k
  pr : IsInt c.2.2.2.2 (prev id sb lo k)
  dn : Done (fun x : S20288.Idx => (x 0).val) FloatOps.maximumf bot id y sb lo k f

section Reads

/-- The row's segment, extracted from the sixteen words loaded at it. -/
theorem id_read (off : Fin 1 → ℕ) (inb) (f7 : S536.Idx → BitVec 32) (x : S536.Idx) (hx : off = ![(x 0).val]) :
    extractAt ![0] (k2_pay1 (F := F) (View.readAt (Elt F) s1.view (Rect.unit (s := S536) off S16.size inb).toLoadRect f7)) inpos_S1_p0 = f7 x := by
  show shapeCast S16 (View.readAt (Elt F) s1.view (Rect.unit (s := S536) off S16.size inb).toLoadRect f7) shapeCasts_S16_S16 _ = _
  refine (congrFun (shapeCast_self (s := S16) _ shapeCasts_S16_S16) _).trans ?_
  rw [View.readAt_apply, View.read_whole]
  congr 1; funext a; fin_cases a; apply Fin.ext; simp [hx, LoadRect.idx_apply]

/-- A lane of sixteen columns of a row. -/
theorem y_read (off : Fin 2 → ℕ) (inb) (f8 : S520x64.Idx → F .f32) (a k : ℕ) (hoff : off = ![a, k]) (l : S16.Idx)
    {r : ℕ} {y : ℕ → ℕ → F .f32} (h8 : ∀ x : S520x64.Idx, f8 x = y (r + (x 0).val) (x 1).val) :
    shapeCast S16 (View.readAt (Elt F) s2.view (Rect.unit (s := S520x64) off S1x16.size inb).toLoadRect f8) shapeCasts_S1x16_S16 l
      = y (r + a) (k + (l 0).val) := by
  refine (shapeCast_dropUnit_apply ![16] _ shapeCasts_S1x16_S16 l).trans ?_
  rw [View.readAt_apply, View.read_whole, h8]
  congr 1
  · subst hoff; simp [LoadRect.idx_apply]; rfl
  · subst hoff; simp [LoadRect.idx_apply]; rfl

/-- A choice between two vectors by a comparison of two words, at a lane. -/
theorem pick_lane {v p : BitVec 32} {n m : ℕ} (hv : IsInt v n) (hp : IsInt p m) (A B : FVec F S16 .f32) (l : S16.Idx) :
    (Scalar.select (Scalar.cmpi .ne v p) A B : FVec F S16 .f32) l = if n ≠ m then A l else B l := by
  have hne : v ≠ p ↔ n ≠ m := not_congr ⟨fun h => by rw [← toNat_eq hv, ← toNat_eq hp, h], fun h => BitVec.eq_of_toNat_eq (by rw [toNat_eq hv, toNat_eq hp, h])⟩
  have hc : Scalar.cmpi .ne v p = 1#1 ↔ n ≠ m := ((cond_iff _).symm.trans (cond2_iff p v)).trans hne
  unfold Scalar.select
  by_cases h : n ≠ m
  · exact (congrFun (if_pos (hc.mpr h)) l).trans (if_pos h).symm
  · exact (congrFun (if_neg (fun h' => h (hc.mp h'))) l).trans (if_neg h).symm

/-- A word of sixteen stored at `o` reads back as stored, another word as before. -/
theorem piece (f : S20288.Idx → F .f32) (o : Fin 1 → ℕ) (inb) (n : ℕ) (e : o = ![n]) (w : S16.Idx → F .f32)
    (L : List (View.Piece (Elt F) S20288 .f32)) (x : S20288.Idx) :
    (∀ l : S16.Idx, (x 0).val = n + (l 0).val → s3.view.writes (Elt F) f (⟨Rect.unit (s := S20288) o S16.size inb, w⟩ :: L) x = w l)
    ∧ ((x 0).val < n ∨ n + 16 ≤ (x 0).val → s3.view.writes (Elt F) f (⟨Rect.unit (s := S20288) o S16.size inb, w⟩ :: L) x
        = s3.view.writes (Elt F) f L x) := by
  subst e
  constructor
  · intro l hl
    exact View.read_writes_cons_hit_of_coords s3.view f (Rect.unit (s := S20288) ![n] S16.size inb) w L l x
      (fun a => by fin_cases a; simpa using hl)
  · intro h
    exact View.read_writes_cons_miss_of_axis s3.view f ⟨Rect.unit (s := S20288) ![n] S16.size inb, w⟩ L x 0 n 16 rfl rfl rfl h

/-- Four stores of sixteen words at a slot: a word of the slot is the lane stored there, another word is kept. -/
theorem slot_write (n : ℕ) (f : S20288.Idx → F .f32) (o0 o1 o2 o3 : Fin 1 → ℕ) (i0 i1 i2 i3)
    (e0 : o0 = ![n * 64]) (e1 : o1 = ![n * 64 + 16]) (e2 : o2 = ![n * 64 + 32]) (e3 : o3 = ![n * 64 + 48])
    (w0 w1 w2 w3 : S16.Idx → F .f32) :
    let g := s3.view.writes (Elt F) f [⟨Rect.unit (s := S20288) o3 S16.size i3, w3⟩, ⟨Rect.unit (s := S20288) o2 S16.size i2, w2⟩,
      ⟨Rect.unit (s := S20288) o1 S16.size i1, w1⟩, ⟨Rect.unit (s := S20288) o0 S16.size i0, w0⟩]
    (∀ (g0 : ℕ → F .f32), (∀ l, w0 l = g0 (l 0).val) → (∀ l, w1 l = g0 (16 + (l 0).val)) → (∀ l, w2 l = g0 (32 + (l 0).val)) →
      (∀ l, w3 l = g0 (48 + (l 0).val)) → ∀ (x : S20288.Idx) c, c < 64 → (x 0).val = n * 64 + c → g x = g0 c)
    ∧ (∀ (x : S20288.Idx) m c, m ≠ n → c < 64 → (x 0).val = m * 64 + c → g x = f x) := by
  intro g
  constructor
  · intro g0 h0 h1 h2 h3 x c hc hx
    have key : ∀ b, b + 16 ≤ 64 → b ≤ c → c < b + 16 → ∃ l : S16.Idx, (x 0).val = n * 64 + b + (l 0).val ∧ c = b + (l 0).val :=
      fun b _ h1 h2 => ⟨fun a => ⟨c - b, by fin_cases a; show _ < 16; omega⟩, by show _ = _ + (c - b); omega, by show c = b + (c - b); omega⟩
    by_cases c3 : 48 ≤ c
    · obtain ⟨l, hl, hl'⟩ := key 48 (by omega) c3 (by omega)
      exact ((piece f o3 i3 _ e3 w3 _ x).1 l hl).trans ((h3 l).trans (by rw [← hl']))
    refine ((piece f o3 i3 _ e3 w3 _ x).2 (by omega)).trans ?_
    by_cases c2 : 32 ≤ c
    · obtain ⟨l, hl, hl'⟩ := key 32 (by omega) c2 (by omega)
      exact ((piece f o2 i2 _ e2 w2 _ x).1 l hl).trans ((h2 l).trans (by rw [← hl']))
    refine ((piece f o2 i2 _ e2 w2 _ x).2 (by omega)).trans ?_
    by_cases c1 : 16 ≤ c
    · obtain ⟨l, hl, hl'⟩ := key 16 (by omega) c1 (by omega)
      exact ((piece f o1 i1 _ e1 w1 _ x).1 l hl).trans ((h1 l).trans (by rw [← hl']))
    refine ((piece f o1 i1 _ e1 w1 _ x).2 (by omega)).trans ?_
    obtain ⟨l, hl, hl'⟩ := key 0 (by omega) (by omega) (by omega)
    exact ((piece f o0 i0 _ e0 w0 _ x).1 l (by omega)).trans ((h0 l).trans (by rw [show (l 0).val = c by omega]))
  · intro x m c hm hc hx
    have hmn : m < n ∨ n < m := by omega
    refine ((piece f o3 i3 _ e3 w3 _ x).2 (by omega)).trans ?_
    refine ((piece f o2 i2 _ e2 w2 _ x).2 (by omega)).trans ?_
    refine ((piece f o1 i1 _ e1 w1 _ x).2 (by omega)).trans ?_
    exact (piece f o0 i0 _ e0 w0 _ x).2 (by omega)

/-- One lane of the running maximum after one more row. -/
theorem lane_step {id : ℕ → ℕ} {y : ℕ → ℕ → F .f32} {sb lo k : ℕ} {v p : BitVec 32} (hv : IsInt v (id (lo + k)))
    (hp : IsInt p (prev id sb lo k)) (A B : FVec F S16 .f32) (l : S16.Idx) (c : ℕ) (hA : A l = runK id y sb lo c k) (hB : B l = y (lo + k) c) :
    (Scalar.select (Scalar.cmpi .ne v p) B (maximumf A B) : FVec F S16 .f32) l = runK id y sb lo c (k + 1) := by
  refine (pick_lane hv hp _ _ l).trans ?_
  show (if _ then B l else FloatOps.maximumf (A l) (B l)) = if id (lo + k) ≠ prev id sb lo k then _ else _
  rw [hA, hB]

/-- The carry after one more row. -/
theorem St.step {id : ℕ → ℕ} {y : ℕ → ℕ → F .f32} {sb lo k : ℕ} {c0 c1 c2 c3 : FVec F S16 .f32} {p : BitVec 32} {f g : S20288.Idx → F .f32}
    (h : St id y sb lo k (c0, c1, c2, c3, p) f) (w : Vec F S16 .i32) (hv : IsInt (extractAt ![0] (k2_pay1 (F := F) w) inpos_S1_p0) (id (lo + k)))
    {r0 r1 r2 r3 : Vec F S1x16 .f32}
    (h0 : ∀ l, shapeCast S16 r0 shapeCasts_S1x16_S16 l = y (lo + k) (l 0).val)
    (h1 : ∀ l, shapeCast S16 r1 shapeCasts_S1x16_S16 l = y (lo + k) (16 + (l 0).val))
    (h2 : ∀ l, shapeCast S16 r2 shapeCasts_S1x16_S16 l = y (lo + k) (32 + (l 0).val))
    (h3 : ∀ l, shapeCast S16 r3 shapeCasts_S1x16_S16 l = y (lo + k) (48 + (l 0).val))
    (hd : Done (fun x : S20288.Idx => (x 0).val) FloatOps.maximumf bot id y sb lo (k + 1) g) :
    St id y sb lo (k + 1) (k2_pay6 c0 p w r0, k2_pay7 c1 p w r1, k2_pay8 c2 p w r2, k2_pay9 c3 p w r3,
      extractAt ![0] (k2_pay1 (F := F) w) inpos_S1_p0) g where
  m0 l := lane_step hv h.pr c0 _ l _ (h.m0 l) (h0 l)
  m1 l := lane_step hv h.pr c1 _ l _ (h.m1 l) (h1 l)
  m2 l := lane_step hv h.pr c2 _ l _ (h.m2 l) (h2 l)
  m3 l := lane_step hv h.pr c3 _ l _ (h.m3 l) (h3 l)
  pr := hv
  dn := hd

end Reads

section Step
variable (d : Dev nD) (i : grid2.Coords) (a5 : Memref sig .scVector .hbm S641024 .f32)
  {v6 v12 : BitVec 32} {lo hi : ℕ} (h6 : IsInt v6 lo) (h12 : IsInt v12 hi) {id : ℕ → ℕ} (y : ℕ → ℕ → F .f32)
  (ht : InTile id (seg (wid i)) (seg (wid i + 1)) lo hi)
  (k2_hw1 : k2_chk1 v6 v12) (k2_h1 : k2_cond1 v6 v12 = 1#1)

include h6 h12 ht in
/-- One row. -/
theorem row_wp (v13 v31 v51 v70 : BitVec 32) (v71 : FVec F S16 .f32) (t : Fin (k2_t1_loop v6 v12).trips) (s : Fin (k2_t2_loop v6 v12 t).trips)
    (f7 : S536.Idx → BitVec 32) (f8 : S520x64.Idx → F .f32) (f9 : S20288.Idx → F .f32)
    (h7 : ∀ x : S536.Idx, (x 0).val < 520 → IsInt (f7 x) (id ((lo + 512 * t.val) / 8 * 8 + (x 0).val)))
    (h8 : ∀ x : S520x64.Idx, f8 x = y ((lo + 512 * t.val) / 8 * 8 + (x 0).val) (x 1).val)
    (c : Carry F) (hst : St id y (seg (wid i)) lo (512 * t.val + s.val) c f9) (Q : Carry F → sProp 𝕄) :
    iprop((s1.view.loc (tile d i) ↦[Finset.univ]{fullShare} f7) ∗ (s2.view.loc (tile d i) ↦[Finset.univ]{fullShare} f8)
        ∗ (s3.view.loc (tile d i) ↦[Finset.univ]{fullShare} f9)
        ∗ ∀ c' f9', ⌜St id y (seg (wid i)) lo (512 * t.val + s.val + 1) c' f9'⌝ -∗
          ((s1.view.loc (tile d i) ↦[Finset.univ]{fullShare} f7) ∗ (s2.view.loc (tile d i) ↦[Finset.univ]{fullShare} f8)
            ∗ (s3.view.loc (tile d i) ↦[Finset.univ]{fullShare} f9')) -∗ Q c')
      ⊢ wp frame (wpE (defs₀ (F := F)) Variants.none (tile d i) none) Set.univ
          (k2_t2_body i yM (Memref.isWhole_whole _) iM (Memref.isWhole_whole _) bM (Memref.isWhole_whole _) fM (Memref.isWhole_whole _)
            s0 (Memref.isWhole_whole _) s1 (Memref.isWhole_whole _) s2 (Memref.isWhole_whole _) s3 (Memref.isWhole_whole _)
            cc2_scoped0 cc2_scoped1 cc2_scoped2 cc2_scoped3 cc2_scoped4 cc2_scoped5 cc2_scoped6
            v6 v12 k2_hw1 v13 v31 v51 v70 v71 k2_h1 t s c) Q := by
  obtain ⟨c0, c1, c2, c3, p⟩ := c
  have hhi := ht.hi_le
  have hle := ht.le
  have hsl := s_lt h6 h12 hle hhi t s
  have hpl : place lo t.val s.val < 520 := by unfold place; omega
  have hr : (lo + 512 * t.val) / 8 * 8 + place lo t.val s.val = lo + (512 * t.val + s.val) := by unfold place; omega
  have hid := h7 (fun a => ⟨place lo t.val s.val, by fin_cases a; show _ < 536; omega⟩) hpl
  rw [← id_read (F := F) _ (k2_off5_inb v6 v12 k2_hw1 t s k2_h1) f7 _ (off5_eq h6 h12 hle hhi t s)] at hid
  simp only [hr] at hid
  have hm := ht.mem (lo + (512 * t.val + s.val)) (by omega) (by omega)
  have hp : IsInt p (prev id (seg (wid i)) lo (512 * t.val + s.val)) := hst.pr
  have hpm := ht.prev_mem (k := 512 * t.val + s.val) (by omega)
  have hchk := chk2 i v6 v12 (extractAt ![0] (k2_pay1 (F := F) (View.readAt (Elt F) s1.view (Rect.unit (s := S536) (k2_off5 v6 v12 t s) S16.size (k2_off5_inb v6 v12 k2_hw1 t s k2_h1)).toLoadRect f7)) inpos_S1_p0) hp hpm.1 hpm.2
  have hst' := fun g hd => St.step (g := g) hst _ hid
    (fun l => (y_read (F := F) _ (k2_off8_inb v6 v12 k2_hw1 t s k2_h1) f8 _ _ (off8_eq h6 h12 hle hhi t s) l h8).trans (by rw [hr, Nat.zero_add]))
    (fun l => (y_read (F := F) _ (k2_off9_inb v6 v12 k2_hw1 t s k2_h1) f8 _ _ (off9_eq h6 h12 hle hhi t s) l h8).trans (by rw [hr]))
    (fun l => (y_read (F := F) _ (k2_off10_inb v6 v12 k2_hw1 t s k2_h1) f8 _ _ (off10_eq h6 h12 hle hhi t s) l h8).trans (by rw [hr]))
    (fun l => (y_read (F := F) _ (k2_off11_inb v6 v12 k2_hw1 t s k2_h1) f8 _ _ (off11_eq h6 h12 hle hhi t s) l h8).trans (by rw [hr])) hd
  unfold k2_t2_body
  iintro ⟨H1, H2, H3, HQ⟩
  by_cases hc : k2_cond2 p (extractAt ![0] (k2_pay1 (F := F) (View.readAt (Elt F) s1.view (Rect.unit (s := S536) (k2_off5 v6 v12 t s) S16.size (k2_off5_inb v6 v12 k2_hw1 t s k2_h1)).toLoadRect f7)) inpos_S1_p0) = 1#1
  · sl_exec
    sl_step
    have hw := slot_write (F := F) (prev id (seg (wid i)) lo (512 * t.val + s.val) - seg (wid i)) f9 _ _ _ _
      (k2_off6_inb i v6 v12 p _ hchk k2_h1 hc) (k2_off7_inb i v6 v12 p _ hchk k2_h1 hc 0) (k2_off7_inb i v6 v12 p _ hchk k2_h1 hc 1)
      (k2_off7_inb i v6 v12 p _ hchk k2_h1 hc 2)
      (off6_eq i hp hpm.1 (by have := seg_le (wid_lt i); omega)) (off7_eq i hp hpm.1 (by have := seg_le (wid_lt i); omega) 16 (by omega))
      (off7_eq i hp hpm.1 (by have := seg_le (wid_lt i); omega) 32 (by omega)) (off7_eq i hp hpm.1 (by have := seg_le (wid_lt i); omega) 48 (by omega))
      (k2_pay2 c0) (k2_pay3 c1) (k2_pay4 c2) (k2_pay5 c3)
    iapply HQ $$ %_ %_ %?_ [H1 H2 H3]
    · exact hst' _ (hst.dn.store ht (by omega) (hw.1 (fun c => runK id y (seg (wid i)) lo c (512 * t.val + s.val))
        (fun l => (congrFun (shapeCast_self (s := S16) c0 _) l).trans (hst.m0 l)) (fun l => (congrFun (shapeCast_self (s := S16) c1 _) l).trans (hst.m1 l))
        (fun l => (congrFun (shapeCast_self (s := S16) c2 _) l).trans (hst.m2 l)) (fun l => (congrFun (shapeCast_self (s := S16) c3 _) l).trans (hst.m3 l))) hw.2)
    · isplitl [H1]; · iexact H1
      isplitl [H2]; · iexact H2
      iexact H3
  · sl_exec
    sl_step
    iapply HQ $$ %_ %_ %?_ [H1 H2 H3]
    · exact hst' _ (hst.dn.keep (by
        have he : _ = p := not_not.mp fun hh => hc ((cond2_iff _ _).mpr hh)
        rw [← toNat_eq hid, ← toNat_eq hp, he]))
    · isplitl [H1]; · iexact H1
      isplitl [H2]; · iexact H2
      iexact H3

end Step

/-- What the loop over chunks holds beside its carry: the points' values and segments (read shares), the buffers a
    chunk is staged in, and the two semaphores of its copies, at rest. -/
def Env (d : Dev nD) (i : grid2.Coords) (qy qi : PosShare TreeShare) (Y : S320512x64.Idx → F .f32) (I : S320520.Idx → BitVec 32)
    (O : CellTallies nD τ sig (HIx 2)) (W : Waits sig (HIx 2)) : sProp 𝕄 :=
  iprop(Transfers.MayWaits (tile d i) (none : HIx 2) O
    ∗ (yM.view.loc (tile d i) ↦[Finset.univ]{qy} Y) ∗ (iM.view.loc (tile d i) ↦[Finset.univ]{qi} I)
    ∗ (∃ f7, s1.view.loc (tile d i) ↦[Finset.univ]{fullShare} f7) ∗ (∃ f8, s2.view.loc (tile d i) ↦[Finset.univ]{fullShare} f8)
    ∗ semVal (tile d i, SemLoc.dma cc2_scoped1.sem) 0 ∗ semVal (tile d i, SemLoc.dma cc2_scoped2.sem) 0
    ∗ ∃ W', ⌜∀ p ∈ W', p ∈ W ∨ p.2 = none⌝ ∗ owes (tile d i) O W')

section Chunk
variable (d : Dev nD) (i : grid2.Coords)
  {v6 v12 : BitVec 32} {lo hi : ℕ} (h6 : IsInt v6 lo) (h12 : IsInt v12 hi) {id : ℕ → ℕ} (y : ℕ → ℕ → F .f32)
  (ht : InTile id (seg (wid i)) (seg (wid i + 1)) lo hi)
  (k2_hw1 : k2_chk1 v6 v12) (k2_h1 : k2_cond1 v6 v12 = 1#1)

include h6 h12 ht in
/-- One chunk of 512 rows. -/
theorem chunk_wp (v13 v31 v51 v70 : BitVec 32) (v71 : FVec F S16 .f32) (t : Fin (k2_t1_loop v6 v12).trips)
    (qy qi : PosShare TreeShare) (Y : S320512x64.Idx → F .f32) (I : S320520.Idx → BitVec 32)
    (hY : ∀ z : S320512x64.Idx, Y z = y (z 0).val (z 1).val) (hI : ∀ z : S320520.Idx, IsInt (I z) (id (z 0).val))
    (O : CellTallies nD τ sig (HIx 2)) (W : Waits sig (HIx 2))
    (f9 : S20288.Idx → F .f32)
    (c : Carry F) (hst : St id y (seg (wid i)) lo (512 * t.val) c f9) (Q : Carry F → sProp 𝕄) :
    iprop(Env d i qy qi Y I O W ∗ (s3.view.loc (tile d i) ↦[Finset.univ]{fullShare} f9)
        ∗ ∀ c' f9', ⌜St id y (seg (wid i)) lo (min (512 * (t.val + 1)) (hi - lo)) c' f9'⌝ -∗
          (Env d i qy qi Y I O W ∗ (s3.view.loc (tile d i) ↦[Finset.univ]{fullShare} f9')) -∗ Q c')
      ⊢ wp frame (wpE (defs₀ (F := F)) Variants.none (tile d i) none) Set.univ
          (k2_t1_body i yM (Memref.isWhole_whole _) iM (Memref.isWhole_whole _) bM (Memref.isWhole_whole _) fM (Memref.isWhole_whole _)
            s0 (Memref.isWhole_whole _) s1 (Memref.isWhole_whole _) s2 (Memref.isWhole_whole _) s3 (Memref.isWhole_whole _)
            cc2_scoped0 cc2_scoped1 cc2_scoped2 cc2_scoped3 cc2_scoped4 cc2_scoped5 cc2_scoped6
            v6 v12 k2_hw1 v13 v31 v51 v70 v71 k2_h1 t c) Q := by
  obtain ⟨c0, c1, c2, c3, p⟩ := c
  unfold k2_t1_body Env
  iintro ⟨⟨Hmw, HY, HI, ⟨%f7, H1⟩, ⟨%f8, H2⟩, Hs1, Hs2, %W', %hW', HO⟩, H3, HQ⟩
  have hhi := ht.hi_le
  have hle := ht.le
  have hrow := row_lt h6 h12 hle hhi t
  sl_exec
  have h8 : ∀ x : S520x64.Idx, View.write (Elt F) s2.view f8 (chunk_wp.sl.dma0 k2_hw1 k2_h1 t Y) Finset.univ x
      = y ((lo + 512 * t.val) / 8 * 8 + (x 0).val) (x 1).val := by
    intro x
    rw [View.write_whole_univ]
    unfold chunk_wp.sl.dma0
    show Y ((Rect.unit (s := S320512x64) (k2_off3 v6 v12 t) S520x64.size (k2_off3_inb v6 v12 k2_hw1 t k2_h1)).emb x) = _
    rw [hY]
    congr 1
    · simp [off3_eq h6 h12 hle hhi t]
    · simp [off3_eq h6 h12 hle hhi t]
  have h7 : ∀ x : S536.Idx, (x 0).val < 520 →
      IsInt (s1.view.writes (Elt F) f7 [⟨Rect.unit (s := S536) ![0] S520.size inb_S536_S520_0, chunk_wp.sl.dma0_1 k2_hw1 k2_h1 t I⟩] x)
        (id ((lo + 512 * t.val) / 8 * 8 + (x 0).val)) := by
    intro x hx
    have e := View.read_writes_cons_hit_of_coords s1.view f7 (Rect.unit (s := S536) ![0] S520.size inb_S536_S520_0)
      (chunk_wp.sl.dma0_1 k2_hw1 k2_h1 t I) [] (fun a => ⟨(x 0).val, by fin_cases a; exact hx⟩) x (fun a => by fin_cases a; simp)
    rw [View.read_whole] at e
    rw [e]
    unfold chunk_wp.sl.dma0_1
    show IsInt (I ((Rect.unit (s := S320520) (k2_off4 v6 v12 t) S520.size (k2_off4_inb v6 v12 k2_hw1 t k2_h1)).emb _)) _
    have h := hI ((Rect.unit (s := S320520) (k2_off4 v6 v12 t) S520.size (k2_off4_inb v6 v12 k2_hw1 t k2_h1)).emb (fun a => ⟨(x 0).val, by fin_cases a; exact hx⟩))
    rw [show ((Rect.unit (s := S320520) (k2_off4 v6 v12 t) S520.size (k2_off4_inb v6 v12 k2_hw1 t k2_h1)).emb (fun a => ⟨(x 0).val, by fin_cases a; exact hx⟩) 0).val
      = (lo + 512 * t.val) / 8 * 8 + (x 0).val from by simp [off4_eq h6 h12 hle hhi t]] at h
    exact h
  sl_for (fun s c => iprop(∃ f9, ⌜St id y (seg (wid i)) lo (512 * t.val + s) c f9⌝
      ∗ (s1.view.loc (tile d i) ↦[Finset.univ]{fullShare} _) ∗ (s2.view.loc (tile d i) ↦[Finset.univ]{fullShare} _)
      ∗ (s3.view.loc (tile d i) ↦[Finset.univ]{fullShare} f9))) $$ [H1 H2 H3]
  case region =>
    intro s c
    iintro ⟨%f9, %hst, H1, H2, H3⟩
    iapply (row_wp d i h6 h12 y ht k2_hw1 k2_h1 v13 v31 v51 v70 v71 t s _ _ f9 h7 h8 c hst _)
    isplitl [H1]; · iexact H1
    isplitl [H2]; · iexact H2
    isplitl [H3]; · iexact H3
    iintro %c' %f9' %hst' ⟨H1, H2, H3⟩
    iexists f9'
    isplitr; · ipureintro; exact hst'
    isplitl [H1]; · iexact H1
    isplitl [H2]; · iexact H2
    iexact H3
  · iexists f9
    isplitr; · ipureintro; exact hst
    isplitl [H1]; · iexact H1
    isplitl [H2]; · iexact H2
    iexact H3
  iintro %c' ⟨%f9', %hst', H1, H2, H3⟩
  obtain ⟨c0', c1', c2', c3', p'⟩ := c'
  sl_exec
  sl_step
  iapply HQ $$ %_ %f9' %?_ [Hmw HY HI H1 H2 Hs1 Hs2 HO H3]
  · rw [show Scf.trips (k2_t2_loop v6 v12 t).lb (k2_t2_loop v6 v12 t).ub (k2_t2_loop v6 v12 t).st = _ from t2_trips h6 h12 hle hhi t] at hst'
    rw [show min (512 * (t.val + 1)) (hi - lo) = 512 * t.val + min 512 (hi - lo - 512 * t.val) by omega]
    exact hst'
  · isplitr [H3]
    · isplitl [Hmw]; · iexact Hmw
      isplitl [HY]; · iexact HY
      isplitl [HI]; · iexact HI
      isplitl [H1]; · iexists _; iexact H1
      isplitl [H2]; · iexists _; iexact H2
      isplitl [Hs1]; · iexact Hs1
      isplitl [Hs2]; · iexact Hs2
      iexists (insert (SemLoc.dma cc2_scoped2.sem, (default : HIx 2)) (insert (SemLoc.dma cc2_scoped1.sem, (default : HIx 2)) W')); isplitr
      · ipureintro
        intro p hp
        rcases Finset.mem_insert.mp hp with hp | hp
        · exact .inr (hp ▸ rfl)
        rcases Finset.mem_insert.mp hp with hp | hp
        · exact .inr (hp ▸ rfl)
        · exact hW' p hp
      · iexact HO
    · iexact H3

end Chunk

section Body
variable (d : Dev nD) (i : grid2.Coords)

/-- The words of the segment maxima that tile `w` writes: those of its own segments. -/
def FS (w : ℕ) : Finset S641024.Idx := Finset.univ.filter fun x => seg w * 64 ≤ (x 0).val ∧ (x 0).val < seg (w + 1) * 64

/-- What a tile leaves there: for each of its segments that has rows, the running maximum at the segment's last row. -/
def FeatOK (id : ℕ → ℕ) (y : ℕ → ℕ → F .f32) (sb lo n : ℕ) (f : S641024.Idx → F .f32) : Prop :=
  ∀ k', k' < n → (k' + 1 = n ∨ id (lo + (k' + 1)) ≠ id (lo + k')) → ∀ (x : S641024.Idx) c, c < 64 → (x 0).val = id (lo + k') * 64 + c →
    f x = runK id y sb lo c (k' + 1)

/-- The first 312 rows of the tile's segments, and the one more that some tiles have, as the kernel slices them. -/
abbrev fA : Memref sig .scVector .hbm S19968 .f32 := fM.slice (Rect.unit (s := S641024) (k2_off37 i) S19968.size (k2_off37_inb i)) (fun _ => rfl)

/-- The entries of a tile's first 312 rows. -/
theorem mem_fA (x : S641024.Idx) : x ∈ (fA i).view.set ↔ seg (wid i) * 64 ≤ (x 0).val ∧ (x 0).val < (seg (wid i) + 312) * 64 := by
  have e : (fA i).view.set = (Rect.unit (s := S641024) (k2_off37 i) S19968.size (k2_off37_inb i)).set := View.set_slice_whole _ _
  rw [e]
  refine Rect.mem_set_unit.trans ?_
  rw [off37_eq i]
  constructor
  · intro h; have := h 0; simp at this; omega
  · intro h a; fin_cases a; simp; omega

variable (k2_h6 : k2_cond6 i = 1#1) in
/-- The one row more. -/
abbrev fB : Memref sig .scVector .hbm S64 .f32 := fM.slice (Rect.unit (s := S641024) (k2_off38 i) S64.size (k2_off38_inb i k2_h6)) (fun _ => rfl)

/-- The entries of a tile's last row, when it has 313. -/
theorem mem_fB (h : k2_cond6 i = 1#1) (x : S641024.Idx) :
    x ∈ (fB i h).view.set ↔ (seg (wid i) + 312) * 64 ≤ (x 0).val ∧ (x 0).val < (seg (wid i) + 313) * 64 := by
  have e : (fB i h).view.set = (Rect.unit (s := S641024) (k2_off38 i) S64.size (k2_off38_inb i h)).set := View.set_slice_whole _ _
  rw [e]
  refine Rect.mem_set_unit.trans ?_
  clear e
  rw [off38_eq i]
  clear h
  rw [show (seg (wid i) + 313) * 64 = (seg (wid i) + 312) * 64 + 64 by ring]
  generalize (seg (wid i) + 312) * 64 = q
  constructor
  · intro h; have := h 0; simp at this; omega
  · intro h a; fin_cases a
    exact h

/-- The entries of a tile's part of the maxima. -/
theorem mem_FS (x : S641024.Idx) : x ∈ FS (wid i) ↔ seg (wid i) * 64 ≤ (x 0).val ∧ (x 0).val < seg (wid i + 1) * 64 := by
  simp [FS]

/-- A tile of 312 segments writes its part by one copy. -/
theorem FS_one (h : k2_cond6 i ≠ 1#1) : FS (wid i) = (fA i).view.set := by
  have h1 := mt (cond6_iff i).mpr h
  have h2 := seg_succ (wid i)
  ext x; rw [mem_FS, mem_fA]; omega

/-- A tile of 313 segments writes its part by two. -/
theorem FS_two (h : k2_cond6 i = 1#1) : FS (wid i) = (fA i).view.set ∪ (fB i h).view.set := by
  have h1 := (cond6_iff i).mp h
  ext x; rw [Finset.mem_union, mem_FS, mem_fA, mem_fB]; omega

/-- The two copies do not meet. -/
theorem fA_fB (h : k2_cond6 i = 1#1) : Disjoint (fA i).view.set (fB i h).view.set :=
  Finset.disjoint_left.mpr fun x hx hx' => by rw [mem_fA] at hx; rw [mem_fB] at hx'; omega

/-- The words the tile copies out, read where they came from. -/
def outOf (g : S20288.Idx → F .f32) (x : S641024.Idx) : F .f32 :=
  g fun a => ⟨((x 0).val - seg (wid i) * 64) % 20288, by fin_cases a; exact Nat.mod_lt _ (by decide)⟩

/-- The rows of a finished tile are the maxima of its segments. -/
theorem outOf_ok {id : ℕ → ℕ} {y : ℕ → ℕ → F .f32} {lo hi : ℕ} (ht : InTile id (seg (wid i)) (seg (wid i + 1)) lo hi) {g : S20288.Idx → F .f32}
    (h : Final (fun x : S20288.Idx => (x 0).val) FloatOps.maximumf bot id y (seg (wid i)) lo (hi - lo) g) :
    FeatOK id y (seg (wid i)) lo (hi - lo) (outOf i g) := by
  intro k' hk hne x c hc hx
  have hm := ht.mem (lo + k') (by omega) (by omega)
  have h2 := seg_succ (wid i)
  refine h k' hk hne _ c hc ?_
  show ((x 0).val - seg (wid i) * 64) % 20288 = _
  rw [hx, Nat.mod_eq_of_lt (by omega)]
  omega

/-- What the first copy leaves, entry by entry. -/
theorem copyA (g : S20288.Idx → F .f32) (f : S641024.Idx → F .f32) (inb) (x : S641024.Idx) (hx : x ∈ (fA i).view.set) :
    (fA i).view.writes (Elt F) f [⟨Rect.whole S19968, (ReadAs.same (Val := Elt F)).apply (View.read (Elt F) (s3.slice (Rect.unit (s := S20288) ![0] S19968.size inb) (fun _ => rfl)).view g)⟩] x
      = outOf i g x := by
  obtain ⟨z, -, rfl⟩ := Finset.mem_map.mp hx
  have e := View.read_writes_cons_hit_of_coords (Val := Elt F) (fA i).view f (Rect.whole S19968)
    ((ReadAs.same (Val := Elt F)).apply (View.read (Elt F) (s3.slice (Rect.unit (s := S20288) ![0] S19968.size inb) (fun _ => rfl)).view g)) [] z z (fun a => by show _ = 0 + 1 * _; omega)
  rw [View.read_apply, cast_eq] at e
  refine e.trans ?_
  have hz : (z 0).val < 19968 := (z 0).isLt
  show g ((Rect.unit (s := S20288) ![0] S19968.size inb).emb z) = g _
  refine congrArg g ?_
  funext a; fin_cases a; apply Fin.ext
  show 0 + 1 * (z 0).val = (k2_off37 i 0 + 1 * (z 0).val - seg (wid i) * 64) % 20288
  rw [off37_eq i]
  simp
  omega

/-- What the second copy leaves, entry by entry. -/
theorem copyB (h : k2_cond6 i = 1#1) (g : S20288.Idx → F .f32) (f : S641024.Idx → F .f32) (inb) (x : S641024.Idx) (hx : x ∈ (fB i h).view.set) :
    (fB i h).view.writes (Elt F) f [⟨Rect.whole S64, (ReadAs.same (Val := Elt F)).apply (View.read (Elt F) (s3.slice (Rect.unit (s := S20288) ![19968] S64.size inb) (fun _ => rfl)).view g)⟩] x
      = outOf i g x := by
  obtain ⟨z, -, rfl⟩ := Finset.mem_map.mp hx
  have e := View.read_writes_cons_hit_of_coords (Val := Elt F) (fB i h).view f (Rect.whole S64)
    ((ReadAs.same (Val := Elt F)).apply (View.read (Elt F) (s3.slice (Rect.unit (s := S20288) ![19968] S64.size inb) (fun _ => rfl)).view g)) [] z z (fun a => by show _ = 0 + 1 * _; omega)
  rw [View.read_apply, cast_eq] at e
  refine e.trans ?_
  have hz : (z 0).val < 64 := (z 0).isLt
  show g ((Rect.unit (s := S20288) ![19968] S64.size inb).emb z) = g _
  refine congrArg g ?_
  funext a; fin_cases a; apply Fin.ext
  show 19968 + 1 * (z 0).val = (k2_off38 i 0 + 1 * (z 0).val - seg (wid i) * 64) % 20288
  rw [off38_eq i]
  simp
  omega

/-- The first copy leaves the tile's rows. -/
theorem putA (d : Dev nD) (g : S20288.Idx → F .f32) (f : S641024.Idx → F .f32) (inb) (w : S19968.Idx → F .f32)
    (hw : w = (ReadAs.same (Val := Elt F)).apply (View.read (Elt F) (s3.slice (Rect.unit (s := S20288) ![0] S19968.size inb) (fun _ => rfl)).view g)) :
    ((fA i).view.loc (tile d i) ↦[(fA i).view.set]{fullShare} (fA i).view.writes (Elt F) f
        [⟨Rect.whole (Rect.unit (s := S641024) (k2_off37 i) S19968.size (k2_off37_inb i)).shape, w⟩] : sProp 𝕄)
      ⊢ (fM.view.loc (tile d i) ↦[(fA i).view.set]{fullShare} outOf i g) :=
  BIBase.Entails.of_eq (pointsTo_congr fun x hx => by rw [hw]; exact copyA i g f inb x hx)

/-- The second copy leaves the tile's last row. -/
theorem putB (d : Dev nD) (h : k2_cond6 i = 1#1) (g : S20288.Idx → F .f32) (f : S641024.Idx → F .f32) (inb) (w : S64.Idx → F .f32)
    (hw : w = (ReadAs.same (Val := Elt F)).apply (View.read (Elt F) (s3.slice (Rect.unit (s := S20288) ![19968] S64.size inb) (fun _ => rfl)).view g)) :
    ((fB i h).view.loc (tile d i) ↦[(fB i h).view.set]{fullShare} (fB i h).view.writes (Elt F) f
        [⟨Rect.whole (Rect.unit (s := S641024) (k2_off38 i) S64.size (k2_off38_inb i h)).shape, w⟩] : sProp 𝕄)
      ⊢ (fM.view.loc (tile d i) ↦[(fB i h).view.set]{fullShare} outOf i g) :=
  BIBase.Entails.of_eq (pointsTo_congr fun x hx => by rw [hw]; exact copyB i h g f inb x hx)

/-- Word `k` of the copied boundaries, extracted from the sixteen words loaded at it. -/
theorem b_read (off : Fin 1 → ℕ) (inb) (f0 : S56.Idx → BitVec 32) (B : S40.Idx → BitVec 32) (n k : ℕ) (hk : k < 40) (hoff : off = ![k])
    (hB : ∀ z : S40.Idx, (z 0).val = k → IsInt (B z) n) (h1 : S16.ShapeCasts S16) (h2 : S16.Slices ![0] S1) (h3 : ∀ a, (![0] : Fin 1 → ℕ) a < S1.size a) :
    IsInt (extractAt ![0] (extractStridedSlice S1 ![0] (shapeCast S16 (View.readAt (Elt F) s0.view (Rect.unit (s := S56) off S16.size inb).toLoadRect
      (s0.view.writes (Elt F) f0 [⟨Rect.unit (s := S56) ![0] S40.size inb_S56_S40_0, (ReadAs.same (Val := Elt F)).apply (View.read (Elt F) bM.view B)⟩])) h1) h2) h3) n := by
  refine Eq.subst (motive := fun v => IsInt v n) ?_ (hB (fun a => ⟨k, by fin_cases a; exact hk⟩) rfl)
  symm
  refine (congrFun (shapeCast_self (s := S16) _ h1) _).trans ?_
  rw [View.readAt_apply, View.read_whole]
  refine (View.read_writes_cons_hit_of_coords (Val := Elt F) s0.view f0 (Rect.unit (s := S56) ![0] S40.size inb_S56_S40_0) _ _ (fun a => ⟨k, by fin_cases a; exact hk⟩ : S40.Idx) _ ?_).trans rfl
  intro a; fin_cases a; simp [hoff, LoadRect.idx_apply]

/-- The first SparseCore call on one tile: from its shares of the arrays to the maxima of its segments. -/
theorem body_wp {lo hi : ℕ} {id : ℕ → ℕ} (y : ℕ → ℕ → F .f32)
    (ht : InTile id (seg (wid i)) (seg (wid i + 1)) lo hi)
    (qy qi qb : PosShare TreeShare) (Y : S320512x64.Idx → F .f32) (I : S320520.Idx → BitVec 32) (B : S40.Idx → BitVec 32)
    (hY : ∀ z : S320512x64.Idx, Y z = y (z 0).val (z 1).val) (hI : ∀ z : S320520.Idx, IsInt (I z) (id (z 0).val))
    (hlo : ∀ z : S40.Idx, (z 0).val = wid i → IsInt (B z) lo) (hhi : ∀ z : S40.Idx, (z 0).val = wid i + 1 → IsInt (B z) hi)
    (O : CellTallies nD τ sig (HIx 2)) (W : Waits sig (HIx 2)) (f : S641024.Idx → F .f32) :
    (iprop(Transfers.MayWaits (tile d i) (none : HIx 2) O
        ∗ (yM.view.loc (tile d i) ↦[Finset.univ]{qy} Y) ∗ (iM.view.loc (tile d i) ↦[Finset.univ]{qi} I)
        ∗ (bM.view.loc (tile d i) ↦[Finset.univ]{qb} B) ∗ (fM.view.loc (tile d i) ↦[FS (wid i)]{fullShare} f)
        ∗ (∃ f0, s0.view.loc (tile d i) ↦[Finset.univ]{fullShare} f0) ∗ (∃ f1, s1.view.loc (tile d i) ↦[Finset.univ]{fullShare} f1)
        ∗ (∃ f2, s2.view.loc (tile d i) ↦[Finset.univ]{fullShare} f2) ∗ (∃ f3, s3.view.loc (tile d i) ↦[Finset.univ]{fullShare} f3)
        ∗ semVal (tile d i, SemLoc.dma cc2_scoped0.sem) 0 ∗ semVal (tile d i, SemLoc.dma cc2_scoped1.sem) 0
        ∗ semVal (tile d i, SemLoc.dma cc2_scoped2.sem) 0 ∗ semVal (tile d i, SemLoc.dma cc2_scoped5.sem) 0
        ∗ semVal (tile d i, SemLoc.dma cc2_scoped6.sem) 0 ∗ owes (tile d i) O W) : sProp 𝕄)
      ⊢ wp frame (wpE (defs₀ (F := F)) Variants.none (tile d i) none) Set.univ
          (cc2__sc1_body i yM (Memref.isWhole_whole _) iM (Memref.isWhole_whole _) bM (Memref.isWhole_whole _) fM (Memref.isWhole_whole _)
            s0 (Memref.isWhole_whole _) s1 (Memref.isWhole_whole _) s2 (Memref.isWhole_whole _) s3 (Memref.isWhole_whole _)
            cc2_scoped0 cc2_scoped1 cc2_scoped2 cc2_scoped3 cc2_scoped4 cc2_scoped5 cc2_scoped6) fun _ =>
        iprop((yM.view.loc (tile d i) ↦[Finset.univ]{qy} Y) ∗ (iM.view.loc (tile d i) ↦[Finset.univ]{qi} I)
        ∗ (bM.view.loc (tile d i) ↦[Finset.univ]{qb} B)
        ∗ (∃ f', ⌜FeatOK id y (seg (wid i)) lo (hi - lo) f'⌝ ∗ (fM.view.loc (tile d i) ↦[FS (wid i)]{fullShare} f'))
        ∗ (∃ f0, s0.view.loc (tile d i) ↦[Finset.univ]{fullShare} f0) ∗ (∃ f1, s1.view.loc (tile d i) ↦[Finset.univ]{fullShare} f1)
        ∗ (∃ f2, s2.view.loc (tile d i) ↦[Finset.univ]{fullShare} f2) ∗ (∃ f3, s3.view.loc (tile d i) ↦[Finset.univ]{fullShare} f3)
        ∗ semVal (tile d i, SemLoc.dma cc2_scoped0.sem) 0 ∗ semVal (tile d i, SemLoc.dma cc2_scoped1.sem) 0
        ∗ semVal (tile d i, SemLoc.dma cc2_scoped2.sem) 0 ∗ semVal (tile d i, SemLoc.dma cc2_scoped5.sem) 0
        ∗ semVal (tile d i, SemLoc.dma cc2_scoped6.sem) 0 ∗ ∃ W', ⌜∀ p ∈ W', p ∈ W ∨ p.2 = none⌝ ∗ owes (tile d i) O W') := by
  rw [cc2__sc1_body_eq_skeleton]; unfold cc2__sc1_body_skel
  iintro ⟨Hmw, HY, HI, HB, HF, ⟨%f0, H0⟩, ⟨%f1, H1⟩, ⟨%f2, H2⟩, ⟨%f3, H3⟩, Hs0, Hs1, Hs2, Hs5, Hs6, HO⟩
  have hhi' := ht.hi_le
  have hle := ht.le
  sl_exec
  have h6 : IsInt (body_wp.sl.v6 d i B f0) lo :=
    b_read (F := F) _ (k2_off1_inb i) f0 B lo (wid i) (by have := wid_lt i; omega) (off1_eq i) hlo _ _ _
  have h12 : IsInt (body_wp.sl.v12 d i B f0) hi :=
    b_read (F := F) _ (k2_off2_inb i) f0 B hi (wid i + 1) (by have := wid_lt i; omega) (off2_eq i) hhi _ _ _
  have hchk1 := chk1 h6 h12 hle hhi'
  by_cases hc1 : k2_cond1 (body_wp.sl.v6 d i B f0) (body_wp.sl.v12 d i B f0) = 1#1
  · sl_exec
    sl_for (fun t c => iprop(∃ f9, ⌜St id y (seg (wid i)) lo (min (512 * t) (hi - lo)) c f9⌝ ∗ Env d i qy qi Y I O W
        ∗ (s3.view.loc (tile d i) ↦[Finset.univ]{fullShare} f9))) $$ [Hmw HY HI H1 H2 H3 Hs1 Hs2 HO]
    case region =>
      intro t c
      iintro ⟨%f9, %hst, HE, H3⟩
      have hrow := row_lt h6 h12 hle hhi' t
      rw [show min (512 * t.val) (hi - lo) = 512 * t.val by omega] at hst
      iapply (chunk_wp d i h6 h12 y ht hchk1 hc1 _ _ _ _ _ t qy qi Y I hY hI O W f9 c hst _)
      isplitl [HE]; · iexact HE
      isplitl [H3]; · iexact H3
      iintro %c' %f9' %hst' ⟨HE, H3⟩
      iexists f9'
      isplitr; · ipureintro; exact hst'
      isplitl [HE]; · iexact HE
      iexact H3
    · iexists f3
      isplitr
      · ipureintro
        exact { m0 := fun _ => rfl, m1 := fun _ => rfl, m2 := fun _ => rfl, m3 := fun _ => rfl
                pr := by
                  rw [Nat.mul_zero, Nat.zero_min]; exact segW_isInt i
                dn := by
                  rw [Nat.mul_zero, Nat.zero_min]; intro k' hk; exact absurd hk (by omega) }
      unfold Env
      isplitr [H3]
      · isplitl [Hmw]; · iexact Hmw
        isplitl [HY]; · iexact HY
        isplitl [HI]; · iexact HI
        isplitl [H1]; · iexists _; iexact H1
        isplitl [H2]; · iexists _; iexact H2
        isplitl [Hs1]; · iexact Hs1
        isplitl [Hs2]; · iexact Hs2
        iexists (insert (SemLoc.dma cc2_scoped0.sem, (default : HIx 2)) W); isplitr
        · ipureintro
          intro p hp
          rcases Finset.mem_insert.mp hp with hp | hp
          · exact .inr (hp ▸ rfl)
          · exact .inl hp
        · iexact HO
      · iexact H3
    iintro %c ⟨%f9, %hst, HE, H3⟩
    obtain ⟨c0, c1, c2, c3, p⟩ := c
    unfold Env
    icases HE with ⟨Hmw, HY, HI, ⟨%f7, H1⟩, ⟨%f8, H2⟩, Hs1, Hs2, %W', %hW', HO⟩
    have htt := t1_trips h6 h12 hle hhi'
    have hlt := (cond1_iff h6 h12 hle hhi').mp hc1
    rw [show Scf.trips (k2_t1_loop (body_wp.sl.v6 d i B f0) (body_wp.sl.v12 d i B f0)).lb (k2_t1_loop (body_wp.sl.v6 d i B f0) (body_wp.sl.v12 d i B f0)).ub
      (k2_t1_loop (body_wp.sl.v6 d i B f0) (body_wp.sl.v12 d i B f0)).st = (hi - lo + 511) / 512 from htt,
      show min (512 * ((hi - lo + 511) / 512)) (hi - lo) = hi - lo by omega] at hst
    obtain ⟨k, hk⟩ : ∃ k, hi - lo = k + 1 := ⟨hi - lo - 1, by omega⟩
    have hpr : prev id (seg (wid i)) lo (hi - lo) = id (lo + k) := by rw [hk]; rfl
    have hm := ht.mem (lo + k) (by omega) (by omega)
    have hse := seg_le (wid_lt i)
    have hp : IsInt p (id (lo + k)) := hpr ▸ hst.pr
    have hchk6 : k2_chk6 i (body_wp.sl.v6 d i B f0) (body_wp.sl.v12 d i B f0) p := chk6 i _ _ hp hm.1 hm.2
    have hfin : ∀ hchk, Cert.Runs.Final (fun x : S20288.Idx => (x 0).val) FloatOps.maximumf bot id y (seg (wid i)) lo (hi - lo)
        (s3.view.writes (Elt F) f9 [⟨Rect.unit (s := S20288) (k2_off36 i p 48#32) S16.size (k2_off36_inb i _ _ p hchk hc1 2), k2_pay40 c3⟩,
          ⟨Rect.unit (s := S20288) (k2_off36 i p 32#32) S16.size (k2_off36_inb i _ _ p hchk hc1 1), k2_pay39 c2⟩,
          ⟨Rect.unit (s := S20288) (k2_off36 i p 16#32) S16.size (k2_off36_inb i _ _ p hchk hc1 0), k2_pay38 c1⟩,
          ⟨Rect.unit (s := S20288) (k2_off35 i p) S16.size (k2_off35_inb i _ _ p hchk hc1), k2_pay37 c0⟩]) := by
      intro hchk
      have hs := slot_write (id (lo + k) - seg (wid i)) f9 _ _ _ _ (k2_off35_inb i _ _ p hchk hc1) (k2_off36_inb i _ _ p hchk hc1 0) (k2_off36_inb i _ _ p hchk hc1 1) (k2_off36_inb i _ _ p hchk hc1 2) (off35_eq i hp hm.1 (by omega)) (off36_eq i hp hm.1 (by omega) _ (by omega)) (off36_eq i hp hm.1 (by omega) _ (by omega)) (off36_eq i hp hm.1 (by omega) _ (by omega)) (k2_pay37 c0) (k2_pay38 c1) (k2_pay39 c2) (k2_pay40 c3)
      refine Final.of_store ht (by omega) hst.dn ?_ ?_
      · rw [hpr]
        intro x c hc hx
        exact hs.1 (fun c => runK id y (seg (wid i)) lo c (hi - lo)) (fun l => (congrFun (shapeCast_self (s := S16) c0 _) l).trans (hst.m0 l))
          (fun l => (congrFun (shapeCast_self (s := S16) c1 _) l).trans (hst.m1 l)) (fun l => (congrFun (shapeCast_self (s := S16) c2 _) l).trans (hst.m2 l))
          (fun l => (congrFun (shapeCast_self (s := S16) c3 _) l).trans (hst.m3 l)) x c hc hx
      · rw [hpr]; exact hs.2
    by_cases hc6 : k2_cond6 i = 1#1
    · ihave HF := (BIBase.Entails.of_eq (congrArg (fun S => (fM.view.loc (tile d i) ↦[S]{fullShare} f : sProp 𝕄)) (FS_two i hc6))) $$ HF
      ihave HF := (pointsTo_union (fA_fB i hc6)).1 $$ HF
      icases HF with ⟨HA, HB'⟩
      have eA : (fM.view.loc (tile d i) ↦[(fA i).view.set]{fullShare} f : sProp 𝕄) ⊢ ((fM.slice (Rect.unit (s := S641024) (k2_off37 i) S19968.size (k2_off37_inb i)) (fun _ => rfl)).view.loc (tile d i) ↦[(fM.slice (Rect.unit (s := S641024) (k2_off37 i) S19968.size (k2_off37_inb i)) (fun _ => rfl)).view.set]{fullShare} f) := .rfl
      have eB : (fM.view.loc (tile d i) ↦[(fB i hc6).view.set]{fullShare} f : sProp 𝕄) ⊢ ((fM.slice (Rect.unit (s := S641024) (k2_off38 i) S64.size (k2_off38_inb i hc6)) (fun _ => rfl)).view.loc (tile d i) ↦[(fM.slice (Rect.unit (s := S641024) (k2_off38 i) S64.size (k2_off38_inb i hc6)) (fun _ => rfl)).view.set]{fullShare} f) := .rfl
      ihave HA := eA $$ HA
      ihave HB' := eB $$ HB'
      sl_exec
      sl_step
      ihave HA := (putA i d (s3.view.writes (Elt F) f9 (body_wp.sl.H3_4 d i B f0 hc1 c0 c1 c2 c3 p hchk6)) f inb_S20288_S19968_0 (body_wp.sl.dma8 d i B f0 hc1 f9 c0 c1 c2 c3 p hchk6) rfl) $$ HA
      ihave HB' := (putB i d hc6 (s3.view.writes (Elt F) f9 (body_wp.sl.H3_4 d i B f0 hc1 c0 c1 c2 c3 p hchk6)) f inb_S20288_S64_19968 (body_wp.sl.dma8_1 d i B f0 hc1 f9 c0 c1 c2 c3 p hchk6) rfl) $$ HB'
      have e2 : iprop((fM.view.loc (tile d i) ↦[(fA i).view.set]{fullShare} (outOf i (s3.view.writes (Elt F) f9 (body_wp.sl.H3_4 d i B f0 hc1 c0 c1 c2 c3 p hchk6)))) ∗ (fM.view.loc (tile d i) ↦[(fB i hc6).view.set]{fullShare} (outOf i (s3.view.writes (Elt F) f9 (body_wp.sl.H3_4 d i B f0 hc1 c0 c1 c2 c3 p hchk6))))) ⊢ (fM.view.loc (tile d i) ↦[FS (wid i)]{fullShare} (outOf i (s3.view.writes (Elt F) f9 (body_wp.sl.H3_4 d i B f0 hc1 c0 c1 c2 c3 p hchk6))) : sProp 𝕄) := by
        rw [FS_two i hc6]; exact (pointsTo_union (fA_fB i hc6)).2
      isplitl [HY]; · iexact HY
      isplitl [HI]; · iexact HI
      isplitl [HB]; · iexact HB
      isplitl [HA HB']
      · iexists (outOf i (s3.view.writes (Elt F) f9 (body_wp.sl.H3_4 d i B f0 hc1 c0 c1 c2 c3 p hchk6)))
        isplitr
        · ipureintro; exact outOf_ok i ht (hfin hchk6)
        · iapply e2; isplitl [HA]; · iexact HA
          iexact HB'
      isplitl [H0]; · iexists _; iexact H0
      isplitl [H1]; · iexists _; iexact H1
      isplitl [H2]; · iexists _; iexact H2
      isplitl [H3]; · iexists _; iexact H3
      isplitl [Hs0]; · iexact Hs0
      isplitl [Hs1]; · iexact Hs1
      isplitl [Hs2]; · iexact Hs2
      isplitl [Hs5]; · iexact Hs5
      isplitl [Hs6]; · iexact Hs6
      iexists (insert (SemLoc.dma cc2_scoped6.sem, (default : HIx 2)) (insert (SemLoc.dma cc2_scoped5.sem, (default : HIx 2)) W')); isplitr
      · ipureintro
        intro p hp
        rcases Finset.mem_insert.mp hp with hp | hp
        · exact .inr (hp ▸ rfl)
        rcases Finset.mem_insert.mp hp with hp | hp
        · exact .inr (hp ▸ rfl)
        · exact hW' p hp
      · iexact HO
    · have eA : (fM.view.loc (tile d i) ↦[FS (wid i)]{fullShare} f : sProp 𝕄) ⊢ ((fM.slice (Rect.unit (s := S641024) (k2_off37 i) S19968.size (k2_off37_inb i)) (fun _ => rfl)).view.loc (tile d i) ↦[(fM.slice (Rect.unit (s := S641024) (k2_off37 i) S19968.size (k2_off37_inb i)) (fun _ => rfl)).view.set]{fullShare} f) := by
        rw [FS_one i hc6]
      ihave HA := eA $$ HF
      sl_exec
      sl_step
      ihave HA := (putA i d (s3.view.writes (Elt F) f9 (body_wp.sl.H3_4 d i B f0 hc1 c0 c1 c2 c3 p hchk6)) f inb_S20288_S19968_0 (body_wp.sl.dma8_2 d i B f0 hc1 f9 c0 c1 c2 c3 p hchk6) rfl) $$ HA
      have e2 : (fM.view.loc (tile d i) ↦[(fA i).view.set]{fullShare} (outOf i (s3.view.writes (Elt F) f9 (body_wp.sl.H3_4 d i B f0 hc1 c0 c1 c2 c3 p hchk6)))) ⊢ (fM.view.loc (tile d i) ↦[FS (wid i)]{fullShare} (outOf i (s3.view.writes (Elt F) f9 (body_wp.sl.H3_4 d i B f0 hc1 c0 c1 c2 c3 p hchk6))) : sProp 𝕄) := by
        rw [FS_one i hc6]
      isplitl [HY]; · iexact HY
      isplitl [HI]; · iexact HI
      isplitl [HB]; · iexact HB
      isplitl [HA]
      · iexists (outOf i (s3.view.writes (Elt F) f9 (body_wp.sl.H3_4 d i B f0 hc1 c0 c1 c2 c3 p hchk6)))
        isplitr
        · ipureintro; exact outOf_ok i ht (hfin hchk6)
        · iapply e2; iexact HA
      isplitl [H0]; · iexists _; iexact H0
      isplitl [H1]; · iexists _; iexact H1
      isplitl [H2]; · iexists _; iexact H2
      isplitl [H3]; · iexists _; iexact H3
      isplitl [Hs0]; · iexact Hs0
      isplitl [Hs1]; · iexact Hs1
      isplitl [Hs2]; · iexact Hs2
      isplitl [Hs5]; · iexact Hs5
      isplitl [Hs6]; · iexact Hs6
      iexists (insert (SemLoc.dma cc2_scoped5.sem, (default : HIx 2)) W'); isplitr
      · ipureintro
        intro p hp
        rcases Finset.mem_insert.mp hp with hp | hp
        · exact .inr (hp ▸ rfl)
        · exact hW' p hp
      · iexact HO
  · sl_exec
    sl_step
    have hn : hi - lo = 0 := by
      have := mt (cond1_iff h6 h12 hle hhi').mpr hc1
      omega
    isplitl [HY]; · iexact HY
    isplitl [HI]; · iexact HI
    isplitl [HB]; · iexact HB
    isplitl [HF]
    · iexists f
      isplitr
      · ipureintro; intro k' hk'; omega
      · iexact HF
    isplitl [H0]; · iexists _; iexact H0
    isplitl [H1]; · iexists _; iexact H1
    isplitl [H2]; · iexists _; iexact H2
    isplitl [H3]; · iexists _; iexact H3
    isplitl [Hs0]; · iexact Hs0
    isplitl [Hs1]; · iexact Hs1
    isplitl [Hs2]; · iexact Hs2
    isplitl [Hs5]; · iexact Hs5
    isplitl [Hs6]; · iexact Hs6
    iexists (insert (SemLoc.dma cc2_scoped0.sem, (default : HIx 2)) W); isplitr
    · ipureintro
      intro p hp
      rcases Finset.mem_insert.mp hp with hp | hp
      · exact .inr (hp ▸ rfl)
      · exact .inl hp
    · iexact HO

end Body
end Cert.KernelIdeal.Sc1
-- ==== Proof.Arith2.lean ====
module

public import proofs.«01_k».proof.Proof.Arith1

/-! The integer arithmetic of the second SparseCore call: its loop bounds, its offsets, and the binary pieces in which the
last block of a tile is copied out. -/

@[expose] public section

namespace Cert.KernelIdeal.Sc2

open Idealize.ShloMosaic Idealize.ShloMosaic.Affine Cert.Words
open Cert.KernelIdeal.Sc1 (wid wid_lt seg seg_succ seg_le widW widW_isInt segW segW_isInt n_isInt iv_isInt cond_iff)

/-- The tile's lower bound is read at its number. -/
theorem off1_eq (i : grid3.Coords) : k3_off1 i = ![wid i] :=
  Affine.vec_cons (widW_isInt i) rfl Affine.vec_nil

/-- The tile's upper bound is read one further. -/
theorem off2_eq (i : grid3.Coords) : k3_off2 i = ![wid i + 1] := by
  have h := wid_lt i
  exact Affine.vec_cons (Affine.addi (widW_isInt i) (lit 1 (by decide)) ⟨rfl, by push_cast; omega, by push_cast; omega⟩)
    (by push_cast; rfl) Affine.vec_nil

/-- Where the tile's slab of the segment array starts. -/
theorem off3_eq (i : grid3.Coords) : k3_off3 i = ![seg (wid i) * 64] := by
  have h := wid_lt i
  have h2 := seg_le h
  have h3 := seg_succ (wid i)
  exact Affine.vec_cons (Affine.muli (segW_isInt i) (lit 64 (by decide)) ⟨rfl, by push_cast; omega, by push_cast; omega⟩)
    (by push_cast; rfl) Affine.vec_nil

/-- Whether a word below 256 has the bit `k`. -/
theorem bit128 : ∀ r : Fin 256, Scalar.cmpi .ne (Scalar.andi (BitVec.ofNat 32 r.val) 128#32) 0#32 = 1#1 ↔ r.val / 128 % 2 = 1 := by decide

/-- The word's bit of weight 64. -/
theorem bit64 : ∀ r : Fin 256, Scalar.cmpi .ne (Scalar.andi (BitVec.ofNat 32 r.val) 64#32) 0#32 = 1#1 ↔ r.val / 64 % 2 = 1 := by decide

/-- The word's bit of weight 32. -/
theorem bit32 : ∀ r : Fin 256, Scalar.cmpi .ne (Scalar.andi (BitVec.ofNat 32 r.val) 32#32) 0#32 = 1#1 ↔ r.val / 32 % 2 = 1 := by decide

/-- The word's bit of weight 16. -/
theorem bit16 : ∀ r : Fin 256, Scalar.cmpi .ne (Scalar.andi (BitVec.ofNat 32 r.val) 16#32) 0#32 = 1#1 ↔ r.val / 16 % 2 = 1 := by decide

/-- The word's bit of weight 8. -/
theorem bit8 : ∀ r : Fin 256, Scalar.cmpi .ne (Scalar.andi (BitVec.ofNat 32 r.val) 8#32) 0#32 = 1#1 ↔ r.val / 8 % 2 = 1 := by decide

/-- The words whose bit is tested are small. -/
theorem word_eq {x : BitVec 32} {r : ℕ} (h : IsInt x r) : x = BitVec.ofNat 32 r := by
  have := toNat_eq h
  rw [← this, BitVec.ofNat_toNat, BitVec.setWidth_eq]

/-- The rows copied by the pieces before the piece of `k` rows: the rows left, rounded down to a multiple of `2 k`. -/
def pos (k r : ℕ) : ℕ := r / (2 * k) * (2 * k)

/-- The kernel's running count of copied rows, one piece on. -/
def nextW (x p k : BitVec 32) : BitVec 32 := Scalar.addi p (Scalar.select (Scalar.cmpi .ne (Scalar.andi x k) 0#32) k 0#32)

/-- The place after a piece of the last block: further by the piece if it is copied. -/
theorem nextW_isInt {x p : BitVec 32} {r : ℕ} (k : ℕ) (hk : k < 256) (hr : r < 256)
    (hb : Scalar.cmpi .ne (Scalar.andi x (BitVec.ofNat 32 k)) 0#32 = 1#1 ↔ r / k % 2 = 1)
    (hp : IsInt p ((pos k r : ℕ) : ℤ)) : IsInt (nextW x p (BitVec.ofNat 32 k)) ((r / k * k : ℕ) : ℤ) := by
  have e : pos k r = r / k / 2 * 2 * k := by unfold pos; rw [mul_comm 2 k, ← Nat.div_div_eq_div_mul, Nat.mul_assoc, Nat.mul_comm k 2]
  have hle : r / k * k ≤ r := Nat.div_mul_le_self r k
  have hle' : pos k r ≤ r := by rw [e]; exact le_trans (Nat.mul_le_mul_right k (Nat.div_mul_le_self _ 2)) hle
  by_cases h : r / k % 2 = 1
  · have e2 : r / k * k = pos k r + k := by
      rw [e]
      have : r / k = r / k / 2 * 2 + 1 := by omega
      calc r / k * k = (r / k / 2 * 2 + 1) * k := by rw [← this]
        _ = _ := by rw [Nat.add_mul, Nat.one_mul]
    refine Affine.addi hp (Affine.select_holds (hb.mpr h) (lit k (by omega)) (lit 0 (by omega)) rfl) ⟨?_, ?_, ?_⟩ <;> push_cast [e2] <;> omega
  · have e2 : r / k * k = pos k r := by
      rw [e]
      have : r / k = r / k / 2 * 2 := by omega
      rw [← this]
    refine Affine.addi hp (Affine.select_fails (fun h' => h (hb.mp h')) (lit k (by omega)) (lit 0 (by omega)) rfl) ⟨?_, ?_, ?_⟩ <;> push_cast [e2] <;> omega

section Rows
variable {v6 v12 : BitVec 32} {lo hi : ℕ}

/-- The tile works exactly when it has a row. -/
theorem cond1_iff (h6 : IsInt v6 lo) (h12 : IsInt v12 hi) (hle : lo ≤ hi) (hhi : hi ≤ 320000) :
    k3_cond1 v6 v12 = 1#1 ↔ lo < hi := Sc1.cond1_iff h6 h12 hle hhi

/-- The number of blocks of 256 rows, as the kernel computes it. -/
def chunksW (v6 v12 : BitVec 32) : BitVec 32 :=
  fdiv (Scalar.subi (Scalar.addi (Scalar.subi v12 v6) 256#32) 1#32) 256#32

/-- The number of the tile's blocks of 256 points, as a word. -/
theorem chunksW_isInt (h6 : IsInt v6 lo) (h12 : IsInt v12 hi) (hle : lo ≤ hi) (hhi : hi ≤ 320000) :
    IsInt (chunksW v6 v12) (((hi - lo + 255) / 256 : ℕ) : ℤ) := by
  have := fdiv_isInt (Affine.subi (Affine.addi (n_isInt h6 h12 hle hhi) (lit 256 (by decide)) ⟨rfl, by push_cast; omega, by push_cast; omega⟩)
    (lit 1 (by decide)) ⟨rfl, by push_cast; omega, by push_cast; omega⟩) (lit 256 (by decide)) (by push_cast; omega) (by decide)
  refine Affine.relit this ?_
  push_cast; omega

/-- The loop over the blocks, with its bounds. -/
theorem t1_loop_eq (v6 v12 : BitVec 32) : k3_t1_loop v6 v12 = ⟨0#32, chunksW v6 v12, 1#32⟩ := by
  have e : k3_t1_loop v6 v12 = ⟨0#32, Scalar.addi 0#32 (Scalar.muli (Scalar.divsi (Scalar.subi (chunksW v6 v12) 0#32) 1#32) 1#32), 1#32⟩ := rfl
  rw [e, bound_eq]

/-- The loop over the blocks goes around once a block. -/
theorem t1_trips (h6 : IsInt v6 lo) (h12 : IsInt v12 hi) (hle : lo ≤ hi) (hhi : hi ≤ 320000) :
    (k3_t1_loop v6 v12).trips = (hi - lo + 255) / 256 := by
  rw [t1_loop_eq]
  exact loop_trips (chunksW_isInt h6 h12 hle hhi)

/-- The loop over the blocks has bounds that a loop can have. -/
theorem t1_ok (h6 : IsInt v6 lo) (h12 : IsInt v12 hi) (hle : lo ≤ hi) (hhi : hi ≤ 320000) : (k3_t1_loop v6 v12).OK := by
  rw [t1_loop_eq]
  exact loop_ok (chunksW_isInt h6 h12 hle hhi) (by omega)

/-- The first row of block `t`, as the kernel computes it. -/
def rowW (v6 : BitVec 32) (t : ℕ) : BitVec 32 := Scalar.addi v6 (Scalar.muli (Scf.iv 0#32 1#32 t) 256#32)

/-- The first point of a block, as a word. -/
theorem rowW_isInt (h6 : IsInt v6 lo) {t : ℕ} (ht : lo + 256 * t ≤ 320000) : IsInt (rowW v6 t) ((lo + 256 * t : ℕ) : ℤ) :=
  Affine.addi h6 (Affine.muli (iv_isInt t (by omega)) (lit 256 (by decide)) ⟨rfl, by push_cast; omega, by push_cast; omega⟩)
    ⟨by push_cast; omega, by push_cast; omega, by push_cast; omega⟩

/-- Each block has a point. -/
theorem row_lt (h6 : IsInt v6 lo) (h12 : IsInt v12 hi) (hle : lo ≤ hi) (hhi : hi ≤ 320000)
    (t : Fin (k3_t1_loop v6 v12).trips) : lo + 256 * t.val < hi := by
  have h := t.isLt.trans_eq (t1_trips h6 h12 hle hhi)
  omega

/-- The rows of block `t`. -/
def rest (lo hi t : ℕ) : ℕ := min 256 (hi - lo - 256 * t)

/-- The same as the kernel counts them. -/
def restW (v6 v12 : BitVec 32) (t : ℕ) : BitVec 32 :=
  Scalar.minsi 256#32 (Scalar.subi (Scalar.subi v12 v6) (Scalar.muli (Scf.iv 0#32 1#32 t) 256#32))

/-- The number of a block's points, as a word. -/
theorem restW_isInt (h6 : IsInt v6 lo) (h12 : IsInt v12 hi) (hle : lo ≤ hi) (hhi : hi ≤ 320000)
    {t : ℕ} (ht : lo + 256 * t < hi) : IsInt (restW v6 v12 t) ((rest lo hi t : ℕ) : ℤ) :=
  Affine.minsi (lit 256 (by decide)) (Affine.subi (n_isInt h6 h12 hle hhi)
    (Affine.muli (iv_isInt t (by omega)) (lit 256 (by decide)) ⟨rfl, by push_cast; omega, by push_cast; omega⟩)
      ⟨rfl, by push_cast; omega, by push_cast; omega⟩) (by unfold rest; push_cast; omega)

/-- The loop over a block's points, with its bounds. -/
theorem t2_loop_eq (v6 v12 : BitVec 32) (t : Fin (k3_t1_loop v6 v12).trips) :
    k3_t2_loop v6 v12 t = ⟨0#32, restW v6 v12 t.val, 1#32⟩ := by
  have e : k3_t2_loop v6 v12 t = ⟨0#32, Scalar.addi 0#32 (Scalar.muli (Scalar.divsi (Scalar.subi (restW v6 v12 t.val) 0#32) 1#32) 1#32), 1#32⟩ := rfl
  rw [e, bound_eq]

/-- The remainder of the loop over a block goes around no time. -/
theorem t3_none (v6 v12 : BitVec 32) (t : Fin (k3_t1_loop v6 v12).trips) : (k3_t3_loop v6 v12 t).trips = 0 :=
  Scf.rem_trips 0#32 (Scalar.subi (restW v6 v12 t.val) 0#32)

/-- The remainder of the loop over the blocks goes around no time. -/
theorem t4_none (v6 v12 : BitVec 32) : (k3_t4_loop v6 v12).trips = 0 :=
  Scf.rem_trips 0#32 (Scalar.subi (chunksW v6 v12) 0#32)

/-- The remainder of the loop over a block has bounds that a loop can have. -/
theorem t3_ok (v6 v12 : BitVec 32) (t : Fin (k3_t1_loop v6 v12).trips) : (k3_t3_loop v6 v12 t).OK :=
  Scf.rem_ok 0#32 (Scalar.subi (restW v6 v12 t.val) 0#32)

/-- The remainder of the loop over the blocks has bounds that a loop can have. -/
theorem t4_ok (v6 v12 : BitVec 32) : (k3_t4_loop v6 v12).OK :=
  Scf.rem_ok 0#32 (Scalar.subi (chunksW v6 v12) 0#32)

section
variable (h6 : IsInt v6 lo) (h12 : IsInt v12 hi) (hle : lo ≤ hi) (hhi : hi ≤ 320000) (t : Fin (k3_t1_loop v6 v12).trips)
include h6 h12 hle hhi

/-- A block's rows are fetched from its first point. -/
theorem off4_eq : k3_off4 v6 v12 t = ![lo + 256 * t.val, 0] := by
  have := row_lt h6 h12 hle hhi t
  exact Affine.vec_cons (rowW_isInt h6 (t := t.val) (by omega)) rfl rfl

/-- A block's segment numbers are fetched from its first point. -/
theorem off5_eq : k3_off5 v6 v12 t = ![lo + 256 * t.val] := by
  have := row_lt h6 h12 hle hhi t
  exact Affine.vec_cons (rowW_isInt h6 (t := t.val) (by omega)) rfl rfl

/-- A full block goes to the result from its first point. -/
theorem off46_eq : k3_off46 v6 v12 t = ![lo + 256 * t.val, 0] := by
  have := row_lt h6 h12 hle hhi t
  exact Affine.vec_cons (rowW_isInt h6 (t := t.val) (by omega)) rfl rfl

/-- The loop over a block goes around once a point. -/
theorem t2_trips : (k3_t2_loop v6 v12 t).trips = rest lo hi t.val := by
  rw [t2_loop_eq]
  exact loop_trips (restW_isInt h6 h12 hle hhi (row_lt h6 h12 hle hhi t))

/-- The loop over a block has bounds that a loop can have. -/
theorem t2_ok : (k3_t2_loop v6 v12 t).OK := by
  rw [t2_loop_eq]
  exact loop_ok (restW_isInt h6 h12 hle hhi (row_lt h6 h12 hle hhi t)) (by unfold rest; omega)

/-- The first way out is taken by a full block. -/
theorem cond6_iff : k3_cond6 v6 v12 t = 1#1 ↔ rest lo hi t.val = 256 := by
  have hr := restW_isInt h6 h12 hle hhi (row_lt h6 h12 hle hhi t)
  have e : k3_cond6 v6 v12 t = Scalar.cmpi .ne (Scalar.extui (Scalar.cmpi .eq (restW v6 v12 t.val) 256#32)) 0#32 := rfl
  rw [e, cond_iff]
  constructor
  · intro hc; by_contra hn
    exact Affine.eq_fails hr (lit 256 (by decide)) (by push_cast; omega) hc
  · intro hn
    exact Affine.eq_holds hr (lit 256 (by decide)) (by push_cast; omega)

/-- The second way out is taken by a block that is not full. -/
theorem cond7_iff : k3_cond7 v6 v12 t = 1#1 ↔ rest lo hi t.val < 256 := by
  have hr := restW_isInt h6 h12 hle hhi (row_lt h6 h12 hle hhi t)
  have e : k3_cond7 v6 v12 t = Scalar.cmpi .ne (Scalar.extui (Scalar.cmpi .slt (restW v6 v12 t.val) 256#32)) 0#32 := rfl
  rw [e, cond_iff]
  constructor
  · intro hc; by_contra hn
    exact Affine.slt_fails hr (lit 256 (by decide)) (by push_cast; omega) hc
  · intro hn
    exact Affine.slt_holds hr (lit 256 (by decide)) (by push_cast; omega)

variable (s : Fin (k3_t2_loop v6 v12 t).trips)

/-- A point of a block is counted among the block's points. -/
theorem s_lt : s.val < rest lo hi t.val := s.isLt.trans_eq (t2_trips h6 h12 hle hhi t)

/-- A block has at most 256 points. -/
theorem s_lt' : s.val < 256 := lt_of_lt_of_le (s_lt h6 h12 hle hhi t s) (by unfold rest; omega)

/-- The segment number of a point is read at its place. -/
theorem off6_eq : k3_off6 v6 v12 t s = ![s.val] := by
  have := s_lt' h6 h12 hle hhi t s
  exact Affine.vec_cons (iv_isInt s.val (by omega)) rfl rfl

/-- The first sixteen entries of a point's row are read. -/
theorem off7_eq : k3_off7 v6 v12 t s = ![s.val, 0] := by
  have := s_lt' h6 h12 hle hhi t s
  exact Affine.vec_cons (iv_isInt s.val (by omega)) rfl rfl

/-- The first sixteen entries of a point's row are written. -/
theorem off8_eq : k3_off8 v6 v12 t s = ![s.val, 0] := off7_eq h6 h12 hle hhi t s

/-- The second sixteen entries of a point's row are read. -/
theorem off9_eq : k3_off9 v6 v12 t s = ![s.val, 16] := by
  have := s_lt' h6 h12 hle hhi t s
  exact Affine.vec_cons (iv_isInt s.val (by omega)) rfl rfl

/-- The second sixteen entries of a point's row are written. -/
theorem off10_eq : k3_off10 v6 v12 t s = ![s.val, 16] := off9_eq h6 h12 hle hhi t s

/-- The third sixteen entries of a point's row are read. -/
theorem off11_eq : k3_off11 v6 v12 t s = ![s.val, 32] := by
  have := s_lt' h6 h12 hle hhi t s
  exact Affine.vec_cons (iv_isInt s.val (by omega)) rfl rfl

/-- The third sixteen entries of a point's row are written. -/
theorem off12_eq : k3_off12 v6 v12 t s = ![s.val, 32] := off11_eq h6 h12 hle hhi t s

/-- The fourth sixteen entries of a point's row are read. -/
theorem off13_eq : k3_off13 v6 v12 t s = ![s.val, 48] := by
  have := s_lt' h6 h12 hle hhi t s
  exact Affine.vec_cons (iv_isInt s.val (by omega)) rfl rfl

/-- The fourth sixteen entries of a point's row are written. -/
theorem off14_eq : k3_off14 v6 v12 t s = ![s.val, 48] := off13_eq h6 h12 hle hhi t s

/-- The first sixteen maxima of a point go after its 64 entries. -/
theorem off16_eq : k3_off16 v6 v12 t s = ![s.val, 64] := by
  have := s_lt' h6 h12 hle hhi t s
  exact Affine.vec_cons (iv_isInt s.val (by omega)) rfl rfl

/-- The second sixteen maxima of a point. -/
theorem off18_eq : k3_off18 v6 v12 t s = ![s.val, 80] := by
  have := s_lt' h6 h12 hle hhi t s
  exact Affine.vec_cons (iv_isInt s.val (by omega)) rfl rfl

/-- The third sixteen maxima of a point. -/
theorem off19_eq : k3_off19 v6 v12 t s = ![s.val, 96] := by
  have := s_lt' h6 h12 hle hhi t s
  exact Affine.vec_cons (iv_isInt s.val (by omega)) rfl rfl

/-- The fourth sixteen maxima of a point. -/
theorem off20_eq : k3_off20 v6 v12 t s = ![s.val, 112] := by
  have := s_lt' h6 h12 hle hhi t s
  exact Affine.vec_cons (iv_isInt s.val (by omega)) rfl rfl

/-- The first sixteen maxima, when they come from another tile's row. -/
theorem off22_eq : k3_off22 v6 v12 t s = ![s.val, 64] := off16_eq h6 h12 hle hhi t s

/-- The second sixteen maxima, when they come from another tile's row. -/
theorem off23_eq : k3_off23 v6 v12 t s = ![s.val, 80] := off18_eq h6 h12 hle hhi t s

/-- The third sixteen maxima, when they come from another tile's row. -/
theorem off24_eq : k3_off24 v6 v12 t s = ![s.val, 96] := off19_eq h6 h12 hle hhi t s

/-- The fourth sixteen maxima, when they come from another tile's row. -/
theorem off25_eq : k3_off25 v6 v12 t s = ![s.val, 112] := off20_eq h6 h12 hle hhi t s

end

/-! ### The pieces of a block that is not full -/

section Tail
variable (h6 : IsInt v6 lo) (h12 : IsInt v12 hi) (hle : lo ≤ hi) (hhi : hi ≤ 320000) (t : Fin (k3_t1_loop v6 v12).trips)
  (hr : rest lo hi t.val < 256)
include h6 h12 hle hhi hr

/-- The five bits of the number of the last block's points. -/
theorem bits : (Scalar.cmpi .ne (Scalar.andi (restW v6 v12 t.val) 128#32) 0#32 = 1#1 ↔ rest lo hi t.val / 128 % 2 = 1)
    ∧ (Scalar.cmpi .ne (Scalar.andi (restW v6 v12 t.val) 64#32) 0#32 = 1#1 ↔ rest lo hi t.val / 64 % 2 = 1)
    ∧ (Scalar.cmpi .ne (Scalar.andi (restW v6 v12 t.val) 32#32) 0#32 = 1#1 ↔ rest lo hi t.val / 32 % 2 = 1)
    ∧ (Scalar.cmpi .ne (Scalar.andi (restW v6 v12 t.val) 16#32) 0#32 = 1#1 ↔ rest lo hi t.val / 16 % 2 = 1)
    ∧ (Scalar.cmpi .ne (Scalar.andi (restW v6 v12 t.val) 8#32) 0#32 = 1#1 ↔ rest lo hi t.val / 8 % 2 = 1) := by
  rw [word_eq (restW_isInt h6 h12 hle hhi (row_lt h6 h12 hle hhi t))]
  exact ⟨bit128 ⟨_, hr⟩, bit64 ⟨_, hr⟩, bit32 ⟨_, hr⟩, bit16 ⟨_, hr⟩, bit8 ⟨_, hr⟩⟩

/-- The piece of 128 rows is copied when its bit is set. -/
theorem cond8_iff : k3_cond8 v6 v12 t = 1#1 ↔ rest lo hi t.val / 128 % 2 = 1 := (cond_iff _).trans (bits h6 h12 hle hhi t hr).1

/-- The piece of 64 rows is copied when its bit is set. -/
theorem cond9_iff : k3_cond9 v6 v12 t = 1#1 ↔ rest lo hi t.val / 64 % 2 = 1 := (cond_iff _).trans (bits h6 h12 hle hhi t hr).2.1

/-- The piece of 32 rows is copied when its bit is set. -/
theorem cond10_iff : k3_cond10 v6 v12 t = 1#1 ↔ rest lo hi t.val / 32 % 2 = 1 := (cond_iff _).trans (bits h6 h12 hle hhi t hr).2.2.1

/-- The piece of 16 rows is copied when its bit is set. -/
theorem cond11_iff : k3_cond11 v6 v12 t = 1#1 ↔ rest lo hi t.val / 16 % 2 = 1 := (cond_iff _).trans (bits h6 h12 hle hhi t hr).2.2.2.1

/-- The piece of 8 rows is copied when its bit is set. -/
theorem cond12_iff : k3_cond12 v6 v12 t = 1#1 ↔ rest lo hi t.val / 8 % 2 = 1 := (cond_iff _).trans (bits h6 h12 hle hhi t hr).2.2.2.2

/-- The kernel's count of the rows copied before each of the five pieces. -/
theorem counts : let x := restW v6 v12 t.val
    let p64 := nextW x 0#32 128#32
    let p32 := nextW x p64 64#32
    let p16 := nextW x p32 32#32
    let p8 := nextW x p16 16#32
    IsInt p64 ((pos 64 (rest lo hi t.val) : ℕ) : ℤ) ∧ IsInt p32 ((pos 32 (rest lo hi t.val) : ℕ) : ℤ)
      ∧ IsInt p16 ((pos 16 (rest lo hi t.val) : ℕ) : ℤ) ∧ IsInt p8 ((pos 8 (rest lo hi t.val) : ℕ) : ℤ) := by
  intro x p64 p32 p16 p8
  obtain ⟨b1, b2, b3, b4, b5⟩ := bits h6 h12 hle hhi t hr
  have h0 : IsInt 0#32 ((pos 128 (rest lo hi t.val) : ℕ) : ℤ) := by
    rw [show pos 128 (rest lo hi t.val) = 0 by unfold pos; omega]; exact lit 0 (by decide)
  have h1 : IsInt p64 ((pos 64 (rest lo hi t.val) : ℕ) : ℤ) := nextW_isInt 128 (by decide) hr b1 h0
  have h2 : IsInt p32 ((pos 32 (rest lo hi t.val) : ℕ) : ℤ) := nextW_isInt 64 (by decide) hr b2 h1
  have h3 : IsInt p16 ((pos 16 (rest lo hi t.val) : ℕ) : ℤ) := nextW_isInt 32 (by decide) hr b3 h2
  have h4 : IsInt p8 ((pos 8 (rest lo hi t.val) : ℕ) : ℤ) := nextW_isInt 16 (by decide) hr b4 h3
  exact ⟨h1, h2, h3, h4⟩

/-- The piece of 64 rows starts after the larger pieces. -/
theorem off48_eq : k3_off48 v6 v12 t = ![pos 64 (rest lo hi t.val), 0] := Affine.vec_cons (counts h6 h12 hle hhi t hr).1 rfl rfl

/-- The piece of 32 rows starts after the larger pieces. -/
theorem off50_eq : k3_off50 v6 v12 t = ![pos 32 (rest lo hi t.val), 0] := Affine.vec_cons (counts h6 h12 hle hhi t hr).2.1 rfl rfl

/-- The piece of 16 rows starts after the larger pieces. -/
theorem off52_eq : k3_off52 v6 v12 t = ![pos 16 (rest lo hi t.val), 0] := Affine.vec_cons (counts h6 h12 hle hhi t hr).2.2.1 rfl rfl

/-- The piece of 8 rows starts after the larger pieces. -/
theorem off54_eq : k3_off54 v6 v12 t = ![pos 8 (rest lo hi t.val), 0] := Affine.vec_cons (counts h6 h12 hle hhi t hr).2.2.2 rfl rfl

/-- The row a piece goes to. -/
theorem outRow {p : BitVec 32} {k : ℕ} (hp : IsInt p ((pos k (rest lo hi t.val) : ℕ) : ℤ)) :
    IsInt (Scalar.addi (rowW v6 t.val) p) ((lo + 256 * t.val + pos k (rest lo hi t.val) : ℕ) : ℤ) := by
  have := row_lt h6 h12 hle hhi t
  have h1 : pos k (rest lo hi t.val) ≤ rest lo hi t.val := Nat.div_mul_le_self _ _
  exact Affine.addi (rowW_isInt h6 (t := t.val) (by omega)) hp ⟨by push_cast; omega, by push_cast; omega, by push_cast; omega⟩

/-- The piece of 128 rows goes to the block's first point. -/
theorem off47_eq : k3_off47 v6 v12 t = ![lo + 256 * t.val, 0] := by
  have h0 : IsInt 0#32 ((pos 128 (rest lo hi t.val) : ℕ) : ℤ) := by
    rw [show pos 128 (rest lo hi t.val) = 0 by unfold pos; omega]; exact lit 0 (by decide)
  have := outRow h6 h12 hle hhi t hr h0
  rw [show pos 128 (rest lo hi t.val) = 0 by unfold pos; omega] at this
  exact Affine.vec_cons this rfl rfl

/-- The piece of 64 rows goes after the larger pieces. -/
theorem off49_eq : k3_off49 v6 v12 t = ![lo + 256 * t.val + pos 64 (rest lo hi t.val), 0] :=
  Affine.vec_cons (outRow h6 h12 hle hhi t hr (counts h6 h12 hle hhi t hr).1) rfl rfl

/-- The piece of 32 rows goes after the larger pieces. -/
theorem off51_eq : k3_off51 v6 v12 t = ![lo + 256 * t.val + pos 32 (rest lo hi t.val), 0] :=
  Affine.vec_cons (outRow h6 h12 hle hhi t hr (counts h6 h12 hle hhi t hr).2.1) rfl rfl

/-- The piece of 16 rows goes after the larger pieces. -/
theorem off53_eq : k3_off53 v6 v12 t = ![lo + 256 * t.val + pos 16 (rest lo hi t.val), 0] :=
  Affine.vec_cons (outRow h6 h12 hle hhi t hr (counts h6 h12 hle hhi t hr).2.2.1) rfl rfl

/-- The piece of 8 rows goes after the larger pieces. -/
theorem off55_eq : k3_off55 v6 v12 t = ![lo + 256 * t.val + pos 8 (rest lo hi t.val), 0] :=
  Affine.vec_cons (outRow h6 h12 hle hhi t hr (counts h6 h12 hle hhi t hr).2.2.2) rfl rfl

/-- The place that a piece goes to is a multiple of eight. -/
theorem mult_dvd (h8 : 8 ∣ lo) {p : BitVec 32} {k : ℕ} (hk : 8 ∣ 2 * k) (hp : IsInt p ((pos k (rest lo hi t.val) : ℕ) : ℤ)) :
    8 ∣ (Scalar.addi (rowW v6 t.val) p).toNat := by
  rw [toNat_eq (outRow h6 h12 hle hhi t hr hp)]
  exact Nat.dvd_add (Nat.dvd_add h8 (Dvd.dvd.mul_right (by decide) _)) (Dvd.dvd.mul_left hk _)

end Tail

/-- Everything the body assumes of the two boundaries. -/
theorem chk1 (h6 : IsInt v6 lo) (h12 : IsInt v12 hi) (hle : lo ≤ hi) (hhi : hi ≤ 320000) (h8 : 8 ∣ lo) : k3_chk1 v6 v12 := by
  have no3 : ∀ t, Fin (k3_t3_loop v6 v12 t).trips → False := fun t s => absurd (s.isLt.trans_eq (t3_none v6 v12 t)) (Nat.not_lt_zero _)
  have no4 : Fin (k3_t4_loop v6 v12).trips → False := fun s => absurd (s.isLt.trans_eq (t4_none v6 v12)) (Nat.not_lt_zero _)
  have hps : ∀ k r, pos k r = r / (2 * k) * (2 * k) := fun _ _ => rfl
  have hre : ∀ t, rest lo hi t = min 256 (hi - lo - 256 * t) := fun _ => rfl
  unfold k3_chk1
  refine ⟨⟨fun _ => t1_ok h6 h12 hle hhi, fun t _ => ?_, fun t _ a => ?_, fun t _ a => ?_, fun t _ => t2_ok h6 h12 hle hhi t,
    fun t s _ a => ?_, fun t s _ a => ?_, fun t s _ a => ?_, fun t s _ a => ?_, fun t s _ a => ?_, fun t s _ a => ?_, fun t s _ a => ?_,
    fun t s _ a => ?_, fun t s _ a => ?_, fun t _ => t3_ok v6 v12 t, fun t s => (no3 t s).elim, fun t s => (no3 t s).elim, fun t s => (no3 t s).elim,
    fun t s => (no3 t s).elim, fun t s => (no3 t s).elim, fun t s => (no3 t s).elim, fun t s => (no3 t s).elim, fun t s => (no3 t s).elim,
    fun t s => (no3 t s).elim, fun t _ hc a => ?_, fun t _ hc hc' => ?_, fun t _ hc hc' a => ?_, fun t _ hc hc' => ?_, fun t _ hc hc' a => ?_,
    fun t _ hc hc' a => ?_, fun t _ hc hc' => ?_, fun t _ hc hc' a => ?_⟩,
    ⟨fun t _ hc hc' a => ?_, fun t _ hc hc' => ?_, fun t _ hc hc' a => ?_, fun t _ hc hc' a => ?_, fun t _ hc hc' => ?_, fun t _ hc hc' a => ?_,
      fun t _ hc hc' a => ?_, fun _ => t4_ok v6 v12,
      fun t => (no4 t).elim, fun t => (no4 t).elim, fun t => (no4 t).elim, fun t => (no4 t).elim, fun t => (no4 t).elim, fun t => (no4 t).elim,
      fun t => (no4 t).elim, fun t => (no4 t).elim, fun t => (no4 t).elim, fun t => (no4 t).elim, fun t => (no4 t).elim, fun t => (no4 t).elim,
      fun t => (no4 t).elim, fun t => (no4 t).elim, fun t => (no4 t).elim, fun t => (no4 t).elim, fun t => (no4 t).elim, fun t => (no4 t).elim,
      fun t => (no4 t).elim, fun t => (no4 t).elim, fun t => (no4 t).elim, fun t => (no4 t).elim, fun t => (no4 t).elim, fun t => (no4 t).elim⟩,
    ⟨fun t => (no4 t).elim, fun t => (no4 t).elim, fun t => (no4 t).elim, fun t => (no4 t).elim, fun t => (no4 t).elim, fun t => (no4 t).elim,
      fun t => (no4 t).elim, fun t => (no4 t).elim, fun t => (no4 t).elim, fun t => (no4 t).elim, fun t => (no4 t).elim, fun t => (no4 t).elim,
      fun t => (no4 t).elim, fun t => (no4 t).elim⟩⟩
  all_goals have hrow := row_lt h6 h12 hle hhi t
  all_goals have hret := hre t.val
  · exact Affine.dvd_of (a := rowW v6 t.val) (rowW_isInt h6 (t := t.val) (by omega)) 8 ⟨by push_cast; omega, by omega⟩
  · rw [off4_eq h6 h12 hle hhi]; fin_cases a <;> simp [Shape.size] <;> omega
  · rw [off5_eq h6 h12 hle hhi]; fin_cases a; simp [Shape.size]; omega
  · have := s_lt' h6 h12 hle hhi t s
    rw [off6_eq h6 h12 hle hhi]; fin_cases a; simp [Shape.size]; omega
  · have := s_lt' h6 h12 hle hhi t s
    rw [off7_eq h6 h12 hle hhi]; fin_cases a <;> simp [Shape.size] <;> omega
  · have := s_lt' h6 h12 hle hhi t s
    rw [off8_eq h6 h12 hle hhi]; fin_cases a <;> simp [Shape.size] <;> omega
  · have := s_lt' h6 h12 hle hhi t s
    rw [off9_eq h6 h12 hle hhi]; fin_cases a <;> simp [Shape.size] <;> omega
  · have := s_lt' h6 h12 hle hhi t s
    rw [off10_eq h6 h12 hle hhi]; fin_cases a <;> simp [Shape.size] <;> omega
  · have := s_lt' h6 h12 hle hhi t s
    rw [off11_eq h6 h12 hle hhi]; fin_cases a <;> simp [Shape.size] <;> omega
  · have := s_lt' h6 h12 hle hhi t s
    rw [off12_eq h6 h12 hle hhi]; fin_cases a <;> simp [Shape.size] <;> omega
  · have := s_lt' h6 h12 hle hhi t s
    rw [off13_eq h6 h12 hle hhi]; fin_cases a <;> simp [Shape.size] <;> omega
  · have := s_lt' h6 h12 hle hhi t s
    rw [off14_eq h6 h12 hle hhi]; fin_cases a <;> simp [Shape.size] <;> omega
  · have h := (cond6_iff h6 h12 hle hhi t).mp hc
    rw [off46_eq h6 h12 hle hhi]; clear hc; fin_cases a <;> simp [Shape.size] <;> omega
  all_goals have hr := (cond7_iff h6 h12 hle hhi t).mp hc
  all_goals clear hc
  · exact mult_dvd (k := 128) h6 h12 hle hhi t hr h8 (by decide) (by
      rw [show pos 128 (rest lo hi t.val) = 0 by unfold pos; omega]; exact lit 0 (by decide))
  · have h := (cond8_iff h6 h12 hle hhi t hr).mp hc'; clear hc'
    rw [off47_eq h6 h12 hle hhi t hr]; fin_cases a <;> simp [Shape.size] <;> omega
  · exact mult_dvd h6 h12 hle hhi t hr h8 (by decide) (counts h6 h12 hle hhi t hr).1
  · have h := (cond9_iff h6 h12 hle hhi t hr).mp hc'; clear hc'
    rw [off48_eq h6 h12 hle hhi t hr]; fin_cases a <;> simp [Shape.size, hps] <;> omega
  · have h := (cond9_iff h6 h12 hle hhi t hr).mp hc'; clear hc'
    rw [off49_eq h6 h12 hle hhi t hr]; fin_cases a <;> simp [Shape.size, hps] <;> omega
  · exact mult_dvd h6 h12 hle hhi t hr h8 (by decide) (counts h6 h12 hle hhi t hr).2.1
  · have h := (cond10_iff h6 h12 hle hhi t hr).mp hc'; clear hc'
    rw [off50_eq h6 h12 hle hhi t hr]; fin_cases a <;> simp [Shape.size, hps] <;> omega
  · have h := (cond10_iff h6 h12 hle hhi t hr).mp hc'; clear hc'
    rw [off51_eq h6 h12 hle hhi t hr]; fin_cases a <;> simp [Shape.size, hps] <;> omega
  · exact mult_dvd h6 h12 hle hhi t hr h8 (by decide) (counts h6 h12 hle hhi t hr).2.2.1
  · have h := (cond11_iff h6 h12 hle hhi t hr).mp hc'; clear hc'
    rw [off52_eq h6 h12 hle hhi t hr]; fin_cases a <;> simp [Shape.size, hps] <;> omega
  · have h := (cond11_iff h6 h12 hle hhi t hr).mp hc'; clear hc'
    rw [off53_eq h6 h12 hle hhi t hr]; fin_cases a <;> simp [Shape.size, hps] <;> omega
  · exact mult_dvd h6 h12 hle hhi t hr h8 (by decide) (counts h6 h12 hle hhi t hr).2.2.2
  · have h := (cond12_iff h6 h12 hle hhi t hr).mp hc'; clear hc'
    rw [off54_eq h6 h12 hle hhi t hr]; fin_cases a <;> simp [Shape.size, hps] <;> omega
  · have h := (cond12_iff h6 h12 hle hhi t hr).mp hc'; clear hc'
    rw [off55_eq h6 h12 hle hhi t hr]; fin_cases a <;> simp [Shape.size, hps] <;> omega

end Rows

/-! ### The place of a segment in the slab -/

section Slots
variable {p : BitVec 32} {n : ℕ} (i : grid3.Coords)

/-- A segment's number less the tile's first segment, as a word. -/
theorem diff_isInt (hp : IsInt p n) (h2 : n < 10000) : IsInt (Scalar.subi p (segW i)) ((n : ℤ) - (seg (wid i) : ℕ)) := by
  have h := wid_lt i
  have h3 := seg_le h
  have h4 := seg_succ (wid i)
  exact Affine.subi hp (segW_isInt i) ⟨rfl, by omega, by omega⟩

/-- The first branch is for a segment that does not come before the tile's. -/
theorem cond2_iff (hp : IsInt p n) (h2 : n < 10000) : k3_cond2 i p = 1#1 ↔ seg (wid i) ≤ n := by
  have e : k3_cond2 i p = Scalar.cmpi .ne (Scalar.extui (Scalar.cmpi .sge (Scalar.subi p (segW i)) 0#32)) 0#32 := rfl
  rw [e, cond_iff]
  constructor
  · intro hc; by_contra hn
    exact Affine.sge_fails (diff_isInt i hp h2) (lit 0 (by decide)) (by push_cast; omega) hc
  · intro hn
    exact Affine.sge_holds (diff_isInt i hp h2) (lit 0 (by decide)) (by push_cast; omega)

/-- The second branch is for a segment before the tile's. -/
theorem cond3_iff (hp : IsInt p n) (h2 : n < 10000) : k3_cond3 i p = 1#1 ↔ n < seg (wid i) := by
  have e : k3_cond3 i p = Scalar.cmpi .ne (Scalar.extui (Scalar.cmpi .slt (Scalar.subi p (segW i)) 0#32)) 0#32 := rfl
  rw [e, cond_iff]
  constructor
  · intro hc; by_contra hn
    exact Affine.slt_fails (diff_isInt i hp h2) (lit 0 (by decide)) (by push_cast; omega) hc
  · intro hn
    exact Affine.slt_holds (diff_isInt i hp h2) (lit 0 (by decide)) (by push_cast; omega)

/-- The maxima of a segment start at 64 times its number in the tile. -/
theorem off15_eq (hp : IsInt p n) (h1 : seg (wid i) ≤ n) (h2 : n < 10000) : k3_off15 i p = ![(n - seg (wid i)) * 64] :=
  Affine.vec_cons (Sc1.slot_isInt i hp h1 h2) rfl rfl

/-- The further sixteens of a segment's maxima. -/
theorem off17_eq (hp : IsInt p n) (h1 : seg (wid i) ≤ n) (h2 : n < 10000) (k : ℕ) (hk : k < 64) :
    k3_off17 i p (BitVec.ofNat 32 k) = ![(n - seg (wid i)) * 64 + k] :=
  Affine.vec_cons (Affine.addi (Sc1.slot_isInt i hp h1 h2) (lit k (by omega)) ⟨rfl, by push_cast; omega, by push_cast; omega⟩)
    (by push_cast; rfl) rfl

/-- The row of an earlier segment is fetched from 64 times its number. -/
theorem off21_eq (hp : IsInt p n) (h2 : n < 10000) : k3_off21 p = ![n * 64] :=
  Affine.vec_cons (Affine.muli hp (lit 64 (by decide)) ⟨rfl, by push_cast; omega, by push_cast; omega⟩) (by push_cast; rfl) rfl

/-- The offsets of a point's row and of its segment's maxima lie in their buffers. -/
theorem chk2 {v6 v12 : BitVec 32} {lo hi : ℕ} (h6 : IsInt v6 lo) (h12 : IsInt v12 hi) (hle : lo ≤ hi) (hhi : hi ≤ 320000)
    (t : Fin (k3_t1_loop v6 v12).trips) (s : Fin (k3_t2_loop v6 v12 t).trips) (hp : IsInt p n) (h2 : n < seg (wid i + 1)) :
    k3_chk2 i v6 v12 t s p := by
  have h := wid_lt i
  have h3 := seg_le h
  have h4 := seg_succ (wid i)
  have hs := s_lt' h6 h12 hle hhi t s
  refine ⟨fun _ hc a => ?_, fun _ hc a => ?_, fun _ hc r a => ?_, fun _ hc a => ?_, fun _ hc a => ?_, fun _ hc a => ?_, fun _ hc a => ?_,
    fun _ hc a => ?_, fun _ hc a => ?_, fun _ hc a => ?_, fun _ hc a => ?_⟩
  · have hn := (cond2_iff i hp (by omega)).mp hc; clear hc
    rw [off15_eq i hp hn (by omega)]; fin_cases a; simp [Shape.size]; omega
  · clear hc; rw [off16_eq h6 h12 hle hhi]; fin_cases a <;> simp [Shape.size] <;> omega
  · have hr := r.isLt
    have hn := (cond2_iff i hp (by omega)).mp hc; clear hc
    rw [off17_eq i hp hn (by omega) _ (by omega)]; fin_cases a; simp [Shape.size]; omega
  · clear hc; rw [off18_eq h6 h12 hle hhi]; fin_cases a <;> simp [Shape.size] <;> omega
  · clear hc; rw [off19_eq h6 h12 hle hhi]; fin_cases a <;> simp [Shape.size] <;> omega
  · clear hc; rw [off20_eq h6 h12 hle hhi]; fin_cases a <;> simp [Shape.size] <;> omega
  · clear hc; rw [off21_eq hp (by omega)]; fin_cases a; simp [Shape.size]; omega
  · clear hc; rw [off22_eq h6 h12 hle hhi]; fin_cases a <;> simp [Shape.size] <;> omega
  · clear hc; rw [off23_eq h6 h12 hle hhi]; fin_cases a <;> simp [Shape.size] <;> omega
  · clear hc; rw [off24_eq h6 h12 hle hhi]; fin_cases a <;> simp [Shape.size] <;> omega
  · clear hc; rw [off25_eq h6 h12 hle hhi]; fin_cases a <;> simp [Shape.size] <;> omega

end Slots

end Cert.KernelIdeal.Sc2
-- ==== Proof.Sc2Row.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.LoopRemainder
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Words
public import proofs.«01_k».proof.Proof.Arith1
public import proofs.«01_k».proof.Proof.Arith2

/-! The second SparseCore call, one tile: each of its rows of the result is the point's value beside the word row of its
segment. -/

@[expose] public section
noncomputable section
namespace Cert.KernelIdeal.Sc2

open Cert.KernelIdeal.Gen Cert.Words
open Cert.KernelIdeal.Sc1 (wid wid_lt seg seg_succ seg_le)
open Idealize.ShloMosaic Idealize.ShloMosaic.Affine
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 2) (Elt F) ℕ U ℕ

abbrev yM : Memref sig .scVector .hbm S320512x64 .f32 := Memref.whole main_v4_scv
abbrev iM : Memref sig .scVector .hbm S320520 .i32 := Memref.whole main_v16_scv
abbrev bM : Memref sig .scVector .hbm S40 .i32 := Memref.whole main_v15_scv
abbrev fM : Memref sig .scVector .hbm S641024 .f32 := Memref.whole main_v17_scv
abbrev oM : Memref sig .scVector .hbm S320000x128 .f32 := Memref.whole main_v18_scv
abbrev a7 : Memref sig .scVector .vmem S56 .i32 := Memref.whole cc3_scratch0
abbrev a8 : Memref sig .scVector .vmem S280 .i32 := Memref.whole cc3_scratch1
abbrev a9 : Memref sig .scVector .vmem S256x64 .f32 := Memref.whole cc3_scratch2
abbrev a10 : Memref sig .scVector .vmem S20480 .f32 := Memref.whole cc3_scratch3
abbrev a11 : Memref sig .scVector .vmem S64 .f32 := Memref.whole cc3_scratch4
abbrev a12 : Memref sig .scVector .vmem S256x128 .f32 := Memref.whole cc3_scratch5

/-- The tile at grid coordinates `i`, as a thread of device `d`. -/
abbrev tile (d : Dev nD) (i : grid3.Coords) : Thread nD τ := V d ((i 0).castLE hcore3) ((i 1).castLE hsub3)

/-- The result at a row and a column: the point's value, then the word row of its segment. -/
def outV (y : ℕ → ℕ → F .f32) (gf : ℕ → F .f32) (id : ℕ → ℕ) (r c : ℕ) : F .f32 :=
  if c < 64 then y r c else gf (id r * 64 + (c - 64))

/-- The first `k` rows of the block that starts at row `r` are staged. -/
def Blk (y : ℕ → ℕ → F .f32) (gf : ℕ → F .f32) (id : ℕ → ℕ) (r k : ℕ) (g : S256x128.Idx → F .f32) : Prop :=
  ∀ x : S256x128.Idx, (x 0).val < k → g x = outV y gf id (r + (x 0).val) (x 1).val

/-- The left half of a row of the result is the point's values. -/
theorem outV_lt {y : ℕ → ℕ → F .f32} {gf : ℕ → F .f32} {id : ℕ → ℕ} {r : ℕ} (c l : ℕ) (h : c ≤ 48) (h' : l < 16) :
    outV y gf id r (c + l) = y r (c + l) := if_pos (by omega)

/-- The right half is the segment's maxima. -/
theorem outV_one {y : ℕ → ℕ → F .f32} {gf : ℕ → F .f32} {id : ℕ → ℕ} {r : ℕ} (c e l : ℕ) (hce : c = 64 + e) :
    gf (id r * 64 + (e + l)) = outV y gf id r (c + l) := by
  unfold outV
  rw [if_neg (by omega)]
  refine congrArg gf ?_; omega

/-- The same, from the tile's own rows. -/
theorem outV_slab {y : ℕ → ℕ → F .f32} {gf : ℕ → F .f32} {id : ℕ → ℕ} {r b : ℕ} (q c e l : ℕ) (hc : b ≤ id r)
    (hq : q = (id r - b) * 64 + e) (hce : c = 64 + e) : gf (b * 64 + (q + l)) = outV y gf id r (c + l) := by
  refine Eq.trans (congrArg gf ?_) (outV_one c e l hce)
  rw [hq, Nat.sub_mul]; have := Nat.mul_le_mul_right 64 hc; omega

section Reads

/-- The row's segment, extracted from the sixteen words loaded at it. -/
theorem id_read (off : Fin 1 → ℕ) (inb) (f : S280.Idx → BitVec 32) (x : S280.Idx) (hx : off = ![(x 0).val]) :
    extractAt ![0] (k3_pay1 (F := F) (View.readAt (Elt F) a8.view (Rect.unit (s := S280) off S16.size inb).toLoadRect f)) inpos_S1_p0 = f x := by
  show shapeCast S16 (View.readAt (Elt F) a8.view (Rect.unit (s := S280) off S16.size inb).toLoadRect f) shapeCasts_S16_S16 _ = _
  refine (congrFun (shapeCast_self (s := S16) _ shapeCasts_S16_S16) _).trans ?_
  rw [View.readAt_apply, View.read_whole]
  congr 1; funext a; fin_cases a; apply Fin.ext; simp [hx, LoadRect.idx_apply]

/-- A lane of sixteen words of a row, as the kernel stages them. -/
theorem y_lane (off : Fin 2 → ℕ) (inb) (f : S256x64.Idx → F .f32) (a k : ℕ) (hoff : off = ![a, k]) (l : S1x16.Idx)
    {r : ℕ} {y : ℕ → ℕ → F .f32} (h : ∀ x : S256x64.Idx, f x = y (r + (x 0).val) (x 1).val) :
    shapeCast S1x16 (shapeCast S16 (View.readAt (Elt F) a9.view (Rect.unit (s := S256x64) off S1x16.size inb).toLoadRect f) shapeCasts_S1x16_S16)
      shapeCasts_S16_S1x16 l = y (r + a) (k + (l 1).val) := by
  refine (shapeCast_addUnit_apply ![16] _ shapeCasts_S16_S1x16 l).trans ?_
  refine (shapeCast_dropUnit_apply ![16] _ shapeCasts_S1x16_S16 _).trans ?_
  rw [View.readAt_apply, View.read_whole, h]
  congr 1
  · subst hoff; simp [LoadRect.idx_apply]; rfl
  · subst hoff; simp [LoadRect.idx_apply]; rfl

/-- A lane of sixteen words of the slab. -/
theorem slab_lane (off : Fin 1 → ℕ) (inb) (f : S20480.Idx → F .f32) (k : ℕ) (hoff : off = ![k]) (l : S1x16.Idx)
    {b : ℕ} {gf : ℕ → F .f32} (h : ∀ x : S20480.Idx, f x = gf (b + (x 0).val)) :
    shapeCast S1x16 (shapeCast S16 (View.readAt (Elt F) a10.view (Rect.unit (s := S20480) off S16.size inb).toLoadRect f) shapeCasts_S16_S16)
      shapeCasts_S16_S1x16 l = gf (b + (k + (l 1).val)) := by
  refine (shapeCast_addUnit_apply ![16] _ shapeCasts_S16_S1x16 l).trans ?_
  refine (congrFun (shapeCast_self (s := S16) _ shapeCasts_S16_S16) _).trans ?_
  have key : ∀ l' : S16.Idx, View.readAt (Elt F) a10.view (Rect.unit (s := S20480) off S16.size inb).toLoadRect f l' = gf (b + (k + (l' 0).val)) := by
    intro l'
    rw [View.readAt_apply, View.read_whole, h]
    subst hoff
    refine congrArg gf (congrArg (b + ·) ?_)
    simp [LoadRect.idx_apply]
  exact key _

/-- A lane of sixteen words of the one row fetched by itself. -/
theorem one_lane (off : Fin 1 → ℕ) (inb) (f : S64.Idx → F .f32) (k : ℕ) (hoff : off = ![k]) (l : S1x16.Idx)
    {b : ℕ} {gf : ℕ → F .f32} (h : ∀ x : S64.Idx, f x = gf (b + (x 0).val)) :
    shapeCast S1x16 (shapeCast S16 (View.readAt (Elt F) a11.view (Rect.unit (s := S64) off S16.size inb).toLoadRect f) shapeCasts_S16_S16)
      shapeCasts_S16_S1x16 l = gf (b + (k + (l 1).val)) := by
  refine (shapeCast_addUnit_apply ![16] _ shapeCasts_S16_S1x16 l).trans ?_
  refine (congrFun (shapeCast_self (s := S16) _ shapeCasts_S16_S16) _).trans ?_
  have key : ∀ l' : S16.Idx, View.readAt (Elt F) a11.view (Rect.unit (s := S64) off S16.size inb).toLoadRect f l' = gf (b + (k + (l' 0).val)) := by
    intro l'
    rw [View.readAt_apply, View.read_whole, h]
    subst hoff
    refine congrArg gf (congrArg (b + ·) ?_)
    simp [LoadRect.idx_apply]
  exact key _

/-- Sixteen words stored in a row read back as stored, and every other word as before. -/
theorem piece (f : S256x128.Idx → F .f32) (o : Fin 2 → ℕ) (inb) (s b : ℕ) (e : o = ![s, b]) (w : S1x16.Idx → F .f32)
    (L : List (View.Piece (Elt F) S256x128 .f32)) (x : S256x128.Idx) :
    (∀ l : S1x16.Idx, (x 0).val = s → (x 1).val = b + (l 1).val → a12.view.writes (Elt F) f (⟨Rect.unit (s := S256x128) o S1x16.size inb, w⟩ :: L) x = w l)
    ∧ ((x 1).val < b ∨ b + 16 ≤ (x 1).val → a12.view.writes (Elt F) f (⟨Rect.unit (s := S256x128) o S1x16.size inb, w⟩ :: L) x
        = a12.view.writes (Elt F) f L x)
    ∧ ((x 0).val < s ∨ s + 1 ≤ (x 0).val → a12.view.writes (Elt F) f (⟨Rect.unit (s := S256x128) o S1x16.size inb, w⟩ :: L) x
        = a12.view.writes (Elt F) f L x) := by
  subst e
  refine ⟨fun l h0 h1 => ?_, fun h => ?_, fun h => ?_⟩
  · refine View.read_writes_cons_hit_of_coords a12.view f (Rect.unit (s := S256x128) ![s, b] S1x16.size inb) w L l x (fun a => ?_)
    have hl : (l 0).val < 1 := (l 0).isLt
    fin_cases a
    · show (x 0).val = s + 1 * (l 0).val; omega
    · show (x 1).val = b + 1 * (l 1).val; omega
  · exact View.read_writes_cons_miss_of_axis a12.view f ⟨Rect.unit (s := S256x128) ![s, b] S1x16.size inb, w⟩ L x 1 b 16 rfl rfl rfl h
  · exact View.read_writes_cons_miss_of_axis a12.view f ⟨Rect.unit (s := S256x128) ![s, b] S1x16.size inb, w⟩ L x 0 s 1 rfl rfl rfl h

/-- Eight stores of sixteen words fill a row. -/
theorem row_write (s : ℕ) (f : S256x128.Idx → F .f32) (o0 o1 o2 o3 o4 o5 o6 o7 : Fin 2 → ℕ) (i0 i1 i2 i3 i4 i5 i6 i7)
    (e0 : o0 = ![s, 0]) (e1 : o1 = ![s, 16]) (e2 : o2 = ![s, 32]) (e3 : o3 = ![s, 48])
    (e4 : o4 = ![s, 64]) (e5 : o5 = ![s, 80]) (e6 : o6 = ![s, 96]) (e7 : o7 = ![s, 112])
    (w0 w1 w2 w3 w4 w5 w6 w7 : S1x16.Idx → F .f32) (h : ℕ → F .f32)
    (h0 : ∀ l, w0 l = h (0 + (l 1).val)) (h1 : ∀ l, w1 l = h (16 + (l 1).val)) (h2 : ∀ l, w2 l = h (32 + (l 1).val))
    (h3 : ∀ l, w3 l = h (48 + (l 1).val)) (h4 : ∀ l, w4 l = h (64 + (l 1).val)) (h5 : ∀ l, w5 l = h (80 + (l 1).val))
    (h6 : ∀ l, w6 l = h (96 + (l 1).val)) (h7 : ∀ l, w7 l = h (112 + (l 1).val)) :
    let g := a12.view.writes (Elt F) f [⟨Rect.unit (s := S256x128) o7 S1x16.size i7, w7⟩, ⟨Rect.unit (s := S256x128) o6 S1x16.size i6, w6⟩,
      ⟨Rect.unit (s := S256x128) o5 S1x16.size i5, w5⟩, ⟨Rect.unit (s := S256x128) o4 S1x16.size i4, w4⟩,
      ⟨Rect.unit (s := S256x128) o3 S1x16.size i3, w3⟩, ⟨Rect.unit (s := S256x128) o2 S1x16.size i2, w2⟩,
      ⟨Rect.unit (s := S256x128) o1 S1x16.size i1, w1⟩, ⟨Rect.unit (s := S256x128) o0 S1x16.size i0, w0⟩]
    ∀ x : S256x128.Idx, g x = if (x 0).val = s then h (x 1).val else f x := by
  intro g x
  have hc : (x 1).val < 128 := (x 1).isLt
  by_cases hs : (x 0).val = s
  · rw [if_pos hs]
    have key : ∀ b, b ≤ (x 1).val → (x 1).val < b + 16 → ∃ l : S1x16.Idx, (x 1).val = b + (l 1).val :=
      fun b _ _ => ⟨fun a => ⟨if a.val = 0 then 0 else (x 1).val - b, by fin_cases a; · exact Nat.one_pos
                                                                         · show (x 1).val - b < 16; omega⟩, by show _ = b + ((x 1).val - b); omega⟩
    by_cases c7 : 112 ≤ (x 1).val
    · obtain ⟨l, hl⟩ := key 112 c7 (by omega)
      exact ((piece f o7 i7 _ _ e7 w7 _ x).1 l hs hl).trans ((h7 l).trans (by rw [← hl]))
    refine ((piece f o7 i7 _ _ e7 w7 _ x).2.1 (by omega)).trans ?_
    by_cases c6 : 96 ≤ (x 1).val
    · obtain ⟨l, hl⟩ := key 96 c6 (by omega)
      exact ((piece f o6 i6 _ _ e6 w6 _ x).1 l hs hl).trans ((h6 l).trans (by rw [← hl]))
    refine ((piece f o6 i6 _ _ e6 w6 _ x).2.1 (by omega)).trans ?_
    by_cases c5 : 80 ≤ (x 1).val
    · obtain ⟨l, hl⟩ := key 80 c5 (by omega)
      exact ((piece f o5 i5 _ _ e5 w5 _ x).1 l hs hl).trans ((h5 l).trans (by rw [← hl]))
    refine ((piece f o5 i5 _ _ e5 w5 _ x).2.1 (by omega)).trans ?_
    by_cases c4 : 64 ≤ (x 1).val
    · obtain ⟨l, hl⟩ := key 64 c4 (by omega)
      exact ((piece f o4 i4 _ _ e4 w4 _ x).1 l hs hl).trans ((h4 l).trans (by rw [← hl]))
    refine ((piece f o4 i4 _ _ e4 w4 _ x).2.1 (by omega)).trans ?_
    by_cases c3 : 48 ≤ (x 1).val
    · obtain ⟨l, hl⟩ := key 48 c3 (by omega)
      exact ((piece f o3 i3 _ _ e3 w3 _ x).1 l hs hl).trans ((h3 l).trans (by rw [← hl]))
    refine ((piece f o3 i3 _ _ e3 w3 _ x).2.1 (by omega)).trans ?_
    by_cases c2 : 32 ≤ (x 1).val
    · obtain ⟨l, hl⟩ := key 32 c2 (by omega)
      exact ((piece f o2 i2 _ _ e2 w2 _ x).1 l hs hl).trans ((h2 l).trans (by rw [← hl]))
    refine ((piece f o2 i2 _ _ e2 w2 _ x).2.1 (by omega)).trans ?_
    by_cases c1 : 16 ≤ (x 1).val
    · obtain ⟨l, hl⟩ := key 16 c1 (by omega)
      exact ((piece f o1 i1 _ _ e1 w1 _ x).1 l hs hl).trans ((h1 l).trans (by rw [← hl]))
    refine ((piece f o1 i1 _ _ e1 w1 _ x).2.1 (by omega)).trans ?_
    obtain ⟨l, hl⟩ := key 0 (by omega) (by omega)
    exact ((piece f o0 i0 _ _ e0 w0 _ x).1 l hs hl).trans ((h0 l).trans (by rw [← hl]))
  · rw [if_neg hs]
    have hs' : (x 0).val < s ∨ s + 1 ≤ (x 0).val := by omega
    refine ((piece f o7 i7 _ _ e7 w7 _ x).2.2 hs').trans ?_
    refine ((piece f o6 i6 _ _ e6 w6 _ x).2.2 hs').trans ?_
    refine ((piece f o5 i5 _ _ e5 w5 _ x).2.2 hs').trans ?_
    refine ((piece f o4 i4 _ _ e4 w4 _ x).2.2 hs').trans ?_
    refine ((piece f o3 i3 _ _ e3 w3 _ x).2.2 hs').trans ?_
    refine ((piece f o2 i2 _ _ e2 w2 _ x).2.2 hs').trans ?_
    refine ((piece f o1 i1 _ _ e1 w1 _ x).2.2 hs').trans ?_
    exact (piece f o0 i0 _ _ e0 w0 _ x).2.2 hs'

/-- One more row staged. -/
theorem Blk.step {y : ℕ → ℕ → F .f32} {gf : ℕ → F .f32} {id : ℕ → ℕ} {r s : ℕ} {f g : S256x128.Idx → F .f32} (h : Blk y gf id r s f)
    (hg : ∀ x : S256x128.Idx, g x = if (x 0).val = s then outV y gf id (r + s) (x 1).val else f x) : Blk y gf id r (s + 1) g := by
  intro x hx
  rw [hg]
  by_cases hs : (x 0).val = s
  · rw [if_pos hs, hs]
  · rw [if_neg hs]; exact h x (by omega)

end Reads

/-- What a row needs beside the staging buffers: the segment maxima (a read share), the one-row buffer, and the semaphore of
    its copy, at rest. -/
def RowEnv (d : Dev nD) (i : grid3.Coords) (qf : PosShare TreeShare) (G : S641024.Idx → F .f32)
    (O : CellTallies nD τ sig (HIx 2)) (W : Waits sig (HIx 2)) : sProp 𝕄 :=
  iprop(Transfers.MayWaits (tile d i) (none : HIx 2) O
    ∗ (fM.view.loc (tile d i) ↦[Finset.univ]{qf} G)
    ∗ (∃ f11, a11.view.loc (tile d i) ↦[Finset.univ]{fullShare} f11)
    ∗ semVal (tile d i, SemLoc.dma cc3_scoped4.sem) 0
    ∗ ∃ W', ⌜∀ p ∈ W', p ∈ W ∨ p.2 = none⌝ ∗ owes (tile d i) O W')

section Step
variable (d : Dev nD) (i : grid3.Coords)
  {v6 v12 : BitVec 32} {lo hi : ℕ} (h6 : IsInt v6 lo) (h12 : IsInt v12 hi) (hle : lo ≤ hi) (hhi : hi ≤ 320000) {id : ℕ → ℕ}
  (y : ℕ → ℕ → F .f32) (gf : ℕ → F .f32)
  (hid : ∀ r, lo ≤ r → r < hi → id r < seg (wid i + 1))
  (k3_hw1 : k3_chk1 v6 v12) (k3_h1 : k3_cond1 v6 v12 = 1#1)

include h6 h12 hle hhi hid in
/-- One row. -/
theorem row_wp (v31 : BitVec 32) (t : Fin (k3_t1_loop v6 v12).trips) (s : Fin (k3_t2_loop v6 v12 t).trips)
    (qf : PosShare TreeShare) (G : S641024.Idx → F .f32) (hG : ∀ z : S641024.Idx, G z = gf (z 0).val)
    (O : CellTallies nD τ sig (HIx 2)) (W : Waits sig (HIx 2))
    (f8 : S280.Idx → BitVec 32) (f9 : S256x64.Idx → F .f32) (f10 : S20480.Idx → F .f32) (f12 : S256x128.Idx → F .f32)
    (h8 : ∀ x : S280.Idx, (x 0).val < 264 → IsInt (f8 x) (id (lo + 256 * t.val + (x 0).val)))
    (h9 : ∀ x : S256x64.Idx, f9 x = y (lo + 256 * t.val + (x 0).val) (x 1).val)
    (h10 : ∀ x : S20480.Idx, f10 x = gf (seg (wid i) * 64 + (x 0).val))
    (hb : Blk y gf id (lo + 256 * t.val) s.val f12) (c : BitVec 32) (Q : BitVec 32 → sProp 𝕄) :
    iprop((a8.view.loc (tile d i) ↦[Finset.univ]{fullShare} f8) ∗ (a9.view.loc (tile d i) ↦[Finset.univ]{fullShare} f9)
        ∗ (a10.view.loc (tile d i) ↦[Finset.univ]{fullShare} f10) ∗ (a12.view.loc (tile d i) ↦[Finset.univ]{fullShare} f12)
        ∗ RowEnv d i qf G O W
        ∗ ∀ c' f12', ⌜Blk y gf id (lo + 256 * t.val) (s.val + 1) f12'⌝ -∗
          ((a8.view.loc (tile d i) ↦[Finset.univ]{fullShare} f8) ∗ (a9.view.loc (tile d i) ↦[Finset.univ]{fullShare} f9)
            ∗ (a10.view.loc (tile d i) ↦[Finset.univ]{fullShare} f10) ∗ (a12.view.loc (tile d i) ↦[Finset.univ]{fullShare} f12')
            ∗ RowEnv d i qf G O W) -∗ Q c')
      ⊢ wp frame (wpE (defs₀ (F := F)) Variants.none (tile d i) none) Set.univ
          (k3_t2_body i yM (Memref.isWhole_whole _) iM (Memref.isWhole_whole _) bM (Memref.isWhole_whole _) fM (Memref.isWhole_whole _)
            oM (Memref.isWhole_whole _) a7 (Memref.isWhole_whole _) a8 (Memref.isWhole_whole _) a9 (Memref.isWhole_whole _)
            a10 (Memref.isWhole_whole _) a11 (Memref.isWhole_whole _) a12 (Memref.isWhole_whole _)
            cc3_scoped0 cc3_scoped1 cc3_scoped2 cc3_scoped3 cc3_scoped4 cc3_scoped5 cc3_scoped6 cc3_scoped7 cc3_scoped8 cc3_scoped9 cc3_scoped10
            cc3_scoped11 cc3_scoped12 cc3_scoped13 cc3_scoped14 cc3_scoped15 cc3_scoped16 cc3_scoped17 cc3_scoped18 cc3_scoped19 cc3_scoped20 cc3_scoped21
            v6 v12 k3_hw1 v31 k3_h1 t s c) Q := by
  have hsl := s_lt h6 h12 hle hhi t s
  have hs' := s_lt' h6 h12 hle hhi t s
  have hr : lo + 256 * t.val + s.val < hi := by unfold rest at hsl; omega
  have hn : IsInt (extractAt ![0] (k3_pay1 (F := F) (View.readAt (Elt F) a8.view (Rect.unit (s := S280) (k3_off6 v6 v12 t s) S16.size (k3_off6_inb v6 v12 k3_hw1 t s k3_h1)).toLoadRect f8)) inpos_S1_p0)
      (id (lo + 256 * t.val + s.val) : ℤ) := by
    obtain ⟨x0, hx0⟩ : ∃ x0 : S280.Idx, (x0 0).val = s.val := ⟨fun a => ⟨s.val, by fin_cases a; exact (lt_trans hs' (by decide) : s.val < 280)⟩, rfl⟩
    have e : k3_off6 v6 v12 t s = ![(x0 0).val] := by rw [hx0]; exact off6_eq h6 h12 hle hhi t s
    rw [id_read (F := F) (k3_off6 v6 v12 t s) (k3_off6_inb v6 v12 k3_hw1 t s k3_h1) f8 x0 e]
    have h := h8 x0 (by rw [hx0]; exact lt_trans hs' (by decide))
    rw [hx0] at h
    exact h
  have hse : seg (wid i + 1) ≤ 10000 := seg_le (wid_lt i)
  have hid1 : lo ≤ lo + 256 * t.val + s.val := le_trans (Nat.le_add_right _ _) (Nat.le_add_right _ _)
  have hm := hid (lo + 256 * t.val + s.val) hid1 hr
  have hlt : id (lo + 256 * t.val + s.val) < 10000 := lt_of_lt_of_le hm hse
  have hchk := chk2 i h6 h12 hle hhi t s hn hm
  unfold k3_t2_body RowEnv
  iintro ⟨H8, H9, H10, H12, ⟨Hmw, HG, ⟨%f11, H11⟩, Hs4, %W', %hW', HO⟩, HQ⟩
  have lt' := fun c l => outV_lt (gf := gf) (y := y) (id := id) (r := lo + 256 * t.val + s.val) c l
  have ge' := fun c e l => outV_one (gf := gf) (y := y) (id := id) (r := lo + 256 * t.val + s.val) c e l
  by_cases hc : seg (wid i) ≤ id (lo + 256 * t.val + s.val)
  · have hc2 := (cond2_iff i hn hlt).mpr hc
    have hc3 := mt (cond3_iff i hn hlt).mp (not_lt.mpr hc)
    have ge := fun q c e l => outV_slab (gf := gf) (y := y) (id := id) (r := lo + 256 * t.val + s.val) q c e l hc
    sl_exec
    sl_step
    iapply HQ $$ %_ %_ %?_ [H8 H9 H10 H12 HG Hs4 HO Hmw H11]
    · refine hb.step (row_write s.val f12 _ _ _ _ _ _ _ _ (k3_off8_inb v6 v12 k3_hw1 t s k3_h1) (k3_off10_inb v6 v12 k3_hw1 t s k3_h1) (k3_off12_inb v6 v12 k3_hw1 t s k3_h1) (k3_off14_inb v6 v12 k3_hw1 t s k3_h1)
        (k3_off16_inb i v6 v12 t s _ hchk k3_h1 hc2) (k3_off18_inb i v6 v12 t s _ hchk k3_h1 hc2) (k3_off19_inb i v6 v12 t s _ hchk k3_h1 hc2) (k3_off20_inb i v6 v12 t s _ hchk k3_h1 hc2)
        (off8_eq h6 h12 hle hhi t s) (off10_eq h6 h12 hle hhi t s) (off12_eq h6 h12 hle hhi t s)
        (off14_eq h6 h12 hle hhi t s) (off16_eq h6 h12 hle hhi t s) (off18_eq h6 h12 hle hhi t s) (off19_eq h6 h12 hle hhi t s) (off20_eq h6 h12 hle hhi t s) _ _ _ _ _ _ _ _
        (outV y gf id (lo + 256 * t.val + s.val))
        (fun l => (y_lane (F := F) _ (k3_off7_inb v6 v12 k3_hw1 t s k3_h1) f9 s.val 0 (off7_eq h6 h12 hle hhi t s) l h9).trans (lt' _ _ (by decide) (l 1).isLt).symm)
        (fun l => (y_lane (F := F) _ (k3_off9_inb v6 v12 k3_hw1 t s k3_h1) f9 s.val 16 (off9_eq h6 h12 hle hhi t s) l h9).trans (lt' _ _ (by decide) (l 1).isLt).symm)
        (fun l => (y_lane (F := F) _ (k3_off11_inb v6 v12 k3_hw1 t s k3_h1) f9 s.val 32 (off11_eq h6 h12 hle hhi t s) l h9).trans (lt' _ _ (by decide) (l 1).isLt).symm)
        (fun l => (y_lane (F := F) _ (k3_off13_inb v6 v12 k3_hw1 t s k3_h1) f9 s.val 48 (off13_eq h6 h12 hle hhi t s) l h9).trans (lt' _ _ (by decide) (l 1).isLt).symm)
        (fun l => (slab_lane (F := F) _ (k3_off15_inb i v6 v12 t s _ hchk k3_h1 hc2) f10 _ (off15_eq i hn hc hlt) l h10).trans (ge _ 64 0 (l 1).val rfl rfl))
        (fun l => (slab_lane (F := F) _ (k3_off17_inb i v6 v12 t s _ hchk k3_h1 hc2 0) f10 _ (off17_eq i hn hc hlt 16 (by decide)) l h10).trans (ge _ 80 16 (l 1).val rfl rfl))
        (fun l => (slab_lane (F := F) _ (k3_off17_inb i v6 v12 t s _ hchk k3_h1 hc2 1) f10 _ (off17_eq i hn hc hlt 32 (by decide)) l h10).trans (ge _ 96 32 (l 1).val rfl rfl))
        (fun l => (slab_lane (F := F) _ (k3_off17_inb i v6 v12 t s _ hchk k3_h1 hc2 2) f10 _ (off17_eq i hn hc hlt 48 (by decide)) l h10).trans (ge _ 112 48 (l 1).val rfl rfl)))
    · isplitl [H8]; · iexact H8
      isplitl [H9]; · iexact H9
      isplitl [H10]; · iexact H10
      isplitl [H12]; · iexact H12
      isplitl [Hmw]; · iexact Hmw
      isplitl [HG]; · iexact HG
      isplitl [H11]; · iexists _; iexact H11
      isplitl [Hs4]; · iexact Hs4
      iexists W'; isplitr; · ipureintro; exact hW'
      iexact HO
  · have hc2 := mt (cond2_iff i hn hlt).mp hc
    have hc3 := (cond3_iff i hn hlt).mpr (not_le.mp hc)
    sl_exec
    sl_step
    have h11 : ∀ x : S64.Idx, View.write (Elt F) a11.view f11 (row_wp.sl.dma13 i k3_hw1 k3_h1 t s G f8 hchk hc3) Finset.univ x
        = gf (id (lo + 256 * t.val + s.val) * 64 + (x 0).val) := by
      intro x
      rw [View.write_whole_univ]
      unfold row_wp.sl.dma13
      refine (hG ((Rect.unit (s := S641024) (k3_off21 _) S64.size (k3_off21_inb i v6 v12 t s _ hchk k3_h1 hc3)).emb x)).trans ?_
      refine congrArg gf ?_
      show k3_off21 _ 0 + 1 * (x 0).val = _
      rw [off21_eq hn hlt]
      show _ + 1 * (x 0).val = _
      rw [Nat.one_mul]; rfl
    iapply HQ $$ %_ %_ %?_ [H8 H9 H10 H12 HG Hs4 HO Hmw H11]
    · refine hb.step (row_write s.val f12 _ _ _ _ _ _ _ _ (k3_off8_inb v6 v12 k3_hw1 t s k3_h1) (k3_off10_inb v6 v12 k3_hw1 t s k3_h1) (k3_off12_inb v6 v12 k3_hw1 t s k3_h1) (k3_off14_inb v6 v12 k3_hw1 t s k3_h1)
        (k3_off22_inb i v6 v12 t s _ hchk k3_h1 hc3) (k3_off23_inb i v6 v12 t s _ hchk k3_h1 hc3) (k3_off24_inb i v6 v12 t s _ hchk k3_h1 hc3) (k3_off25_inb i v6 v12 t s _ hchk k3_h1 hc3)
        (off8_eq h6 h12 hle hhi t s) (off10_eq h6 h12 hle hhi t s) (off12_eq h6 h12 hle hhi t s)
        (off14_eq h6 h12 hle hhi t s) (off22_eq h6 h12 hle hhi t s) (off23_eq h6 h12 hle hhi t s) (off24_eq h6 h12 hle hhi t s) (off25_eq h6 h12 hle hhi t s) _ _ _ _ _ _ _ _
        (outV y gf id (lo + 256 * t.val + s.val))
        (fun l => (y_lane (F := F) _ (k3_off7_inb v6 v12 k3_hw1 t s k3_h1) f9 s.val 0 (off7_eq h6 h12 hle hhi t s) l h9).trans (lt' _ _ (by decide) (l 1).isLt).symm)
        (fun l => (y_lane (F := F) _ (k3_off9_inb v6 v12 k3_hw1 t s k3_h1) f9 s.val 16 (off9_eq h6 h12 hle hhi t s) l h9).trans (lt' _ _ (by decide) (l 1).isLt).symm)
        (fun l => (y_lane (F := F) _ (k3_off11_inb v6 v12 k3_hw1 t s k3_h1) f9 s.val 32 (off11_eq h6 h12 hle hhi t s) l h9).trans (lt' _ _ (by decide) (l 1).isLt).symm)
        (fun l => (y_lane (F := F) _ (k3_off13_inb v6 v12 k3_hw1 t s k3_h1) f9 s.val 48 (off13_eq h6 h12 hle hhi t s) l h9).trans (lt' _ _ (by decide) (l 1).isLt).symm)
        (fun l => (one_lane (F := F) _ inb_S64_S16_0 _ 0 rfl l h11).trans (ge' 64 0 (l 1).val rfl))
        (fun l => (one_lane (F := F) _ inb_S64_S16_16 _ 16 rfl l h11).trans (ge' 80 16 (l 1).val rfl))
        (fun l => (one_lane (F := F) _ inb_S64_S16_32 _ 32 rfl l h11).trans (ge' 96 32 (l 1).val rfl))
        (fun l => (one_lane (F := F) _ inb_S64_S16_48 _ 48 rfl l h11).trans (ge' 112 48 (l 1).val rfl)))
    · isplitl [H8]; · iexact H8
      isplitl [H9]; · iexact H9
      isplitl [H10]; · iexact H10
      isplitl [H12]; · iexact H12
      isplitl [Hmw]; · iexact Hmw
      isplitl [HG]; · iexact HG
      isplitl [H11]; · iexists _; iexact H11
      isplitl [Hs4]; · iexact Hs4
      iexists (insert (SemLoc.dma cc3_scoped4.sem, (default : HIx 2)) W'); isplitr
      · ipureintro
        intro p hp
        rcases Finset.mem_insert.mp hp with hp | hp
        · exact .inr (hp ▸ rfl)
        · exact hW' p hp
      · iexact HO

end Step
end Cert.KernelIdeal.Sc2
-- ==== Proof.Sc2Body.lean ====
module

public import proofs.«01_k».proof.Proof.Sc2Row

/-! The second SparseCore call, one tile: the copies out and the whole body. -/

@[expose] public section
noncomputable section
namespace Cert.KernelIdeal.Sc2

open Cert.KernelIdeal.Gen Cert.Words
open Cert.KernelIdeal.Sc1 (wid wid_lt seg seg_succ seg_le)
open Idealize.ShloMosaic Idealize.ShloMosaic.Affine
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 2) (Elt F) ℕ U ℕ

/-- The words of the result that the tile with rows `lo ..< hi` writes. -/
def OS (lo hi : ℕ) : Finset S320000x128.Idx := Finset.univ.filter fun x => lo ≤ (x 0).val ∧ (x 0).val < hi

/-- The entries of a tile's part of the result. -/
theorem mem_OS {lo hi : ℕ} {x : S320000x128.Idx} : x ∈ OS lo hi ↔ lo ≤ (x 0).val ∧ (x 0).val < hi := by simp [OS]

/-- The first `k` rows from `lo` are written. -/
def OutOK (y : ℕ → ℕ → F .f32) (gf : ℕ → F .f32) (id : ℕ → ℕ) (lo k : ℕ) (f : S320000x128.Idx → F .f32) : Prop :=
  ∀ x : S320000x128.Idx, lo ≤ (x 0).val → (x 0).val < lo + k → f x = outV y gf id (x 0).val (x 1).val

/-- The shape of `n` rows of the result. -/
abbrev rowsS (n : ℕ) : Shape := ⟨2, ![n, 128]⟩

section Piece
variable (d : Dev nD) (i : grid3.Coords) (y : ℕ → ℕ → F .f32) (gf : ℕ → F .f32) (id : ℕ → ℕ)

/-- The entries of some whole rows of the result. -/
theorem mem_slice {n r : ℕ} {o : Fin 2 → ℕ} (inb) (e : o = ![r, 0]) (x : S320000x128.Idx) :
    x ∈ (oM.slice (Rect.unit (s := S320000x128) o (rowsS n).size inb) (fun _ => rfl)).view.set ↔ r ≤ (x 0).val ∧ (x 0).val < r + n := by
  have e' : (oM.slice (Rect.unit (s := S320000x128) o (rowsS n).size inb) (fun _ => rfl)).view.set = (Rect.unit (s := S320000x128) o (rowsS n).size inb).set := View.set_slice_whole _ _
  rw [e']
  refine Rect.mem_set_unit.trans ?_
  have h1 : (x 1).val < 128 := (x 1).isLt
  subst e
  constructor
  · intro h; exact h 0
  · intro h a; fin_cases a
    · exact h
    · exact ⟨Nat.zero_le _, (by omega : (x 1).val < 0 + 128)⟩

/-- Writing `n` more rows of the result. -/
theorem put0 (n r lo k : ℕ) (o2 : Fin 2 → ℕ) (inb2) (e2 : o2 = ![r, 0]) (hk : lo + k = r) (f : S320000x128.Idx → F .f32) (hf : OutOK y gf id lo k f)
    (f' : S320000x128.Idx → F .f32)
    (hw : ∀ z : (rowsS n).Idx, View.read (Elt F) (oM.slice (Rect.unit (s := S320000x128) o2 (rowsS n).size inb2) (fun _ => rfl)).view f' z
      = outV y gf id (r + (z 0).val) (z 1).val) :
    OutOK y gf id lo (k + n) ((oM.slice (Rect.unit (s := S320000x128) o2 (rowsS n).size inb2) (fun _ => rfl)).view.set.piecewise f' f) := by
  intro x h1 h2
  by_cases hx : x ∈ (oM.slice (Rect.unit (s := S320000x128) o2 (rowsS n).size inb2) (fun _ => rfl)).view.set
  · rw [Finset.piecewise_eq_of_mem _ _ _ hx]
    obtain ⟨z, -, rfl⟩ := Finset.mem_map.mp hx
    have e := hw z
    rw [View.read_apply, cast_eq] at e
    refine e.trans ?_
    subst e2
    show outV y gf id (r + (z 0).val) (z 1).val = outV y gf id (r + 1 * (z 0).val) (0 + 1 * (z 1).val)
    rw [Nat.one_mul, Nat.one_mul, Nat.zero_add]
  · rw [Finset.piecewise_eq_of_notMem _ _ _ hx]
    rw [mem_slice inb2 e2] at hx
    exact hf x h1 (by omega)

/-- Rows copied out of the staging block are the result's rows. -/
theorem put (n p r lo k : ℕ) (o1 o2 : Fin 2 → ℕ) (inb1 inb2) (e1 : o1 = ![p, 0]) (e2 : o2 = ![r + p, 0])
    (hk : lo + k = r + p) (g : S256x128.Idx → F .f32) (hg : Blk y gf id r (p + n) g) (f : S320000x128.Idx → F .f32) (hf : OutOK y gf id lo k f) :
    OutOK y gf id lo (k + n) ((oM.slice (Rect.unit (s := S320000x128) o2 (rowsS n).size inb2) (fun _ => rfl)).view.set.piecewise
      (View.write (Elt F) (oM.slice (Rect.unit (s := S320000x128) o2 (rowsS n).size inb2) (fun _ => rfl)).view f
        ((ReadAs.same (Val := Elt F)).apply (View.read (Elt F) (a12.slice (Rect.unit (s := S256x128) o1 (rowsS n).size inb1) (fun _ => rfl)).view g)) Finset.univ) f) := by
  refine put0 y gf id n (r + p) lo k o2 inb2 e2 hk f hf _ fun z => ?_
  rw [View.read_write_univ]
  subst e1
  have hz0 : (z 0).val < n := (z 0).isLt
  have := hg ((Rect.unit (s := S256x128) ![p, 0] (rowsS n).size inb1).emb z) (by show p + 1 * (z 0).val < p + n; omega)
  refine this.trans ?_
  show outV y gf id (r + (p + 1 * (z 0).val)) (0 + 1 * (z 1).val) = _
  rw [Nat.one_mul, Nat.one_mul, Nat.zero_add, Nat.add_assoc]

/-- The whole staging block copied out. -/
theorem put_block (r lo k : ℕ) (o2 : Fin 2 → ℕ) (inb2) (e2 : o2 = ![r, 0]) (hk : lo + k = r) (g : S256x128.Idx → F .f32)
    (hg : Blk y gf id r 256 g) (f : S320000x128.Idx → F .f32) (hf : OutOK y gf id lo k f) (w : S256x128.Idx → F .f32) (hw : w = g) :
    OutOK y gf id lo (k + 256) ((oM.slice (Rect.unit (s := S320000x128) o2 S256x128.size inb2) (fun _ => rfl)).view.set.piecewise
      ((oM.slice (Rect.unit (s := S320000x128) o2 S256x128.size inb2) (fun _ => rfl)).view.writes (Elt F) f
        [⟨Rect.whole (Rect.unit (s := S320000x128) o2 S256x128.size inb2).shape, w⟩]) f) := by
  refine put0 y gf id 256 r lo k o2 inb2 e2 hk f hf _ fun z => ?_
  refine (View.read_writes_cons_hit_of_coords (Val := Elt F) (oM.slice (Rect.unit (s := S320000x128) o2 S256x128.size inb2) (fun _ => rfl)).view f (Rect.whole S256x128)
      w [] z z (fun a => by show _ = 0 + 1 * _; omega)).trans ?_
  rw [hw]
  exact hg z (z 0).isLt

/-- One conditional copy of `n` rows. -/
theorem piece_wp {α : Type} (n p r lo k hi : ℕ) (hn : 0 < n) (c : BitVec 1) (sem : DmaSems sig S_) (o1 o2 : Fin 2 → ℕ)
    (inb1 : c = 1#1 → ∀ a, o1 a + (rowsS n).size a ≤ S256x128.size a) (inb2 : c = 1#1 → ∀ a, o2 a + (rowsS n).size a ≤ S320000x128.size a)
    (e1 : o1 = ![p, 0]) (e2 : o2 = ![r + p, 0]) (hk : lo + k = r + p) (hin : c = 1#1 → r + p + n ≤ hi)
    (g : S256x128.Idx → F .f32) (hg : c = 1#1 → Blk y gf id r (p + n) g) (f : S320000x128.Idx → F .f32) (hf : OutOK y gf id lo k f)
    (O : CellTallies nD τ sig (HIx 2)) (W : Waits sig (HIx 2))
    (K : Prog (TpuEff nD τ sig (Elt F) Λ₀ (.scVector ((i 0).castLE hcore3) ((i 1).castLE hsub3))) α) (Q : α → sProp 𝕄) :
    (iprop((a12.view.loc (tile d i) ↦[Finset.univ]{fullShare} g) ∗ (oM.view.loc (tile d i) ↦[OS lo hi]{fullShare} f)
        ∗ Transfers.MayWaits (tile d i) (none : HIx 2) O ∗ semVal (tile d i, SemLoc.dma sem.sem) 0
        ∗ (∃ W', ⌜∀ p ∈ W', p ∈ W ∨ p.2 = none⌝ ∗ owes (tile d i) O W')
        ∗ (∀ f', ⌜OutOK y gf id lo (if c = 1#1 then k + n else k) f'⌝ -∗
          ((a12.view.loc (tile d i) ↦[Finset.univ]{fullShare} g) ∗ (oM.view.loc (tile d i) ↦[OS lo hi]{fullShare} f')
            ∗ Transfers.MayWaits (tile d i) (none : HIx 2) O ∗ semVal (tile d i, SemLoc.dma sem.sem) 0
            ∗ (∃ W', ⌜∀ p ∈ W', p ∈ W ∨ p.2 = none⌝ ∗ owes (tile d i) O W'))
          -∗ wp frame (wpE (defs₀ (F := F)) Variants.none (tile d i) none) Set.univ K Q)) : sProp 𝕄)
      ⊢ wp frame (wpE (defs₀ (F := F)) Variants.none (tile d i) none) Set.univ
          (if h : c = 1#1 then do
            Prog.lift (.enqueueDma (a12.slice (Rect.unit (s := S256x128) o1 (rowsS n).size (inb1 h)) (fun _ => rfl))
              (.here (oM.slice (Rect.unit (s := S320000x128) o2 (rowsS n).size (inb2 h)) (fun _ => rfl))) (.dma sem.sem)
              (View.wordExact_bits rfl) (View.wordExact_bits rfl) ⟨Or.inl rfl, trivial⟩)
            Prog.lift (.waitDma2 sem.sem (a12.slice (Rect.unit (s := S256x128) o1 (rowsS n).size (inb1 h)) (fun _ => rfl))
              (oM.slice (Rect.unit (s := S320000x128) o2 (rowsS n).size (inb2 h)) (fun _ => rfl)) (View.wordExact_bits rfl) (View.wordExact_bits rfl))
            K
          else K) Q := by
  iintro ⟨H12, HF, #Hmw, Hs, ⟨%W', %hW', HO⟩, HK⟩
  by_cases hc : c = 1#1
  · have hsub : (oM.slice (Rect.unit (s := S320000x128) o2 (rowsS n).size (inb2 hc)) (fun _ => rfl)).view.set ⊆ OS lo hi := by
      intro x hx
      rw [mem_slice _ e2] at hx
      exact mem_OS.mpr ⟨by omega, lt_of_lt_of_le hx.2 (hin hc)⟩
    ihave HF := (pointsTo_split_subset hsub).1 $$ HF
    icases HF with ⟨HA, HR⟩
    have eA : (oM.view.loc (tile d i) ↦[(oM.slice (Rect.unit (s := S320000x128) o2 (rowsS n).size (inb2 hc)) (fun _ => rfl)).view.set]{fullShare} f : sProp 𝕄)
      ⊢ ((oM.slice (Rect.unit (s := S320000x128) o2 (rowsS n).size (inb2 hc)) (fun _ => rfl)).view.loc (tile d i) ↦[(oM.slice (Rect.unit (s := S320000x128) o2 (rowsS n).size (inb2 hc)) (fun _ => rfl)).view.set]{fullShare} f) := .rfl
    ihave HA := eA $$ HA
    have hs12 : (a12.slice (Rect.unit (s := S256x128) o1 (rowsS n).size (inb1 hc)) (fun _ => rfl)).view.set ⊆ (Finset.univ : Finset S256x128.Idx) := Finset.subset_univ _
    ihave H12 := (pointsTo_split_subset (ℓ := a12.view.loc (tile d i)) hs12).1 $$ H12
    icases H12 with ⟨HB, HBr⟩
    have eB : (a12.view.loc (tile d i) ↦[(a12.slice (Rect.unit (s := S256x128) o1 (rowsS n).size (inb1 hc)) (fun _ => rfl)).view.set]{fullShare} g : sProp 𝕄)
      ⊢ ((a12.slice (Rect.unit (s := S256x128) o1 (rowsS n).size (inb1 hc)) (fun _ => rfl)).view.loc (tile d i) ↦[(a12.slice (Rect.unit (s := S256x128) o1 (rowsS n).size (inb1 hc)) (fun _ => rfl)).view.set]{fullShare} g) := .rfl
    ihave HB := eB $$ HB
    rw [dif_pos hc]
    have hpos : 0 < (oM.slice (Rect.unit (s := S320000x128) o2 (rowsS n).size (inb2 hc)) (fun _ => rfl)).view.amount (SemLoc.dma sem.sem) :=
      View.amount_pos _ _ (Shape.numel_pos fun a => by fin_cases a; exacts [hn, Nat.succ_pos 127])
    iapply (Transfers.wp_dmaLocal countersEmb (Variants.none) (tile d i) none (none : HIx 2) _ rfl hpos (Finset.Subset.refl _)) $$ [HA HB Hs]
    · isplitl [HB]; · iexact HB
      isplitl [HA] <;> iassumption
    iintro Hf
    ihave Hm := (Transfers.MayWaits.elim (SemLoc.dma sem.sem)) $$ Hmw
    iapply (Transfers.wp_waitLocalO countersEmb (Variants.none) (tile d i) none (none : HIx 2) rfl) $$ [Hf HO Hm]
    · isplitl [Hf]; · iexact Hf
      isplitl [HO] <;> iassumption
    iintro ⟨⟨HA, HB⟩, Hs, HO⟩
    have eB' : ((a12.slice (Rect.unit (s := S256x128) o1 (rowsS n).size (inb1 hc)) (fun _ => rfl)).view.loc (tile d i) ↦[(a12.slice (Rect.unit (s := S256x128) o1 (rowsS n).size (inb1 hc)) (fun _ => rfl)).view.set]{fullShare} g : sProp 𝕄)
      ⊢ (a12.view.loc (tile d i) ↦[(a12.slice (Rect.unit (s := S256x128) o1 (rowsS n).size (inb1 hc)) (fun _ => rfl)).view.set]{fullShare} g) := .rfl
    ihave HB := eB' $$ HB
    ihave H12 := (pointsTo_split_subset (ℓ := a12.view.loc (tile d i)) hs12).2 $$ [HB HBr]
    · isplitl [HB] <;> iassumption
    have eA' (w : S320000x128.Idx → F .f32) : ((oM.slice (Rect.unit (s := S320000x128) o2 (rowsS n).size (inb2 hc)) (fun _ => rfl)).view.loc (tile d i) ↦[(oM.slice (Rect.unit (s := S320000x128) o2 (rowsS n).size (inb2 hc)) (fun _ => rfl)).view.set]{fullShare} w : sProp 𝕄)
      ⊢ (oM.view.loc (tile d i) ↦[(oM.slice (Rect.unit (s := S320000x128) o2 (rowsS n).size (inb2 hc)) (fun _ => rfl)).view.set]{fullShare} w) := .rfl
    ihave HA := (eA' _) $$ HA
    ihave HF := (pointsTo_join_subset (ℓ := oM.view.loc (tile d i)) hsub) $$ [HA HR]
    · isplitl [HA] <;> iassumption
    iapply HK $$ %_ %(by rw [if_pos hc]; exact put y gf id n p r lo k o1 o2 (inb1 hc) (inb2 hc) e1 e2 hk g (hg hc) f hf) [H12 HF Hs HO]
    isplitl [H12]; · iexact H12
    isplitl [HF]; · iexact HF
    isplitl [Hmw]; · iexact Hmw
    isplitl [Hs]; · iexact Hs
    iexists (insert (SemLoc.dma sem.sem, (none : HIx 2)) W')
    isplitr
    · ipureintro
      intro p hp
      rcases Finset.mem_insert.mp hp with rfl | hp
      · exact Or.inr rfl
      · exact hW' p hp
    iexact HO
  · rw [dif_neg hc]
    iapply HK $$ %f %(by rw [if_neg hc]; exact hf) [H12 HF Hs HO]
    isplitl [H12]; · iexact H12
    isplitl [HF]; · iexact HF
    isplitl [Hmw]; · iexact Hmw
    isplitl [Hs]; · iexact Hs
    iexists W'; isplitr; · ipureintro; exact hW'
    iexact HO
end Piece

/-- The offset of the next smaller piece. -/
theorem pos_step (n r : ℕ) (hn : 0 < n) (b : ℕ) {c : BitVec 1} (hc : c = 1#1 ↔ r / n % 2 = 1) :
    (if c = 1#1 then b + r / (2 * n) * (2 * n) + n else b + r / (2 * n) * (2 * n)) = b + r / n * n := by
  have e : r / n = 2 * (r / n / 2) + r / n % 2 := (Nat.div_add_mod _ 2).symm
  have e2 : r / (2 * n) = r / n / 2 := by rw [Nat.mul_comm, Nat.div_div_eq_div_mul]
  rw [e2]
  have e3 : r / n * n = r / n / 2 * (2 * n) + r / n % 2 * n := by
    conv_lhs => rw [e, Nat.add_mul]
    rw [Nat.mul_comm 2 (r / n / 2), Nat.mul_assoc]
  rw [e3]
  by_cases h : c = 1#1
  · rw [if_pos h, hc.mp h]; omega
  · rw [if_neg h]
    have : r / n % 2 = 0 := by have := mt hc.mpr h; omega
    rw [this]; omega

/-- A piece that is taken lies inside the rows left. -/
theorem pos_in (n r : ℕ) {c : BitVec 1} (hc : c = 1#1 ↔ r / n % 2 = 1) (h : c = 1#1) : r / (2 * n) * (2 * n) + n ≤ r := by
  have e : r / n = 2 * (r / n / 2) + r / n % 2 := (Nat.div_add_mod _ 2).symm
  have e2 : r / (2 * n) = r / n / 2 := by rw [Nat.mul_comm, Nat.div_div_eq_div_mul]
  have e3 : r / n * n = r / n / 2 * (2 * n) + n := by
    conv_lhs => rw [e, Nat.add_mul, hc.mp h]
    rw [Nat.mul_comm 2 (r / n / 2), Nat.mul_assoc, Nat.one_mul]
  rw [e2, ← e3]
  exact Nat.div_mul_le_self r n

/-- A block that is right up to a row is right up to an earlier one. -/
theorem Blk.mono {y : ℕ → ℕ → F .f32} {gf : ℕ → F .f32} {id : ℕ → ℕ} {r k k' : ℕ} {g : S256x128.Idx → F .f32} (h : Blk y gf id r k' g) (hk : k ≤ k') :
    Blk y gf id r k g := fun x hx => h x (lt_of_lt_of_le hx hk)

section Tail
variable (d : Dev nD) (i : grid3.Coords) {v6 v12 : BitVec 32} {lo hi : ℕ}
  (h6 : IsInt v6 lo) (h12 : IsInt v12 hi) (hle : lo ≤ hi) (hhi : hi ≤ 320000) (h8 : 8 ∣ lo) (h8' : 8 ∣ hi)
  (y : ℕ → ℕ → F .f32) (gf : ℕ → F .f32) (id : ℕ → ℕ)
  (k3_hw1 : k3_chk1 v6 v12) (k3_h1 : k3_cond1 v6 v12 = 1#1) (t : Fin (k3_t1_loop v6 v12).trips)
include h6 h12 hle hhi h8 h8'

/-- The last, shorter block goes out in pieces of 128, 64, 32, 16 and 8 rows. -/
theorem tail_wp (hr : rest lo hi t < 256) (h7 : k3_cond7 v6 v12 t = 1#1) (v64 v67 : BitVec 32) (g : S256x128.Idx → F .f32)
    (hg : Blk y gf id (lo + 256 * t.val) (rest lo hi t) g) (f : S320000x128.Idx → F .f32) (hf : OutOK y gf id lo (256 * t.val) f)
    (O : CellTallies nD τ sig (HIx 2)) (W : Waits sig (HIx 2)) (Q : _ → sProp 𝕄) :
    (iprop((a12.view.loc (tile d i) ↦[Finset.univ]{fullShare} g) ∗ (oM.view.loc (tile d i) ↦[OS lo hi]{fullShare} f)
        ∗ Transfers.MayWaits (tile d i) (none : HIx 2) O
        ∗ semVal (tile d i, SemLoc.dma cc3_scoped7.sem) 0 ∗ semVal (tile d i, SemLoc.dma cc3_scoped8.sem) 0 ∗ semVal (tile d i, SemLoc.dma cc3_scoped9.sem) 0
        ∗ semVal (tile d i, SemLoc.dma cc3_scoped10.sem) 0 ∗ semVal (tile d i, SemLoc.dma cc3_scoped11.sem) 0
        ∗ (∃ W', ⌜∀ p ∈ W', p ∈ W ∨ p.2 = none⌝ ∗ owes (tile d i) O W')
        ∗ (∀ r, ∀ f', ⌜OutOK y gf id lo (256 * t.val + rest lo hi t) f'⌝ -∗
          ((a12.view.loc (tile d i) ↦[Finset.univ]{fullShare} g) ∗ (oM.view.loc (tile d i) ↦[OS lo hi]{fullShare} f') ∗ Transfers.MayWaits (tile d i) (none : HIx 2) O
            ∗ semVal (tile d i, SemLoc.dma cc3_scoped7.sem) 0 ∗ semVal (tile d i, SemLoc.dma cc3_scoped8.sem) 0 ∗ semVal (tile d i, SemLoc.dma cc3_scoped9.sem) 0
            ∗ semVal (tile d i, SemLoc.dma cc3_scoped10.sem) 0 ∗ semVal (tile d i, SemLoc.dma cc3_scoped11.sem) 0
            ∗ (∃ W', ⌜∀ p ∈ W', p ∈ W ∨ p.2 = none⌝ ∗ owes (tile d i) O W'))
          -∗ Q r)) : sProp 𝕄)
      ⊢ wp frame (wpE (defs₀ (F := F)) Variants.none (tile d i) none) Set.univ
          (k3_part3 i yM (Memref.isWhole_whole _) iM (Memref.isWhole_whole _) bM (Memref.isWhole_whole _) fM (Memref.isWhole_whole _) oM (Memref.isWhole_whole _) a7 (Memref.isWhole_whole _) a8 (Memref.isWhole_whole _)
            a9 (Memref.isWhole_whole _) a10 (Memref.isWhole_whole _) a11 (Memref.isWhole_whole _) a12 (Memref.isWhole_whole _)
            cc3_scoped0 cc3_scoped1 cc3_scoped2 cc3_scoped3 cc3_scoped4 cc3_scoped5 cc3_scoped6 cc3_scoped7 cc3_scoped8 cc3_scoped9 cc3_scoped10 cc3_scoped11
            cc3_scoped12 cc3_scoped13 cc3_scoped14 cc3_scoped15 cc3_scoped16 cc3_scoped17 cc3_scoped18 cc3_scoped19 cc3_scoped20 cc3_scoped21
            v6 v12 k3_hw1 k3_h1 t v64 v67 h7) Q := by
  have hrh : lo + 256 * t.val + rest lo hi t ≤ hi := by have := row_lt h6 h12 hle hhi t; unfold rest; omega
  have hd8 : rest lo hi t / 8 * 8 = rest lo hi t := by unfold rest; omega
  have c8 := cond8_iff h6 h12 hle hhi t hr
  have c9 := cond9_iff h6 h12 hle hhi t hr
  have c10 := cond10_iff h6 h12 hle hhi t hr
  have c11 := cond11_iff h6 h12 hle hhi t hr
  have c12 := cond12_iff h6 h12 hle hhi t hr
  have hin : ∀ n (c : BitVec 1), (c = 1#1 ↔ rest lo hi t / n % 2 = 1) → c = 1#1 → lo + 256 * t.val + pos n (rest lo hi t) + n ≤ hi := by
    intro n c hc h
    have := pos_in n _ hc h
    unfold pos
    omega
  have hbl : ∀ n (c : BitVec 1), (c = 1#1 ↔ rest lo hi t / n % 2 = 1) → c = 1#1 → Blk y gf id (lo + 256 * t.val) (pos n (rest lo hi t) + n) g :=
    fun n c hc h => hg.mono (pos_in n _ hc h)
  have p0 : pos 128 (rest lo hi t) = 0 := by unfold pos; omega
  have hf0 : OutOK y gf id lo (256 * t.val + pos 128 (rest lo hi t)) f := by rw [p0]; exact hf
  rw [k3_part3_eq_skeleton]; unfold k3_part3_skel
  iintro ⟨H12, HF, #Hmw, Hs7, Hs8, Hs9, Hs10, Hs11, HO, HK⟩
  iapply (piece_wp d i y gf id 128 (pos 128 (rest lo hi t)) (lo + 256 * t.val) lo (256 * t.val + pos 128 (rest lo hi t)) hi (by decide) (k3_cond8 v6 v12 t) cc3_scoped7 _ _
    (fun _ => inb_S256x128_S128x128_0_0) (fun h => k3_off47_inb v6 v12 k3_hw1 t k3_h1 h7 h) (by rw [p0]) (by rw [p0]; exact off47_eq h6 h12 hle hhi t hr) (Nat.add_assoc _ _ _).symm
    (hin 128 _ c8) g (hbl 128 _ c8) f hf0 O W _ _)
  isplitl [H12]; · iexact H12
  isplitl [HF]; · iexact HF
  isplitr; · iexact Hmw
  isplitl [Hs7]; · iexact Hs7
  isplitl [HO]; · iexact HO
  iintro %f7 %hf7 ⟨H12, HF, -, Hs7, HO⟩
  replace hf7 : OutOK y gf id lo (256 * t.val + pos 64 (rest lo hi t)) f7 := by
    rw [show (if k3_cond8 v6 v12 t = 1#1 then 256 * t.val + pos 128 (rest lo hi t) + 128 else 256 * t.val + pos 128 (rest lo hi t)) = 256 * t.val + pos 64 (rest lo hi t) from
      pos_step 128 (rest lo hi t) (by decide) (256 * t.val) c8] at hf7
    exact hf7
  iapply (piece_wp d i y gf id 64 (pos 64 (rest lo hi t)) (lo + 256 * t.val) lo (256 * t.val + pos 64 (rest lo hi t)) hi (by decide) (k3_cond9 v6 v12 t) cc3_scoped8 _ _
    (fun h => k3_off48_inb v6 v12 k3_hw1 t k3_h1 h7 h) (fun h => k3_off49_inb v6 v12 k3_hw1 t k3_h1 h7 h) (off48_eq h6 h12 hle hhi t hr) (off49_eq h6 h12 hle hhi t hr) (Nat.add_assoc _ _ _).symm
    (hin 64 _ c9) g (hbl 64 _ c9) f7 hf7 O W _ _)
  isplitl [H12]; · iexact H12
  isplitl [HF]; · iexact HF
  isplitr; · iexact Hmw
  isplitl [Hs8]; · iexact Hs8
  isplitl [HO]; · iexact HO
  iintro %f8 %hf8 ⟨H12, HF, -, Hs8, HO⟩
  replace hf8 : OutOK y gf id lo (256 * t.val + pos 32 (rest lo hi t)) f8 := by
    rw [show (if k3_cond9 v6 v12 t = 1#1 then 256 * t.val + pos 64 (rest lo hi t) + 64 else 256 * t.val + pos 64 (rest lo hi t)) = 256 * t.val + pos 32 (rest lo hi t) from
      pos_step 64 (rest lo hi t) (by decide) (256 * t.val) c9] at hf8
    exact hf8
  iapply (piece_wp d i y gf id 32 (pos 32 (rest lo hi t)) (lo + 256 * t.val) lo (256 * t.val + pos 32 (rest lo hi t)) hi (by decide) (k3_cond10 v6 v12 t) cc3_scoped9 _ _
    (fun h => k3_off50_inb v6 v12 k3_hw1 t k3_h1 h7 h) (fun h => k3_off51_inb v6 v12 k3_hw1 t k3_h1 h7 h) (off50_eq h6 h12 hle hhi t hr) (off51_eq h6 h12 hle hhi t hr) (Nat.add_assoc _ _ _).symm
    (hin 32 _ c10) g (hbl 32 _ c10) f8 hf8 O W _ _)
  isplitl [H12]; · iexact H12
  isplitl [HF]; · iexact HF
  isplitr; · iexact Hmw
  isplitl [Hs9]; · iexact Hs9
  isplitl [HO]; · iexact HO
  iintro %f9 %hf9 ⟨H12, HF, -, Hs9, HO⟩
  replace hf9 : OutOK y gf id lo (256 * t.val + pos 16 (rest lo hi t)) f9 := by
    rw [show (if k3_cond10 v6 v12 t = 1#1 then 256 * t.val + pos 32 (rest lo hi t) + 32 else 256 * t.val + pos 32 (rest lo hi t)) = 256 * t.val + pos 16 (rest lo hi t) from
      pos_step 32 (rest lo hi t) (by decide) (256 * t.val) c10] at hf9
    exact hf9
  iapply (piece_wp d i y gf id 16 (pos 16 (rest lo hi t)) (lo + 256 * t.val) lo (256 * t.val + pos 16 (rest lo hi t)) hi (by decide) (k3_cond11 v6 v12 t) cc3_scoped10 _ _
    (fun h => k3_off52_inb v6 v12 k3_hw1 t k3_h1 h7 h) (fun h => k3_off53_inb v6 v12 k3_hw1 t k3_h1 h7 h) (off52_eq h6 h12 hle hhi t hr) (off53_eq h6 h12 hle hhi t hr) (Nat.add_assoc _ _ _).symm
    (hin 16 _ c11) g (hbl 16 _ c11) f9 hf9 O W _ _)
  isplitl [H12]; · iexact H12
  isplitl [HF]; · iexact HF
  isplitr; · iexact Hmw
  isplitl [Hs10]; · iexact Hs10
  isplitl [HO]; · iexact HO
  iintro %f10 %hf10 ⟨H12, HF, -, Hs10, HO⟩
  replace hf10 : OutOK y gf id lo (256 * t.val + pos 8 (rest lo hi t)) f10 := by
    rw [show (if k3_cond11 v6 v12 t = 1#1 then 256 * t.val + pos 16 (rest lo hi t) + 16 else 256 * t.val + pos 16 (rest lo hi t)) = 256 * t.val + pos 8 (rest lo hi t) from
      pos_step 16 (rest lo hi t) (by decide) (256 * t.val) c11] at hf10
    exact hf10
  iapply (piece_wp d i y gf id 8 (pos 8 (rest lo hi t)) (lo + 256 * t.val) lo (256 * t.val + pos 8 (rest lo hi t)) hi (by decide) (k3_cond12 v6 v12 t) cc3_scoped11 _ _
    (fun h => k3_off54_inb v6 v12 k3_hw1 t k3_h1 h7 h) (fun h => k3_off55_inb v6 v12 k3_hw1 t k3_h1 h7 h) (off54_eq h6 h12 hle hhi t hr) (off55_eq h6 h12 hle hhi t hr) (Nat.add_assoc _ _ _).symm
    (hin 8 _ c12) g (hbl 8 _ c12) f10 hf10 O W _ _)
  isplitl [H12]; · iexact H12
  isplitl [HF]; · iexact HF
  isplitr; · iexact Hmw
  isplitl [Hs11]; · iexact Hs11
  isplitl [HO]; · iexact HO
  iintro %f11 %hf11 ⟨H12, HF, -, Hs11, HO⟩
  replace hf11 : OutOK y gf id lo (256 * t.val + rest lo hi t.val) f11 := by
    rw [show (if k3_cond12 v6 v12 t = 1#1 then 256 * t.val + pos 8 (rest lo hi t) + 8 else 256 * t.val + pos 8 (rest lo hi t)) = 256 * t.val + rest lo hi t.val from
      (pos_step 8 (rest lo hi t) (by decide) (256 * t.val) c12).trans (by rw [hd8])] at hf11
    exact hf11
  sl_step
  iapply HK $$ %_ %f11 %hf11 [H12 HF Hs7 Hs8 Hs9 Hs10 Hs11 HO]
  isplitl [H12]; · iexact H12
  isplitl [HF]; · iexact HF
  isplitr; · iexact Hmw
  isplitl [Hs7]; · iexact Hs7
  isplitl [Hs8]; · iexact Hs8
  isplitl [Hs9]; · iexact Hs9
  isplitl [Hs10]; · iexact Hs10
  isplitl [Hs11]; · iexact Hs11
  iexact HO
end Tail

/-- The rows held, at contents known to be right so far. -/
theorem out_intro (d : Dev nD) (i : grid3.Coords) {y : ℕ → ℕ → F .f32} {gf : ℕ → F .f32} {id : ℕ → ℕ} {lo hi k : ℕ} {f : S320000x128.Idx → F .f32} (h : OutOK y gf id lo k f) :
    (oM.view.loc (tile d i) ↦[OS lo hi]{fullShare} f : sProp 𝕄) ⊢ iprop(∃ f', ⌜OutOK y gf id lo k f'⌝ ∗ (oM.view.loc (tile d i) ↦[OS lo hi]{fullShare} f')) := by
  iintro H
  iexists f
  isplitr; · ipureintro; exact h
  iexact H

/-- What a block's work keeps: the read shares, the staging buffers, the semaphores. -/
def Env (d : Dev nD) (i : grid3.Coords) (qy qi qf : PosShare TreeShare) (Y : S320512x64.Idx → F .f32) (I : S320520.Idx → BitVec 32) (G : S641024.Idx → F .f32)
    (f10 : S20480.Idx → F .f32) (O : CellTallies nD τ sig (HIx 2)) (W : Waits sig (HIx 2)) : sProp 𝕄 :=
  iprop((yM.view.loc (tile d i) ↦[Finset.univ]{qy} Y) ∗ (iM.view.loc (tile d i) ↦[Finset.univ]{qi} I)
    ∗ (∃ f8, a8.view.loc (tile d i) ↦[Finset.univ]{fullShare} f8) ∗ (∃ f9, a9.view.loc (tile d i) ↦[Finset.univ]{fullShare} f9)
    ∗ (a10.view.loc (tile d i) ↦[Finset.univ]{fullShare} f10) ∗ (∃ f12, a12.view.loc (tile d i) ↦[Finset.univ]{fullShare} f12)
    ∗ semVal (tile d i, SemLoc.dma cc3_scoped2.sem) 0 ∗ semVal (tile d i, SemLoc.dma cc3_scoped3.sem) 0 ∗ semVal (tile d i, SemLoc.dma cc3_scoped6.sem) 0
    ∗ semVal (tile d i, SemLoc.dma cc3_scoped7.sem) 0 ∗ semVal (tile d i, SemLoc.dma cc3_scoped8.sem) 0 ∗ semVal (tile d i, SemLoc.dma cc3_scoped9.sem) 0
    ∗ semVal (tile d i, SemLoc.dma cc3_scoped10.sem) 0 ∗ semVal (tile d i, SemLoc.dma cc3_scoped11.sem) 0
    ∗ RowEnv d i qf G O W)

section Chunk
variable (d : Dev nD) (i : grid3.Coords) {v6 v12 : BitVec 32} {lo hi : ℕ}
  (h6 : IsInt v6 lo) (h12 : IsInt v12 hi) (hle : lo ≤ hi) (hhi : hi ≤ 320000) (hd : 8 ∣ lo) (hd' : 8 ∣ hi)
  (y : ℕ → ℕ → F .f32) (gf : ℕ → F .f32) {id : ℕ → ℕ} (hid : ∀ r, lo ≤ r → r < hi → id r < seg (wid i + 1))
  (k3_hw1 : k3_chk1 v6 v12) (k3_h1 : k3_cond1 v6 v12 = 1#1)
include h6 h12 hle hhi hd hd' hid

/-- One block of 256 rows. -/
theorem chunk_wp (v13 v31 : BitVec 32) (t : Fin (k3_t1_loop v6 v12).trips) (c : BitVec 32)
    (qy qi qf : PosShare TreeShare) (Y : S320512x64.Idx → F .f32) (I : S320520.Idx → BitVec 32) (G : S641024.Idx → F .f32) (f10 : S20480.Idx → F .f32)
    (hY : ∀ z : S320512x64.Idx, Y z = y (z 0).val (z 1).val) (hI : ∀ z : S320520.Idx, IsInt (I z) (id (z 0).val)) (hG : ∀ z : S641024.Idx, G z = gf (z 0).val)
    (h10 : ∀ x : S20480.Idx, f10 x = gf (seg (wid i) * 64 + (x 0).val))
    (O : CellTallies nD τ sig (HIx 2)) (W : Waits sig (HIx 2))
    (f : S320000x128.Idx → F .f32) (hf : OutOK y gf id lo (256 * t.val) f) (Q : BitVec 32 → sProp 𝕄) :
    (iprop(Env d i qy qi qf Y I G f10 O W ∗ (oM.view.loc (tile d i) ↦[OS lo hi]{fullShare} f)
        ∗ ∀ c' f', ⌜OutOK y gf id lo (min (256 * (t.val + 1)) (hi - lo)) f'⌝ -∗
          (Env d i qy qi qf Y I G f10 O W ∗ (oM.view.loc (tile d i) ↦[OS lo hi]{fullShare} f')) -∗ Q c') : sProp 𝕄)
      ⊢ wp frame (wpE (defs₀ (F := F)) Variants.none (tile d i) none) Set.univ
          (k3_t1_body i yM (Memref.isWhole_whole _) iM (Memref.isWhole_whole _) bM (Memref.isWhole_whole _) fM (Memref.isWhole_whole _) oM (Memref.isWhole_whole _) a7 (Memref.isWhole_whole _) a8 (Memref.isWhole_whole _)
            a9 (Memref.isWhole_whole _) a10 (Memref.isWhole_whole _) a11 (Memref.isWhole_whole _) a12 (Memref.isWhole_whole _)
            cc3_scoped0 cc3_scoped1 cc3_scoped2 cc3_scoped3 cc3_scoped4 cc3_scoped5 cc3_scoped6 cc3_scoped7 cc3_scoped8 cc3_scoped9 cc3_scoped10 cc3_scoped11
            cc3_scoped12 cc3_scoped13 cc3_scoped14 cc3_scoped15 cc3_scoped16 cc3_scoped17 cc3_scoped18 cc3_scoped19 cc3_scoped20 cc3_scoped21
            v6 v12 k3_hw1 v13 v31 k3_h1 t c) Q := by
  have hrow := row_lt h6 h12 hle hhi t
  unfold k3_t1_body Env RowEnv
  iintro ⟨⟨HY, HI, ⟨%f8, H8⟩, ⟨%f9, H9⟩, H10, ⟨%f12, H12⟩, Hs2, Hs3, Hs6, Hs7, Hs8, Hs9, Hs10, Hs11, Hmw, HG, H11, Hs4, %W', %hW', HO⟩, HF, HQ⟩
  sl_exec
  have h9 : ∀ x : S256x64.Idx, View.write (Elt F) a9.view f9 (chunk_wp.sl.dma0 k3_hw1 k3_h1 t Y) Finset.univ x = y (lo + 256 * t.val + (x 0).val) (x 1).val := by
    intro x
    rw [View.write_whole_univ]
    unfold chunk_wp.sl.dma0
    show Y ((Rect.unit (s := S320512x64) (k3_off4 v6 v12 t) S256x64.size (k3_off4_inb v6 v12 k3_hw1 t k3_h1)).emb x) = _
    rw [hY]
    congr 1
    · simp [off4_eq h6 h12 hle hhi t]
    · simp [off4_eq h6 h12 hle hhi t]
  have h8 : ∀ x : S280.Idx, (x 0).val < 264 →
      IsInt (a8.view.writes (Elt F) f8 [⟨Rect.unit (s := S280) ![0] S264.size inb_S280_S264_0, chunk_wp.sl.dma0_1 k3_hw1 k3_h1 t I⟩] x)
        (id (lo + 256 * t.val + (x 0).val)) := by
    intro x hx
    have e := View.read_writes_cons_hit_of_coords (Val := Elt F) a8.view f8 (Rect.unit (s := S280) ![0] S264.size inb_S280_S264_0)
      (chunk_wp.sl.dma0_1 k3_hw1 k3_h1 t I) [] (fun a => ⟨(x 0).val, by fin_cases a; exact hx⟩) x (fun a => by fin_cases a; simp)
    rw [View.read_whole] at e
    rw [e]
    unfold chunk_wp.sl.dma0_1
    show IsInt (I ((Rect.unit (s := S320520) (k3_off5 v6 v12 t) S264.size (k3_off5_inb v6 v12 k3_hw1 t k3_h1)).emb _)) _
    have h := hI ((Rect.unit (s := S320520) (k3_off5 v6 v12 t) S264.size (k3_off5_inb v6 v12 k3_hw1 t k3_h1)).emb (fun a => ⟨(x 0).val, by fin_cases a; exact hx⟩))
    rw [show ((Rect.unit (s := S320520) (k3_off5 v6 v12 t) S264.size (k3_off5_inb v6 v12 k3_hw1 t k3_h1)).emb (fun a => ⟨(x 0).val, by fin_cases a; exact hx⟩) 0).val
      = lo + 256 * t.val + (x 0).val from by simp [off5_eq h6 h12 hle hhi t]] at h
    exact h
  sl_for (fun s c => iprop(∃ f12, ⌜Blk y gf id (lo + 256 * t.val) s f12⌝
      ∗ (a8.view.loc (tile d i) ↦[Finset.univ]{fullShare} _) ∗ (a9.view.loc (tile d i) ↦[Finset.univ]{fullShare} _)
      ∗ (a10.view.loc (tile d i) ↦[Finset.univ]{fullShare} f10) ∗ (a12.view.loc (tile d i) ↦[Finset.univ]{fullShare} f12)
      ∗ RowEnv d i qf G O W)) $$ [H8 H9 H10 H12 Hmw HG H11 Hs4 HO]
  case region =>
    intro s c
    iintro ⟨%f12, %hb, H8, H9, H10, H12, HE⟩
    iapply (row_wp d i h6 h12 hle hhi y gf hid k3_hw1 k3_h1 v31 t s qf G hG O W _ _ f10 f12 h8 h9 h10 hb c _)
    isplitl [H8]; · iexact H8
    isplitl [H9]; · iexact H9
    isplitl [H10]; · iexact H10
    isplitl [H12]; · iexact H12
    isplitl [HE]; · iexact HE
    iintro %c' %f12' %hb' ⟨H8, H9, H10, H12, HE⟩
    iexists f12'
    isplitr; · ipureintro; exact hb'
    isplitl [H8]; · iexact H8
    isplitl [H9]; · iexact H9
    isplitl [H10]; · iexact H10
    isplitl [H12]; · iexact H12
    iexact HE
  · iexists f12
    isplitr; · ipureintro; exact fun x hx => absurd hx (Nat.not_lt_zero _)
    isplitl [H8]; · iexact H8
    isplitl [H9]; · iexact H9
    isplitl [H10]; · iexact H10
    isplitl [H12]; · iexact H12
    unfold RowEnv
    isplitl [Hmw]; · iexact Hmw
    isplitl [HG]; · iexact HG
    isplitl [H11]; · iexact H11
    isplitl [Hs4]; · iexact Hs4
    iexists (insert (SemLoc.dma cc3_scoped3.sem, (default : HIx 2)) (insert (SemLoc.dma cc3_scoped2.sem, (default : HIx 2)) W'))
    isplitr
    · ipureintro
      intro p hp
      rcases Finset.mem_insert.mp hp with hp | hp
      · exact .inr (hp ▸ rfl)
      rcases Finset.mem_insert.mp hp with hp | hp
      · exact .inr (hp ▸ rfl)
      · exact hW' p hp
    iexact HO
  iintro %c' ⟨%f12', %hb', H8, H9, H10, H12, HE⟩
  rw [show Scf.trips (k3_t2_loop v6 v12 t).lb (k3_t2_loop v6 v12 t).ub (k3_t2_loop v6 v12 t).st = _ from t2_trips h6 h12 hle hhi t] at hb'
  unfold RowEnv
  icases HE with ⟨Hmw, HG, H11, Hs4, %W'', %hW'', HO⟩
  have hmin : min (256 * (t.val + 1)) (hi - lo) = 256 * t.val + rest lo hi t.val := by unfold rest; omega
  by_cases hc6 : k3_cond6 v6 v12 t = 1#1
  · have hr : rest lo hi t.val = 256 := (cond6_iff h6 h12 hle hhi t).mp hc6
    have hc7 : ¬ k3_cond7 v6 v12 t = 1#1 := fun h => absurd ((cond7_iff h6 h12 hle hhi t).mp h) (hr ▸ lt_irrefl _)
    have hsub : (oM.slice (Rect.unit (s := S320000x128) (k3_off46 v6 v12 t) S256x128.size (k3_off46_inb v6 v12 k3_hw1 t k3_h1 hc6)) (fun _ => rfl)).view.set ⊆ OS lo hi := by
      intro x hx
      have hx' := (mem_slice (n := 256) _ (off46_eq h6 h12 hle hhi t) x).mp hx
      have hr' : lo + 256 * t.val + 256 ≤ hi := by unfold rest at hr; omega
      exact mem_OS.mpr ⟨le_trans (Nat.le_add_right _ _) hx'.1, lt_of_lt_of_le hx'.2 hr'⟩
    ihave HF := (pointsTo_split_subset (ℓ := oM.view.loc (tile d i)) hsub).1 $$ HF
    icases HF with ⟨HA, HR⟩
    have eA (w : S320000x128.Idx → F .f32) : (oM.view.loc (tile d i) ↦[(oM.slice (Rect.unit (s := S320000x128) (k3_off46 v6 v12 t) S256x128.size (k3_off46_inb v6 v12 k3_hw1 t k3_h1 hc6)) (fun _ => rfl)).view.set]{fullShare} w : sProp 𝕄)
      ⊢ ((oM.slice (Rect.unit (s := S320000x128) (k3_off46 v6 v12 t) S256x128.size (k3_off46_inb v6 v12 k3_hw1 t k3_h1 hc6)) (fun _ => rfl)).view.loc (tile d i) ↦[(oM.slice (Rect.unit (s := S320000x128) (k3_off46 v6 v12 t) S256x128.size (k3_off46_inb v6 v12 k3_hw1 t k3_h1 hc6)) (fun _ => rfl)).view.set]{fullShare} w) := .rfl
    ihave HA := (eA f) $$ HA
    sl_exec
    sl_step
    have eA' (w : S320000x128.Idx → F .f32) : ((oM.slice (Rect.unit (s := S320000x128) (k3_off46 v6 v12 t) S256x128.size (k3_off46_inb v6 v12 k3_hw1 t k3_h1 hc6)) (fun _ => rfl)).view.loc (tile d i) ↦[(oM.slice (Rect.unit (s := S320000x128) (k3_off46 v6 v12 t) S256x128.size (k3_off46_inb v6 v12 k3_hw1 t k3_h1 hc6)) (fun _ => rfl)).view.set]{fullShare} w : sProp 𝕄)
      ⊢ (oM.view.loc (tile d i) ↦[(oM.slice (Rect.unit (s := S320000x128) (k3_off46 v6 v12 t) S256x128.size (k3_off46_inb v6 v12 k3_hw1 t k3_h1 hc6)) (fun _ => rfl)).view.set]{fullShare} w) := .rfl
    ihave HA := (eA' _) $$ HA
    ihave HF := (pointsTo_join_subset (ℓ := oM.view.loc (tile d i)) hsub) $$ [HA HR]
    · isplitl [HA] <;> iassumption
    rw [hmin, hr]
    rw [hr] at hb'
    ihave HF := (out_intro (hi := hi) d i (put_block y gf id (lo + 256 * t.val) lo (256 * t.val) _ (k3_off46_inb v6 v12 k3_hw1 t k3_h1 hc6) (off46_eq h6 h12 hle hhi t) rfl f12' hb' f hf (chunk_wp.sl.dma0_2 f12') rfl)) $$ HF
    icases HF with ⟨%f1, %hf1, HF⟩
    iapply HQ $$ %_ %f1 %hf1 [HY HI H8 H9 H10 H12 Hs2 Hs3 Hs6 Hs7 Hs8 Hs9 Hs10 Hs11 Hmw HG H11 Hs4 HO HF]
    isplitr [HF]
    · isplitl [HY]; · iexact HY
      isplitl [HI]; · iexact HI
      isplitl [H8]; · iexists _; iexact H8
      isplitl [H9]; · iexists _; iexact H9
      isplitl [H10]; · iexact H10
      isplitl [H12]; · iexists _; iexact H12
      isplitl [Hs2]; · iexact Hs2
      isplitl [Hs3]; · iexact Hs3
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hmw]; · iexact Hmw
      isplitl [HG]; · iexact HG
      isplitl [H11]; · iexact H11
      isplitl [Hs4]; · iexact Hs4
      iexists (insert (SemLoc.dma cc3_scoped6.sem, (default : HIx 2)) W'')
      isplitr
      · ipureintro
        intro p hp
        rcases Finset.mem_insert.mp hp with hp | hp
        · exact .inr (hp ▸ rfl)
        · exact hW'' p hp
      iexact HO
    · iexact HF
  · have hr : rest lo hi t.val < 256 := lt_of_le_of_ne (Nat.min_le_left _ _) (fun h => hc6 ((cond6_iff h6 h12 hle hhi t).mpr h))
    sl_exec
    rw [dif_pos ((cond7_iff h6 h12 hle hhi t).mpr hr), wp_bind]
    iapply (tail_wp d i h6 h12 hle hhi hd hd' y gf id k3_hw1 k3_h1 t hr _ _ _ f12' hb' f hf O W _)
    isplitl [H12]; · iexact H12
    isplitl [HF]; · iexact HF
    isplitl [Hmw]; · iexact Hmw
    isplitl [Hs7]; · iexact Hs7
    isplitl [Hs8]; · iexact Hs8
    isplitl [Hs9]; · iexact Hs9
    isplitl [Hs10]; · iexact Hs10
    isplitl [Hs11]; · iexact Hs11
    isplitl [HO]
    · iexists W''
      isplitr; · ipureintro; exact hW''
      iexact HO
    iintro %r %f1 %hf1 ⟨H12, HF, Hmw, Hs7, Hs8, Hs9, Hs10, Hs11, HO⟩
    obtain ⟨r0, r1, r2, r3⟩ := r
    dsimp only
    sl_step
    rw [hmin]
    iapply HQ $$ %_ %f1 %hf1 [HY HI H8 H9 H10 H12 Hs2 Hs3 Hs6 Hs7 Hs8 Hs9 Hs10 Hs11 Hmw HG H11 Hs4 HO HF]
    isplitr [HF]
    · isplitl [HY]; · iexact HY
      isplitl [HI]; · iexact HI
      isplitl [H8]; · iexists _; iexact H8
      isplitl [H9]; · iexists _; iexact H9
      isplitl [H10]; · iexact H10
      isplitl [H12]; · iexists _; iexact H12
      isplitl [Hs2]; · iexact Hs2
      isplitl [Hs3]; · iexact Hs3
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hmw]; · iexact Hmw
      isplitl [HG]; · iexact HG
      isplitl [H11]; · iexact H11
      isplitl [Hs4]; · iexact Hs4
      iexact HO
    · iexact HF
end Chunk

section Body
variable (d : Dev nD) (i : grid3.Coords)

/-- Word `k` of the copied boundaries, extracted from the sixteen words loaded at it. -/
theorem b_read (off : Fin 1 → ℕ) (inb) (f0 : S56.Idx → BitVec 32) (B : S40.Idx → BitVec 32) (n k : ℕ) (hk : k < 40) (hoff : off = ![k])
    (hB : ∀ z : S40.Idx, (z 0).val = k → IsInt (B z) n) (h1 : S16.ShapeCasts S16) (h2 : S16.Slices ![0] S1) (h3 : ∀ a, (![0] : Fin 1 → ℕ) a < S1.size a) :
    IsInt (extractAt ![0] (extractStridedSlice S1 ![0] (shapeCast S16 (View.readAt (Elt F) a7.view (Rect.unit (s := S56) off S16.size inb).toLoadRect
      (a7.view.writes (Elt F) f0 [⟨Rect.unit (s := S56) ![0] S40.size inb_S56_S40_0, (ReadAs.same (Val := Elt F)).apply (View.read (Elt F) bM.view B)⟩])) h1) h2) h3) n := by
  refine Eq.subst (motive := fun v => IsInt v n) ?_ (hB (fun a => ⟨k, by fin_cases a; exact hk⟩) rfl)
  symm
  refine (congrFun (shapeCast_self (s := S16) _ h1) _).trans ?_
  rw [View.readAt_apply, View.read_whole]
  refine (View.read_writes_cons_hit_of_coords (Val := Elt F) a7.view f0 (Rect.unit (s := S56) ![0] S40.size inb_S56_S40_0) _ _ (fun a => ⟨k, by fin_cases a; exact hk⟩ : S40.Idx) _ ?_).trans rfl
  intro a; fin_cases a; simp [hoff, LoadRect.idx_apply]

set_option maxHeartbeats 2000000 in
/-- One tile of the second SparseCore call: its rows of the result are written. -/
theorem body_wp {lo hi : ℕ} {id : ℕ → ℕ} (y : ℕ → ℕ → F .f32) (gf : ℕ → F .f32) (hle : lo ≤ hi) (hhi : hi ≤ 320000) (hd : 8 ∣ lo) (hd' : 8 ∣ hi)
    (hid : ∀ r, lo ≤ r → r < hi → id r < seg (wid i + 1))
    (qy qi qb qf : PosShare TreeShare) (Y : S320512x64.Idx → F .f32) (I : S320520.Idx → BitVec 32) (B : S40.Idx → BitVec 32) (G : S641024.Idx → F .f32)
    (hY : ∀ z : S320512x64.Idx, Y z = y (z 0).val (z 1).val) (hI : ∀ z : S320520.Idx, IsInt (I z) (id (z 0).val)) (hG : ∀ z : S641024.Idx, G z = gf (z 0).val)
    (hlo : ∀ z : S40.Idx, (z 0).val = wid i → IsInt (B z) lo) (hhiB : ∀ z : S40.Idx, (z 0).val = wid i + 1 → IsInt (B z) hi)
    (O : CellTallies nD τ sig (HIx 2)) (W : Waits sig (HIx 2)) (f : S320000x128.Idx → F .f32) :
    (iprop(Transfers.MayWaits (tile d i) (none : HIx 2) O
        ∗ (yM.view.loc (tile d i) ↦[Finset.univ]{qy} Y) ∗ (iM.view.loc (tile d i) ↦[Finset.univ]{qi} I)
        ∗ (bM.view.loc (tile d i) ↦[Finset.univ]{qb} B) ∗ (fM.view.loc (tile d i) ↦[Finset.univ]{qf} G)
        ∗ (oM.view.loc (tile d i) ↦[OS lo hi]{fullShare} f)
        ∗ (∃ f7, a7.view.loc (tile d i) ↦[Finset.univ]{fullShare} f7) ∗ (∃ f8, a8.view.loc (tile d i) ↦[Finset.univ]{fullShare} f8) ∗ (∃ f9, a9.view.loc (tile d i) ↦[Finset.univ]{fullShare} f9) ∗ (∃ f10, a10.view.loc (tile d i) ↦[Finset.univ]{fullShare} f10) ∗ (∃ f11, a11.view.loc (tile d i) ↦[Finset.univ]{fullShare} f11) ∗ (∃ f12, a12.view.loc (tile d i) ↦[Finset.univ]{fullShare} f12)
        ∗ semVal (tile d i, SemLoc.dma cc3_scoped0.sem) 0 ∗ semVal (tile d i, SemLoc.dma cc3_scoped1.sem) 0 ∗ semVal (tile d i, SemLoc.dma cc3_scoped2.sem) 0 ∗ semVal (tile d i, SemLoc.dma cc3_scoped3.sem) 0 ∗ semVal (tile d i, SemLoc.dma cc3_scoped4.sem) 0 ∗ semVal (tile d i, SemLoc.dma cc3_scoped6.sem) 0 ∗ semVal (tile d i, SemLoc.dma cc3_scoped7.sem) 0 ∗ semVal (tile d i, SemLoc.dma cc3_scoped8.sem) 0 ∗ semVal (tile d i, SemLoc.dma cc3_scoped9.sem) 0 ∗ semVal (tile d i, SemLoc.dma cc3_scoped10.sem) 0 ∗ semVal (tile d i, SemLoc.dma cc3_scoped11.sem) 0
        ∗ owes (tile d i) O W) : sProp 𝕄)
      ⊢ wp frame (wpE (defs₀ (F := F)) Variants.none (tile d i) none) Set.univ
          (cc3__sc2_body i yM (Memref.isWhole_whole _) iM (Memref.isWhole_whole _) bM (Memref.isWhole_whole _) fM (Memref.isWhole_whole _) oM (Memref.isWhole_whole _) a7 (Memref.isWhole_whole _) a8 (Memref.isWhole_whole _)
            a9 (Memref.isWhole_whole _) a10 (Memref.isWhole_whole _) a11 (Memref.isWhole_whole _) a12 (Memref.isWhole_whole _)
            cc3_scoped0 cc3_scoped1 cc3_scoped2 cc3_scoped3 cc3_scoped4 cc3_scoped5 cc3_scoped6 cc3_scoped7 cc3_scoped8 cc3_scoped9 cc3_scoped10 cc3_scoped11
            cc3_scoped12 cc3_scoped13 cc3_scoped14 cc3_scoped15 cc3_scoped16 cc3_scoped17 cc3_scoped18 cc3_scoped19 cc3_scoped20 cc3_scoped21) fun _ =>
        iprop((yM.view.loc (tile d i) ↦[Finset.univ]{qy} Y) ∗ (iM.view.loc (tile d i) ↦[Finset.univ]{qi} I)
        ∗ (bM.view.loc (tile d i) ↦[Finset.univ]{qb} B) ∗ (fM.view.loc (tile d i) ↦[Finset.univ]{qf} G)
        ∗ (∃ f', ⌜OutOK y gf id lo (hi - lo) f'⌝ ∗ (oM.view.loc (tile d i) ↦[OS lo hi]{fullShare} f'))
        ∗ (∃ f7, a7.view.loc (tile d i) ↦[Finset.univ]{fullShare} f7) ∗ (∃ f8, a8.view.loc (tile d i) ↦[Finset.univ]{fullShare} f8) ∗ (∃ f9, a9.view.loc (tile d i) ↦[Finset.univ]{fullShare} f9) ∗ (∃ f10, a10.view.loc (tile d i) ↦[Finset.univ]{fullShare} f10) ∗ (∃ f11, a11.view.loc (tile d i) ↦[Finset.univ]{fullShare} f11) ∗ (∃ f12, a12.view.loc (tile d i) ↦[Finset.univ]{fullShare} f12)
        ∗ semVal (tile d i, SemLoc.dma cc3_scoped0.sem) 0 ∗ semVal (tile d i, SemLoc.dma cc3_scoped1.sem) 0 ∗ semVal (tile d i, SemLoc.dma cc3_scoped2.sem) 0 ∗ semVal (tile d i, SemLoc.dma cc3_scoped3.sem) 0 ∗ semVal (tile d i, SemLoc.dma cc3_scoped4.sem) 0 ∗ semVal (tile d i, SemLoc.dma cc3_scoped6.sem) 0 ∗ semVal (tile d i, SemLoc.dma cc3_scoped7.sem) 0 ∗ semVal (tile d i, SemLoc.dma cc3_scoped8.sem) 0 ∗ semVal (tile d i, SemLoc.dma cc3_scoped9.sem) 0 ∗ semVal (tile d i, SemLoc.dma cc3_scoped10.sem) 0 ∗ semVal (tile d i, SemLoc.dma cc3_scoped11.sem) 0
        ∗ ∃ W', ⌜∀ p ∈ W', p ∈ W ∨ p.2 = none⌝ ∗ owes (tile d i) O W') := by
  rw [cc3__sc2_body_eq_skeleton]; unfold cc3__sc2_body_skel
  iintro ⟨Hmw, HY, HI, HB, HG, HF, ⟨%f7, H7⟩, ⟨%f8, H8⟩, ⟨%f9, H9⟩, ⟨%f10, H10⟩, ⟨%f11, H11⟩, ⟨%f12, H12⟩, Hs0, Hs1, Hs2, Hs3, Hs4, Hs6, Hs7, Hs8, Hs9, Hs10, Hs11, HO⟩
  sl_exec
  have h6 : IsInt (body_wp.sl.v6 d i B f7) lo :=
    b_read (F := F) _ (k3_off1_inb i) f7 B lo (wid i) (by have := wid_lt i; omega) (off1_eq i) hlo _ _ _
  have h12 : IsInt (body_wp.sl.v12 d i B f7) hi :=
    b_read (F := F) _ (k3_off2_inb i) f7 B hi (wid i + 1) (by have := wid_lt i; omega) (off2_eq i) hhiB _ _ _
  have hchk1 := chk1 h6 h12 hle hhi hd
  sl_exec
  have h10 : ∀ x : S20480.Idx, View.write (Elt F) a10.view f10 (body_wp.sl.dma0_1 i G) Finset.univ x = gf (seg (wid i) * 64 + (x 0).val) := by
    intro x
    rw [View.write_whole_univ]
    unfold body_wp.sl.dma0_1
    show G ((Rect.unit (s := S641024) (k3_off3 i) S20480.size (k3_off3_inb i)).emb x) = _
    rw [hG]
    congr 1
    simp [off3_eq i]
  by_cases hc1 : k3_cond1 (body_wp.sl.v6 d i B f7) (body_wp.sl.v12 d i B f7) = 1#1
  · sl_exec
    sl_for (fun t c => iprop(∃ f', ⌜OutOK y gf id lo (min (256 * t) (hi - lo)) f'⌝
        ∗ Env d i qy qi qf Y I G (View.write (Elt F) a10.view f10 (body_wp.sl.dma0_1 i G) Finset.univ) O W
        ∗ (oM.view.loc (tile d i) ↦[OS lo hi]{fullShare} f'))) $$ [Hmw HY HI HG HF H8 H9 H10 H11 H12 Hs2 Hs3 Hs4 Hs6 Hs7 Hs8 Hs9 Hs10 Hs11 HO]
    case region =>
      intro t c
      iintro ⟨%f1, %hst, HE, HF⟩
      have hrow := row_lt h6 h12 hle hhi t
      rw [show min (256 * t.val) (hi - lo) = 256 * t.val by omega] at hst
      iapply (chunk_wp d i h6 h12 hle hhi hd hd' y gf hid hchk1 hc1 _ _ t c qy qi qf Y I G _ hY hI hG h10 O W f1 hst _)
      isplitl [HE]; · iexact HE
      isplitl [HF]; · iexact HF
      iintro %c' %f1' %hst' ⟨HE, HF⟩
      iexists f1'
      isplitr; · ipureintro; exact hst'
      isplitl [HE]; · iexact HE
      iexact HF
    · iexists f
      isplitr
      · ipureintro
        intro x h1 h2
        rw [Nat.mul_zero, Nat.zero_min] at h2
        exact absurd h2 (Nat.not_lt.mpr h1)
      isplitr [HF]
      · unfold Env RowEnv
        isplitl [HY]; · iexact HY
        isplitl [HI]; · iexact HI
        isplitl [H8]; · iexists _; iexact H8
        isplitl [H9]; · iexists _; iexact H9
        isplitl [H10]; · iexact H10
        isplitl [H12]; · iexists _; iexact H12
        isplitl [Hs2]; · iexact Hs2
        isplitl [Hs3]; · iexact Hs3
        isplitl [Hs6]; · iexact Hs6
        isplitl [Hs7]; · iexact Hs7
        isplitl [Hs8]; · iexact Hs8
        isplitl [Hs9]; · iexact Hs9
        isplitl [Hs10]; · iexact Hs10
        isplitl [Hs11]; · iexact Hs11
        isplitl [Hmw]; · iexact Hmw
        isplitl [HG]; · iexact HG
        isplitl [H11]; · iexists _; iexact H11
        isplitl [Hs4]; · iexact Hs4
        iexists (insert (SemLoc.dma cc3_scoped1.sem, (default : HIx 2)) (insert (SemLoc.dma cc3_scoped0.sem, (default : HIx 2)) W))
        isplitr
        · ipureintro
          intro p hp
          rcases Finset.mem_insert.mp hp with hp | hp
          · exact .inr (hp ▸ rfl)
          rcases Finset.mem_insert.mp hp with hp | hp
          · exact .inr (hp ▸ rfl)
          · exact .inl hp
        iexact HO
      · iexact HF
    iintro %c ⟨%f1, %hst, HE, HF⟩
    unfold Env RowEnv
    icases HE with ⟨HY, HI, ⟨%f8', H8⟩, ⟨%f9', H9⟩, H10, ⟨%f12', H12⟩, Hs2, Hs3, Hs6, Hs7, Hs8, Hs9, Hs10, Hs11, Hmw, HG, ⟨%f11', H11⟩, Hs4, HO⟩
    have htt := t1_trips h6 h12 hle hhi
    rw [show Scf.trips (k3_t1_loop (body_wp.sl.v6 d i B f7) (body_wp.sl.v12 d i B f7)).lb (k3_t1_loop (body_wp.sl.v6 d i B f7) (body_wp.sl.v12 d i B f7)).ub
      (k3_t1_loop (body_wp.sl.v6 d i B f7) (body_wp.sl.v12 d i B f7)).st = (hi - lo + 255) / 256 from htt,
      show min (256 * ((hi - lo + 255) / 256)) (hi - lo) = hi - lo by omega] at hst
    sl_exec
    sl_step
    isplitl [HY]; · iexact HY
    isplitl [HI]; · iexact HI
    isplitl [HB]; · iexact HB
    isplitl [HG]; · iexact HG
    isplitl [HF]
    · iexists f1
      isplitr; · ipureintro; exact hst
      iexact HF
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [Hs0]; · iexact Hs0
    isplitl [Hs1]; · iexact Hs1
    isplitl [Hs2]; · iexact Hs2
    isplitl [Hs3]; · iexact Hs3
    isplitl [Hs4]; · iexact Hs4
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexact HO
  · sl_exec
    sl_step
    have hn : hi - lo = 0 := by
      have := mt (cond1_iff h6 h12 hle hhi).mpr hc1
      omega
    isplitl [HY]; · iexact HY
    isplitl [HI]; · iexact HI
    isplitl [HB]; · iexact HB
    isplitl [HG]; · iexact HG
    isplitl [HF]
    · iexists f
      isplitr
      · ipureintro; intro x h1 h2; rw [hn] at h2; exact absurd h2 (Nat.not_lt.mpr h1)
      iexact HF
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [Hs0]; · iexact Hs0
    isplitl [Hs1]; · iexact Hs1
    isplitl [Hs2]; · iexact Hs2
    isplitl [Hs3]; · iexact Hs3
    isplitl [Hs4]; · iexact Hs4
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    iexists (insert (SemLoc.dma cc3_scoped1.sem, (default : HIx 2)) (insert (SemLoc.dma cc3_scoped0.sem, (default : HIx 2)) W))
    isplitr
    · ipureintro
      intro p hp
      rcases Finset.mem_insert.mp hp with hp | hp
      · exact .inr (hp ▸ rfl)
      rcases Finset.mem_insert.mp hp with hp | hp
      · exact .inr (hp ▸ rfl)
      · exact .inl hp
    iexact HO
end Body
end Cert.KernelIdeal.Sc2
-- ==== Proof.Tiles.lean ====
/-
  The two SparseCore calls as the launch sees them: what a call's handshakes carry to each tile and back, and each tile's
  obligation, from the two bodies' theorems (Sc1Body.lean, Sc2Body.lean).
-/
module

public import proofs.«01_k».proof.Proof.Sc1Body
public import proofs.«01_k».proof.Proof.Sc2Body
public import proofs.«01_k».proof.Proof.Gen.KernelIdeal.Launch

@[expose] public section
noncomputable section
namespace Cert.KernelIdeal.Whole

open Cert.KernelIdeal Cert.KernelIdeal.Gen Cert.Words Cert.Runs
open Idealize.ShloMosaic Idealize.ShloMosaic.Affine
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are unscoped and apart, and no SparseCore's buffer is shared with its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the local copies' counters -/

abbrev UH : Type := URounds (GSem nD τ sig) ℕ
abbrev UK : Type := URounds (GSem nD τ sig) Unit
abbrev UU : Type := UH × (UK × Counters)

local notation "𝕄" => MT nD τ sig (HIx 2) (Elt F) ℕ UU ℕ

/-- The handshakes' part of the ghost state. -/
def EH : Emb UH (MT nD τ sig (HIx 2) (Elt F) ℕ UU ℕ) :=
  (Emb.inl : Emb UH UU).trans (uEmb (nD := nD) (sig := sig) (Ix := HIx 2) (Val := Elt F) (Name := ℕ) (U := UU) (Lvl := ℕ)).toEmb

/-- The regions' part of the ghost state. -/
def EP : Emb UK (MT nD τ sig (HIx 2) (Elt F) ℕ UU ℕ) :=
  ((Emb.inl : Emb UK (UK × Counters)).trans (Emb.inr : Emb (UK × Counters) UU)).trans
    (uEmb (nD := nD) (sig := sig) (Ix := HIx 2) (Val := Elt F) (Name := ℕ) (U := UU) (Lvl := ℕ)).toEmb

instance EH_landsIn : (EH : Emb UH 𝕄).LandsIn (upEmb : UEmb _ 𝕄) := by unfold EH; infer_instance
instance EP_landsIn : (EP : Emb UK 𝕄).LandsIn (upEmb : UEmb _ 𝕄) := by unfold EP; infer_instance

/-! ## What the SparseCore calls are handed -/

/-- The contents the two calls find: the points' values, the padded segment numbers, the two boundary tables and what the
    two outputs hold before; `id`, `y`, `lo`, `wa` are what the words and rows stand for. -/
structure Work (F : FTy → Type) where
  /-- the points' values -/
  Y : S320512x64.Idx → F .f32
  /-- the padded segment numbers -/
  I : S320520.Idx → BitVec 32
  /-- the first call's boundary table -/
  B : S40.Idx → BitVec 32
  /-- the second call's boundary table -/
  A : S40.Idx → BitVec 32
  /-- the segment maxima's array before -/
  X : S641024.Idx → F .f32
  /-- the result's array before -/
  R : S320000x128.Idx → F .f32
  /-- a point's segment -/
  id : ℕ → ℕ
  /-- a point's value in a column -/
  y : ℕ → ℕ → F .f32
  /-- the first call's boundaries -/
  lo : ℕ → ℕ
  /-- the second call's boundaries -/
  wa : ℕ → ℕ

/-- What the two bodies ask of it. -/
structure Work.OK [FloatOps F] (w : Work F) : Prop where
  /-- the points' values are the array's -/
  hY : ∀ z : S320512x64.Idx, w.Y z = w.y (z 0).val (z 1).val
  /-- the segment numbers are the words -/
  hI : ∀ z : S320520.Idx, IsInt (w.I z) (w.id (z 0).val)
  /-- the boundary words are the boundaries -/
  hB : ∀ z : S40.Idx, (z 0).val ≤ 32 → IsInt (w.B z) (w.lo (z 0).val)
  hA : ∀ z : S40.Idx, (z 0).val ≤ 32 → IsInt (w.A z) (w.wa (z 0).val)
  /-- the rows between two boundaries are a tile's segments' -/
  tile : ∀ n, n < 32 → InTile w.id (Sc1.seg n) (Sc1.seg (n + 1)) (w.lo n) (w.lo (n + 1))
  /-- the second call's boundaries cut the points into groups of eight rows -/
  wa_zero : w.wa 0 = 0
  wa_last : w.wa 32 = 320000
  wa_le : ∀ n, n < 32 → w.wa n ≤ w.wa (n + 1)
  wa_dvd : ∀ n, n ≤ 32 → 8 ∣ w.wa n
  /-- and a row of a group is of a segment at or before the tile's last -/
  id_lt : ∀ n, n < 32 → ∀ r, w.wa n ≤ r → r < w.wa (n + 1) → w.id r < Sc1.seg (n + 1)

variable [FloatOps F]

abbrev yLoc (d : Dev nD) : Loc nD τ sig := (SparseCore.T d).loc main_v4
abbrev iLoc (d : Dev nD) : Loc nD τ sig := (SparseCore.T d).loc main_v16
abbrev bLoc (d : Dev nD) : Loc nD τ sig := (SparseCore.T d).loc main_v9
abbrev aLoc (d : Dev nD) : Loc nD τ sig := (SparseCore.T d).loc main_v15
abbrev xLoc (d : Dev nD) : Loc nD τ sig := (SparseCore.T d).loc main_v17
abbrev oLoc (d : Dev nD) : Loc nD τ sig := (SparseCore.T d).loc main_v18

/-- What tile number `n` leaves of the maxima. -/
def FeatAt (w : Work F) (n : ℕ) (f : S641024.Idx → F .f32) : Prop :=
  Sc1.FeatOK w.id w.y (Sc1.seg n) (w.lo n) (w.lo (n + 1) - w.lo n) f

/-- What all the tiles leave of the maxima. -/
def FeatAll (w : Work F) (f : S641024.Idx → F .f32) : Prop := ∀ n, n < 32 → FeatAt w n f

/-- The result at an entry: the point's value or its segment's maximum, as the first call left the maxima. -/
def ResAt (w : Work F) (x : S320000x128.Idx) (v : F .f32) : Prop :=
  ∃ g : S641024.Idx → F .f32, ∃ gf : ℕ → F .f32, FeatAll w g ∧ (∀ z, g z = gf (z 0).val) ∧ v = Sc2.outV w.y gf w.id (x 0).val (x 1).val

/-- The read share of tile `n` in call `q`. -/
abbrev sh (q n : ℕ) : PosShare TreeShare := Transfers.shareTokN fullShare (32 * q + n)

variable (w : Work F)

/-- What the first call hands tile `n`, and gets back. -/
def go0 (d : Dev nD) (n : ℕ) : sProp 𝕄 :=
  iprop((yLoc d ↦{sh 0 n} w.Y) ∗ (iLoc d ↦{sh 0 n} w.I) ∗ (bLoc d ↦{sh 0 n} w.B) ∗ (xLoc d ↦[Sc1.FS n]{fullShare} w.X))

/-- What a tile gives back after the first call. -/
def td0 (d : Dev nD) (n : ℕ) : sProp 𝕄 :=
  iprop(∃ f, ⌜FeatAt w n f⌝ ∗ (xLoc d ↦[Sc1.FS n]{fullShare} f))
/-- What the second call hands tile `n`, and gets back. -/
def go1 (d : Dev nD) (n : ℕ) : sProp 𝕄 :=
  iprop(∃ g : S641024.Idx → F .f32, ⌜FeatAll w g⌝ ∗ (yLoc d ↦{sh 1 n} w.Y) ∗ (iLoc d ↦{sh 1 n} w.I) ∗ (aLoc d ↦{sh 1 n} w.A)
    ∗ (xLoc d ↦{sh 1 n} g) ∗ (oLoc d ↦[Sc2.OS (w.wa n) (w.wa (n + 1))]{fullShare} w.R))

/-- What a tile gives back after the second call. -/
def td1 (d : Dev nD) (n : ℕ) : sProp 𝕄 :=
  iprop(∃ f, ⌜∀ x ∈ Sc2.OS (w.wa n) (w.wa (n + 1)), ResAt w x (f x)⌝ ∗ (oLoc d ↦[Sc2.OS (w.wa n) (w.wa (n + 1))]{fullShare} f))

instance (d : Dev nD) (n : ℕ) : BI.Storable (upEmb : UEmb _ 𝕄) (go0 w d n) := by unfold go0; infer_instance
instance (d : Dev nD) (n : ℕ) : BI.Storable (upEmb : UEmb _ 𝕄) (td0 w d n) := by unfold td0; infer_instance
instance (d : Dev nD) (n : ℕ) : BI.Storable (upEmb : UEmb _ 𝕄) (go1 w d n) := by unfold go1; infer_instance
instance (d : Dev nD) (n : ℕ) : BI.Storable (upEmb : UEmb _ 𝕄) (td1 w d n) := by unfold td1; infer_instance

/-- A tile's number, from its SparseCore's and its own. -/
abbrev num (c i : ℕ) : ℕ := 16 * c + i

/-- The handshakes' payloads: a SparseCore's is its sixteen tiles'. -/
def P : (K (F := F)).Pay (nD := nD) (Val := Elt F) (Name := ℕ) (U := UU) where
  st := fun q d c => match q with
    | 0 => bigSep Finset.univ fun i : Fin 16 => go0 w d (num c.val i.val)
    | 1 => bigSep Finset.univ fun i : Fin 16 => go1 w d (num c.val i.val)
  dn := fun q d c => match q with
    | 0 => bigSep Finset.univ fun i : Fin 16 => td0 w d (num c.val i.val)
    | 1 => bigSep Finset.univ fun i : Fin 16 => td1 w d (num c.val i.val)
  go := fun q d c i => match q with
    | 0 => go0 w d (num c.val i.val)
    | 1 => go1 w d (num c.val i.val)
  td := fun q d c i => match q with
    | 0 => td0 w d (num c.val i.val)
    | 1 => td1 w d (num c.val i.val)
  x := fun _ _ => iprop(emp)

instance P_storable : (P (F := F) w).IsStorable where
  st q d c := match q with
    | 0 => (inferInstance : BI.Storable (upEmb : UEmb _ 𝕄) (bigSep Finset.univ fun i : Fin 16 => go0 w d (num c.val i.val)))
    | 1 => (inferInstance : BI.Storable (upEmb : UEmb _ 𝕄) (bigSep Finset.univ fun i : Fin 16 => go1 w d (num c.val i.val)))
  dn q d c := match q with
    | 0 => (inferInstance : BI.Storable (upEmb : UEmb _ 𝕄) (bigSep Finset.univ fun i : Fin 16 => td0 w d (num c.val i.val)))
    | 1 => (inferInstance : BI.Storable (upEmb : UEmb _ 𝕄) (bigSep Finset.univ fun i : Fin 16 => td1 w d (num c.val i.val)))
  go q d c i := match q with
    | 0 => (inferInstance : BI.Storable (upEmb : UEmb _ 𝕄) (go0 w d (num c.val i.val)))
    | 1 => (inferInstance : BI.Storable (upEmb : UEmb _ 𝕄) (go1 w d (num c.val i.val)))
  td q d c i := match q with
    | 0 => (inferInstance : BI.Storable (upEmb : UEmb _ 𝕄) (td0 w d (num c.val i.val)))
    | 1 => (inferInstance : BI.Storable (upEmb : UEmb _ 𝕄) (td1 w d (num c.val i.val)))

/-- A SparseCore's payload splits into its tiles' and joins from them: it is theirs. -/
theorem vecSplit (q : Fin 2) : (K (F := F)).VecSplit' (P w) q := by
  intro d c
  match q with
  | 0 =>
    show (bigSep Finset.univ fun i : Fin 16 => go0 w d (num c.val i.val)) ⊢ |={Set.univ}=> iprop((bigSep Finset.univ fun i : Fin 16 => go0 w d (num c.val i.val))
      ∗ ((bigSep Finset.univ fun i : Fin 16 => td0 w d (num c.val i.val)) -∗ (bigSep Finset.univ fun i : Fin 16 => td0 w d (num c.val i.val))))
    iintro H; imodintro
    isplitl [H]; · iexact H
    iintro H; iexact H
  | 1 =>
    show (bigSep Finset.univ fun i : Fin 16 => go1 w d (num c.val i.val)) ⊢ |={Set.univ}=> iprop((bigSep Finset.univ fun i : Fin 16 => go1 w d (num c.val i.val))
      ∗ ((bigSep Finset.univ fun i : Fin 16 => td1 w d (num c.val i.val)) -∗ (bigSep Finset.univ fun i : Fin 16 => td1 w d (num c.val i.val))))
    iintro H; imodintro
    isplitl [H]; · iexact H
    iintro H; iexact H

/-! ## A tile's own semaphores and buffers -/

/-- Some of a tile's own semaphores at zero, and the rest. -/
theorem ownSems0_some (d : Dev nD) (c : Fin τ.nSC) (i : Fin τ.nSub) (L : Finset (SemLoc sig)) (hL : ∀ s ∈ L, s.isScoped .scVector = true) :
    ∃ R : sProp 𝕄, (ownSems0 (V d c i) : sProp 𝕄) = iprop((bigSep L fun s => semVal (V d c i, s) 0) ∗ R) := by
  classical
  refine ⟨bigSep (ownCells (V d c i) \ L.map ⟨fun s => ((V d c i, s) : GSem nD τ sig), fun _ _ e => (Prod.mk.inj e).2⟩) fun g => semVal g 0, ?_⟩
  unfold SparseCore.Cfg.ownSems0
  rw [bigSep_sdiff_split (s := ownCells (V d c i)) (t := L.map ⟨fun s => ((V d c i, s) : GSem nD τ sig), fun _ _ e => (Prod.mk.inj e).2⟩)
    (fun g hg => by
      obtain ⟨s, hs, rfl⟩ := Finset.mem_map.mp hg
      exact mem_ownCells.mpr ⟨rfl, hL s hs⟩), bigSep_map]
  rfl

/-- Some of a tile's own buffers at some contents, and the rest. -/
theorem ownBufs_some (d : Dev nD) (c : Fin τ.nSC) (i : Fin τ.nSub) (L : Finset (Ref sig .scVector))
    (hL : ∀ b ∈ L, ((Proc.scVector c i).devRef b : DevRef τ sig).owner = .proc (.scVector c i)) :
    ∃ R : sProp 𝕄, (ownBufs (V d c i) : sProp 𝕄)
      = iprop((bigSep L fun b => iprop(∃ f : Buf (Elt F) ((V d c i).loc b), (V d c i).loc b ↦{fullShare} f)) ∗ R) := by
  classical
  refine ⟨bigSep (ownRefs (τ := τ) (.scVector c i) \ L.map ⟨(Proc.scVector c i).devRef, Proc.devRef_injective _⟩)
    fun b => iprop(∃ f, ((d, b) : Loc nD τ sig) ↦{fullShare} f), ?_⟩
  unfold SparseCore.Cfg.ownBufs
  rw [bigSep_sdiff_split (s := ownRefs (τ := τ) (V d c i).2) (t := L.map ⟨(Proc.scVector c i).devRef, Proc.devRef_injective _⟩)
    (fun g hg => by
      obtain ⟨b, hb, rfl⟩ := Finset.mem_map.mp hg
      exact SparseCore.Cfg.mem_ownRefs_of_owner (p := Proc.scVector c i) (hL b hb)), bigSep_map]
  rfl

/-- The semaphores the body of call 0 waits on, at zero, among the tile's own. -/
theorem sems0 (d : Dev nD) (i : grid2.Coords) :
    ∃ R : sProp 𝕄, (scopedSems0 (Sc1.tile d i) : sProp 𝕄) = iprop((semVal (Sc1.tile d i, SemLoc.dma cc2_scoped0.sem) 0 ∗ semVal (Sc1.tile d i, SemLoc.dma cc2_scoped1.sem) 0 ∗ semVal (Sc1.tile d i, SemLoc.dma cc2_scoped2.sem) 0 ∗ semVal (Sc1.tile d i, SemLoc.dma cc2_scoped5.sem) 0 ∗ semVal (Sc1.tile d i, SemLoc.dma cc2_scoped6.sem) 0) ∗ R) := by
  obtain ⟨R, h⟩ := ownSems0_some (F := F) d ((i 0).castLE hcore2) ((i 1).castLE hsub2) {SemLoc.dma cc2_scoped0.sem, SemLoc.dma cc2_scoped1.sem, SemLoc.dma cc2_scoped2.sem, SemLoc.dma cc2_scoped5.sem, SemLoc.dma cc2_scoped6.sem} (by decide)
  refine ⟨R, ((SparseCore.Cfg.scopedSems0_V (Val := Elt F) d _ _).trans h).trans (congrArg (fun X : sProp 𝕄 => iprop(X ∗ R)) ?_)⟩
  rw [bigSep_eq_bigSepL_of_eq [SemLoc.dma cc2_scoped0.sem, SemLoc.dma cc2_scoped1.sem, SemLoc.dma cc2_scoped2.sem, SemLoc.dma cc2_scoped5.sem, SemLoc.dma cc2_scoped6.sem] (by decide) (by decide)]
  rfl

/-- The scratch of call 0, among the tile's own buffers. -/
theorem bufs0 (d : Dev nD) (i : grid2.Coords) :
    ∃ R : sProp 𝕄, (scopedBufs (Sc1.tile d i) : sProp 𝕄) = iprop(((∃ f, Sc1.s0.view.loc (Sc1.tile d i) ↦[Finset.univ]{fullShare} f) ∗ (∃ f, Sc1.s1.view.loc (Sc1.tile d i) ↦[Finset.univ]{fullShare} f) ∗ (∃ f, Sc1.s2.view.loc (Sc1.tile d i) ↦[Finset.univ]{fullShare} f) ∗ (∃ f, Sc1.s3.view.loc (Sc1.tile d i) ↦[Finset.univ]{fullShare} f)) ∗ R) := by
  obtain ⟨R, h⟩ := ownBufs_some (F := F) d ((i 0).castLE hcore2) ((i 1).castLE hsub2) {cc2_scratch0, cc2_scratch1, cc2_scratch2, cc2_scratch3}
    (fun b hb => by simp only [Finset.mem_insert, Finset.mem_singleton] at hb; rcases hb with rfl | rfl | rfl | rfl <;> rfl)
  refine ⟨R, (((K (F := F)).scopedBufs_V facts d _ _).trans h).trans (congrArg (fun X : sProp 𝕄 => iprop(X ∗ R)) ?_)⟩
  rw [bigSep_eq_bigSepL_of_eq [cc2_scratch0, cc2_scratch1, cc2_scratch2, cc2_scratch3] (by decide) (by decide)]
  rfl

/-- The semaphores the body of call 1 waits on, at zero, among the tile's own. -/
theorem sems1 (d : Dev nD) (i : grid3.Coords) :
    ∃ R : sProp 𝕄, (scopedSems0 (Sc2.tile d i) : sProp 𝕄) = iprop((semVal (Sc2.tile d i, SemLoc.dma cc3_scoped0.sem) 0 ∗ semVal (Sc2.tile d i, SemLoc.dma cc3_scoped1.sem) 0 ∗ semVal (Sc2.tile d i, SemLoc.dma cc3_scoped2.sem) 0 ∗ semVal (Sc2.tile d i, SemLoc.dma cc3_scoped3.sem) 0 ∗ semVal (Sc2.tile d i, SemLoc.dma cc3_scoped4.sem) 0 ∗ semVal (Sc2.tile d i, SemLoc.dma cc3_scoped6.sem) 0 ∗ semVal (Sc2.tile d i, SemLoc.dma cc3_scoped7.sem) 0 ∗ semVal (Sc2.tile d i, SemLoc.dma cc3_scoped8.sem) 0 ∗ semVal (Sc2.tile d i, SemLoc.dma cc3_scoped9.sem) 0 ∗ semVal (Sc2.tile d i, SemLoc.dma cc3_scoped10.sem) 0 ∗ semVal (Sc2.tile d i, SemLoc.dma cc3_scoped11.sem) 0) ∗ R) := by
  obtain ⟨R, h⟩ := ownSems0_some (F := F) d ((i 0).castLE hcore3) ((i 1).castLE hsub3) {SemLoc.dma cc3_scoped0.sem, SemLoc.dma cc3_scoped1.sem, SemLoc.dma cc3_scoped2.sem, SemLoc.dma cc3_scoped3.sem, SemLoc.dma cc3_scoped4.sem, SemLoc.dma cc3_scoped6.sem, SemLoc.dma cc3_scoped7.sem, SemLoc.dma cc3_scoped8.sem, SemLoc.dma cc3_scoped9.sem, SemLoc.dma cc3_scoped10.sem, SemLoc.dma cc3_scoped11.sem} (by decide)
  refine ⟨R, ((SparseCore.Cfg.scopedSems0_V (Val := Elt F) d _ _).trans h).trans (congrArg (fun X : sProp 𝕄 => iprop(X ∗ R)) ?_)⟩
  rw [bigSep_eq_bigSepL_of_eq [SemLoc.dma cc3_scoped0.sem, SemLoc.dma cc3_scoped1.sem, SemLoc.dma cc3_scoped2.sem, SemLoc.dma cc3_scoped3.sem, SemLoc.dma cc3_scoped4.sem, SemLoc.dma cc3_scoped6.sem, SemLoc.dma cc3_scoped7.sem, SemLoc.dma cc3_scoped8.sem, SemLoc.dma cc3_scoped9.sem, SemLoc.dma cc3_scoped10.sem, SemLoc.dma cc3_scoped11.sem] (by decide) (by decide)]
  rfl

/-- The scratch of call 1, among the tile's own buffers. -/
theorem bufs1 (d : Dev nD) (i : grid3.Coords) :
    ∃ R : sProp 𝕄, (scopedBufs (Sc2.tile d i) : sProp 𝕄) = iprop(((∃ f, Sc2.a7.view.loc (Sc2.tile d i) ↦[Finset.univ]{fullShare} f) ∗ (∃ f, Sc2.a8.view.loc (Sc2.tile d i) ↦[Finset.univ]{fullShare} f) ∗ (∃ f, Sc2.a9.view.loc (Sc2.tile d i) ↦[Finset.univ]{fullShare} f) ∗ (∃ f, Sc2.a10.view.loc (Sc2.tile d i) ↦[Finset.univ]{fullShare} f) ∗ (∃ f, Sc2.a11.view.loc (Sc2.tile d i) ↦[Finset.univ]{fullShare} f) ∗ (∃ f, Sc2.a12.view.loc (Sc2.tile d i) ↦[Finset.univ]{fullShare} f)) ∗ R) := by
  obtain ⟨R, h⟩ := ownBufs_some (F := F) d ((i 0).castLE hcore3) ((i 1).castLE hsub3) {cc3_scratch0, cc3_scratch1, cc3_scratch2, cc3_scratch3, cc3_scratch4, cc3_scratch5}
    (fun b hb => by simp only [Finset.mem_insert, Finset.mem_singleton] at hb; rcases hb with rfl | rfl | rfl | rfl | rfl | rfl <;> rfl)
  refine ⟨R, (((K (F := F)).scopedBufs_V facts d _ _).trans h).trans (congrArg (fun X : sProp 𝕄 => iprop(X ∗ R)) ?_)⟩
  rw [bigSep_eq_bigSepL_of_eq [cc3_scratch0, cc3_scratch1, cc3_scratch2, cc3_scratch3, cc3_scratch4, cc3_scratch5] (by decide) (by decide)]
  rfl

/-! ## The tiles' obligations -/

/-- Tile `i` in the first call: its body (Sc1Body.lean) from what the call hands it. -/
theorem body0 (h : w.OK) (d : Dev nD) (i : grid2.Coords) (O : CellTallies nD τ sig (HIx 2)) (W : Waits sig (HIx 2)) (hO : ∀ g, O g none = 0) :
    iprop(levAts (K (F := F)).L (K (F := F)).lev ∗ (emp : sProp 𝕄) ∗ go0 w d (Sc1.wid i)
        ∗ scopedBufs (Sc1.tile d i) ∗ scopedSems0 (Sc1.tile d i) ∗ owes (Sc1.tile d i) O W)
      ⊢ wp frame (wpE (defs₀ (F := F)) 𝒱₀ (Sc1.tile d i) none) Set.univ
          (cc2__sc1_body i Sc1.yM (Memref.isWhole_whole _) Sc1.iM (Memref.isWhole_whole _) Sc1.bM (Memref.isWhole_whole _) Sc1.fM (Memref.isWhole_whole _)
            Sc1.s0 (Memref.isWhole_whole _) Sc1.s1 (Memref.isWhole_whole _) Sc1.s2 (Memref.isWhole_whole _) Sc1.s3 (Memref.isWhole_whole _)
            cc2_scoped0 cc2_scoped1 cc2_scoped2 cc2_scoped3 cc2_scoped4 cc2_scoped5 cc2_scoped6)
          fun _ => iprop(td0 w d (Sc1.wid i) ∗ scopedBufs (Sc1.tile d i) ∗ scopedSems0 (Sc1.tile d i)
            ∗ ∃ W', ⌜∀ p ∈ W', p ∈ W ∨ p.2 = none⌝ ∗ owes (Sc1.tile d i) O W') := by
  obtain ⟨RS, hS⟩ := sems0 (F := F) d i
  obtain ⟨RB, hB⟩ := bufs0 (F := F) d i
  have hw := Sc1.wid_lt i
  rw [hS, hB]
  unfold go0
  iintro ⟨#Hlv, -, ⟨HY, HI, HB, HX⟩, ⟨⟨B0, B1, B2, B3⟩, HRB⟩, ⟨⟨S0, S1, S2, S5, S6⟩, HRS⟩, HO⟩
  ihave Hmw := ((K (F := F)).mayWaits_none (thr := Sc1.tile d i) hO) $$ Hlv
  iapply (wp_wand_r frame _)
  isplitl [HY HI HB HX B0 B1 B2 B3 S0 S1 S2 S5 S6 HO Hmw]
  · iapply (Sc1.body_wp (F := F) (U := UU) d i w.y (h.tile _ hw) (sh 0 (Sc1.wid i)) (sh 0 (Sc1.wid i)) (sh 0 (Sc1.wid i)) w.Y w.I w.B h.hY h.hI
      (fun z hz => by have := h.hB z (by omega); rwa [hz] at this) (fun z hz => by have := h.hB z (by omega); rwa [hz] at this) O W w.X)
    isplitl [Hmw]; · iexact Hmw
    isplitl [HY]; · iexact HY
    isplitl [HI]; · iexact HI
    isplitl [HB]; · iexact HB
    isplitl [HX]; · iexact HX
    isplitl [B0]; · iexact B0
    isplitl [B1]; · iexact B1
    isplitl [B2]; · iexact B2
    isplitl [B3]; · iexact B3
    isplitl [S0]; · iexact S0
    isplitl [S1]; · iexact S1
    isplitl [S2]; · iexact S2
    isplitl [S5]; · iexact S5
    isplitl [S6]; · iexact S6
    iexact HO
  iintro %_ ⟨-, -, -, ⟨%f', %hf', HX⟩, B0, B1, B2, B3, S0, S1, S2, S5, S6, HO⟩
  isplitl [HX]
  · unfold td0; iexists f'; isplitr; · ipureintro; exact hf'
    iexact HX
  isplitl [B0 B1 B2 B3 HRB]
  · isplitl [B0 B1 B2 B3]
    · isplitl [B0]; · iexact B0
      isplitl [B1]; · iexact B1
      isplitl [B2]; · iexact B2
      iexact B3
    iexact HRB
  isplitl [S0 S1 S2 S5 S6 HRS]
  · isplitl [S0 S1 S2 S5 S6]
    · isplitl [S0]; · iexact S0
      isplitl [S1]; · iexact S1
      isplitl [S2]; · iexact S2
      isplitl [S5]; · iexact S5
      iexact S6
    iexact HRS
  iexact HO

/-- The maxima as a function of the place in memory. -/
theorem flat (g : S641024.Idx → F .f32) : ∃ gf : ℕ → F .f32, ∀ z, g z = gf (z 0).val := by
  classical
  refine ⟨fun n => if hn : ∃ z : S641024.Idx, (z 0).val = n then g hn.choose else g (fun a => ⟨0, by fin_cases a; show 0 < 641024; omega⟩), fun z => ?_⟩
  have hn : ∃ z' : S641024.Idx, (z' 0).val = (z 0).val := ⟨z, rfl⟩
  show g z = dite _ _ _
  rw [dif_pos hn]
  refine congrArg g (funext fun a => ?_)
  fin_cases a; exact Fin.ext hn.choose_spec.symm

/-- Tile `i` in the second call: its body (Sc2Body.lean) from what the call hands it. -/
theorem body1 (h : w.OK) (d : Dev nD) (i : grid3.Coords) (O : CellTallies nD τ sig (HIx 2)) (W : Waits sig (HIx 2)) (hO : ∀ g, O g none = 0) :
    iprop(levAts (K (F := F)).L (K (F := F)).lev ∗ (emp : sProp 𝕄) ∗ go1 w d (Sc1.wid i)
        ∗ scopedBufs (Sc2.tile d i) ∗ scopedSems0 (Sc2.tile d i) ∗ owes (Sc2.tile d i) O W)
      ⊢ wp frame (wpE (defs₀ (F := F)) 𝒱₀ (Sc2.tile d i) none) Set.univ
          (cc3__sc2_body i Sc2.yM (Memref.isWhole_whole _) Sc2.iM (Memref.isWhole_whole _) Sc2.bM (Memref.isWhole_whole _) Sc2.fM (Memref.isWhole_whole _) Sc2.oM (Memref.isWhole_whole _) Sc2.a7 (Memref.isWhole_whole _) Sc2.a8 (Memref.isWhole_whole _)
            Sc2.a9 (Memref.isWhole_whole _) Sc2.a10 (Memref.isWhole_whole _) Sc2.a11 (Memref.isWhole_whole _) Sc2.a12 (Memref.isWhole_whole _)
            cc3_scoped0 cc3_scoped1 cc3_scoped2 cc3_scoped3 cc3_scoped4 cc3_scoped5 cc3_scoped6 cc3_scoped7 cc3_scoped8 cc3_scoped9 cc3_scoped10 cc3_scoped11
            cc3_scoped12 cc3_scoped13 cc3_scoped14 cc3_scoped15 cc3_scoped16 cc3_scoped17 cc3_scoped18 cc3_scoped19 cc3_scoped20 cc3_scoped21)
          fun _ => iprop(td1 w d (Sc1.wid i) ∗ scopedBufs (Sc2.tile d i) ∗ scopedSems0 (Sc2.tile d i)
            ∗ ∃ W', ⌜∀ p ∈ W', p ∈ W ∨ p.2 = none⌝ ∗ owes (Sc2.tile d i) O W') := by
  obtain ⟨RS, hS⟩ := sems1 (F := F) d i
  obtain ⟨RB, hB⟩ := bufs1 (F := F) d i
  have hw := Sc1.wid_lt i
  rw [hS, hB]
  unfold go1
  iintro ⟨#Hlv, -, ⟨%g, %hg, HY, HI, HA, HX, HR⟩, ⟨⟨B7, B8, B9, B10, B11, B12⟩, HRB⟩, ⟨⟨S0, S1, S2, S3, S4, S6, S7, S8, S9, S10, S11⟩, HRS⟩, HO⟩
  obtain ⟨gf, hgf⟩ := flat g
  have hle := h.wa_le _ hw
  have hlast : ∀ n, n ≤ 32 → w.wa n ≤ 320000 := fun n hn => by
    rw [← h.wa_last]
    exact Nat.decreasingInduction (motive := fun m _ => w.wa m ≤ w.wa 32) (fun k hk ih => (h.wa_le k hk).trans ih) le_rfl hn
  ihave Hmw := ((K (F := F)).mayWaits_none (thr := Sc2.tile d i) hO) $$ Hlv
  iapply (wp_wand_r frame _)
  isplitl [HY HI HA HX HR B7 B8 B9 B10 B11 B12 S0 S1 S2 S3 S4 S6 S7 S8 S9 S10 S11 HO Hmw]
  · iapply (Sc2.body_wp (F := F) (U := UU) d i w.y gf hle (hlast _ (by omega)) (h.wa_dvd _ (by omega)) (h.wa_dvd _ (by omega)) (h.id_lt _ hw)
      (sh 1 (Sc1.wid i)) (sh 1 (Sc1.wid i)) (sh 1 (Sc1.wid i)) (sh 1 (Sc1.wid i)) w.Y w.I w.A g h.hY h.hI hgf
      (fun z hz => by have := h.hA z (by omega); rwa [hz] at this) (fun z hz => by have := h.hA z (by omega); rwa [hz] at this) O W w.R)
    isplitl [Hmw]; · iexact Hmw
    isplitl [HY]; · iexact HY
    isplitl [HI]; · iexact HI
    isplitl [HA]; · iexact HA
    isplitl [HX]; · iexact HX
    isplitl [HR]; · iexact HR
    isplitl [B7]; · iexact B7
    isplitl [B8]; · iexact B8
    isplitl [B9]; · iexact B9
    isplitl [B10]; · iexact B10
    isplitl [B11]; · iexact B11
    isplitl [B12]; · iexact B12
    isplitl [S0]; · iexact S0
    isplitl [S1]; · iexact S1
    isplitl [S2]; · iexact S2
    isplitl [S3]; · iexact S3
    isplitl [S4]; · iexact S4
    isplitl [S6]; · iexact S6
    isplitl [S7]; · iexact S7
    isplitl [S8]; · iexact S8
    isplitl [S9]; · iexact S9
    isplitl [S10]; · iexact S10
    isplitl [S11]; · iexact S11
    iexact HO
  iintro %_ ⟨-, -, -, -, ⟨%f', %hf', HR⟩, B7, B8, B9, B10, B11, B12, S0, S1, S2, S3, S4, S6, S7, S8, S9, S10, S11, HO⟩
  isplitl [HR]
  · unfold td1; iexists f'; isplitr
    · ipureintro; intro x hx
      have hx' := Sc2.mem_OS.mp hx
      exact ⟨g, gf, hg, hgf, hf' x hx'.1 (by omega)⟩
    iexact HR
  isplitl [B7 B8 B9 B10 B11 B12 HRB]
  · isplitl [B7 B8 B9 B10 B11 B12]
    · isplitl [B7]; · iexact B7
      isplitl [B8]; · iexact B8
      isplitl [B9]; · iexact B9
      isplitl [B10]; · iexact B10
      isplitl [B11]; · iexact B11
      iexact B12
    iexact HRB
  isplitl [S0 S1 S2 S3 S4 S6 S7 S8 S9 S10 S11 HRS]
  · isplitl [S0 S1 S2 S3 S4 S6 S7 S8 S9 S10 S11]
    · isplitl [S0]; · iexact S0
      isplitl [S1]; · iexact S1
      isplitl [S2]; · iexact S2
      isplitl [S3]; · iexact S3
      isplitl [S4]; · iexact S4
      isplitl [S6]; · iexact S6
      isplitl [S7]; · iexact S7
      isplitl [S8]; · iexact S8
      isplitl [S9]; · iexact S9
      isplitl [S10]; · iexact S10
      iexact S11
    iexact HRS
  iexact HO

/-- The waits a tile's body may leave recorded are among those the launch allows. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's coordinates in the first call's grid. -/
def coords2 (c : Fin (grid2.bound 0)) (s : Fin (grid2.bound 1)) : grid2.Coords :=
  fun | 0 => c | 1 => s | ⟨_ + 2, h⟩ => absurd h (Nat.not_lt.2 (Nat.le_add_left _ _))

/-- A tile's coordinates in the second call's grid. -/
def coords3 (c : Fin (grid3.bound 0)) (s : Fin (grid3.bound 1)) : grid3.Coords :=
  fun | 0 => c | 1 => s | ⟨_ + 2, h⟩ => absurd h (Nat.not_lt.2 (Nat.le_add_left _ _))

/-- What the body table runs on a tile, the first call, -/
theorem defs₀_call0 (c : Fin τ.nSC) (s : Fin τ.nSub) :
    defs₀ (F := F) (.scVector c s) 2 ()
      = SparseCore.onTile hcore2 hsub2 (fun c s => cc2__sc1_body (coords2 c s) Sc1.yM (Memref.isWhole_whole _) Sc1.iM (Memref.isWhole_whole _) Sc1.bM (Memref.isWhole_whole _) Sc1.fM (Memref.isWhole_whole _)
            Sc1.s0 (Memref.isWhole_whole _) Sc1.s1 (Memref.isWhole_whole _) Sc1.s2 (Memref.isWhole_whole _) Sc1.s3 (Memref.isWhole_whole _)
            cc2_scoped0 cc2_scoped1 cc2_scoped2 cc2_scoped3 cc2_scoped4 cc2_scoped5 cc2_scoped6) ⟨⟩ c s := rfl

/-- and the second. -/
theorem defs₀_call1 (c : Fin τ.nSC) (s : Fin τ.nSub) :
    defs₀ (F := F) (.scVector c s) 3 ()
      = SparseCore.onTile hcore3 hsub3 (fun c s => cc3__sc2_body (coords3 c s) Sc2.yM (Memref.isWhole_whole _) Sc2.iM (Memref.isWhole_whole _) Sc2.bM (Memref.isWhole_whole _) Sc2.fM (Memref.isWhole_whole _) Sc2.oM (Memref.isWhole_whole _) Sc2.a7 (Memref.isWhole_whole _) Sc2.a8 (Memref.isWhole_whole _)
            Sc2.a9 (Memref.isWhole_whole _) Sc2.a10 (Memref.isWhole_whole _) Sc2.a11 (Memref.isWhole_whole _) Sc2.a12 (Memref.isWhole_whole _)
            cc3_scoped0 cc3_scoped1 cc3_scoped2 cc3_scoped3 cc3_scoped4 cc3_scoped5 cc3_scoped6 cc3_scoped7 cc3_scoped8 cc3_scoped9 cc3_scoped10 cc3_scoped11
            cc3_scoped12 cc3_scoped13 cc3_scoped14 cc3_scoped15 cc3_scoped16 cc3_scoped17 cc3_scoped18 cc3_scoped19 cc3_scoped20 cc3_scoped21) ⟨⟩ c s := rfl

set_option maxRecDepth 4000 in
/-- Each tile's obligation in the first call, -/
theorem tileObl0 (h : w.OK) : (K (F := F)).TileObl (D (F := F)) 𝒱 (P w) v₀ 0 := by
  intro d c i O W hO _ _
  simp only [show (P w).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_call0]; simp only [SparseCore.onTile, hc, and_self, ↓reduceDIte]
  exact (body0 w h d (coords2 ⟨_, hc.1⟩ ⟨_, hc.2⟩) O W hO).trans (wp_mono frame _ _ fun _ => obl_post)

set_option maxRecDepth 4000 in
/-- and in the second. -/
theorem tileObl1 (h : w.OK) : (K (F := F)).TileObl (D (F := F)) 𝒱 (P w) v₀ 1 := by
  intro d c i O W hO _ _
  simp only [show (P w).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_call1]; simp only [SparseCore.onTile, hc, and_self, ↓reduceDIte]
  exact (body1 w h d (coords3 ⟨_, hc.1⟩ ⟨_, hc.2⟩) O W hO).trans (wp_mono frame _ _ fun _ => obl_post)

end Cert.KernelIdeal.Whole
end
-- ==== Proof.TcBody.lean ====
/-
  The two TensorCore bodies at one grid point: what each leaves in its staging buffers, over what the buffers read before.
-/
module

public import proofs.«01_k».proof.Proof.Tiles
public import proofs.«01_k».proof.Proof.Gen.KernelIdeal.Skeleton
public import Idealize.ShloMosaic.Lib.Pipeline.Value
public import Idealize.ShloMosaic.Lib.WritesUnit
public import Idealize.ShloMosaic.Lib.VecWindow
public import Idealize.ShloMosaic.Lib.Pointwise
public import Idealize.ShloMosaic.Lib.Tactic

@[expose] public section
noncomputable section
namespace Cert.KernelIdeal.Whole

open Cert.KernelIdeal Cert.KernelIdeal.Gen
open Idealize.ShloMosaic Idealize.ShloMosaic.Tactic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- A memref's buffer on the core: its contents, and it held whole at some. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Two zero offsets. -/
theorem zero2 : (![0, 0] : Fin 2 → Nat) = fun _ => 0 := funext fun a => by fin_cases a <;> rfl

/-- Three zero offsets. -/
theorem zero3 : (![0, 0, 0] : Fin 3 → Nat) = fun _ => 0 := funext fun a => by fin_cases a <;> rfl

/-- A row of the statistics. -/
def row0 (X : S8x64.Idx → F .f32) : Vec F S1x64 .f32 := View.ld (Val := Elt F) (e' := .f32) X (Rect.unit (s := S8x64) ![0, 0] S1x64.size inb_S8x64_S1x64_0_0)

/-- The second row of the statistics. -/
def row1 (X : S8x64.Idx → F .f32) : Vec F S1x64 .f32 := View.ld (Val := Elt F) (e' := .f32) X (Rect.unit (s := S8x64) ![1, 0] S1x64.size inb_S8x64_S1x64_1_0)

/-- The normalising body leaves its payload over the blocks. -/
theorem bn_wp (c : Dev nD) (i : grid1.Coords) (M0 : Memref sig .tc .vmem S512x64 .f32) (h0 : M0.IsWhole) (M1 : Memref sig .tc .vmem S8x64 .f32) (h1 : M1.IsWhole)
    (M2 : Memref sig .tc .vmem S1x64 .f32) (h2 : M2.IsWhole) (M3 : Memref sig .tc .vmem S1x64 .f32) (h3 : M3.IsWhole) (M4 : Memref sig .tc .vmem S512x64 .f32) (h4 : M4.IsWhole)
    (f0 : Bf (F := F) c M0) (f1 : Bf (F := F) c M1) (f2 : Bf (F := F) c M2) (f3 : Bf (F := F) c M3) (f4 : Bf (F := F) c M4) (E : Set ℕ) (Q : PUnit → sProp 𝕄) :
    iprop(pt c M0 f0 ∗ pt c M1 f1 ∗ pt c M2 f2 ∗ pt c M3 f3 ∗ pt c M4 f4 ∗
        (∀ g, ⌜M4.view.read (Elt F) g = k1_pay1 (row0 (M1.view.read (Elt F) f1)) (row1 (M1.view.read (Elt F) f1)) (M2.view.read (Elt F) f2) (M3.view.read (Elt F) f3) (M0.view.read (Elt F) f0)⌝ -∗
          iprop(pt c M0 f0 ∗ pt c M1 f1 ∗ pt c M2 f2 ∗ pt c M3 f3 ∗ pt c M4 g) -∗ Q ⟨⟩))
      ⊢ wp frame (wpE (defs₀ (F := F)) Variants.none c none) E (cc1__bn_swish_body i M0 h0 M1 h1 M2 h2 M3 h3 M4 h4) Q := by
  rw [cc1__bn_swish_body_eq_skeleton]
  unfold cc1__bn_swish_body_skel
  iintro ⟨H0, H1, H2, H3, H4, HQ⟩
  sl_exec
  sl_step
  iapply HQ $$ %_ %?_ [H0 H1 H2 H3 H4]
  rotate_left
  · isplitl [H0]; · iexact H0
    isplitl [H1]; · iexact H1
    isplitl [H2]; · iexact H2
    isplitl [H3]; · iexact H3
    iexact H4
  · simp only [View.readAt_eq_ld, View.ld_unit_zero (S := S1x64) zero2, View.ld_unit_zero (S := S512x64) zero2]
    exact View.read_writes_full _ _ _ _ _

/-- The statistics after a block: its sums added to the first row, its squares' to the second. -/
def statStep (v3 : Vec F S512x128 .f32) (v4 : Vec F S64x128 .f32) (X : S8x64.Idx → F .f32) : S8x64.Idx → F .f32 := fun z =>
  if (z 0).val = 0 then k0_pay5 v3 v4 (row0 X) (ix2 (n0 := 1) 0 (z 1)) else if (z 0).val = 1 then k0_pay6 v3 v4 (row1 X) (ix2 (n0 := 1) 0 (z 1)) else X z

/-- The counts' first column. -/
def col0 (X : S64x128.Idx → BitVec 32) : Vec F S64x1 .i32 := View.ld (Val := Elt F) (e' := .i32) X (Rect.unit (s := S64x128) ![0, 0] S64x1.size inb_S64x128_S64x1_0_0)

/-- The counts after a block: how many of its numbers are below each tile's end, added to the first column. -/
def cntStep (v20 : Vec F S1x1x512 .i32) (X : S64x128.Idx → BitVec 32) : S64x128.Idx → BitVec 32 := fun z =>
  if (z 1).val = 0 then k0_pay1 (F := F) (k0_pay7 (F := F) v20) k0_pay8 32#32 k0_pay9 0#32 (col0 (F := F) X) (ix2 (n1 := 1) (z 0) 0) else X z

section Rows
variable {κ : Kind} {sp : Space} (v : View sig κ sp S8x64 .f32) (f : v.ty.Contents (Elt F)) (L : List (View.Piece (Elt F) S8x64 .f32))

/-- What two row stores leave. -/
theorem read_two_rows (p5 p6 : Vec F S1x64 .f32) :
    v.read (Elt F) (v.writes (Elt F) f (⟨Rect.unit ![1, 0] S1x64.size inb_S8x64_S1x64_1_0, p6⟩ :: ⟨Rect.unit ![0, 0] S1x64.size inb_S8x64_S1x64_0_0, p5⟩ :: L))
      = fun z => if (z 0).val = 0 then p5 (ix2 (n0 := 1) 0 (z 1)) else if (z 0).val = 1 then p6 (ix2 (n0 := 1) 0 (z 1)) else v.read (Elt F) (v.writes (Elt F) f L) z := by
  funext z
  by_cases h1 : (z 0).val = 1
  · rw [if_neg (by omega), if_pos h1]
    exact View.read_writes_cons_rows_of_mem (d := ![8, 64]) (o := 1) v f _ _ _ z (ix2 (n0 := 1) 0 (z 1)) rfl h1 rfl
  · rw [View.read_writes_cons_rows_of_not_mem (d := ![8, 64]) (o := 1) (W := 1) v f _ _ _ z rfl rfl (by omega)]
    by_cases h0 : (z 0).val = 0
    · rw [if_pos h0]
      exact View.read_writes_cons_rows_of_mem (d := ![8, 64]) (o := 0) v f _ _ _ z (ix2 (n0 := 1) 0 (z 1)) rfl (by rw [h0]; rfl) rfl
    · rw [if_neg h0, if_neg h1]
      exact View.read_writes_cons_rows_of_not_mem (d := ![8, 64]) (o := 0) (W := 1) v f _ _ _ z rfl rfl (by omega)

/-- The second row is read as it was before the first one's store. -/
theorem row1_after (p5 : Vec F S1x64 .f32) :
    View.ld (v.read (Elt F) (v.writes (Elt F) f (⟨Rect.unit ![0, 0] S1x64.size inb_S8x64_S1x64_0_0, p5⟩ :: L))) (Rect.unit (s := S8x64) ![1, 0] S1x64.size inb_S8x64_S1x64_1_0)
      = row1 (v.read (Elt F) (v.writes (Elt F) f L)) := by
  funext z
  refine View.read_writes_cons_rows_of_not_mem (d := ![8, 64]) (o := 0) (W := 1) v f _ _ _ _ rfl rfl (.inr ?_)
  show 0 + 1 ≤ 1 + 1 * (z 0).val
  omega

/-- The two row stores of the first point, over one that fills the buffer. -/
theorem read_two_rows_first (a : Vec F S512x128 .f32) (b : Vec F S64x128 .f32) (X : S8x64.Idx → F .f32) (j j' : v.ty.Contents (Elt F))
    (hX : ∀ g, v.read (Elt F) (v.writes (Elt F) g L) = X) :
    v.read (Elt F) (v.writes (Elt F) f
        (⟨Rect.unit ![1, 0] S1x64.size inb_S8x64_S1x64_1_0, k0_pay6 a b (View.ld (v.read (Elt F) (v.writes (Elt F) j
            (⟨Rect.unit ![0, 0] S1x64.size inb_S8x64_S1x64_0_0, k0_pay5 a b (View.ld (v.read (Elt F) (v.writes (Elt F) j' L)) (Rect.unit (s := S8x64) ![0, 0] S1x64.size inb_S8x64_S1x64_0_0))⟩ :: L)))
              (Rect.unit (s := S8x64) ![1, 0] S1x64.size inb_S8x64_S1x64_1_0))⟩
          :: ⟨Rect.unit ![0, 0] S1x64.size inb_S8x64_S1x64_0_0, k0_pay5 a b (View.ld (v.read (Elt F) (v.writes (Elt F) j' L)) (Rect.unit (s := S8x64) ![0, 0] S1x64.size inb_S8x64_S1x64_0_0))⟩ :: L))
      = statStep a b X := by
  rw [read_two_rows, row1_after, hX, hX, hX]
  rfl
end Rows

section Cols
variable {κ : Kind} {sp : Space} (v : View sig κ sp S64x128 .i32) (f : v.ty.Contents (Elt F)) (L : List (View.Piece (Elt F) S64x128 .i32))

/-- What a store to the first column leaves. -/
theorem read_col (p : Vec F S64x1 .i32) :
    v.read (Elt F) (v.writes (Elt F) f (⟨Rect.unit ![0, 0] S64x1.size inb_S64x128_S64x1_0_0, p⟩ :: L))
      = fun z => if (z 1).val = 0 then p (ix2 (n1 := 1) (z 0) 0) else v.read (Elt F) (v.writes (Elt F) f L) z := by
  funext z
  by_cases h1 : (z 1).val = 0
  · rw [if_pos h1]
    refine View.read_writes_cons_unit_of_mem (off' := ![0, 0]) v f _ _ _ z (ix2 (n1 := 1) (z 0) 0) rfl fun a => ?_
    fin_cases a
    · exact (Nat.zero_add _).symm
    · exact h1
  · rw [if_neg h1]
    refine View.read_writes_cons_unit_of_not_mem (off' := ![0, 0]) v f _ _ _ z rfl 1 (.inr ?_)
    show 0 + 1 ≤ (z 1).val
    omega

/-- The column's store of the first point, over one that fills the buffer. -/
theorem read_col_first (ids : Vec F S1x1x512 .i32) (X : S64x128.Idx → BitVec 32) (j : v.ty.Contents (Elt F)) (hX : ∀ g, v.read (Elt F) (v.writes (Elt F) g L) = X) :
    v.read (Elt F) (v.writes (Elt F) f (⟨Rect.unit ![0, 0] S64x1.size inb_S64x128_S64x1_0_0,
        k0_pay1 (F := F) (k0_pay7 (F := F) ids) k0_pay8 32#32 k0_pay9 0#32 (View.ld (v.read (Elt F) (v.writes (Elt F) j L)) (Rect.unit (s := S64x128) ![0, 0] S64x1.size inb_S64x128_S64x1_0_0))⟩ :: L))
      = cntStep (F := F) ids X := by
  rw [hX]
  refine (read_col _ _ _ _).trans ?_
  rw [hX]
  rfl
end Cols

/-- The first point's body starts the statistics and the counts from zeros. -/
theorem stats_first (c : Dev nD) (i : grid0.Coords) (hi : (i 0).val = 0) (M0 : Memref sig .tc .vmem S512x128 .f32) (h0 : M0.IsWhole) (M1 : Memref sig .tc .vmem S1x1x512 .i32) (h1 : M1.IsWhole)
    (M2 : Memref sig .tc .vmem S64x128 .f32) (h2 : M2.IsWhole) (M3 : Memref sig .tc .vmem S512x64 .f32) (h3 : M3.IsWhole) (M4 : Memref sig .tc .vmem S8x64 .f32) (h4 : M4.IsWhole)
    (M5 : Memref sig .tc .vmem S64x128 .i32) (h5 : M5.IsWhole)
    (f0 : Bf (F := F) c M0) (f1 : Bf (F := F) c M1) (f2 : Bf (F := F) c M2) (f3 : Bf (F := F) c M3) (f4 : Bf (F := F) c M4) (f5 : Bf (F := F) c M5) (E : Set ℕ) (Q : PUnit → sProp 𝕄) :
    iprop(pt c M0 f0 ∗ pt c M1 f1 ∗ pt c M2 f2 ∗ pt c M3 f3 ∗ pt c M4 f4 ∗ pt c M5 f5 ∗
        (∀ g3 g4 g5, ⌜M3.view.read (Elt F) g3 = k0_pay4 (M0.view.read (Elt F) f0) (M2.view.read (Elt F) f2)
            ∧ M4.view.read (Elt F) g4 = statStep (M0.view.read (Elt F) f0) (M2.view.read (Elt F) f2) (k0_pay2 (F := F))
            ∧ M5.view.read (Elt F) g5 = cntStep (F := F) (M1.view.read (Elt F) f1) k0_pay3⌝ -∗
          iprop(pt c M0 f0 ∗ pt c M1 f1 ∗ pt c M2 f2 ∗ pt c M3 g3 ∗ pt c M4 g4 ∗ pt c M5 g5) -∗ Q ⟨⟩))
      ⊢ wp frame (wpE (defs₀ (F := F)) Variants.none c none) E (cc0__mm_stats_body i M0 h0 M1 h1 M2 h2 M3 h3 M4 h4 M5 h5) Q := by
  rw [cc0__mm_stats_body_eq_skeleton]
  unfold cc0__mm_stats_body_skel
  rw [k0_part1_eq_skeleton]
  unfold k0_part1_skel
  have hc : Scalar.cmpi .ne (Scalar.extui (Scalar.cmpi .eq (BitVec.ofNat 32 (i 0).val) 0#32) : BitVec 32) 0#32 = 1#1 := by rw [hi]; decide
  simp only [hc, dite_true]
  iintro ⟨H0, H1, H2, H3, H4, H5, HQ⟩
  sl_exec
  sl_step
  iapply HQ $$ %_ %_ %_ %?_ [H0 H1 H2 H3 H4 H5]
  rotate_left
  · isplitl [H0]; · iexact H0
    isplitl [H1]; · iexact H1
    isplitl [H2]; · iexact H2
    isplitl [H3]; · iexact H3
    isplitl [H4]; · iexact H4
    iexact H5
  · sl_unfold_words
    simp only [View.readCov, View.readAt_eq_ld, read_two_rows, row1_after, read_col, View.ld_unit_zero (S := S512x128) zero2, View.ld_unit_zero (S := S64x128) zero2, View.ld_unit_zero (S := S1x1x512) zero3,
      View.read_writes_full]
    have e : ∀ g, View.read (Elt F) M5.view (M5.view.writes (Elt F) g [⟨Rect.unit ![0, 0] S64x128.size inb_S64x128_S64x128_0_0, k0_pay3⟩]) = k0_pay3 :=
      fun g => View.read_writes_full _ _ _ _ _
    have e4 : ∀ g, View.read (Elt F) M4.view (M4.view.writes (Elt F) g [⟨Rect.unit ![0, 0] S8x64.size inb_S8x64_S8x64_0_0, k0_pay2⟩]) = k0_pay2 (F := F) :=
      fun g => View.read_writes_full _ _ _ _ _
    refine ⟨View.read_writes_full _ _ _ _ _, ?_, ?_⟩
    · exact read_two_rows_first M4.view f4 [⟨Rect.unit ![0, 0] S8x64.size inb_S8x64_S8x64_0_0, k0_pay2⟩] _ _ _ _ _ e4
    · exact read_col_first M5.view f5 [⟨Rect.unit ![0, 0] S64x128.size inb_S64x128_S64x128_0_0, k0_pay3⟩] _ _ _ e

/-- The other points' body leaves a step over what it finds. -/
theorem stats_next (c : Dev nD) (i : grid0.Coords) (hi : (i 0).val ≠ 0) (M0 : Memref sig .tc .vmem S512x128 .f32) (h0 : M0.IsWhole) (M1 : Memref sig .tc .vmem S1x1x512 .i32) (h1 : M1.IsWhole)
    (M2 : Memref sig .tc .vmem S64x128 .f32) (h2 : M2.IsWhole) (M3 : Memref sig .tc .vmem S512x64 .f32) (h3 : M3.IsWhole) (M4 : Memref sig .tc .vmem S8x64 .f32) (h4 : M4.IsWhole)
    (M5 : Memref sig .tc .vmem S64x128 .i32) (h5 : M5.IsWhole)
    (f0 : Bf (F := F) c M0) (f1 : Bf (F := F) c M1) (f2 : Bf (F := F) c M2) (f3 : Bf (F := F) c M3) (f4 : Bf (F := F) c M4) (f5 : Bf (F := F) c M5) (E : Set ℕ) (Q : PUnit → sProp 𝕄) :
    iprop(pt c M0 f0 ∗ pt c M1 f1 ∗ pt c M2 f2 ∗ pt c M3 f3 ∗ pt c M4 f4 ∗ pt c M5 f5 ∗
        (∀ g3 g4 g5, ⌜M3.view.read (Elt F) g3 = k0_pay4 (M0.view.read (Elt F) f0) (M2.view.read (Elt F) f2)
            ∧ M4.view.read (Elt F) g4 = statStep (M0.view.read (Elt F) f0) (M2.view.read (Elt F) f2) (M4.view.read (Elt F) f4)
            ∧ M5.view.read (Elt F) g5 = cntStep (F := F) (M1.view.read (Elt F) f1) (M5.view.read (Elt F) f5)⌝ -∗
          iprop(pt c M0 f0 ∗ pt c M1 f1 ∗ pt c M2 f2 ∗ pt c M3 g3 ∗ pt c M4 g4 ∗ pt c M5 g5) -∗ Q ⟨⟩))
      ⊢ wp frame (wpE (defs₀ (F := F)) Variants.none c none) E (cc0__mm_stats_body i M0 h0 M1 h1 M2 h2 M3 h3 M4 h4 M5 h5) Q := by
  rw [cc0__mm_stats_body_eq_skeleton]
  unfold cc0__mm_stats_body_skel
  rw [k0_part1_eq_skeleton]
  unfold k0_part1_skel
  have hc : ¬ Scalar.cmpi .ne (Scalar.extui (Scalar.cmpi .eq (BitVec.ofNat 32 (i 0).val) 0#32) : BitVec 32) 0#32 = 1#1 := by
    have hlt : (i 0).val < 625 := (i 0).isLt
    have : (BitVec.ofNat 32 (i 0).val == 0#32) = false := by
      rw [beq_eq_false_iff_ne]; intro h
      have := congrArg BitVec.toNat h
      simp only [BitVec.toNat_ofNat] at this
      omega
    simp [Scalar.cmpi, Scalar.extui, IntOp.cmpi, this]
  simp only [hc, dite_false]
  iintro ⟨H0, H1, H2, H3, H4, H5, HQ⟩
  sl_exec
  sl_step
  iapply HQ $$ %_ %_ %_ %?_ [H0 H1 H2 H3 H4 H5]
  rotate_left
  · isplitl [H0]; · iexact H0
    isplitl [H1]; · iexact H1
    isplitl [H2]; · iexact H2
    isplitl [H3]; · iexact H3
    isplitl [H4]; · iexact H4
    iexact H5
  · sl_unfold_words
    simp only [View.readAt_eq_ld, read_two_rows, row1_after, read_col, View.ld_unit_zero (S := S512x128) zero2, View.ld_unit_zero (S := S64x128) zero2, View.ld_unit_zero (S := S1x1x512) zero3]
    exact ⟨View.read_writes_full _ _ _ _ _, (read_two_rows _ _ _ _ _).trans rfl, (read_col _ _ _ _).trans rfl⟩

end Cert.KernelIdeal.Whole
-- ==== Proof.Regions.lean ====
/-
  The two TensorCore calls as pipelines: what each point leaves in its staging buffers, the bodies' obligations, and each
  call's region over all the TensorCore's buffers held at a valuation.
-/
module

public import proofs.«01_k».proof.Proof.TcBody
public import proofs.«01_k».proof.Proof.Gen.KernelIdeal.Points
public import Idealize.ShloMosaic.Lib.Pipeline.RegionArrays

@[expose] public section
noncomputable section
namespace Cert.KernelIdeal.Whole

open Cert.KernelIdeal Cert.KernelIdeal.Gen
open Idealize.ShloMosaic Idealize.ShloMosaic.Tactic Idealize.ShloMosaic.TcCoe
open Idealize.ShloMosaic.SparseCore.Cfg (HIx)
open Idealize.ShloMosaic.Pipeline (Dat BodyObligation arrRef arrRefs ucRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The pairs recorded before a TensorCore call: none above the lowest level. -/
def low (c : Dev nD) : Set (SemLoc sig × HIx 2) := {p | (K (F := F)).lev (SparseCore.T c, p.1) p.2 ≤ 0}

/-! ## The first call's blocks -/

section Blocks
variable (V : Valuation τ sig (Elt F))

/-- The points', the segment numbers' and the weights' blocks at a point. -/
def in0 (t : Fin cfg0.N) : Vec F S512x128 .f32 := ((cfg0.win 0).blk t).view.read (Elt F) (V (Proc.devRef .tc main_arg0))

/-- A block of segment numbers. -/
def in1 (t : Fin cfg0.N) : Vec F S1x1x512 .i32 := ((cfg0.win 1).blk t).view.read (Elt F) (V (Proc.devRef .tc main_v0))

/-- The weights. -/
def in2 (t : Fin cfg0.N) : Vec F S64x128 .f32 := ((cfg0.win 2).blk t).view.read (Elt F) (V (Proc.devRef .tc main_arg2))

/-- The statistics after the first `n + 1` points. -/
def statAt : (n : ℕ) → n < cfg0.N → (S8x64.Idx → F .f32)
  | 0, h => statStep (in0 V ⟨0, h⟩) (in2 V ⟨0, h⟩) (k0_pay2 (F := F))
  | n + 1, h => statStep (in0 V ⟨n + 1, h⟩) (in2 V ⟨n + 1, h⟩) (statAt n (by omega))

/-- The counts after the first `n + 1` points. -/
def cntAt : (n : ℕ) → n < cfg0.N → (S64x128.Idx → BitVec 32)
  | 0, h => cntStep (F := F) (in1 V ⟨0, h⟩) k0_pay3
  | n + 1, h => cntStep (F := F) (in1 V ⟨n + 1, h⟩) (cntAt n (by omega))

/-- The second call's blocks: the products', the statistics', the two coefficients'. -/
def x0 (t : Fin cfg1.N) : Vec F S512x64 .f32 := ((cfg1.win 0).blk t).view.read (Elt F) (V (Proc.devRef .tc main_v1_0))

/-- The statistics. -/
def x1 (t : Fin cfg1.N) : Vec F S8x64 .f32 := ((cfg1.win 1).blk t).view.read (Elt F) (V (Proc.devRef .tc main_v1_1))

/-- The scale. -/
def x2 (t : Fin cfg1.N) : Vec F S1x64 .f32 := ((cfg1.win 2).blk t).view.read (Elt F) (V (Proc.devRef .tc main_v2))

/-- The shift. -/
def x3 (t : Fin cfg1.N) : Vec F S1x64 .f32 := ((cfg1.win 3).blk t).view.read (Elt F) (V (Proc.devRef .tc main_v3))

/-- What the second call leaves of a block. -/
def yBlk (t : Fin cfg1.N) : Vec F S512x64 .f32 := k1_pay1 (row0 (x1 V t)) (row1 (x1 V t)) (x2 V t) (x3 V t) (x0 V t)

end Blocks

/-! ## The proof data -/

abbrev Φ0 (c : Dev nD) : sProp 𝕄 := Pipeline.scopedRest (Ix := HIx 2) (Name := ℕ) (U := UU) (Lvl := ℕ) (Val := Elt F) spec0 c
abbrev Φ1 (c : Dev nD) : sProp 𝕄 := Pipeline.scopedRest (Ix := HIx 2) (Name := ℕ) (U := UU) (Lvl := ℕ) (Val := Elt F) spec1 c

/-- The first call's. -/
def dat0 (V : Valuation τ sig (Elt F)) (c : Dev nD) : Dat τ (Elt F) (HIx 2) ℕ UU ℕ cfg0 c where
  A w := V (Proc.devRef .tc (arrRef spec0 w))
  after w t := match w with
    | ⟨0, _⟩ => in0 V t
    | ⟨1, _⟩ => in1 V t
    | ⟨2, _⟩ => in2 V t
    | ⟨3, _⟩ => k0_pay4 (in0 V t) (in2 V t)
    | ⟨4, _⟩ => statAt V t.val t.isLt
    | ⟨5, _⟩ => cntAt V t.val t.isLt
  Φ _ := Φ0 c
  q _ := fullShare
  owed _ := (K (F := F)).Otc c 0
  recorded _ := low (F := F) c

/-- The second call's. -/
def dat1 (V : Valuation τ sig (Elt F)) (c : Dev nD) : Dat τ (Elt F) (HIx 2) ℕ UU ℕ cfg1 c where
  A w := V (Proc.devRef .tc (arrRef spec1 w))
  after w t := match w with
    | ⟨0, _⟩ => x0 V t
    | ⟨1, _⟩ => x1 V t
    | ⟨2, _⟩ => x2 V t
    | ⟨3, _⟩ => x3 V t
    | ⟨4, _⟩ => yBlk V t
  Φ _ := Φ1 c
  q _ := fullShare
  owed _ := (K (F := F)).Otc c 0
  recorded _ := low (F := F) c

abbrev adm : (p : Fin 2) → (pcfgs (F := F) p).Adm := fun p => (cfgs p).toPCfg_adm

/-- Both calls' data from one valuation. -/
def pdats (V : Valuation τ sig (Elt F)) : (p : Fin 2) → (c : Dev nD) → Dat τ (Elt F) (HIx 2) ℕ UU ℕ (Pipeline.pin (pcfgs (F := F)) adm p) c
  | ⟨0, _⟩ => fun c => dat0 V c
  | ⟨1, _⟩ => fun c => dat1 V c

variable (V : Valuation τ sig (Elt F)) (c : Dev nD)

/-! ## What the bodies find -/

/-- The first call's body finds its block of points. -/
theorem before0_0 (t : Fin cfg0.N) (d) : (dat0 V c).before 0 t d = in0 V t :=
  (Dat.before_fetched _ 0 t (fetch0_0 t) d).trans rfl

/-- The first call's body finds its block of segment numbers. -/
theorem before0_1 (t : Fin cfg0.N) (d) : (dat0 V c).before 1 t d = in1 V t :=
  (Dat.before_fetched _ 1 t (fetch0_1 t) d).trans rfl

/-- The first call's body finds the weights. -/
theorem before0_2 (t : Fin cfg0.N) (d) : (dat0 V c).before 2 t d = in2 V t :=
  (Dat.before_in_eq_fetched _ 2 rfl (fun _ => rfl) (fun _ _ _ => rfl) (fun _ => rfl) t d).trans rfl

/-- The second call's body finds its block of products. -/
theorem before1_0 (t : Fin cfg1.N) (d) : (dat1 V c).before 0 t d = x0 V t :=
  (Dat.before_fetched _ 0 t (fetch1_0 t) d).trans rfl

/-- The second call's body finds the statistics. -/
theorem before1_1 (t : Fin cfg1.N) (d) : (dat1 V c).before 1 t d = x1 V t :=
  (Dat.before_in_eq_fetched _ 1 rfl (fun _ => rfl) (fun _ _ _ => rfl) (fun _ => rfl) t d).trans rfl

/-- The second call's body finds the scale. -/
theorem before1_2 (t : Fin cfg1.N) (d) : (dat1 V c).before 2 t d = x2 V t :=
  (Dat.before_in_eq_fetched _ 2 rfl (fun _ => rfl) (fun _ _ _ => rfl) (fun _ => rfl) t d).trans rfl

/-- The second call's body finds the shift. -/
theorem before1_3 (t : Fin cfg1.N) (d) : (dat1 V c).before 3 t d = x3 V t :=
  (Dat.before_in_eq_fetched _ 3 rfl (fun _ => rfl) (fun _ _ _ => rfl) (fun _ => rfl) t d).trans rfl

/-- The body finds the statistics as the previous block left them. -/
theorem before0_4 (n : ℕ) (h : n + 1 < cfg0.N) (d) : (dat0 V c).before 4 ⟨n + 1, h⟩ d = statAt V n (by omega) :=
  (Dat.before_out_kept _ 4 rfl ⟨n + 1, h⟩ (Nat.succ_ne_zero n)
    (Bool.eq_false_iff.mpr fun hf => by
      have h1 := (flush0_4 _).mp hf
      have h2 : cfg0.N = 625 := N_0
      have h3 : n % 625 = 624 := h1
      omega) (fun _ => rfl) (fun _ _ => rfl) d).trans rfl

/-- The body finds the counts as the previous block left them. -/
theorem before0_5 (n : ℕ) (h : n + 1 < cfg0.N) (d) : (dat0 V c).before 5 ⟨n + 1, h⟩ d = cntAt V n (by omega) :=
  (Dat.before_out_kept _ 5 rfl ⟨n + 1, h⟩ (Nat.succ_ne_zero n)
    (Bool.eq_false_iff.mpr fun hf => by
      have h1 := (flush0_5 _).mp hf
      have h2 : cfg0.N = 625 := N_0
      have h3 : n % 625 = 624 := h1
      omega) (fun _ => rfl) (fun _ _ => rfl) d).trans rfl

/-! ## The bodies' obligations -/

/-- A whole buffer owned is its contents, read through the memref. -/
theorem owns_of_whole {sp : Space} {S : Shape} {e : EltTy} (M : Memref sig .tc sp S e) (h : M.IsWhole) (X : S.Idx → Elt F e) :
    (owns (c.tc : Thread nD τ) M fullShare X : sProp 𝕄) = iprop(∃ f : Bf (F := F) c M, ⌜M.view.read (Elt F) f = X⌝ ∗ pt c M f) := by
  unfold owns; rw [h.set_eq_univ]

/-- The coordinate of a grid point of the first call is its number. -/
theorem coord0 (t : Fin cfg0.N) : (grid0.coords t 0).val = t.val := by
  have h : cfg0.N = 625 := N_0
  have h' := t.isLt
  rw [Pipeline.Grid.coords_val (G := grid0) t 0 (S := 1) (B := 625) (by decide) rfl]
  omega

/-- The second call's body does what its data say, at every grid point. -/
theorem obligation1 : BodyObligation (dat1 V c) (defs₀ (F := F)) 𝒱₀ (none : HIx 2) Set.univ := fun t => by
  rw [bigSep_W1, bigSep_W1]
  simp only [owns_of_whole c _ (hstage1_0 _), owns_of_whole c _ (hstage1_1 _), owns_of_whole c _ (hstage1_2 _), owns_of_whole c _ (hstage1_3 _), owns_of_whole c _ (hstage1_4 _)]
  rw [show (dat1 V c).Φ t.castSucc = Φ1 c from rfl, show (dat1 V c).Φ t.succ = Φ1 c from rfl,
    show (dat1 V c).owesAt (none : HIx 2) t.succ = (dat1 V c).owesAt (none : HIx 2) t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before1_0] at hf0
  rw [before1_1] at hf1
  rw [before1_2] at hf2
  rw [before1_3] at hf3
  iapply (bn_wp c (grid1.coords t) _ (hstage1_0 _) _ (hstage1_1 _) _ (hstage1_2 _) _ (hstage1_3 _) _ (hstage1_4 _) f0 f1 f2 f3 f4 Set.univ _)
  isplitl [H0]; · iexact H0
  isplitl [H1]; · iexact H1
  isplitl [H2]; · iexact H2
  isplitl [H3]; · iexact H3
  isplitl [H4]; · iexact H4
  iintro %g %hg ⟨H0, H1, H2, H3, H4⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  iexists _; isplitr; swap; (· iexact H4); ipureintro
  exact hg.trans (by rw [hf0, hf1, hf2, hf3]; rfl)

/-- The first call's body does what its data say, at every grid point. -/
theorem obligation0 : BodyObligation (dat0 V c) (defs₀ (F := F)) 𝒱₀ (none : HIx 2) Set.univ := fun t => by
  rw [bigSep_W0, bigSep_W0]
  simp only [owns_of_whole c _ (hstage0_0 _), owns_of_whole c _ (hstage0_1 _), owns_of_whole c _ (hstage0_2 _), owns_of_whole c _ (hstage0_3 _), owns_of_whole c _ (hstage0_4 _), owns_of_whole c _ (hstage0_5 _)]
  rw [show (dat0 V c).Φ t.castSucc = Φ0 c from rfl, show (dat0 V c).Φ t.succ = Φ0 c from rfl,
    show (dat0 V c).owesAt (none : HIx 2) t.succ = (dat0 V c).owesAt (none : HIx 2) t.castSucc from rfl]
  iintro ⟨HΦ, Howes, ⟨%d0, %f0, %hf0, H0⟩, ⟨%d1, %f1, %hf1, H1⟩, ⟨%d2, %f2, %hf2, H2⟩, ⟨%d3, %f3, -, H3⟩, ⟨%d4, %f4, %hf4, H4⟩, ⟨%d5, %f5, %hf5, H5⟩⟩
  rw [before0_0] at hf0
  rw [before0_1] at hf1
  rw [before0_2] at hf2
  obtain ⟨n, hn⟩ := t
  cases n with
  | zero =>
    iapply (stats_first c (grid0.coords ⟨0, hn⟩) (coord0 _) _ (hstage0_0 _) _ (hstage0_1 _) _ (hstage0_2 _) _ (hstage0_3 _) _ (hstage0_4 _) _ (hstage0_5 _) f0 f1 f2 f3 f4 f5 Set.univ _)
    isplitl [H0]; · iexact H0
    isplitl [H1]; · iexact H1
    isplitl [H2]; · iexact H2
    isplitl [H3]; · iexact H3
    isplitl [H4]; · iexact H4
    isplitl [H5]; · iexact H5
    iintro %g3 %g4 %g5 %hg ⟨H0, H1, H2, H3, H4, H5⟩
    isplitl [HΦ]; · iexact HΦ
    isplitl [Howes]; · iexact Howes
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hg.1.trans (by rw [hf0, hf2]; rfl)
    isplitl [H4]; · iexists _; isplitr; swap; (· iexact H4); ipureintro; exact hg.2.1.trans (by rw [hf0, hf2]; rfl)
    iexists _; isplitr; swap; (· iexact H5); ipureintro
    exact hg.2.2.trans (by rw [hf1]; rfl)
  | succ n =>
    rw [before0_4] at hf4
    rw [before0_5] at hf5
    iapply (stats_next c (grid0.coords ⟨n + 1, hn⟩) (by rw [coord0]; exact Nat.succ_ne_zero n) _ (hstage0_0 _) _ (hstage0_1 _) _ (hstage0_2 _) _ (hstage0_3 _) _ (hstage0_4 _) _ (hstage0_5 _) f0 f1 f2 f3 f4 f5 Set.univ _)
    isplitl [H0]; · iexact H0
    isplitl [H1]; · iexact H1
    isplitl [H2]; · iexact H2
    isplitl [H3]; · iexact H3
    isplitl [H4]; · iexact H4
    isplitl [H5]; · iexact H5
    iintro %g3 %g4 %g5 %hg ⟨H0, H1, H2, H3, H4, H5⟩
    isplitl [HΦ]; · iexact HΦ
    isplitl [Howes]; · iexact Howes
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hg.1.trans (by rw [hf0, hf2]; rfl)
    isplitl [H4]; · iexists _; isplitr; swap; (· iexact H4); ipureintro; exact hg.2.1.trans (by rw [hf0, hf2, hf4]; rfl)
    iexists _; isplitr; swap; (· iexact H5); ipureintro
    exact hg.2.2.trans (by rw [hf1, hf5]; rfl)

/-! ## The regions -/

/-- The calls' obligations are above every wait of the pipelines. -/
theorem Otc_above (g : GSem nD τ sig) (i : HIx 2) (h : 0 < (K (F := F)).Otc c 0 g i) : i ∈ (K (F := F)).L (N := 2) g ∧ 0 < (K (F := F)).lev g i := by
  have h1 := SparseCore.Cfg.lev_of_Otc_pos (K := K (F := F)) h
  exact ⟨Finset.mem_univ _, by omega⟩

/-- The TensorCore's recorded pairs and what it owes between its calls. -/
def owesLow : sProp 𝕄 := iprop(∃ W, ⌜(K (F := F)).WBelow (SparseCore.T c) W 0⌝ ∗ owes (SparseCore.T c) ((K (F := F)).Otc c 0) W)

variable (V' : Dev nD → Valuation τ sig (Elt F))

set_option backward.isDefEq.respectTransparency.types false in
/-- The first call's region: every buffer at `V` before, at `V'` after. -/
def reg0 (harr : ∀ c w, (dat0 V c).arrAt w cfg0.N = V' c (Proc.devRef .tc (arrRef spec0 w)))
    (hoff : ∀ c, ∀ b ∈ ucRefs τ sig \ arrRefs spec0, V b = V' c b) :
    Pipeline.RegionSeg (pcfgs (F := F)) adm (pdats V) (none : HIx 2) defs₀ 𝒱₀ ((K (F := F)).L (N := 2)) ((K (F := F)).lev (N := 2)) 0 where
  win := launch0.win.to₀
  block_pos := launch0.block_pos
  stage_whole := launch0.stage_whole
  K := PEmpty
  osem k := k.elim
  ho := Pipeline.OwnSemFacts.none _
  hbody c := (obligation0 V c).loose
  hwaits c := Pipeline.cellsWaits_of_cut (Pipeline.pin (pcfgs (F := F)) adm) (pdats V) none 0 c 0 ((K (F := F)).Otc c 0) (fun _ => rfl)
    (fun _ _ => Finset.mem_univ _) (fun _ _ => le_rfl) (Otc_above c)
  pre c := iprop(StableHlo.held (c.tc : Thread nD τ) (ucRefs τ sig) V ∗ owesLow c)
  post c := iprop(StableHlo.held (c.tc : Thread nD τ) (ucRefs τ sig) (V' c) ∗ owesLow c)
  X _ := BI.emp
  Y _ := BI.emp
  Z c := StableHlo.held (c.tc : Thread nD τ) (ucRefs τ sig \ arrRefs spec0) V
  hentry c := by
    have h : ((pdats V 0 c).arrays (fun w => (pdats V 0 c).arrAt w 0) : sProp 𝕄) = StableHlo.held (c.tc : Thread nD τ) (arrRefs spec0) V :=
      Pipeline.arrays_held (pcfgs (F := F)) adm (pdats V) 0 launch0.toP c (fun w => (pdats V 0 c).share_full (fun _ => rfl) w) _ V fun _ => rfl
    rw [Pipeline.ownSems0_none, StableHlo.held_sub_split (c.tc) (Pipeline.arrRefs_sub_ucRefs (τ := τ) spec0 launch0.win.arr_unscoped) V, ← h]
    iintro ⟨⟨⟨Ha, Hrest⟩, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold owesLow Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φ0 c from rfl]
    iintro ⟨-, -, Hr⟩; iexact Hr
  hout c := by
    rw [Pipeline.ownSems0_none, show (pdats V 0 c).Φ (Fin.last _) = Φ0 c from rfl]
    iintro Hr
    isplitr; · iempintro
    isplitr; · iempintro
    iexact Hr
  hexit c := by
    have h : ((pdats V 0 c).arrays (fun w => (pdats V 0 c).arrAt w (Pipeline.pin (pcfgs (F := F)) adm 0).N) : sProp 𝕄) = StableHlo.held (c.tc : Thread nD τ) (arrRefs spec0) (V' c) :=
      Pipeline.arrays_held (pcfgs (F := F)) adm (pdats V) 0 launch0.toP c (fun w => (pdats V 0 c).share_full (fun _ => rfl) w) _ (V' c) (harr c)
    rw [StableHlo.held_sub_split (c.tc) (Pipeline.arrRefs_sub_ucRefs (τ := τ) spec0 launch0.win.arr_unscoped) (V' c),
      ← StableHlo.held_congr (c.tc) (hoff c), ← h]
    iintro ⟨Ha, HO, -, Hrest⟩
    imodintro
    isplitl [Ha Hrest]
    · isplitl [Ha]; · iexact Ha
      iexact Hrest
    unfold owesLow Pipeline.Dat.owesAt Pipeline.owesWithin
    icases HO with ⟨%W, %hW, HO⟩; iexists W; isplitr; swap; · iexact HO
    ipureintro
    intro p hp
    rcases hW hp with h | ⟨w, s, h⟩
    · exact h
    · rw [h]; exact le_rfl

set_option backward.isDefEq.respectTransparency.types false in
/-- The second call's region: every buffer at `V` before, at `V'` after. -/
def reg1 (harr : ∀ c w, (dat1 V c).arrAt w cfg1.N = V' c (Proc.devRef .tc (arrRef spec1 w)))
    (hoff : ∀ c, ∀ b ∈ ucRefs τ sig \ arrRefs spec1, V b = V' c b) :
    Pipeline.RegionSeg (pcfgs (F := F)) adm (pdats V) (none : HIx 2) defs₀ 𝒱₀ ((K (F := F)).L (N := 2)) ((K (F := F)).lev (N := 2)) 1 where
  win := launch1.win.to₀
  block_pos := launch1.block_pos
  stage_whole := launch1.stage_whole
  K := PEmpty
  osem k := k.elim
  ho := Pipeline.OwnSemFacts.none _
  hbody c := (obligation1 V c).loose
  hwaits c := Pipeline.cellsWaits_of_cut (Pipeline.pin (pcfgs (F := F)) adm) (pdats V) none 1 c 0 ((K (F := F)).Otc c 0) (fun _ => rfl)
    (fun _ _ => Finset.mem_univ _) (fun _ _ => le_rfl) (Otc_above c)
  pre c := iprop(StableHlo.held (c.tc : Thread nD τ) (ucRefs τ sig) V ∗ owesLow c)
  post c := iprop(StableHlo.held (c.tc : Thread nD τ) (ucRefs τ sig) (V' c) ∗ owesLow c)
  X _ := BI.emp
  Y _ := BI.emp
  Z c := StableHlo.held (c.tc : Thread nD τ) (ucRefs τ sig \ arrRefs spec1) V
  hentry c := by
    have h : ((pdats V 1 c).arrays (fun w => (pdats V 1 c).arrAt w 0) : sProp 𝕄) = StableHlo.held (c.tc : Thread nD τ) (arrRefs spec1) V :=
      Pipeline.arrays_held (pcfgs (F := F)) adm (pdats V) 1 launch1.toP c (fun w => (pdats V 1 c).share_full (fun _ => rfl) w) _ V fun _ => rfl
    rw [Pipeline.ownSems0_none, StableHlo.held_sub_split (c.tc) (Pipeline.arrRefs_sub_ucRefs (τ := τ) spec1 launch1.win.arr_unscoped) V, ← h]
    iintro ⟨⟨⟨Ha, Hrest⟩, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold owesLow Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 1 c).Φ 0 = Φ1 c from rfl]
    iintro ⟨-, -, Hr⟩; iexact Hr
  hout c := by
    rw [Pipeline.ownSems0_none, show (pdats V 1 c).Φ (Fin.last _) = Φ1 c from rfl]
    iintro Hr
    isplitr; · iempintro
    isplitr; · iempintro
    iexact Hr
  hexit c := by
    have h : ((pdats V 1 c).arrays (fun w => (pdats V 1 c).arrAt w (Pipeline.pin (pcfgs (F := F)) adm 1).N) : sProp 𝕄) = StableHlo.held (c.tc : Thread nD τ) (arrRefs spec1) (V' c) :=
      Pipeline.arrays_held (pcfgs (F := F)) adm (pdats V) 1 launch1.toP c (fun w => (pdats V 1 c).share_full (fun _ => rfl) w) _ (V' c) (harr c)
    rw [StableHlo.held_sub_split (c.tc) (Pipeline.arrRefs_sub_ucRefs (τ := τ) spec1 launch1.win.arr_unscoped) (V' c),
      ← StableHlo.held_congr (c.tc) (hoff c), ← h]
    iintro ⟨Ha, HO, -, Hrest⟩
    imodintro
    isplitl [Ha Hrest]
    · isplitl [Ha]; · iexact Ha
      iexact Hrest
    unfold owesLow Pipeline.Dat.owesAt Pipeline.owesWithin
    icases HO with ⟨%W, %hW, HO⟩; iexists W; isplitr; swap; · iexact HO
    ipureintro
    intro p hp
    rcases hW hp with h | ⟨w, s, h⟩
    · exact h
    · rw [h]; exact le_rfl

end Cert.KernelIdeal.Whole
-- ==== Proof.Calls.lean ====
module

public import proofs.«01_k».proof.Proof.Tiles

/-! # The two SparseCore calls, from the arrays they read to the result

What the calls read and write is dealt to the 32 tiles and gathered again: the maxima's array by the segments of a tile, the
result's by the rows of a tile, what is only read by shares. -/

@[expose] public section
noncomputable section
namespace Cert.KernelIdeal.Whole

open Cert.KernelIdeal Cert.KernelIdeal.Gen Cert.Words Cert.Runs
open Idealize.ShloMosaic Idealize.ShloMosaic.Affine
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The 32 tiles are the two SparseCores' sixteen each. -/
theorem bigSep_tiles (Φ : ℕ → sProp 𝕄) :
    bigSep (Finset.range 32) Φ = bigSep Finset.univ fun c : Fin 2 => bigSep Finset.univ fun i : Fin 16 => Φ (num c.val i.val) := by
  have e : Finset.range 32 = (Finset.univ : Finset (Fin 32)).map Fin.valEmbedding := by decide
  rw [e, BI.bigSep_map, BI.bigSep_univ_equiv (finProdFinEquiv (m := 2) (n := 16)), BI.bigSep_univ_prod]
  refine bigSep_congr fun c _ => bigSep_congr fun i _ => congrArg Φ ?_
  show i.val + 16 * c.val = 16 * c.val + i.val
  omega

/-- The read shares of an array for the two calls. -/
theorem shares (ℓ : Loc nD τ sig) (f : Buf (Elt F) ℓ) :
    (ℓ ↦{fullShare} f : sProp 𝕄) ⊢ iprop((bigSep (Finset.range 32) fun n => ℓ ↦{sh 0 n} f) ∗ bigSep (Finset.range 32) fun n => ℓ ↦{sh 1 n} f) := by
  have e : Finset.range 64 = Finset.range 32 ∪ (Finset.range 32).map (addLeftEmbedding 32) := by decide
  have hd : Disjoint (Finset.range 32) ((Finset.range 32).map (addLeftEmbedding 32)) := by decide
  refine (Transfers.pointsTo_toks_range fullShare 64).1.trans ?_
  rw [e, SparseCore.bigSep_union' hd, BI.bigSep_map]
  iintro ⟨-, H0, H1⟩
  isplitl [H0]
  · iapply (Entails.of_eq (bigSep_congr fun n _ => by simp only [sh, Nat.mul_zero, Nat.zero_add])) $$ H0
  · iapply (Entails.of_eq (bigSep_congr fun n _ => by simp only [sh, Nat.mul_one]; rfl)) $$ H1

/-- Pieces of an array, each with contents it knows something of, make one array which agrees with contents of that kind on each piece. -/
theorem gather (ℓ : Loc nD τ sig) (S : Finset ℕ) (Kf : ℕ → Finset (Idx ℓ)) (ok : ℕ → Buf (Elt F) ℓ → Prop) (f₀ : Buf (Elt F) ℓ)
    (hd : ∀ t ∈ S, ∀ t' ∈ S, t ≠ t' → Disjoint (Kf t) (Kf t')) :
    (bigSep S fun n => iprop(∃ f : Buf (Elt F) ℓ, ⌜ok n f⌝ ∗ (ℓ ↦[Kf n]{fullShare} f)) : sProp 𝕄)
      ⊢ (iprop(∃ g : Buf (Elt F) ℓ, ⌜∀ n ∈ S, ∃ f, ok n f ∧ ∀ i ∈ Kf n, g i = f i⌝ ∗ (ℓ ↦[S.biUnion Kf]{fullShare} g)) : sProp 𝕄) := by
  haveI : Nonempty (Buf (Elt F) ℓ) := ⟨f₀⟩
  have e := bigSep_exists_pi (M := 𝕄) (Y := fun _ : ℕ => Buf (Elt F) ℓ) S fun n f => iprop(⌜ok n f⌝ ∗ (ℓ ↦[Kf n]{fullShare} f))
  refine e.trans ?_
  iintro ⟨%fs, HT⟩
  ihave HT2 := (bigSep_pure_sep S (fun n => ok n (fs n)) (fun n => iprop(ℓ ↦[Kf n]{fullShare} fs n))) $$ HT
  icases HT2 with ⟨%hP, HT⟩
  ihave HT3 := (pointsTo_biUnion_join (ℓ := ℓ) S Kf fs f₀ hd) $$ HT
  icases HT3 with ⟨%g, %hg, HT⟩
  iexists g
  isplitr
  · ipureintro; exact fun n hn => ⟨fs n, hP n hn, hg n hn⟩
  iexact HT

variable [FloatOps F] (w : Work F)

/-- The entries of a tile's part of the maxima. -/
theorem mem_FS {n : ℕ} {x : S641024.Idx} : x ∈ Sc1.FS n ↔ Sc1.seg n * 64 ≤ (x 0).val ∧ (x 0).val < Sc1.seg (n + 1) * 64 := by
  simp [Sc1.FS]

/-- The first call's pieces of the maxima's array, -/
abbrev allFS : Finset S641024.Idx := (Finset.range 32).biUnion Sc1.FS

/-- The tiles' parts of the maxima do not meet. -/
theorem FS_apart : ∀ n ∈ Finset.range 32, ∀ n' ∈ Finset.range 32, n ≠ n' → Disjoint (Sc1.FS n) (Sc1.FS n') := by
  have key : ∀ n n', n < n' → Disjoint (Sc1.FS n) (Sc1.FS n') := fun n n' h => by
    have hm : Sc1.seg (n + 1) ≤ Sc1.seg n' := by unfold Sc1.seg; omega
    refine Finset.disjoint_left.mpr fun x hx hx' => ?_
    have a := mem_FS.mp hx; have b := mem_FS.mp hx'
    omega
  intro n _ n' _ h
  rcases lt_or_gt_of_ne h with h | h
  · exact key _ _ h
  · exact (key _ _ h).symm

/-- and the second's of the result. -/
abbrev OSn (n : ℕ) : Finset S320000x128.Idx := Sc2.OS (w.wa n) (w.wa (n + 1))

variable {w} in
/-- The rounded bounds do not decrease. -/
theorem wa_mono (h : w.OK) : ∀ k n, n + k ≤ 32 → w.wa n ≤ w.wa (n + k)
  | 0, n, _ => le_rfl
  | k + 1, n, hk => (wa_mono h k n (by omega)).trans (h.wa_le _ (by omega))

variable {w} in
/-- The tiles' parts of the result do not meet. -/
theorem OS_apart (h : w.OK) : ∀ n ∈ Finset.range 32, ∀ n' ∈ Finset.range 32, n ≠ n' → Disjoint (OSn w n) (OSn w n') := by
  have key : ∀ n n', n < n' → n' < 32 → Disjoint (OSn w n) (OSn w n') := fun n n' hn hn' => by
    have hm := wa_mono h (n' - (n + 1)) (n + 1) (by omega)
    rw [Nat.add_sub_cancel' (by omega)] at hm
    refine Finset.disjoint_left.mpr fun x hx hx' => ?_
    have a := Sc2.mem_OS.mp hx; have b := Sc2.mem_OS.mp hx'
    omega
  intro n hn n' hn' hne
  rcases lt_or_gt_of_ne hne with hlt | hlt
  · exact key _ _ hlt (Finset.mem_range.mp hn')
  · exact (key _ _ hlt (Finset.mem_range.mp hn)).symm

variable {w} in
/-- Each row below a bound is between two bounds that follow each other. -/
theorem wa_find (h : w.OK) (r : ℕ) : ∀ k, k ≤ 32 → r < w.wa k → ∃ n, n < k ∧ w.wa n ≤ r ∧ r < w.wa (n + 1)
  | 0, _, hr => by rw [h.wa_zero] at hr; omega
  | k + 1, hk, hr => by
    by_cases hlt : r < w.wa k
    · obtain ⟨n, hn, h1⟩ := wa_find h r k (by omega) hlt
      exact ⟨n, by omega, h1⟩
    · exact ⟨k, by omega, by omega, hr⟩

variable {w} in
/-- The tiles' parts of the result are the whole of it. -/
theorem OS_cover (h : w.OK) : (Finset.range 32).biUnion (OSn w) = Finset.univ := by
  refine Finset.eq_univ_iff_forall.mpr fun x => Finset.mem_biUnion.mpr ?_
  have hx : (x 0).val < 320000 := (x 0).isLt
  obtain ⟨n, hn, h1, h2⟩ := wa_find h (x 0).val 32 le_rfl (by rw [h.wa_last]; exact hx)
  exact ⟨n, Finset.mem_range.mpr hn, Sc2.mem_OS.mpr ⟨h1, h2⟩⟩

/-- What the first call leaves beside: the second call's shares, and the end of the maxima's array. -/
abbrev rest0 (d : Dev nD) : sProp 𝕄 :=
  iprop((bigSep (Finset.range 32) fun n => yLoc d ↦{sh 1 n} w.Y) ∗ (bigSep (Finset.range 32) fun n => iLoc d ↦{sh 1 n} w.I)
    ∗ (xLoc d ↦[Finset.univ \ allFS]{fullShare} w.X))

/-- The first call's arrays, dealt. -/
theorem deal0 (d : Dev nD) :
    iprop((yLoc d ↦{fullShare} w.Y) ∗ (iLoc d ↦{fullShare} w.I) ∗ (bLoc d ↦{fullShare} w.B) ∗ (xLoc d ↦{fullShare} w.X))
      ⊢ (iprop((bigSep (Finset.range 32) (go0 w d)) ∗ rest0 w d) : sProp 𝕄) := by
  have e : bigSep (Finset.range 32) (go0 w d) = (iprop((bigSep (Finset.range 32) fun n => yLoc d ↦{sh 0 n} w.Y) ∗ (bigSep (Finset.range 32) fun n => iLoc d ↦{sh 0 n} w.I)
      ∗ (bigSep (Finset.range 32) fun n => bLoc d ↦{sh 0 n} w.B) ∗ (bigSep (Finset.range 32) fun n => xLoc d ↦[Sc1.FS n]{fullShare} w.X)) : sProp 𝕄) := by
    rw [← bigSep_sep', ← bigSep_sep', ← bigSep_sep']; rfl
  rw [e, ← pointsTo_biUnion (ℓ := xLoc d) (Finset.range 32) Sc1.FS FS_apart]
  iintro ⟨HY, HI, HB, HX⟩
  ihave HY' := (shares (F := F) (yLoc d) w.Y) $$ HY; icases HY' with ⟨HY0, HY1⟩
  ihave HI' := (shares (F := F) (iLoc d) w.I) $$ HI; icases HI' with ⟨HI0, HI1⟩
  ihave HB' := (shares (F := F) (bLoc d) w.B) $$ HB; icases HB' with ⟨HB0, -⟩
  ihave HX' := ((pointsTo_split_subset (ℓ := xLoc d) (q := fullShare) (f := w.X) (Finset.subset_univ allFS)).1) $$ HX
  icases HX' with ⟨HX0, HX1⟩
  isplitl [HY0 HI0 HB0 HX0]
  · isplitl [HY0]; · iexact HY0
    isplitl [HI0]; · iexact HI0
    isplitl [HB0]; · iexact HB0
    iexact HX0
  isplitl [HY1]; · iexact HY1
  isplitl [HI1]; · iexact HI1
  iexact HX1

variable {w} in
/-- A tile's maxima are those of any array agreeing with its on the tile's segments. -/
theorem FeatAt.congr (h : w.OK) {n : ℕ} (hn : n < 32) {f g : S641024.Idx → F .f32} (hf : FeatAt w n f) (hg : ∀ x ∈ Sc1.FS n, g x = f x) : FeatAt w n g := by
  intro k' hk' hlast x c hc hx
  have ht := h.tile n hn
  have hm := ht.mem (w.lo n + k') (by omega) (by have := ht.le; omega)
  rw [hg x (mem_FS.mpr (by omega))]
  exact hf k' hk' hlast x c hc hx

/-- What a tile gives back after the first call, written out. -/
theorem td0_eq (d : Dev nD) : td0 w d = fun n => iprop(∃ f : Buf (Elt F) (xLoc d), ⌜FeatAt w n f⌝ ∗ (xLoc d ↦[Sc1.FS n]{fullShare} f)) := rfl

/-- What a tile gives back after the second call, written out. -/
theorem td1_eq (d : Dev nD) : td1 w d = fun n => iprop(∃ f : Buf (Elt F) (oLoc d), ⌜∀ x ∈ OSn w n, ResAt w x (f x)⌝ ∗ (oLoc d ↦[OSn w n]{fullShare} f)) := rfl

/-- The first call's pieces, gathered. -/
theorem join0 (h : w.OK) (d : Dev nD) :
    iprop((bigSep (Finset.range 32) (td0 w d)) ∗ (xLoc d ↦[Finset.univ \ allFS]{fullShare} w.X))
      ⊢ (iprop(∃ g : S641024.Idx → F .f32, ⌜FeatAll w g⌝ ∗ (xLoc d ↦{fullShare} g)) : sProp 𝕄) := by
  classical
  rw [td0_eq]
  iintro ⟨HT, HX⟩
  ihave HT' := (gather (F := F) (xLoc d) (Finset.range 32) Sc1.FS (FeatAt w) w.X FS_apart) $$ HT
  icases HT' with ⟨%g, %hg, HT⟩
  iexists (allFS.piecewise g w.X)
  isplitr
  · ipureintro
    intro n hn
    obtain ⟨f, hf, hgf⟩ := hg n (Finset.mem_range.mpr hn)
    refine FeatAt.congr h hn hf fun x hx => ?_
    have hx' : x ∈ allFS := Finset.mem_biUnion.mpr ⟨n, Finset.mem_range.mpr hn, hx⟩
    rw [Finset.piecewise_eq_of_mem _ _ _ hx']
    exact hgf x hx
  iapply (pointsTo_join_subset (ℓ := xLoc d) (q := fullShare) (Finset.subset_univ allFS))
  isplitl [HT]; · iexact HT
  iexact HX

/-- What a tile takes for the second call, from its shares. -/
theorem go1_intro (d : Dev nD) (g : S641024.Idx → F .f32) (hg : FeatAll w g) (n : ℕ) :
    (iprop((yLoc d ↦{sh 1 n} w.Y) ∗ (iLoc d ↦{sh 1 n} w.I) ∗ (aLoc d ↦{sh 1 n} w.A) ∗ (xLoc d ↦{sh 1 n} g) ∗ (oLoc d ↦[OSn w n]{fullShare} w.R)) : sProp 𝕄)
      ⊢ go1 w d n := by
  unfold go1
  iintro H
  iexists g
  isplitr; · ipureintro; exact hg
  iexact H

/-- The second call's arrays, dealt. -/
theorem deal1 (h : w.OK) (d : Dev nD) (g : S641024.Idx → F .f32) (hg : FeatAll w g) :
    iprop((bigSep (Finset.range 32) fun n => yLoc d ↦{sh 1 n} w.Y) ∗ (bigSep (Finset.range 32) fun n => iLoc d ↦{sh 1 n} w.I)
        ∗ (aLoc d ↦{fullShare} w.A) ∗ (xLoc d ↦{fullShare} g) ∗ (oLoc d ↦{fullShare} w.R))
      ⊢ (bigSep (Finset.range 32) (go1 w d) : sProp 𝕄) := by
  have e : (iprop((bigSep (Finset.range 32) fun n => yLoc d ↦{sh 1 n} w.Y) ∗ (bigSep (Finset.range 32) fun n => iLoc d ↦{sh 1 n} w.I)
      ∗ (bigSep (Finset.range 32) fun n => aLoc d ↦{sh 1 n} w.A) ∗ (bigSep (Finset.range 32) fun n => xLoc d ↦{sh 1 n} g)
      ∗ (bigSep (Finset.range 32) fun n => oLoc d ↦[OSn w n]{fullShare} w.R)) : sProp 𝕄) ⊢ bigSep (Finset.range 32) (go1 w d) := by
    rw [← bigSep_sep', ← bigSep_sep', ← bigSep_sep', ← bigSep_sep']
    exact bigSep_mono fun n _ => go1_intro w d g hg n
  rw [← pointsTo_biUnion (ℓ := oLoc d) (Finset.range 32) (OSn w) (OS_apart h), OS_cover h] at e
  iintro ⟨HY, HI, HA, HX, HR⟩
  ihave HA' := (shares (F := F) (aLoc d) w.A) $$ HA; icases HA' with ⟨-, HA1⟩
  ihave HX' := (shares (F := F) (xLoc d) g) $$ HX; icases HX' with ⟨-, HX1⟩
  iapply e
  isplitl [HY]; · iexact HY
  isplitl [HI]; · iexact HI
  isplitl [HA1]; · iexact HA1
  isplitl [HX1]; · iexact HX1
  iexact HR

/-- The second call's pieces, gathered. -/
theorem join1 (h : w.OK) (d : Dev nD) :
    (bigSep (Finset.range 32) (td1 w d) : sProp 𝕄)
      ⊢ (iprop(∃ f : S320000x128.Idx → F .f32, ⌜∀ x, ResAt w x (f x)⌝ ∗ (oLoc d ↦{fullShare} f)) : sProp 𝕄) := by
  rw [td1_eq]
  iintro HT
  ihave HT' := (gather (F := F) (oLoc d) (Finset.range 32) (OSn w) (fun n f => ∀ x ∈ OSn w n, ResAt w x (f x)) w.R (OS_apart h)) $$ HT
  icases HT' with ⟨%g, %hg, HT⟩
  iexists g
  isplitr
  · ipureintro
    intro x
    have hx : x ∈ (Finset.range 32).biUnion (OSn w) := by rw [OS_cover h]; exact Finset.mem_univ x
    obtain ⟨n, hn, hx⟩ := Finset.mem_biUnion.mp hx
    obtain ⟨f, hf, hgf⟩ := hg n hn
    rw [hgf x hx]
    exact hf x hx
  rw [OS_cover h]
  iexact HT

/-- The first call takes what its tiles take. -/
theorem st0 (d : Dev nD) : bigSep (Finset.range 32) (go0 w d) = (bigSep Finset.univ fun c : Fin ((K (F := F)).nCore 0) => (P w).st 0 d c : sProp 𝕄) := bigSep_tiles _

/-- The first call gives what its tiles give. -/
theorem dn0 (d : Dev nD) : (bigSep Finset.univ fun c : Fin ((K (F := F)).nCore 0) => (P w).dn 0 d c : sProp 𝕄) = bigSep (Finset.range 32) (td0 w d) := (bigSep_tiles _).symm

/-- The second call takes what its tiles take. -/
theorem st1 (d : Dev nD) : bigSep (Finset.range 32) (go1 w d) = (bigSep Finset.univ fun c : Fin ((K (F := F)).nCore 1) => (P w).st 1 d c : sProp 𝕄) := bigSep_tiles _

/-- The second call gives what its tiles give. -/
theorem dn1 (d : Dev nD) : (bigSep Finset.univ fun c : Fin ((K (F := F)).nCore 1) => (P w).dn 1 d c : sProp 𝕄) = bigSep (Finset.range 32) (td1 w d) := (bigSep_tiles _).symm

/-- The two calls: from the arrays they read and the two they write to the result. -/
theorem calls (h : w.OK) (κ : GSem nD τ sig → ℕ) (d : Dev nD) :
    iprop((K (F := F)).ctx EH (P w) κ ∗ (K (F := F)).tcSt EH d 0
        ∗ ((yLoc d ↦{fullShare} w.Y) ∗ (iLoc d ↦{fullShare} w.I) ∗ (bLoc d ↦{fullShare} w.B) ∗ (aLoc d ↦{fullShare} w.A)
          ∗ (xLoc d ↦{fullShare} w.X) ∗ (oLoc d ↦{fullShare} w.R)))
      ⊢ wp frame (wpE ((K (F := F)).defs (D (F := F))) 𝒱 (SparseCore.T d) none) Set.univ
          (do (K (F := F)).run d 0; (K (F := F)).run d 1; pure PUnit.unit)
          fun _ => iprop((K (F := F)).tcSt EH d 2 ∗ ∃ f : S320000x128.Idx → F .f32, ⌜∀ x, ResAt w x (f x)⌝ ∗ (oLoc d ↦{fullShare} f)) := by
  simp only [wp_bind, wp_pure]
  iintro ⟨#Hctx, Hst, HY, HI, HB, HA, HX, HR⟩
  ihave HD := (deal0 w d) $$ [HY HI HB HX]
  · isplitl [HY]; · iexact HY
    isplitl [HI]; · iexact HI
    isplitl [HB]; · iexact HB
    iexact HX
  icases HD with ⟨HG, HY, HI, HX⟩
  iapply ((K (F := F)).wp_run (D (F := F)) 𝒱 (EH := EH) (P := P w) κ d 0) $$ [Hst HG HY HI HX HA HR]
  isplitr; · iexact Hctx
  isplitl [Hst]; · iexact Hst
  isplitl [HG]; · iapply (Entails.of_eq (st0 w d)) $$ HG
  iintro ⟨Hst, Hdn⟩
  ihave HT := (Entails.of_eq (dn0 w d)) $$ Hdn
  ihave HJ := (join0 w h d) $$ [HT HX]
  · isplitl [HT]; · iexact HT
    iexact HX
  icases HJ with ⟨%g, %hg, HX⟩
  ihave HD := (deal1 w h d g hg) $$ [HY HI HA HX HR]
  · isplitl [HY]; · iexact HY
    isplitl [HI]; · iexact HI
    isplitl [HA]; · iexact HA
    isplitl [HX]; · iexact HX
    iexact HR
  iapply ((K (F := F)).wp_run (D (F := F)) 𝒱 (EH := EH) (P := P w) κ d 1) $$ [Hst HD]
  isplitr; · iexact Hctx
  isplitl [Hst]; · iexact Hst
  isplitl [HD]; · iapply (Entails.of_eq (st1 w d)) $$ HD
  iintro ⟨Hst, Hdn⟩
  ihave HT := (Entails.of_eq (dn1 w d)) $$ Hdn
  ihave HJ := (join1 w h d) $$ HT
  imodintro
  isplitl [Hst]; · iexact Hst
  iexact HJ

end Cert.KernelIdeal.Whole
-- ==== Proof.Host.lean ====
module

public import proofs.«01_k».proof.Proof.Calls
public import Idealize.ShloMosaic.Lib.StableHlo.RunRead
public import Idealize.ShloMosaic.Lib.Pipeline.Value
public import Idealize.ShloMosaic.Lib.Pointwise
public import Idealize.ShloMosaic.Lib.KernelVsHost

/-! # The host's operations between the kernels -/

@[expose] public section
noncomputable section
namespace Cert.KernelIdeal.Whole

open Cert.KernelIdeal Cert.KernelIdeal.Gen Cert.Words Cert.Runs
open Idealize.ShloMosaic Idealize.ShloMosaic.Affine
open Idealize.SL.Sem

variable {F : FTy → Type} [FloatOps F]

/-- Before the first TensorCore call: the segment numbers by blocks. -/
def preOps : List (HloOp τ sig (Elt F)) :=
  [ StableHlo.reshape main_arg1 main_v0 (rfl : (.i32 : EltTy) = .i32) shapeCasts_S320000_S625x1x512 ]

/-- Between the two TensorCore calls: scale and shift as rows. -/
def midOps : List (HloOp τ sig (Elt F)) :=
  [ StableHlo.reshape main_arg3 main_v2 (rfl : (.f32 : EltTy) = .f32) shapeCasts_S64_S1x64,
    StableHlo.reshape main_arg4 main_v3 (rfl : (.f32 : EltTy) = .f32) shapeCasts_S64_S1x64 ]

/-- After them: the boundary tables and the padded segment numbers. -/
def hostOps : List (HloOp τ sig (Elt F)) :=
  [ StableHlo.unary main_v1_2 main_v5 ((extractStridedSlice S32x1 ![0, 0] · slices_S64x128_S32x1_0_0) : (⟨S64x128, .i32⟩ : BufTy).Contents (Elt F) → (⟨S32x1, .i32⟩ : BufTy).Contents (Elt F)),
    StableHlo.reshape main_v5 main_v6 (rfl : (.i32 : EltTy) = .i32) shapeCasts_S32x1_S32,
    StableHlo.nullary main_c (constantI S_ 32 0#32),
    StableHlo.unary main_c main_v7 (broadcastInDim S1 ![] bcast_S_S1 : (⟨S_, .i32⟩ : BufTy).Contents (Elt F) → (⟨S1, .i32⟩ : BufTy).Contents (Elt F)),
    StableHlo.nullary main_c_0 (constantI S_ 32 0#32),
    StableHlo.unary main_c_0 main_v8 (broadcastInDim S7 ![] bcast_S_S7 : (⟨S_, .i32⟩ : BufTy).Contents (Elt F) → (⟨S7, .i32⟩ : BufTy).Contents (Elt F)),
    StableHlo.nary ![main_v7, main_v6, main_v8] main_v9 (fun u => (concatenate S40 0 [⟨S1, (u 0 : (⟨S1, .i32⟩ : BufTy).Contents (Elt F))⟩, ⟨S32, (u 1 : (⟨S32, .i32⟩ : BufTy).Contents (Elt F))⟩, ⟨S7, (u 2 : (⟨S7, .i32⟩ : BufTy).Contents (Elt F))⟩] concatenates_S1_S32_S7_S40_d0 : (⟨S40, .i32⟩ : BufTy).Contents (Elt F))),
    StableHlo.unary main_v6 main_v10 ((extractStridedSlice S31 ![0] · slices_S32_S31_0) : (⟨S32, .i32⟩ : BufTy).Contents (Elt F) → (⟨S31, .i32⟩ : BufTy).Contents (Elt F)),
    StableHlo.nullary main_c_1 (constantI S_ 32 8#32),
    StableHlo.unary main_c_1 main_call0_v0 ((id) : (⟨S_, .i32⟩ : BufTy).Contents (Elt F) → (⟨S_, .i32⟩ : BufTy).Contents (Elt F)),
    StableHlo.unary main_call0_v0 main_call0_v1 ((broadcastInDim S31 ![] bcast_S_S31) : (⟨S_, .i32⟩ : BufTy).Contents (Elt F) → (⟨S31, .i32⟩ : BufTy).Contents (Elt F)),
    StableHlo.binary main_v10 main_call0_v1 main_call0_v2 ((Host.divsi) : (⟨S31, .i32⟩ : BufTy).Contents (Elt F) → (⟨S31, .i32⟩ : BufTy).Contents (Elt F) → (⟨S31, .i32⟩ : BufTy).Contents (Elt F)),
    StableHlo.unary main_v10 main_call0_v3 ((signi) : (⟨S31, .i32⟩ : BufTy).Contents (Elt F) → (⟨S31, .i32⟩ : BufTy).Contents (Elt F)),
    StableHlo.unary main_call0_v0 main_call0_v4 ((signi) : (⟨S_, .i32⟩ : BufTy).Contents (Elt F) → (⟨S_, .i32⟩ : BufTy).Contents (Elt F)),
    StableHlo.unary main_call0_v4 main_call0_v5 ((broadcastInDim S31 ![] bcast_S_S31) : (⟨S_, .i32⟩ : BufTy).Contents (Elt F) → (⟨S31, .i32⟩ : BufTy).Contents (Elt F)),
    StableHlo.binary main_call0_v3 main_call0_v5 main_call0_v6 ((cmpi .ne) : (⟨S31, .i32⟩ : BufTy).Contents (Elt F) → (⟨S31, .i32⟩ : BufTy).Contents (Elt F) → (⟨S31, .i1⟩ : BufTy).Contents (Elt F)),
    StableHlo.unary main_call0_v0 main_call0_v7 ((broadcastInDim S31 ![] bcast_S_S31) : (⟨S_, .i32⟩ : BufTy).Contents (Elt F) → (⟨S31, .i32⟩ : BufTy).Contents (Elt F)),
    StableHlo.binary main_v10 main_call0_v7 main_call0_v8 ((Host.remsi) : (⟨S31, .i32⟩ : BufTy).Contents (Elt F) → (⟨S31, .i32⟩ : BufTy).Contents (Elt F) → (⟨S31, .i32⟩ : BufTy).Contents (Elt F)),
    StableHlo.nullary main_call0_c ((constantI S_ 32 0#32) : (⟨S_, .i32⟩ : BufTy).Contents (Elt F)),
    StableHlo.unary main_call0_c main_call0_v9 ((broadcastInDim S31 ![] bcast_S_S31) : (⟨S_, .i32⟩ : BufTy).Contents (Elt F) → (⟨S31, .i32⟩ : BufTy).Contents (Elt F)),
    StableHlo.binary main_call0_v8 main_call0_v9 main_call0_v10 ((cmpi .ne) : (⟨S31, .i32⟩ : BufTy).Contents (Elt F) → (⟨S31, .i32⟩ : BufTy).Contents (Elt F) → (⟨S31, .i1⟩ : BufTy).Contents (Elt F)),
    StableHlo.binary main_call0_v6 main_call0_v10 main_call0_v11 ((andi) : (⟨S31, .i1⟩ : BufTy).Contents (Elt F) → (⟨S31, .i1⟩ : BufTy).Contents (Elt F) → (⟨S31, .i1⟩ : BufTy).Contents (Elt F)),
    StableHlo.nullary main_call0_c_0 ((constantI S_ 32 1#32) : (⟨S_, .i32⟩ : BufTy).Contents (Elt F)),
    StableHlo.unary main_call0_c_0 main_call0_v12 ((broadcastInDim S31 ![] bcast_S_S31) : (⟨S_, .i32⟩ : BufTy).Contents (Elt F) → (⟨S31, .i32⟩ : BufTy).Contents (Elt F)),
    StableHlo.binary main_call0_v2 main_call0_v12 main_call0_v13 ((subi) : (⟨S31, .i32⟩ : BufTy).Contents (Elt F) → (⟨S31, .i32⟩ : BufTy).Contents (Elt F) → (⟨S31, .i32⟩ : BufTy).Contents (Elt F)),
    StableHlo.ternary main_call0_v11 main_call0_v13 main_call0_v2 main_v11 ((select) : (⟨S31, .i1⟩ : BufTy).Contents (Elt F) → (⟨S31, .i32⟩ : BufTy).Contents (Elt F) → (⟨S31, .i32⟩ : BufTy).Contents (Elt F) → (⟨S31, .i32⟩ : BufTy).Contents (Elt F)),
    StableHlo.nullary main_c_2 (constantI S_ 32 8#32),
    StableHlo.unary main_c_2 main_v12 (broadcastInDim S31 ![] bcast_S_S31 : (⟨S_, .i32⟩ : BufTy).Contents (Elt F) → (⟨S31, .i32⟩ : BufTy).Contents (Elt F)),
    StableHlo.binary main_v11 main_v12 main_v13 (muli : (⟨S31, .i32⟩ : BufTy).Contents (Elt F) → (⟨S31, .i32⟩ : BufTy).Contents (Elt F) → (⟨S31, .i32⟩ : BufTy).Contents (Elt F)),
    StableHlo.nullary main_c_3 (constantI S_ 32 320000#32),
    StableHlo.unary main_c_3 main_v14 (broadcastInDim S1 ![] bcast_S_S1 : (⟨S_, .i32⟩ : BufTy).Contents (Elt F) → (⟨S1, .i32⟩ : BufTy).Contents (Elt F)),
    StableHlo.nary ![main_v7, main_v13, main_v14, main_v8] main_v15 (fun u => (concatenate S40 0 [⟨S1, (u 0 : (⟨S1, .i32⟩ : BufTy).Contents (Elt F))⟩, ⟨S31, (u 1 : (⟨S31, .i32⟩ : BufTy).Contents (Elt F))⟩, ⟨S1, (u 2 : (⟨S1, .i32⟩ : BufTy).Contents (Elt F))⟩, ⟨S7, (u 3 : (⟨S7, .i32⟩ : BufTy).Contents (Elt F))⟩] concatenates_S1_S31_S1_S7_S40_d0 : (⟨S40, .i32⟩ : BufTy).Contents (Elt F))),
    StableHlo.nullary main_c_4 (constantI S_ 32 0#32),
    StableHlo.unary main_c_4 main_call1_v0 ((id) : (⟨S_, .i32⟩ : BufTy).Contents (Elt F) → (⟨S_, .i32⟩ : BufTy).Contents (Elt F)),
    StableHlo.binary main_arg1 main_call1_v0 main_v16 ((fun x v => pad S320520 ![0] ![520] ![0] x v pads_S320000_S320520_05200 h_S_) : (⟨S320000, .i32⟩ : BufTy).Contents (Elt F) → (⟨S_, .i32⟩ : BufTy).Contents (Elt F) → (⟨S320520, .i32⟩ : BufTy).Contents (Elt F)) ]

/-- The first host operations use the TensorCore's buffers. -/
theorem pre_tc : (preOps : List (HloOp τ sig (Elt F))).Forall fun op => op.bufs ⊆ StableHlo.tcRefs τ sig :=
  StableHlo.reshape_bufs_sub ..

/-- The first host operations use buffers of the program. -/
theorem pre_sub (op) (h : op ∈ (preOps : List (HloOp τ sig (Elt F)))) : op.bufs ⊆ Pipeline.ucRefs τ sig :=
  Pipeline.sub_ucRefs op (List.forall_iff_forall_mem.mp pre_tc op h)

/-- The middle host operations use the TensorCore's buffers. -/
theorem mid_tc : (midOps : List (HloOp τ sig (Elt F))).Forall fun op => op.bufs ⊆ StableHlo.tcRefs τ sig :=
  ⟨StableHlo.reshape_bufs_sub .., StableHlo.reshape_bufs_sub ..⟩

/-- The middle host operations use buffers of the program. -/
theorem mid_sub (op) (h : op ∈ (midOps : List (HloOp τ sig (Elt F)))) : op.bufs ⊆ Pipeline.ucRefs τ sig :=
  Pipeline.sub_ucRefs op (List.forall_iff_forall_mem.mp mid_tc op h)

/-- The last host operations use the TensorCore's buffers. -/
theorem host_tc : (hostOps : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.unary_bufs_sub .., StableHlo.nary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.nary_bufs_sub .., StableHlo.nullary_bufs_sub .., StableHlo.unary_bufs_sub .., StableHlo.binary_bufs_sub ..⟩

/-- The last host operations use buffers of the program. -/
theorem host_sub (op) (h : op ∈ (hostOps : List (HloOp τ sig (Elt F)))) : op.bufs ⊆ Pipeline.ucRefs τ sig :=
  Pipeline.sub_ucRefs op (List.forall_iff_forall_mem.mp host_tc op h)

/-- The first host operations take no fresh buffer. -/
theorem pre_fr : (preOps : List (HloOp τ sig (Elt F))).Forall fun op => op.fresh = ∅ := rfl

/-- No one of the first host operations takes a fresh buffer. -/
theorem pre_fresh (op) (h : op ∈ (preOps : List (HloOp τ sig (Elt F)))) : op.fresh = ∅ := List.forall_iff_forall_mem.mp pre_fr op h

/-- The middle host operations take no fresh buffer. -/
theorem mid_fr : (midOps : List (HloOp τ sig (Elt F))).Forall fun op => op.fresh = ∅ := ⟨rfl, rfl⟩

/-- No one of the middle host operations takes a fresh buffer. -/
theorem mid_fresh (op) (h : op ∈ (midOps : List (HloOp τ sig (Elt F)))) : op.fresh = ∅ := List.forall_iff_forall_mem.mp mid_fr op h

/-- The last host operations take no fresh buffer. -/
theorem host_fr : (hostOps : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- No one of the last host operations takes a fresh buffer. -/
theorem host_fresh (op) (h : op ∈ (hostOps : List (HloOp τ sig (Elt F)))) : op.fresh = ∅ := List.forall_iff_forall_mem.mp host_fr op h

set_option maxHeartbeats 2000000 in
/-- The program: the host's lines around the four calls. -/
theorem main_eq (d : Dev nD) : main (F := F) d = (StableHlo.seq preOps >>= fun _ => Prog.lift (.customCall (SparseCore.inner (Pipeline.entry 0)) ()) >>= fun _ =>
    StableHlo.seq midOps >>= fun _ => Prog.lift (.customCall (SparseCore.inner (Pipeline.entry 1)) ()) >>= fun _ =>
    StableHlo.seq hostOps >>= fun _ => (do (sc (F := F)).run d 0; (sc (F := F)).run d 1; pure PUnit.unit)) := by
  unfold preOps midOps hostOps
  simp only [StableHlo.seq_bind_seqK, StableHlo.seqK]
  rfl

/-! ## What they leave -/

section Read
variable (V : Valuation τ sig (Elt F))

/-- The first column of the counts, as a vector. -/
def counts : S32.Idx → BitVec 32 :=
  shapeCast S32 (extractStridedSlice S32x1 ![0, 0] (V (Proc.devRef .tc main_v1_2) : S64x128.Idx → BitVec 32) slices_S64x128_S32x1_0_0) shapeCasts_S32x1_S32

/-- The tail's zeros. -/
abbrev zeros7 : S7.Idx → BitVec 32 := broadcastInDim S7 ![] bcast_S_S7 (constantI S_ 32 0#32)
abbrev zero1 : S1.Idx → BitVec 32 := broadcastInDim S1 ![] bcast_S_S1 (constantI S_ 32 0#32)
abbrev all31 (n : BitVec 32) : S31.Idx → BitVec 32 := broadcastInDim S31 ![] bcast_S_S31 (constantI S_ 32 n)

/-- The counts' quotients by eight rounded down, as the host computes them. -/
def quot (x : S31.Idx → BitVec 32) : S31.Idx → BitVec 32 :=
  select (andi (cmpi .ne (signi x) (broadcastInDim S31 ![] bcast_S_S31 (signi (constantI S_ 32 8#32)))) (cmpi .ne (Host.remsi x (all31 8#32)) (all31 0#32)))
    (subi (Host.divsi x (all31 8#32)) (all31 1#32)) (Host.divsi x (all31 8#32))

/-- The bounds: zero, the counts, and seven zeros. -/
theorem after_v9 : StableHlo.after hostOps V (Proc.devRef .tc main_v9)
    = concatenate S40 0 [⟨S1, zero1⟩, ⟨S32, counts V⟩, ⟨S7, zeros7⟩] concatenates_S1_S32_S7_S40_d0 := by
  after_reads_simp
  rfl

/-- The rounded bounds: zero, the counts rounded down to multiples of eight, the number of points, and seven zeros. -/
theorem after_v15 : StableHlo.after hostOps V (Proc.devRef .tc main_v15)
    = concatenate S40 0 [⟨S1, zero1⟩, ⟨S31, muli (quot (extractStridedSlice S31 ![0] (counts V) slices_S32_S31_0)) (all31 8#32)⟩,
        ⟨S1, broadcastInDim S1 ![] bcast_S_S1 (constantI S_ 32 320000#32)⟩, ⟨S7, zeros7⟩] concatenates_S1_S31_S1_S7_S40_d0 := by
  after_reads_simp
  rfl

/-- The segment numbers, with zeros after them. -/
theorem after_v16 : StableHlo.after hostOps V (Proc.devRef .tc main_v16)
    = pad S320520 ![0] ![520] ![0] (V (Proc.devRef .tc main_arg1)) (constantI S_ 32 0#32) pads_S320000_S320520_05200 h_S_ := by
  after_reads_simp
  rfl

/-- The host operations before the SparseCore calls leave these arrays. -/
theorem after_keep (r : Ref sig .tc) (h : r ∈ [main_arg0, main_arg1, main_arg2, main_arg3, main_arg4, main_v4, main_v17, main_v18]) :
    StableHlo.after hostOps V (Proc.devRef .tc r) = V (Proc.devRef .tc r) := by
  fin_cases h <;> after_reads_simp

/-! ## At an entry -/

/-- A count, as the first call leaves it. -/
theorem counts_apply (i : Fin 32) : counts V (ix1 i) = V (Proc.devRef .tc main_v1_2) (ix2 (n0 := 64) (n1 := 128) ⟨i.val, by omega⟩ ⟨0, by decide⟩) := by
  unfold counts
  rw [shapeCast_apply _ _ (ix1 i) (ix2 (n0 := 32) (n1 := 1) i ⟨0, by decide⟩) (by
    rw [Shape.rowMajor_val_two, Shape.rowMajor_val_one]; show i.val * 1 + 0 = i.val; omega)]
  refine extractStridedSlice_apply _ _ _ _ _ fun a => ?_
  fin_cases a
  · exact (Nat.zero_add _).symm
  · rfl

/-- Each of the 33 bounds, as a word. -/
theorem after_v9_isInt {c : ℕ → ℕ} (hc0 : c 0 = 0) (hc : ∀ i : Fin 32, IsInt (counts V (ix1 i)) (c (i.val + 1)))
    (z : S40.Idx) (hz : (z 0).val ≤ 32) : IsInt (StableHlo.after hostOps V (Proc.devRef .tc main_v9) z : BitVec 32) (c (z 0).val) := by
  rw [after_v9]
  rcases Nat.eq_zero_or_pos (z 0).val with h0 | hpos
  · rw [concatenate_apply_piece (t := S40) 0 _ _ z 0 (Nat.lt_of_lt_of_eq (by decide : 0 < 3) rfl) S1 zero1 rfl rfl 0 rfl (ix1 (n0 := 1) 0)
      (by intro b hb; exact absurd (Subsingleton.elim _ _) hb) (by rw [h0]; rfl)]
    rw [h0, hc0]
    exact lit 0 (by decide)
  · have hi : (z 0).val - 1 < 32 := by omega
    rw [concatenate_apply_piece (t := S40) 0 _ _ z 1 (Nat.lt_of_lt_of_eq (by decide : 1 < 3) rfl) S32 (counts V) rfl rfl 1 rfl (ix1 (n0 := 32) ⟨(z 0).val - 1, hi⟩)
      (by intro b hb; exact absurd (Subsingleton.elim _ _) hb) (by show 1 + ((z 0).val - 1) = _; omega)]
    have hk := hc ⟨(z 0).val - 1, hi⟩
    have e : (z 0).val - 1 + 1 = (z 0).val := by omega
    rwa [show ((⟨(z 0).val - 1, hi⟩ : Fin 32).val + 1) = (z 0).val from e] at hk

/-- Off the corners the host's quotient is the scalar unit's. -/
theorem host_div (x : BitVec 32) : IntOp.divsi .host x 8#32 = Scalar.divsi x 8#32 := by
  have h : ¬ IntOp.SDivCorner x 8#32 := by simp [IntOp.SDivCorner]
  simp only [Scalar.divsi, IntOp.divsi, h, if_false]

/-- The host's remainder by eight is the scalar one. -/
theorem host_rem (x : BitVec 32) : IntOp.remsi .host x 8#32 = Scalar.remsi x 8#32 := by
  have h : ¬ IntOp.SDivCorner x 8#32 := by simp [IntOp.SDivCorner]
  simp only [Scalar.remsi, IntOp.remsi, h, if_false]

/-- Of a word that reads as a natural number the quotient is not corrected. -/
theorem no_fix (x : BitVec 32) {e : ℕ} (he : IsInt x e) (hb : e < 2 ^ 31) :
    IntOp.andi (IntOp.cmpi .ne (if x = 0 then 0 else if x.msb then -1 else 1) 1#32) (IntOp.cmpi .ne (IntOp.remsi .host x 8#32) 0#32) = 0#1 := by
  have hr : IsInt (Scalar.remsi x 8#32) ((e % 8 : ℕ) : ℤ) := by
    have := Affine.remsi he (lit 8 (by decide)) ⟨rfl, by omega, by decide⟩
    exact_mod_cast this
  rw [host_rem, eq_ofNat hr]
  by_cases h0 : x = 0
  · have h0' : e = 0 := by
      have := toNat_eq he; rw [h0] at this; simpa using this.symm
    subst h0'
    simp [IntOp.andi, IntOp.cmpi]
  · have hm : x.msb = false := by
      rw [eq_ofNat he, BitVec.msb_eq_decide]
      simp only [BitVec.toNat_ofNat, decide_eq_false_iff_not, not_le]
      omega
    rw [if_neg h0, hm]
    simp [IntOp.andi, IntOp.cmpi]

/-- The sign of eight is one. -/
theorem sign8 : (signi (constantI S_ 32 8#32) : S_.Idx → BitVec 32) = constantI S_ 32 1#32 := by
  funext i
  show (if (8#32 : BitVec 32) = 0 then 0 else if (8#32 : BitVec 32).msb then -1 else 1) = 1#32
  decide

/-- The quotient of a word that reads as a natural number. -/
theorem quot_isInt (x : S31.Idx → BitVec 32) (z : S31.Idx) {e : ℕ} (he : IsInt (x z) e) (hb : e < 2 ^ 31) : IsInt (quot x z) ((e / 8 : ℕ) : ℤ) := by
  have hq : IsInt (Scalar.divsi (x z) 8#32) ((e / 8 : ℕ) : ℤ) := by
    have := Affine.divsi he (lit 8 (by decide)) ⟨rfl, by omega, by decide⟩
    exact_mod_cast this
  have hn := no_fix (x z) he hb
  unfold quot
  rw [sign8]
  show IsInt (Scalar.select (IntOp.andi (IntOp.cmpi .ne (if x z = 0 then 0 else if (x z).msb then -1 else 1) 1#32) (IntOp.cmpi .ne (IntOp.remsi .host (x z) 8#32) 0#32)) _ (IntOp.divsi .host (x z) 8#32)) _
  rw [hn, host_div]
  exact hq

/-- Each of the 33 rounded bounds, as a word. -/
theorem after_v15_isInt {c : ℕ → ℕ} (hc0 : c 0 = 0) (hc32 : c 32 = 320000) (hcb : ∀ n, c n ≤ 320000)
    (hc : ∀ i : Fin 32, IsInt (counts V (ix1 i)) (c (i.val + 1)))
    (z : S40.Idx) (hz : (z 0).val ≤ 32) : IsInt (StableHlo.after hostOps V (Proc.devRef .tc main_v15) z : BitVec 32) ((8 * (c (z 0).val / 8) : ℕ) : ℤ) := by
  rw [after_v15]
  rcases Nat.eq_zero_or_pos (z 0).val with h0 | hpos
  · rw [concatenate_apply_piece (t := S40) 0 _ _ z 0 (Nat.lt_of_lt_of_eq (by decide : 0 < 4) rfl) S1 zero1 rfl rfl 0 rfl (ix1 (n0 := 1) 0)
      (by intro b hb; exact absurd (Subsingleton.elim _ _) hb) (by rw [h0]; rfl)]
    rw [h0, hc0]
    exact lit 0 (by decide)
  rcases Nat.lt_or_ge (z 0).val 32 with hlt | hge
  · have hi : (z 0).val - 1 < 31 := by omega
    rw [concatenate_apply_piece (t := S40) 0 _ _ z 1 (Nat.lt_of_lt_of_eq (by decide : 1 < 4) rfl) S31 _ rfl rfl 1 rfl (ix1 (n0 := 31) ⟨(z 0).val - 1, hi⟩)
      (by intro b hb; exact absurd (Subsingleton.elim _ _) hb) (by show 1 + ((z 0).val - 1) = _; omega)]
    have e : (z 0).val - 1 + 1 = (z 0).val := by omega
    have hk0 := hc ⟨(z 0).val - 1, by omega⟩
    rw [show ((⟨(z 0).val - 1, by omega⟩ : Fin 32).val + 1) = (z 0).val from e] at hk0
    have hk : IsInt (extractStridedSlice S31 ![0] (counts V) slices_S32_S31_0 (ix1 (n0 := 31) ⟨(z 0).val - 1, hi⟩)) (c (z 0).val) := by
      rw [extractStridedSlice_apply _ _ _ _ (ix1 (n0 := 32) ⟨(z 0).val - 1, by omega⟩) (fun a => by fin_cases a; exact (Nat.zero_add _).symm)]
      exact hk0
    have hb := hcb (z 0).val
    have hq := quot_isInt _ _ hk (by omega)
    have hm := Affine.muli (e := ((8 * (c (z 0).val / 8) : ℕ) : ℤ)) hq (lit 8 (by decide)) (by refine ⟨?_, ?_, ?_⟩ <;> push_cast <;> omega)
    exact hm
  · have h32 : (z 0).val = 32 := by omega
    rw [concatenate_apply_piece (t := S40) 0 _ _ z 2 (Nat.lt_of_lt_of_eq (by decide : 2 < 4) rfl) S1 _ rfl rfl 32 rfl (ix1 (n0 := 1) 0)
      (by intro b hb; exact absurd (Subsingleton.elim _ _) hb) (by rw [h32]; rfl)]
    rw [h32, hc32]
    exact lit 320000 (by decide)

/-- The padded segment numbers, at a point. -/
theorem after_v16_inside (z : S320520.Idx) (k : S320000.Idx) (hk : (z 0).val = (k 0).val) :
    StableHlo.after hostOps V (Proc.devRef .tc main_v16) z = V (Proc.devRef .tc main_arg1) k := by
  rw [after_v16]
  refine pad_apply_of_inside _ _ _ _ _ _ _ z k fun a => ?_
  fin_cases a
  show (z 0).val = 0 + (k 0).val * 1
  omega

/-- The padded segment numbers, after the points. -/
theorem after_v16_outside (z : S320520.Idx) (hz : 320000 ≤ (z 0).val) :
    StableHlo.after hostOps V (Proc.devRef .tc main_v16) z = (0#32 : BitVec 32) := by
  rw [after_v16]
  refine (pad_apply_of_not_inside _ _ _ _ _ _ _ z 0 fun h => ?_).trans rfl
  have h2 : ((z 0).val - 0) / (0 + 1) < 320000 := h.2.2
  omega

end Read

end Cert.KernelIdeal.Whole
-- ==== Proof.Launch.lean ====
/-
  The whole program's run: @main's host operations, the two TensorCore calls and the two SparseCore calls in order, from the
  launch memory to what the result holds, given that the tables the host makes cut the points as the tiles ask.
-/
module

public import proofs.«01_k».proof.Proof.Regions
public import proofs.«01_k».proof.Proof.Calls
public import proofs.«01_k».proof.Proof.Host

@[expose] public section
noncomputable section
namespace Cert.KernelIdeal.Whole

open Cert.KernelIdeal Cert.KernelIdeal.Gen
open Idealize.ShloMosaic Idealize.ShloMosaic.Tactic Idealize.ShloMosaic.TcCoe
open Idealize.ShloMosaic.SparseCore.Cfg (HIx)
open Idealize.ShloMosaic.Pipeline (Dat arrRef arrRefs ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## What the buffers hold between the steps of @main -/

section Values
variable (m : (ℓ : Loc nD τ sig) → Buf (Elt F) ℓ)

abbrev d0 : Dev nD := 0

/-- At the launch, and after the reshape of the segment numbers. -/
def V0 : Valuation τ sig (Elt F) := fun b => m (d0, b)

/-- The memory at the first call. -/
def V1 : Valuation τ sig (Elt F) := StableHlo.after preOps (V0 m)
/-- After the first call: the products, the statistics and the counts written. -/
def V2 : Valuation τ sig (Elt F) :=
  Function.update (Function.update (Function.update (V1 m) (Proc.devRef .tc main_v1_0) ((dat0 (V1 m) d0).arrAt 3 cfg0.N))
    (Proc.devRef .tc main_v1_1) ((dat0 (V1 m) d0).arrAt 4 cfg0.N)) (Proc.devRef .tc main_v1_2) ((dat0 (V1 m) d0).arrAt 5 cfg0.N)
/-- After the reshapes of the two coefficients. -/
def V3 : Valuation τ sig (Elt F) := StableHlo.after midOps (V2 m)
/-- After the second call: the points' values written. -/
def V4 : Valuation τ sig (Elt F) := Function.update (V3 m) (Proc.devRef .tc main_v4) ((dat1 (V3 m) d0).arrAt 4 cfg1.N)
/-- After the tables. -/
def V5 : Valuation τ sig (Elt F) := StableHlo.after hostOps (V4 m)

/-- A point's segment number. -/
def idOf (r : ℕ) : ℕ := if h : r < 320000 then ((V0 m (Proc.devRef .tc main_arg1) : S320000.Idx → BitVec 32) (ix1 ⟨r, h⟩)).toNat else 0
/-- The points before a segment. -/
def cntOf (t : ℕ) : ℕ := ((Finset.range 320000).filter fun r => idOf m r < t).card
/-- A point's value in a column. -/
def yOf (r k : ℕ) : F .f32 :=
  (V4 m (Proc.devRef .tc main_v4) : S320512x64.Idx → F .f32) (ix2 ⟨r % 320512, Nat.mod_lt _ (by omega)⟩ ⟨k % 64, Nat.mod_lt _ (by omega)⟩)

/-- What the two SparseCore calls find. -/
def work : Work F where
  Y := V5 m (Proc.devRef .tc main_v4)
  I := V5 m (Proc.devRef .tc main_v16)
  B := V5 m (Proc.devRef .tc main_v9)
  A := V5 m (Proc.devRef .tc main_v15)
  X := V5 m (Proc.devRef .tc main_v17)
  R := V5 m (Proc.devRef .tc main_v18)
  id := idOf m
  y := yOf m
  lo n := cntOf m (Sc1.seg n)
  wa n := 8 * (cntOf m (Sc1.seg n) / 8)

/-- Different references are different on a device. -/
theorem ne_of {a b : Ref sig .tc} (h : a ≠ b) : (Proc.devRef (τ := τ) .tc a) ≠ Proc.devRef .tc b := fun e => h (Proc.devRef_injective _ e)

/-- The products after the first call. -/
theorem V2_x : V2 m (Proc.devRef .tc main_v1_0) = (dat0 (V1 m) d0).arrAt 3 cfg0.N := by
  unfold V2
  rw [Function.update_of_ne (ne_of (by decide)), Function.update_of_ne (ne_of (by decide)), Function.update_self]

/-- The statistics after the first call. -/
theorem V2_stats : V2 m (Proc.devRef .tc main_v1_1) = (dat0 (V1 m) d0).arrAt 4 cfg0.N := by
  unfold V2
  rw [Function.update_of_ne (ne_of (by decide)), Function.update_self]

/-- The counts after the first call. -/
theorem V2_counts : V2 m (Proc.devRef .tc main_v1_2) = (dat0 (V1 m) d0).arrAt 5 cfg0.N := by
  unfold V2
  rw [Function.update_self]

/-- The normalised rows after the second call. -/
theorem V4_y : V4 m (Proc.devRef .tc main_v4) = (dat1 (V3 m) d0).arrAt 4 cfg1.N := by
  unfold V4
  rw [Function.update_self]

/-- The first call's arrays after it. -/
theorem arr0 (c : Dev nD) (w : Fin cfg0.W) : (dat0 (V1 m) c).arrAt w cfg0.N = V2 m (Proc.devRef .tc (arrRef spec0 w)) := by
  obtain rfl : c = d0 := Subsingleton.elim _ _
  fin_cases w
  · unfold V2
    rw [Function.update_of_ne (ne_of (by decide)), Function.update_of_ne (ne_of (by decide)), Function.update_of_ne (ne_of (by decide))]
    exact (dat0 (V1 m) d0).arrAt_in 0 rfl _
  · unfold V2
    rw [Function.update_of_ne (ne_of (by decide)), Function.update_of_ne (ne_of (by decide)), Function.update_of_ne (ne_of (by decide))]
    exact (dat0 (V1 m) d0).arrAt_in 1 rfl _
  · unfold V2
    rw [Function.update_of_ne (ne_of (by decide)), Function.update_of_ne (ne_of (by decide)), Function.update_of_ne (ne_of (by decide))]
    exact (dat0 (V1 m) d0).arrAt_in 2 rfl _
  · exact (V2_x m).symm
  · exact (V2_stats m).symm
  · exact (V2_counts m).symm

/-- A window's array is among the call's arrays. -/
theorem mem_arr {gr W : ℕ} (spec : Fin W → Pipeline.WinSpec sig gr) (w : Fin W) : Proc.devRef .tc (arrRef spec w) ∈ arrRefs (τ := τ) spec :=
  Finset.mem_map.mpr ⟨_, Finset.mem_image.mpr ⟨w, Finset.mem_univ _, rfl⟩, rfl⟩

/-- The first call leaves what is not its own. -/
theorem off0 (b : DevRef τ sig) (hb : b ∈ ucRefs τ sig \ arrRefs spec0) : V1 m b = V2 m b := by
  have h := (Finset.mem_sdiff.mp hb).2
  unfold V2
  rw [Function.update_of_ne fun e => h (by rw [e]; exact mem_arr spec0 5), Function.update_of_ne fun e => h (by rw [e]; exact mem_arr spec0 4),
    Function.update_of_ne fun e => h (by rw [e]; exact mem_arr spec0 3)]

/-- The second call's arrays after it. -/
theorem arr1 (c : Dev nD) (w : Fin cfg1.W) : (dat1 (V3 m) c).arrAt w cfg1.N = V4 m (Proc.devRef .tc (arrRef spec1 w)) := by
  obtain rfl : c = d0 := Subsingleton.elim _ _
  fin_cases w
  · unfold V4; rw [Function.update_of_ne (ne_of (by decide))]; exact (dat1 (V3 m) d0).arrAt_in 0 rfl _
  · unfold V4; rw [Function.update_of_ne (ne_of (by decide))]; exact (dat1 (V3 m) d0).arrAt_in 1 rfl _
  · unfold V4; rw [Function.update_of_ne (ne_of (by decide))]; exact (dat1 (V3 m) d0).arrAt_in 2 rfl _
  · unfold V4; rw [Function.update_of_ne (ne_of (by decide))]; exact (dat1 (V3 m) d0).arrAt_in 3 rfl _
  · exact (V4_y m).symm

/-- The second call leaves what is not its own. -/
theorem off1 (b : DevRef τ sig) (hb : b ∈ ucRefs τ sig \ arrRefs spec1) : V3 m b = V4 m b := by
  have h := (Finset.mem_sdiff.mp hb).2
  unfold V4
  rw [Function.update_of_ne fun e => h (by rw [e]; exact mem_arr spec1 4)]

/-- @main's arguments are as the launch has them. -/
theorem keep (r : Ref sig .tc) (h : r ∈ [main_arg0, main_arg1, main_arg2, main_arg3, main_arg4]) :
    V5 m (Proc.devRef .tc r) = V0 m (Proc.devRef .tc r) := by
  unfold V5
  rw [after_keep (V4 m) r (by fin_cases h <;> simp)]
  unfold V4 V3
  fin_cases h <;>
  · rw [Function.update_of_ne (ne_of (by decide))]
    unfold midOps
    after_reads_simp
    unfold V2
    rw [Function.update_of_ne (ne_of (by decide)), Function.update_of_ne (ne_of (by decide)), Function.update_of_ne (ne_of (by decide))]
    unfold V1 preOps
    after_reads_simp

end Values

/-! ## The steps of @main -/

/-- The first TensorCore call on the whole program's table. -/
theorem call0_wp [∀ e, Nonempty (Elt F e)] (V V' : Valuation τ sig (Elt F)) (harr : ∀ c w, (dat0 V c).arrAt w cfg0.N = V' (Proc.devRef .tc (arrRef spec0 w)))
    (hoff : ∀ b ∈ ucRefs τ sig \ arrRefs spec0, V b = V' b) (c : Dev nD) :
    iprop(boundary (c.tc : Thread nD τ) ∗ (StableHlo.held (c.tc : Thread nD τ) (ucRefs τ sig) V ∗ owesLow (F := F) c) ∗ levAts ((K (F := F)).L (N := 2)) ((K (F := F)).lev (N := 2))
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (SparseCore.T c) none) Set.univ
          (Prog.lift (.customCall (SparseCore.inner (Pipeline.entry 0)) ()))
          fun _ => iprop((boundary (c.tc : Thread nD τ) ∗ StableHlo.held (c.tc : Thread nD τ) (ucRefs τ sig) V' ∗ owesLow (F := F) c : sProp 𝕄)) := by
  have hL := (K (F := F)).wp_liftProg (D (F := F)) 𝒱 (SparseCore.T c) Set.univ none (.op (.customCall (Pipeline.entry 0) ()) fun _ => pure PUnit.unit)
    (fun _ => iprop((boundary (c.tc : Thread nD τ) ∗ StableHlo.held (c.tc : Thread nD τ) (ucRefs τ sig) V' ∗ owesLow (F := F) c : sProp 𝕄)))
  have hR := Pipeline.RegionSeg.wp (pcfgs (F := F)) adm (pdats V) none (cellOf_inj) EP defs₀ 𝒱₀ ((K (F := F)).L (N := 2)) ((K (F := F)).lev (N := 2))
    (reg0 V (fun _ => V') harr fun _ => hoff) c none (fun _ h => nomatch h) (fun _ => pure PUnit.unit)
    (fun _ => iprop((boundary (c.tc : Thread nD τ) ∗ StableHlo.held (c.tc : Thread nD τ) (ucRefs τ sig) V' ∗ owesLow (F := F) c : sProp 𝕄)))
  iintro ⟨Hb, Hp, HL, Hg, Ht⟩
  rw [show (reg0 V (fun _ => V') harr fun _ => hoff).pre c = iprop(StableHlo.held (c.tc : Thread nD τ) (ucRefs τ sig) V ∗ owesLow (F := F) c) from rfl,
    show (reg0 V (fun _ => V') harr fun _ => hoff).post c = iprop(StableHlo.held (c.tc : Thread nD τ) (ucRefs τ sig) V' ∗ owesLow (F := F) c) from rfl] at hR
  iapply (hR.trans hL)
  isplitr
  · iintro ⟨Hb, Hp⟩
    simp only [wp_pure]
    imodintro
    isplitl [Hb]; · iexact Hb
    iexact Hp
  isplitl [Hb]; · iexact Hb
  isplitl [Hp]; · iexact Hp
  isplitl [HL]; · iexact HL
  isplitl [Hg]; · iexact Hg
  iexact Ht

/-- The second TensorCore call on the whole program's table. -/
theorem call1_wp [∀ e, Nonempty (Elt F e)] (V V' : Valuation τ sig (Elt F)) (harr : ∀ c w, (dat1 V c).arrAt w cfg1.N = V' (Proc.devRef .tc (arrRef spec1 w)))
    (hoff : ∀ b ∈ ucRefs τ sig \ arrRefs spec1, V b = V' b) (c : Dev nD) :
    iprop(boundary (c.tc : Thread nD τ) ∗ (StableHlo.held (c.tc : Thread nD τ) (ucRefs τ sig) V ∗ owesLow (F := F) c) ∗ levAts ((K (F := F)).L (N := 2)) ((K (F := F)).lev (N := 2))
        ∗ Pipeline.cellsGhost (Pipeline.pin (pcfgs (F := F)) adm) EP 1 c ∗ Pipeline.toksInit (Pipeline.pin (pcfgs (F := F)) adm) EP 1 c)
      ⊢ wp frame (wpE ((K (F := F)).defs (D (F := F))) 𝒱 (SparseCore.T c) none) Set.univ
          (Prog.lift (.customCall (SparseCore.inner (Pipeline.entry 1)) ()))
          fun _ => iprop((boundary (c.tc : Thread nD τ) ∗ StableHlo.held (c.tc : Thread nD τ) (ucRefs τ sig) V' ∗ owesLow (F := F) c : sProp 𝕄)) := by
  have hL := (K (F := F)).wp_liftProg (D (F := F)) 𝒱 (SparseCore.T c) Set.univ none (.op (.customCall (Pipeline.entry 1) ()) fun _ => pure PUnit.unit)
    (fun _ => iprop((boundary (c.tc : Thread nD τ) ∗ StableHlo.held (c.tc : Thread nD τ) (ucRefs τ sig) V' ∗ owesLow (F := F) c : sProp 𝕄)))
  have hR := Pipeline.RegionSeg.wp (pcfgs (F := F)) adm (pdats V) none (cellOf_inj) EP defs₀ 𝒱₀ ((K (F := F)).L (N := 2)) ((K (F := F)).lev (N := 2))
    (reg1 V (fun _ => V') harr fun _ => hoff) c none (fun _ h => nomatch h) (fun _ => pure PUnit.unit)
    (fun _ => iprop((boundary (c.tc : Thread nD τ) ∗ StableHlo.held (c.tc : Thread nD τ) (ucRefs τ sig) V' ∗ owesLow (F := F) c : sProp 𝕄)))
  iintro ⟨Hb, Hp, HL, Hg, Ht⟩
  rw [show (reg1 V (fun _ => V') harr fun _ => hoff).pre c = iprop(StableHlo.held (c.tc : Thread nD τ) (ucRefs τ sig) V ∗ owesLow (F := F) c) from rfl,
    show (reg1 V (fun _ => V') harr fun _ => hoff).post c = iprop(StableHlo.held (c.tc : Thread nD τ) (ucRefs τ sig) V' ∗ owesLow (F := F) c) from rfl] at hR
  iapply (hR.trans hL)
  isplitr
  · iintro ⟨Hb, Hp⟩
    simp only [wp_pure]
    imodintro
    isplitl [Hb]; · iexact Hb
    iexact Hp
  isplitl [Hb]; · iexact Hb
  isplitl [Hp]; · iexact Hp
  isplitl [HL]; · iexact HL
  isplitl [Hg]; · iexact Hg
  iexact Ht

/-- The ghost state of the two pipelines. -/
abbrev G (c : Dev nD) : sProp 𝕄 :=
  iprop((bigSep Finset.univ fun p : Fin 2 => Pipeline.cellsGhost (Pipeline.pin (pcfgs (F := F)) adm) EP p c)
    ∗ (bigSep Finset.univ fun p : Fin 2 => (Pipeline.toksInit (Pipeline.pin (pcfgs (F := F)) adm) EP p c : sProp 𝕄)))

/-- The launch's element: the handshakes', the pipelines', no copy outstanding. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The ghost state splits into the handshakes' part and the regions' part. -/
theorem ownU_hs (a : UH) (b : UK) : (ownU (a, (b, 1)) : sProp 𝕄) ⊢ iprop(BI.own (EH a) ∗ BI.own (EP b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, 1))))

/-- There is one device. -/
theorem bigSep_D {I : Type} (Φ : Dev nD → sProp 𝕄) : bigSep Finset.univ Φ = Φ d0 := bigSep_univ_of_subsingleton (0 : Fin 1)

/-- A thread keeps nothing of its own across the calls. -/
theorem Px (w : Work F) : (bigSep Finset.univ fun thr : Thread nD τ => bigSep Finset.univ fun q : Fin 2 => (P w).x q thr) = (iprop(emp) : sProp 𝕄) := by
  have h : ∀ (q : Fin 2) (thr : Thread nD τ), (P w).x q thr = (iprop(emp) : sProp 𝕄) := fun q thr => rfl
  have h1 : ∀ thr : Thread nD τ, (bigSep Finset.univ fun q : Fin 2 => (P w).x q thr) = (iprop(emp) : sProp 𝕄) := fun thr => by
    simp only [h]; exact bigSep_emp_const _
  simp only [h1]; exact bigSep_emp_const _

/-- The first ghost state gives each protocol its part. -/
theorem hu₀ (w : Work F) : (ownU (u₀ (F := F)) : sProp 𝕄)
    ⊢ |={Set.univ}=> iprop(BI.own (EH (initOf (K (F := F)).hsCells (K (F := F)).hsToks)) ∗ (bigSep Finset.univ fun c : Dev nD => G (F := F) c)
        ∗ bigSep Finset.univ fun thr : Thread nD τ => bigSep Finset.univ fun q : Fin 2 => (P w).x q thr) := by
  unfold u₀
  iintro Hu
  ihave H := (ownU_hs _ _) $$ Hu
  icases H with ⟨HH, HK⟩
  imod (Pipeline.fund_ghost (Pipeline.pin (pcfgs (F := F)) adm) EP cellOf_inj) $$ HK with ⟨Hg, Ht⟩
  imodintro
  isplitl [HH]; · iexact HH
  isplitl [Hg Ht]
  · rw [bigSep_sep']
    isplitl [Hg]; · iexact Hg
    iexact Ht
  rw [Px]; iempintro

end Cert.KernelIdeal.Whole
-- ==== Proof.Main.lean ====
/-
  The program's run from any launch: it ends, its arguments unchanged, every result entry the point's value or its segment's
  maximum, given that the tables the host makes are right.
-/
module

public import proofs.«01_k».proof.Proof.Launch

@[expose] public section
noncomputable section
namespace Cert.KernelIdeal.Whole

open Cert.KernelIdeal Cert.KernelIdeal.Gen
open Idealize.ShloMosaic Idealize.ShloMosaic.Tactic Idealize.ShloMosaic.TcCoe
open Idealize.ShloMosaic.SparseCore.Cfg (HIx)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The buffers the SparseCore calls and the claim are about: the arguments, then what the calls read and write. -/
def argRefs : List (Ref sig .tc) := [main_arg0, main_arg1, main_arg2, main_arg3, main_arg4]

/-- The arrays that the end of the run speaks of. -/
def takeRefs : Finset (Ref sig .tc) :=
  {main_arg0, main_arg1, main_arg2, main_arg3, main_arg4, main_v4, main_v16, main_v9, main_v15, main_v17, main_v18}

/-- The same, on a device. -/
def takeDev : Finset (DevRef τ sig) := takeRefs.map ⟨Proc.devRef (sig := sig) .tc, Proc.devRef_injective _⟩

/-- They live as long as the program. -/
theorem take_unscoped : ∀ r ∈ takeRefs, r.isScoped = false := by decide

/-- They are among the program's buffers. -/
theorem take_sub : takeDev ⊆ ucRefs τ sig := fun b hb => by
  obtain ⟨r, hr, rfl⟩ := Finset.mem_map.mp hb
  exact Finset.mem_filter.mpr ⟨StableHlo.devRef_mem_tcRefs _, fun h' => Bool.false_ne_true ((take_unscoped r hr).symm.trans h')⟩

abbrev lc (c : Dev nD) (r : Ref sig .tc) : Loc nD τ sig := (SparseCore.T c).loc r

/-- Their ownership, one by one. -/
theorem take_eq (c : Dev nD) (V : Valuation τ sig (Elt F)) : (StableHlo.held (c.tc : Thread nD τ) takeDev V : sProp 𝕄)
    = iprop((lc c main_arg0 ↦{fullShare} V (Proc.devRef .tc main_arg0)) ∗ (lc c main_arg1 ↦{fullShare} V (Proc.devRef .tc main_arg1))
      ∗ (lc c main_arg2 ↦{fullShare} V (Proc.devRef .tc main_arg2)) ∗ (lc c main_arg3 ↦{fullShare} V (Proc.devRef .tc main_arg3))
      ∗ (lc c main_arg4 ↦{fullShare} V (Proc.devRef .tc main_arg4)) ∗ (yLoc c ↦{fullShare} V (Proc.devRef .tc main_v4))
      ∗ (iLoc c ↦{fullShare} V (Proc.devRef .tc main_v16)) ∗ (bLoc c ↦{fullShare} V (Proc.devRef .tc main_v9))
      ∗ (aLoc c ↦{fullShare} V (Proc.devRef .tc main_v15)) ∗ (xLoc c ↦{fullShare} V (Proc.devRef .tc main_v17))
      ∗ (oLoc c ↦{fullShare} V (Proc.devRef .tc main_v18))) := by
  unfold StableHlo.held takeDev takeRefs
  rw [bigSep_map, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

variable (m : (ℓ : Loc nD τ sig) → Buf (Elt F) ℓ)

/-- What the TensorCore ends holding. -/
def FIN (c : Dev nD) : sProp 𝕄 :=
  iprop((lc c main_arg0 ↦{fullShare} m (lc c main_arg0)) ∗ (lc c main_arg1 ↦{fullShare} m (lc c main_arg1))
    ∗ (lc c main_arg2 ↦{fullShare} m (lc c main_arg2)) ∗ (lc c main_arg3 ↦{fullShare} m (lc c main_arg3))
    ∗ (lc c main_arg4 ↦{fullShare} m (lc c main_arg4))
    ∗ ∃ f : S320000x128.Idx → F .f32, ⌜∀ x, ResAt (work m) x (f x)⌝ ∗ (oLoc c ↦{fullShare} f))

/-- The launch gives the program's buffers, as the memory has them. -/
theorem held_launch (c : Dev nD) : (unscopedBufs c (fun b => m ((SparseCore.T c).loc b)) : sProp 𝕄)
    = StableHlo.held (c.tc : Thread nD τ) (ucRefs τ sig) (V0 m) := by
  obtain rfl : c = d0 := Subsingleton.elim _ _
  unfold unscopedBufs StableHlo.held ucRefs StableHlo.tcRefs
  rw [Finset.filter_map, bigSep_map]
  rfl

/-- Two SparseCore calls. -/
theorem two (Φ : Fin 2 → sProp 𝕄) : bigSep Finset.univ Φ = iprop(Φ 0 ∗ Φ 1) := BI.bigSep_fin_two Φ

set_option maxHeartbeats 2000000 in
/-- @main: the host operations and the calls in turn. -/
theorem hmain [∀ e, Nonempty (Elt F e)] (hw : (work m).OK) (ρ : Dev nD → PrngReg) (κ : GSem nD τ sig → ℕ) (d : Dev nD) :
    iprop((K (F := F)).ctx EH (P (work m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [held_launch, main_eq]
  unfold SparseCore.Cfg.tcSt
  iintro ⟨#Hctx, ⟨HO, Hst⟩, ⟨Hb, Hh, Hts, -⟩, ⟨Hg, Ht⟩⟩
  ihave #HL := (SparseCore.Cfg.ctx_levAts (K := K (F := F)) (EH := EH) (P := P (work m)) κ) $$ Hctx
  ihave Hg' := (Entails.of_eq (two _)) $$ Hg
  ihave Ht' := (Entails.of_eq (two _)) $$ Ht
  icases Hg' with ⟨Hg0, Hg1⟩
  icases Ht' with ⟨Ht0, Ht1⟩
  iapply (StableHlo.wp_seq 𝒱 none Set.univ d (ucRefs τ sig) _ preOps pre_sub pre_fresh (V0 m)) $$ [Hb Hh]
  · isplitl [Hb] <;> iassumption
  iintro ⟨Hb, Hh⟩
  rw [wp_bind]
  iapply (wp_wand_r frame _)
  isplitl [Hb Hh HO Hg0 Ht0]
  · iapply (call0_wp (V1 m) (V2 m) (arr0 m) (off0 m) d)
    isplitl [Hb]; · iexact Hb
    isplitl [Hh HO]
    · isplitl [Hh]; · iexact Hh
      unfold owesLow; iexact HO
    isplitr; · iexact HL
    isplitl [Hg0]; · iexact Hg0
    iexact Ht0
  iintro %_ ⟨Hb, Hh, HO⟩
  iapply (StableHlo.wp_seq 𝒱 none Set.univ d (ucRefs τ sig) _ midOps mid_sub mid_fresh (V2 m)) $$ [Hb Hh]
  · isplitl [Hb] <;> iassumption
  iintro ⟨Hb, Hh⟩
  rw [wp_bind]
  iapply (wp_wand_r frame _)
  isplitl [Hb Hh HO Hg1 Ht1]
  · iapply (call1_wp (V3 m) (V4 m) (arr1 m) (off1 m) d)
    isplitl [Hb]; · iexact Hb
    isplitl [Hh HO]
    · isplitl [Hh]; · iexact Hh
      iexact HO
    isplitr; · iexact HL
    isplitl [Hg1]; · iexact Hg1
    iexact Ht1
  iintro %_ ⟨Hb, Hh, HO⟩
  iapply (StableHlo.wp_seq 𝒱 none Set.univ d (ucRefs τ sig) _ hostOps host_sub host_fresh (V4 m)) $$ [Hb Hh]
  · isplitl [Hb] <;> iassumption
  iintro ⟨Hb, Hh⟩
  ihave Hh := (show (StableHlo.held (d.tc : Thread nD τ) (ucRefs τ sig) (StableHlo.after hostOps (V4 m)) : sProp 𝕄) ⊢ StableHlo.held (d.tc : Thread nD τ) (ucRefs τ sig) (V5 m) from Entails.of_eq rfl) $$ Hh
  ihave Hh' := (Entails.of_eq ((StableHlo.held_sub_split (d.tc : Thread nD τ) take_sub (V5 m)).trans (congrArg (fun X => iprop(X ∗ _)) (take_eq d (V5 m))))) $$ Hh
  icases Hh' with ⟨⟨H0, H1, H2, H3, H4, Hy, Hi, HB, HA, Hx, Ho⟩, -⟩
  iapply (wp_wand_r frame _)
  isplitl [HO Hst Hy Hi HB HA Hx Ho]
  · iapply (calls (work m) hw κ d)
    isplitr; · iexact Hctx
    isplitl [HO Hst]
    · unfold SparseCore.Cfg.tcSt owesLow
      isplitl [HO]; · iexact HO
      iexact Hst
    isplitl [Hy]; · iexact Hy
    isplitl [Hi]; · iexact Hi
    isplitl [HB]; · iexact HB
    isplitl [HA]; · iexact HA
    isplitl [Hx]; · iexact Hx
    iexact Ho
  iintro %_ ⟨Hst, Ho⟩
  isplitl [Hst]; · unfold SparseCore.Cfg.tcSt; iexact Hst
  isplitl [H0 H1 H2 H3 H4 Ho]
  · unfold FIN
    obtain rfl : d = d0 := Subsingleton.elim _ _
    rw [keep m main_arg0 (by decide), keep m main_arg1 (by decide), keep m main_arg2 (by decide), keep m main_arg3 (by decide), keep m main_arg4 (by decide)]
    isplitl [H0]; · iexact H0
    isplitl [H1]; · iexact H1
    isplitl [H2]; · iexact H2
    isplitl [H3]; · iexact H3
    isplitl [H4]; · iexact H4
    iexact Ho
  isplitl [Hb] <;> iassumption

/-- What the memory holds at the end. -/
def fq (c : Dev nD) (s' : Phys nD τ sig (Elt F)) : Prop :=
  (∀ x, ResAt (work m) x (s'.mem.mem (oLoc c) x)) ∧ s'.mem.mem (lc c main_arg0) = m (lc c main_arg0) ∧ s'.mem.mem (lc c main_arg1) = m (lc c main_arg1)
    ∧ s'.mem.mem (lc c main_arg2) = m (lc c main_arg2) ∧ s'.mem.mem (lc c main_arg3) = m (lc c main_arg3) ∧ s'.mem.mem (lc c main_arg4) = m (lc c main_arg4)

/-- A buffer held whole is what the memory has. -/
theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr; · ipureintro; exact funext fun i => h1 i (Finset.mem_univ i)
  iexact HSI

/-- The end's ownership says what the memory holds. -/
theorem hfin (c : Dev nD) (s' : Phys nD τ sig (Elt F)) : iprop(FIN m c ∗ SI s') ⊢ (⌜fq m c s'⌝ : sProp 𝕄) := by
  unfold FIN
  iintro ⟨⟨H0, H1, H2, H3, H4, ⟨%f, %hf, Ho⟩⟩, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H2]
  · isplitl [HSI] <;> iassumption
  icases H with ⟨%h2, HSI⟩
  ihave H := (agree s' _ _) $$ [HSI H3]
  · isplitl [HSI] <;> iassumption
  icases H with ⟨%h3, HSI⟩
  ihave H := (agree s' _ _) $$ [HSI H4]
  · isplitl [HSI] <;> iassumption
  icases H with ⟨%h4, HSI⟩
  ihave H := (agree s' _ _) $$ [HSI Ho]
  · isplitl [HSI] <;> iassumption
  icases H with ⟨%ho, HSI⟩
  ipureintro
  exact ⟨fun x => by rw [ho]; exact hf x, h0, h1, h2, h3, h4⟩

/-- What a run ends with. -/
def QC : PUnit × MemSt nD τ sig (Elt F) → Prop := fun r =>
  (∀ c : Dev nD, (∀ x, ResAt (work m) x (r.2.mem (oLoc c) x)) ∧ r.2.mem (lc c main_arg0) = m (lc c main_arg0) ∧ r.2.mem (lc c main_arg1) = m (lc c main_arg1)
    ∧ r.2.mem (lc c main_arg2) = m (lc c main_arg2) ∧ r.2.mem (lc c main_arg3) = m (lc c main_arg3) ∧ r.2.mem (lc c main_arg4) = m (lc c main_arg4))
  ∧ r.2.sem = fun _ => 0

/-- The program runs: the result is right at every entry, the arguments are unchanged, and the counters are zero. -/
theorem run_main [∀ e, Nonempty (Elt F e)] (hw : (work m).OK) (ρ : Dev nD → PrngReg) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (work m)) (A := ∅) facts v₀
    (fun q hq => match q with | 0 => nomatch hq | 1 => nomatch hq)
    (fun q _ => match q with | 0 => tileObl0 (work m) hw | 1 => tileObl1 (work m) hw)
    (fun q _ => SparseCore.Cfg.VecSplit.of_plain (vecSplit (work m) q))
    m ρ main (fun c => G (F := F) c) (FIN m) (u₀ (F := F)) (sep_elim_left.trans (hu₀ (work m))) (hmain m hw ρ) (fq m) (hfin m) (QC m) (fun _ h hz => ⟨h, hz⟩)

end Cert.KernelIdeal.Whole
-- ==== Proof.Sorted.lean ====
/-
  Segment numbers in order: the rows before a segment are exactly the first so many, and the boundaries cut at those
  counts are the tiles'.
-/
module

public import proofs.«01_k».proof.Proof.Runs
public import Mathlib.Order.Interval.Finset.Nat

@[expose] public section
namespace Cert.Sorted

open Cert.Runs

/-- How many of the first `n` rows are of a segment below `t`. -/
def below (id : ℕ → ℕ) (n t : ℕ) : ℕ := ((Finset.range n).filter fun r => id r < t).card

/-- At most as many points are below a bound as there are. -/
theorem below_le (id : ℕ → ℕ) (n t : ℕ) : below id n t ≤ n := by
  unfold below
  exact (Finset.card_filter_le _ _).trans (Finset.card_range n).le

/-- The number of points below a bound does not decrease with the bound. -/
theorem below_mono (id : ℕ → ℕ) (n : ℕ) {t t' : ℕ} (h : t ≤ t') : below id n t ≤ below id n t' := by
  unfold below
  exact Finset.card_le_card fun r hr => by
    rw [Finset.mem_filter] at hr ⊢
    exact ⟨hr.1, lt_of_lt_of_le hr.2 h⟩

/-- No point is below zero. -/
theorem below_zero (id : ℕ → ℕ) (n : ℕ) : below id n 0 = 0 := by
  unfold below
  rw [Finset.card_eq_zero]
  exact Finset.filter_eq_empty_iff.mpr fun r _ => Nat.not_lt_zero _

/-- All points are below a bound that is above each of them. -/
theorem below_all (id : ℕ → ℕ) (n t : ℕ) (h : ∀ r < n, id r < t) : below id n t = n := by
  unfold below
  rw [Finset.filter_true_of_mem fun r hr => h r (Finset.mem_range.mp hr), Finset.card_range]

/-- The rows of one more block: those of the rows before it and those of its own. -/
theorem below_add (id : ℕ → ℕ) (n k t : ℕ) :
    below id (n + k) t = below id n t + ((Finset.univ : Finset (Fin k)).filter fun l => id (n + l.val) < t).card := by
  unfold below
  rw [Finset.card_filter, Finset.card_filter, Finset.card_filter, Finset.sum_range_add]
  congr 1
  exact (Fin.sum_univ_eq_sum_range (fun x => if id (n + x) < t then 1 else 0) k).symm

/-- In order, a row is of a segment below `t` exactly when it is one of the first `below t`. -/
theorem lt_below {id : ℕ → ℕ} {n : ℕ} (hs : ∀ r r', r ≤ r' → r' < n → id r ≤ id r') (t : ℕ) {r : ℕ} (hr : r < n) :
    id r < t ↔ r < below id n t := by
  constructor
  · intro h
    have hsub : Finset.range (r + 1) ⊆ (Finset.range n).filter fun r => id r < t := fun x hx => by
      rw [Finset.mem_range] at hx
      rw [Finset.mem_filter, Finset.mem_range]
      exact ⟨by omega, lt_of_le_of_lt (hs x r (by omega) hr) h⟩
    have := Finset.card_le_card hsub
    rw [Finset.card_range] at this
    unfold below; omega
  · intro h
    by_contra hc
    have hsub : ((Finset.range n).filter fun r => id r < t) ⊆ Finset.range r := fun x hx => by
      rw [Finset.mem_filter, Finset.mem_range] at hx
      rw [Finset.mem_range]
      by_contra hxr
      exact hc (lt_of_le_of_lt (hs r x (by omega) hx.1) hx.2)
    have := Finset.card_le_card hsub
    rw [Finset.card_range] at this
    unfold below at h; omega

variable {id : ℕ → ℕ}

/-- A tile's boundaries cut out the rows of its own segments. -/
theorem inTile (hs : ∀ r r', r ≤ r' → r' < 320000 → id r ≤ id r') {t t' : ℕ} (h : t < t') :
    InTile id t t' (below id 320000 t) (below id 320000 t') where
  hi_le := below_le _ _ _
  le := below_mono _ _ h.le
  mem r h0 h1 := by
    have hr : r < 320000 := lt_of_lt_of_le h1 (below_le _ _ _)
    exact ⟨Nat.not_lt.mp fun hc => absurd ((lt_below hs t hr).mp hc) (by omega), (lt_below hs t' hr).mpr h1⟩
  mono r r' _ h1 h2 := hs r r' h1 (lt_of_lt_of_le h2 (below_le _ _ _))
  pos := h

end Cert.Sorted
-- ==== Proof.Counts.lean ====
/-
  The table of counts the first TensorCore call leaves, and with it that the tables the host makes cut the points as the
  SparseCore's tiles ask, for segment numbers that are in range and in order.
-/
module

public import proofs.«01_k».proof.Proof.Launch
public import proofs.«01_k».proof.Proof.Sorted
public import Idealize.ShloMosaic.Lib.Pipeline.Value
public import Idealize.ShloMosaic.Lib.Pointwise
public import Idealize.ShloMosaic.PureOps.Reduce

@[expose] public section
noncomputable section
namespace Cert.KernelIdeal.Whole

open Cert.KernelIdeal Cert.KernelIdeal.Gen Cert.Words Cert.Sorted
open Idealize.ShloMosaic Idealize.ShloMosaic.Tactic Idealize.ShloMosaic.TcCoe
open Idealize.ShloMosaic.Affine (IsInt)
open Idealize.ShloMosaic.Pipeline (Dat)

variable {F : FTy → Type} [FloatOps F]

/-! ## One block -/

/-- Ones added up over the places where a condition holds. -/
theorem fold_ones {ι : Type} [DecidableEq ι] (S : Finset ι) (p : ι → Prop) [DecidablePred p] (f : ι → BitVec 32)
    (h : ∀ i, f i = if p i then 1#32 else 0#32) : S.fold IKind.add.op 0#32 f = BitVec.ofNat 32 (S.filter p).card := by
  induction S using Finset.induction_on with
  | empty => rfl
  | insert a S ha ih =>
    rw [Finset.fold_insert ha, ih, h a, Finset.filter_insert]
    show _ + _ = _
    by_cases hp : p a
    · rw [if_pos hp, if_pos hp, Finset.card_insert_of_notMem fun hm => ha (Finset.mem_filter.mp hm).1, BitVec.add_comm, BitVec.ofNat_add]
    · rw [if_neg hp, if_neg hp, BitVec.zero_add]

/-- A tile's end as the call computes it. -/
theorem end_isInt (w : Fin 64) : IsInt (fdiv (k0_pay8 (ix2 (n1 := 1) w 0)) 32#32) (Sc1.seg (w.val + 1) : ℕ) := by
  have h8 : IsInt (k0_pay8 (ix2 (n1 := 1) w 0)) ((w.val + 1 : ℤ) * 10000) := by
    unfold k0_pay8
    have hi : IsInt (iota .tc S64x1 32 [0] iota_S64x1_d0_w32 (ix2 (n1 := 1) w 0)) (w.val : ℤ) := by
      rw [iota_single_apply]
      exact lit w.val (by have := w.isLt; omega)
    exact Affine.muli (Affine.addi hi (lit 1 (by decide)) ⟨rfl, by have := w.isLt; omega, by have := w.isLt; omega⟩) (lit 10000 (by decide))
      ⟨rfl, by have := w.isLt; omega, by have := w.isLt; omega⟩
  have h := fdiv_isInt h8 (lit 32 (by decide)) (by omega) (by decide)
  have he : ((w.val + 1 : ℤ) * 10000) / ((32 : ℕ) : ℤ) = (Sc1.seg (w.val + 1) : ℕ) := by
    unfold Sc1.seg; push_cast; rfl
  rw [he] at h
  exact h

/-- One block's step at a row of the first column. -/
theorem cntStep_col (v20 : Vec F S1x1x512 .i32) (X : S64x128.Idx → BitVec 32) (w : Fin 64) (idl : Fin 512 → ℕ)
    (hid : ∀ l, IsInt (v20 (ix3 (n0 := 1) (n1 := 1) 0 0 l)) (idl l : ℕ)) :
    cntStep (F := F) v20 X (ix2 (n1 := 128) w 0)
      = X (ix2 (n1 := 128) w 0) + BitVec.ofNat 32 ((Finset.univ : Finset (Fin 512)).filter fun l => idl l < Sc1.seg (w.val + 1)).card := by
  have e : cntStep (F := F) v20 X (ix2 (n1 := 128) w 0)
      = k0_pay1 (F := F) (k0_pay7 (F := F) v20) k0_pay8 32#32 k0_pay9 0#32 (col0 (F := F) X) (ix2 (n1 := 1) w 0) := if_pos rfl
  rw [e]
  unfold k0_pay1
  dsimp only
  refine congrArg₂ (fun a b : BitVec 32 => a + b) ?_ ?_
  · rw [shapeCast_self]
    unfold col0
    show X _ = X _
    congr 1
    funext a
    apply Fin.ext
    fin_cases a
    · show 0 + 1 * w.val = w.val; omega
    · rfl
  · rw [shapeCast_apply _ _ (ix2 (n1 := 1) w 0) (ix1 w) (by rw [Shape.rowMajor_val_two, Shape.rowMajor_val_one]; show w.val = w.val * 1 + 0; omega)]
    refine (multiReductionI_eq_fold _ _ _ _ _ _).trans ?_
    rw [Shape.Reduces.fold_filter_drop_single]
    refine (fold_ones _ (fun l : Fin 512 => idl l < Sc1.seg (w.val + 1)) _ fun l => ?_).trans rfl
    have hl : (reduces_S64x512_S64 : S64x512.Reduces [1] S64).lift (ix1 w) l = ix2 w l := by
      funext a; fin_cases a <;> rfl
    have ha : broadcastTo S64x512 (shapeCast S1x512 (k0_pay7 (F := F) v20) shapeCasts_S512_S1x512) broadcasts_S1x512_S64x512 (ix2 w l)
        = v20 (ix3 (n0 := 1) (n1 := 1) 0 0 l) := by
      rw [broadcastTo_apply _ _ _ (ix2 (n0 := 1) 0 l) (fun a => by fin_cases a <;> rfl),
        shapeCast_apply _ _ _ (ix1 l) (by rw [Shape.rowMajor_val_two, Shape.rowMajor_val_one]; show l.val = 0 * 512 + l.val; omega)]
      unfold k0_pay7
      exact shapeCast_apply _ _ _ _ (by rw [Shape.rowMajor_val_three, Shape.rowMajor_val_one]; show (0 * 1 + 0) * 512 + l.val = l.val; omega)
    have hb : ∀ v : IVec S64x1 32, broadcastTo S64x512 v broadcasts_S64x1_S64x512 (ix2 w l) = v (ix2 (n1 := 1) w 0) := fun v =>
      broadcastTo_apply _ _ _ _ (fun a => by fin_cases a <;> rfl)
    refine (congrArg (fun i : S64x512.Idx => Scalar.extui (Scalar.cmpi .slt (broadcastTo S64x512 (shapeCast S1x512 (k0_pay7 (F := F) v20) shapeCasts_S512_S1x512) broadcasts_S1x512_S64x512 i)
      (broadcastTo S64x512 _ broadcasts_S64x1_S64x512 i))) hl).trans ?_
    rw [ha, hb]
    show Scalar.extui (Scalar.cmpi .slt _ (fdiv (k0_pay8 (ix2 (n1 := 1) w 0)) 32#32)) = _
    have hs := end_isInt w
    by_cases hp : idl l < Sc1.seg (w.val + 1)
    · rw [if_pos hp]
      exact eq_ofNat (n := 1) (Affine.extui_holds (Affine.slt_holds (hid l) hs (by omega)) rfl)
    · rw [if_neg hp]
      exact eq_ofNat (n := 0) (Affine.extui_fails (Affine.slt_fails (hid l) hs (by omega)) rfl)

/-! ## All blocks -/

variable (m : (ℓ : Loc nD τ sig) → Buf (Elt F) ℓ)

/-- What is asked of the segment numbers. -/
structure SortedIds : Prop where
  lt : ∀ r, r < 320000 → idOf m r < 10000
  mono : ∀ r r', r ≤ r' → r' < 320000 → idOf m r ≤ idOf m r'

variable {m}

/-- A point's segment number, as a word. -/
theorem idOf_isInt (hs : SortedIds m) (r : Fin 320000) :
    IsInt ((V0 m (Proc.devRef .tc main_arg1) : S320000.Idx → BitVec 32) (ix1 r)) (idOf m r.val : ℕ) := by
  refine isInt_of_toNat ?_ (lt_trans (hs.lt r.val r.isLt) (by decide))
  unfold idOf
  rw [dif_pos r.isLt]

/-- The segment numbers as the first call takes them. -/
theorem V1_ids : V1 m (Proc.devRef .tc main_v0) = shapeCast S625x1x512 (V0 m (Proc.devRef .tc main_arg1)) shapeCasts_S320000_S625x1x512 := by
  unfold V1 preOps
  after_reads_simp
  rfl

/-- The block of segment numbers of a grid point. -/
theorem index0_1 (t : Fin cfg0.N) : win0_1.index t 0 = t.val := by
  show (BitVec.ofNat 32 (grid0.coords t 0).val).toNat = t.val
  have h : cfg0.N = 625 := N_0
  have h' := t.isLt
  rw [coord0, BitVec.toNat_ofNat, Nat.mod_eq_of_lt (by omega)]

/-- A block of the segment numbers. -/
theorem in1_apply (t : Fin cfg0.N) (l : Fin 512) (h : 512 * t.val + l.val < 320000) :
    in1 (V1 m) t (ix3 (n0 := 1) (n1 := 1) 0 0 l) = (V0 m (Proc.devRef .tc main_arg1) : S320000.Idx → BitVec 32) (ix1 ⟨512 * t.val + l.val, h⟩) := by
  unfold in1
  rw [View.read_apply, V1_ids]
  refine shapeCast_apply _ _ _ _ ?_
  show (S320000.rowMajor (ix1 ⟨_, h⟩)).val = _
  rw [Shape.rowMajor_val_three, Shape.rowMajor_val_one]
  show 512 * t.val + l.val = ((win0_1.index t 0 * 1 + 1 * 0) * 1 + (0 * 1 + 1 * 0)) * 512 + (0 * 512 + 1 * l.val)
  rw [index0_1]; omega

/-- The first column after a block: the counts of the rows so far. -/
theorem cntAt_col (hs : SortedIds m) (w : Fin 64) : ∀ (n : ℕ) (h : n < cfg0.N),
    cntAt (V1 m) n h (ix2 (n1 := 128) w 0) = BitVec.ofNat 32 (below (idOf m) (512 * (n + 1)) (Sc1.seg (w.val + 1)))
  | 0, h => by
    have hN : cfg0.N = 625 := N_0
    rw [cntAt, cntStep_col _ _ w (fun l => idOf m (512 * 0 + l.val)) fun l => by
      rw [in1_apply ⟨0, h⟩ l (by have := l.isLt; show 512 * 0 + l.val < _; omega)]; exact idOf_isInt hs ⟨512 * 0 + l.val, by have := l.isLt; omega⟩]
    rw [show 512 * (0 + 1) = 512 * 0 + 512 from rfl, below_add]
    show 0#32 + _ = _
    rw [BitVec.zero_add, show below (idOf m) (512 * 0) (Sc1.seg (w.val + 1)) = 0 from Nat.le_zero.mp (below_le _ _ _), Nat.zero_add]
  | n + 1, h => by
    have hN : cfg0.N = 625 := N_0
    rw [cntAt, cntStep_col _ _ w (fun l => idOf m (512 * (n + 1) + l.val)) fun l => by
      rw [in1_apply ⟨n + 1, h⟩ l (by have := l.isLt; show 512 * (n + 1) + l.val < _; omega)]
      exact idOf_isInt hs ⟨512 * (n + 1) + l.val, by have := l.isLt; omega⟩]
    rw [cntAt_col hs w n (by omega), show 512 * (n + 1 + 1) = 512 * (n + 1) + 512 from by omega, below_add, BitVec.ofNat_add]

/-- The array of the counts is one block. -/
theorem mem5 (t : Fin cfg0.N) (i : S64x128.Idx) : i ∈ ((View.whole main_v1_2).slice (win0_5.rect t)).set := by
  rw [View.set_slice_whole, Rect.mem_set_unit]
  intro a
  have h0 : (i 0 : ℕ) < 64 := (i 0).isLt
  have h1 : (i 1 : ℕ) < 128 := (i 1).isLt
  match a with
  | ⟨0, _⟩ => exact ⟨Nat.zero_le _, h0⟩
  | ⟨1, _⟩ => exact ⟨Nat.zero_le _, h1⟩

/-- What the array of counts ends holding: the last block's. -/
theorem counts_arr (V : Valuation τ sig (Elt F)) (c : Dev nD) :
    (dat0 V c).arrAt 5 cfg0.N = cntAt V 624 (by have : cfg0.N = 625 := N_0; omega) := by
  have hN : cfg0.N = 625 := N_0
  refine (dat0 V c).arrAt_eq_of_cover 5 _ (fun t hf => ?_) fun i => ?_
  · have ht := (flush0_5 t).mp hf
    rcases t with ⟨t, h'⟩
    obtain rfl : t = 624 := by
      have h2 : t < cfg0.N := h'
      have h3 : t % 625 = 624 := ht
      omega
    show (cfg0.win 5).cut (grid0.coords _) ((dat0 V c).after 5 _) = _
    have hz' : (fun a => win0_5.index ⟨624, h'⟩ a * main_v1_2.ty.shape.size a) = fun _ => 0 := funext fun a => by fin_cases a <;> rfl
    exact (Memref.read_access_unit_zero (Elt F) main_v1_2 hz' (fun a => by rw [congrFun hz' a]; simp) _).symm
  · exact ⟨⟨624, by omega⟩, (flush0_5 _).mpr rfl, mem5 _ i⟩

/-- The table of counts after the first call. -/
theorem V4_counts : V4 m (Proc.devRef .tc main_v1_2) = cntAt (V1 m) 624 (by have : cfg0.N = 625 := N_0; omega) := by
  unfold V4 V3 midOps
  rw [Function.update_of_ne (ne_of (by decide))]
  after_reads_simp
  rw [V2_counts, counts_arr]

/-- The first two calls leave the segment numbers. -/
theorem V4_ids : V4 m (Proc.devRef .tc main_arg1) = V0 m (Proc.devRef .tc main_arg1) := by
  have h := keep m main_arg1 (by decide)
  unfold V5 at h
  rwa [after_keep (V4 m) main_arg1 (by decide)] at h

/-- A count is the rows before a tile's end. -/
theorem counts_isInt (hs : SortedIds m) (i : Fin 32) : IsInt (counts (V4 m) (ix1 i)) (below (idOf m) 320000 (Sc1.seg (i.val + 1)) : ℕ) := by
  rw [counts_apply, V4_counts]
  have h := cntAt_col hs ⟨i.val, by have := i.isLt; omega⟩ 624 (by have : cfg0.N = 625 := N_0; omega)
  rw [show 512 * (624 + 1) = 320000 from by norm_num] at h
  have h2 : IsInt (cntAt (V1 m) 624 (by have : cfg0.N = 625 := N_0; omega) (ix2 (n1 := 128) ⟨i.val, by have := i.isLt; omega⟩ 0))
      (below (idOf m) 320000 (Sc1.seg (i.val + 1)) : ℕ) := by
    rw [h]
    exact lit _ (lt_of_le_of_lt (below_le _ _ _) (by decide))
  exact h2

/-- The normalised rows, entry by entry. -/
theorem Y_eq (m : (ℓ : Loc nD τ sig) → Buf (Elt F) ℓ) (z : S320512x64.Idx) : V5 m (Proc.devRef .tc main_v4) z = yOf m (z 0).val (z 1).val := by
  have h : V5 m (Proc.devRef .tc main_v4) = V4 m (Proc.devRef .tc main_v4) := after_keep (V4 m) main_v4 (by decide)
  rw [h]
  unfold yOf
  refine congrArg (V4 m (Proc.devRef .tc main_v4) : S320512x64.Idx → F .f32) ?_
  funext a
  apply Fin.ext
  match a with
  | ⟨0, _⟩ => exact (Nat.mod_eq_of_lt (z 0).isLt).symm
  | ⟨1, _⟩ => exact (Nat.mod_eq_of_lt (z 1).isLt).symm

/-- The padded segment numbers, entry by entry. -/
theorem I_eq (hs : SortedIds m) (z : S320520.Idx) : IsInt (V5 m (Proc.devRef .tc main_v16) z : BitVec 32) (idOf m (z 0).val : ℕ) := by
  by_cases h : (z 0).val < 320000
  · have e : V5 m (Proc.devRef .tc main_v16) z = V4 m (Proc.devRef .tc main_arg1) (ix1 ⟨_, h⟩) := after_v16_inside (V4 m) z (ix1 ⟨_, h⟩) rfl
    rw [V4_ids] at e
    rw [e]
    exact idOf_isInt hs ⟨_, h⟩
  · have e : V5 m (Proc.devRef .tc main_v16) z = (0#32 : BitVec 32) := after_v16_outside (V4 m) z (by omega)
    have e0 : idOf m (z 0).val = 0 := dif_neg h
    rw [e, e0]
    exact lit 0 (by decide)

/-- The memory before the SparseCore calls. -/
theorem V5_eq : V5 m = StableHlo.after hostOps (V4 m) := by unfold V5; rfl

/-- A count is the number of points with a segment number below a bound. -/
theorem cntOf_eq (t : ℕ) : cntOf m t = below (idOf m) 320000 t := by unfold cntOf below; rfl

attribute [local irreducible] V5 cntOf

/-- The array of rows that the SparseCore calls read. -/
theorem work_Y : (work m).Y = V5 m (Proc.devRef .tc main_v4) := by unfold work; rfl

/-- The entries of those rows. -/
theorem work_y : (work m).y = yOf m := by unfold work; rfl

/-- The array of segment numbers that they read. -/
theorem work_I : (work m).I = V5 m (Proc.devRef .tc main_v16) := by unfold work; rfl

/-- The entries of that array. -/
theorem work_id : (work m).id = idOf m := by unfold work; rfl

/-- The array of bounds of the first SparseCore call. -/
theorem work_B : (work m).B = V5 m (Proc.devRef .tc main_v9) := by unfold work; rfl

/-- The array of rounded bounds of the second. -/
theorem work_A : (work m).A = V5 m (Proc.devRef .tc main_v15) := by unfold work; rfl

/-- The bounds are the counts. -/
theorem work_lo : (work m).lo = fun n => cntOf m (Sc1.seg n) := by unfold work; rfl

/-- The rounded bounds are the counts rounded down to multiples of eight. -/
theorem work_wa : (work m).wa = fun n => 8 * (cntOf m (Sc1.seg n) / 8) := by unfold work; rfl

/-- So what the SparseCore calls find is as their tiles ask. -/
theorem work_ok (hs : SortedIds m) : (work m).OK := by
  have hall : ∀ r < 320000, idOf m r < Sc1.seg 32 := fun r hr => hs.lt r hr
  have hc0 : below (idOf m) 320000 (Sc1.seg 0) = 0 := below_zero _ _
  have hc32 : below (idOf m) 320000 (Sc1.seg 32) = 320000 := below_all _ _ _ hall
  have hseg : ∀ n, Sc1.seg n < Sc1.seg (n + 1) := fun n => by have := Sc1.seg_succ n; omega
  refine ⟨fun z => ?_, fun z => ?_, fun z hz => ?_, fun z hz => ?_, fun n hn => ?_, ?_, ?_, fun n hn => ?_, fun n hn => ?_, fun n hn r h0 h1 => ?_⟩
  · rw [work_Y, work_y]; exact Y_eq m z
  · rw [work_I, work_id]; exact I_eq hs z
  · simp only [work_B, work_lo, cntOf_eq, V5_eq]; exact after_v9_isInt (V4 m) (c := fun n => below (idOf m) 320000 (Sc1.seg n)) hc0 (counts_isInt hs) z hz
  · simp only [work_A, work_wa, cntOf_eq, V5_eq]; exact after_v15_isInt (V4 m) (c := fun n => below (idOf m) 320000 (Sc1.seg n)) hc0 hc32 (fun n => below_le _ _ _) (counts_isInt hs) z hz
  · simp only [work_id, work_lo, cntOf_eq]; exact inTile hs.mono (hseg n)
  · simp only [work_wa, cntOf_eq, hc0, Nat.zero_div, Nat.mul_zero]
  · simp only [work_wa, cntOf_eq, hc32]
  · simp only [work_wa, cntOf_eq]
    exact Nat.mul_le_mul_left _ (Nat.div_le_div_right (below_mono _ _ (hseg n).le))
  · simp only [work_wa, cntOf_eq]; exact ⟨_, rfl⟩
  · simp only [work_wa, cntOf_eq] at h0 h1
    rw [work_id]
    have h2 : r < 8 * (below (idOf m) 320000 (Sc1.seg (n + 1)) / 8) := h1
    have h3 := below_le (idOf m) 320000 (Sc1.seg (n + 1))
    exact (lt_below hs.mono _ (by omega)).mpr (by omega)

end Cert.KernelIdeal.Whole
end
end
-- ==== Proof.Pre.lean ====
/- What the precondition says: the segment numbers are in range and do not decrease. -/
module

public import proofs.«01_k».proof.Defs
public import Idealize.ShloMosaic.Lib.ReduceAll
public import Idealize.ShloMosaic.Lib.Affine
public import Idealize.ShloMosaic.Lib.Pointwise
public import Idealize.ShloMosaic.Lib.Pipeline.Value

@[expose] public section
namespace Cert.Pre

open Idealize.ShloMosaic

/-- The precondition's stated facts. -/
theorem factsS : Cert.Pre_sorted_segments.Facts := ⟨by decide, by decide, by decide, by decide, by decide, by decide⟩

attribute [local instance] factsS

/-- A conjunction of two bits is one only when both are. -/
theorem and_one : ∀ {a b : BitVec 1}, IntOp.andi a b = 1#1 → a = 1#1 ∧ b = 1#1 := by decide

abbrev S320000 : Shape := ⟨1, ![320000]⟩
abbrev S319999 : Shape := ⟨1, ![319999]⟩

/-- What is said of the segment numbers. -/
def IdsOK (a : S320000.Idx → BitVec 32) : Prop :=
  (∀ r : Fin 320000, (a (ix1 r)).toNat < 10000) ∧ ∀ r r' : Fin 320000, r ≤ r' → (a (ix1 r)).toNat ≤ (a (ix1 r')).toNat

/-- A word between zero and the number of segments, read signed, is below it as a number. -/
theorem toNat_lt {v : BitVec 32} (e : IntOp.andi (IntOp.cmpi .sge v 0#32) (IntOp.cmpi .slt v 10000#32) = 1#1) : v.toNat < 10000 := by
  obtain ⟨h0, h1⟩ := and_one e
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  rw [BitVec.toInt_eq_toNat_cond] at h0 h1
  omega

/-- Words in range compared signed compare as numbers. -/
theorem toNat_le {u v : BitVec 32} (hu : u.toNat < 10000) (hv : v.toNat < 10000) (e : IntOp.cmpi .sge u v = 1#1) : v.toNat ≤ u.toNat := by
  rw [IntOp.cmpi_sge, BitVec.toInt_eq_toNat_cond, BitVec.toInt_eq_toNat_cond] at e
  omega

/-- In range everywhere, and each at least the one before it. -/
theorem idsOK {a : S320000.Idx → BitVec 32} (h : ∀ i : S320000.Idx, IntOp.andi (IntOp.cmpi .sge (a i) 0#32) (IntOp.cmpi .slt (a i) 10000#32) = 1#1)
    (hs : ∀ k (hk : k + 1 < 320000), IntOp.cmpi .sge (a (ix1 ⟨k + 1, hk⟩)) (a (ix1 ⟨k, by omega⟩)) = 1#1) : IdsOK a := by
  have hlt : ∀ r : Fin 320000, (a (ix1 r)).toNat < 10000 := fun r => toNat_lt (h _)
  refine ⟨hlt, ?_⟩
  rintro ⟨r, hr⟩ ⟨r', hr'⟩ hle
  have hle : r ≤ r' := hle
  induction r', hle using Nat.le_induction with
  | base => exact le_rfl
  | succ n hn ih =>
    have h1 := ih (by omega) (by show r ≤ n; exact hn)
    exact le_trans h1 (toNat_le (hlt _) (hlt _) (hs n hr'))

/-- The precondition gives both facts of the segment numbers. -/
theorem ids_of_segments {F : FTy → Type} [FloatOps F] (x0 : FVec F ⟨2, ![320000, 128]⟩ .f32) (a : IVec S320000 32) (x2 : FVec F ⟨2, ![64, 128]⟩ .f32)
    (x3 x4 : FVec F ⟨1, ![64]⟩ .f32) (h : Cert.Pre_sorted_segments.fn (F := F) x0 a x2 x3 x4 = fun _ => 1#1) : IdsOK a := by
  have e := congrFun h (fun i => i.elim0)
  unfold Cert.Pre_sorted_segments.fn at e
  obtain ⟨e5, e9⟩ := and_one e
  refine idsOK (fun i => ?_) fun k hk => ?_
  · exact Host.reduce_andi_all _ _ _ _ _ e5 i
  · have := Host.reduce_andi_all _ _ _ _ _ e9 (ix1 ⟨k, by omega⟩)
    refine (congrArg₂ (fun u v => IntOp.cmpi .sge u v) ?_ ?_).trans this
    · exact (extractStridedSlice_apply _ _ _ _ _ fun b => by fin_cases b; show k + 1 = 1 + k; omega).symm
    · exact (extractStridedSlice_apply _ _ _ _ _ fun b => by fin_cases b; show k = 0 + k; omega).symm

end Cert.Pre
end
-- ==== Proof.KerFrame.lean ====
/- The kernel's frame: it ends with its arguments unchanged and every counter at zero, the segment numbers being in
   range and in order. -/
module

public import proofs.«01_k».proof.Proof.Main
public import proofs.«01_k».proof.Proof.Counts
public import proofs.«01_k».proof.Proof.Pre

@[expose] public section

noncomputable section

namespace Cert.KernelIdeal.Whole

open Idealize.ShloMosaic Idealize.ShloMosaic.StableHlo Idealize.SL.Sem Cert.KernelIdeal Cert.KernelIdeal.Gen

variable {F : FTy → Type} [FloatOps F] (m : (ℓ : Loc nD τ sig) → Buf (Elt F) ℓ)

/-- The segment numbers the program reads are in range and in order when the argument's are. -/
theorem sortedIds_of (h : Cert.Pre.IdsOK (m (d0, Proc.devRef .tc main_arg1))) : SortedIds m where
  lt r hr := by
    unfold idOf; rw [dif_pos hr]; exact h.1 ⟨r, hr⟩
  mono r r' hrr hr := by
    unfold idOf; rw [dif_pos hr, dif_pos (lt_of_le_of_lt hrr hr)]; exact h.2 ⟨r, _⟩ ⟨r', hr⟩ hrr

/-- The kernel runs, its arguments end as they were, and every counter is back at zero. -/
theorem frame [∀ e, Nonempty (Elt F e)] (hs : SortedIds m) (ρ : Dev nD → PrngReg) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun _ h => ⟨fun c => (h.1 c).2, h.2⟩) (run_main m (work_ok hs) ρ)

end Cert.KernelIdeal.Whole

end
-- ==== Proof.Frames.lean ====
/- The kernel and its idealized print are one program under two names, so the kernel's frame is the idealized program's,
   at any floats. -/
module

public import proofs.«01_k».proof.Proof.KerFrame
public import proofs.«01_k».proof.Proof.Gen.Kernel

@[expose] public section

set_option maxHeartbeats 4000000
set_option maxRecDepth 100000

noncomputable section

namespace Cert.Kernel.Whole

open Idealize.ShloMosaic Idealize.SL.Sem

attribute [local instance] Cert.Kernel.Gen.facts Cert.KernelIdeal.Gen.facts

variable {F : FTy → Type} [FloatOps F]

/-- The TensorCore bodies of the two programs are the same. -/
theorem bodies_tc : Cert.Kernel.defs₀ (F := F) .tc = Cert.KernelIdeal.defs₀ (F := F) .tc := by
  funext l a
  match l, a with
  | 0, (t, s) => rfl
  | 1, (t, s) => rfl
  | 2, a => rfl
  | 3, a => rfl

/-- The bodies of a scalar subcore, which no call runs, are the same. -/
theorem bodies_scalar (c) : Cert.Kernel.defs₀ (F := F) (.scScalar c) = Cert.KernelIdeal.defs₀ (F := F) (.scScalar c) := by
  funext l a
  match l, a with
  | 0, a => rfl
  | 1, a => rfl
  | 2, a => rfl
  | 3, a => rfl

/-- The bodies of a tile are the same. -/
theorem bodies_tile (c s) : Cert.Kernel.defs₀ (F := F) (.scVector c s) = Cert.KernelIdeal.defs₀ (F := F) (.scVector c s) := by
  funext l a
  match l, a with
  | 0, a => rfl
  | 1, a => rfl
  | 2, a => rfl
  | 3, a => rfl

/-- The two programs have the same kernel bodies. -/
theorem bodies_eq : Cert.Kernel.defs₀ (F := F) = Cert.KernelIdeal.defs₀ (F := F) := by
  funext p
  match p with
  | .tc => exact bodies_tc
  | .scScalar c => exact bodies_scalar c
  | .scVector c s => exact bodies_tile c s

/-- The two programs have the same table of bodies. -/
theorem defs_eq : Cert.Kernel.defs (F := F) = Cert.KernelIdeal.defs (F := F) :=
  congrArg (fun d => Cert.KernelIdeal.sc.defs (Pipeline.defs (Cert.KernelIdeal.pcfgs (F := F)) d)) bodies_eq

/-- The two programs have the same threads. -/
theorem threads_eq : Cert.Kernel.threads (F := F) = Cert.KernelIdeal.threads (F := F) := rfl

variable (m : (ℓ : Loc nD τ sig) → Buf (Elt F) ℓ)

/-- The kernel runs, its arguments end as they were, and every counter is back at zero. -/
theorem frame [∀ e, Nonempty (Elt F e)] (h : Cert.Pre.IdsOK (m (Cert.KernelIdeal.Whole.d0, Proc.devRef .tc main_arg1))) (ρ : Dev nD → PrngReg) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  rw [defs_eq, threads_eq]
  exact Cert.KernelIdeal.Whole.frame m (Cert.KernelIdeal.Whole.sortedIds_of m h) ρ

end Cert.Kernel.Whole

end
-- ==== Proof.RefFrame.lean ====
/- The frame of the reference: it ends with its arguments unchanged and every counter at zero. -/
module

public import proofs.«01_k».proof.Defs
public import proofs.«01_k».proof.Proof.Gen.ReferenceIdeal.Run
public import Idealize.ShloMosaic.Init

@[expose] public section

noncomputable section

namespace Cert.ReferenceIdeal.Whole

open Idealize.ShloMosaic Idealize.ShloMosaic.StableHlo Idealize.SL.Sem Cert.ReferenceIdeal Cert.ReferenceIdeal.Gen
open Cert.ReferenceIdeal.Value

attribute [local instance] Cert.ReferenceIdeal.Gen.facts

/-- The program declares no semaphore, so every assignment of counters is the zero one. -/
theorem no_counters (f : GSem nD τ sig → Int) : f = fun _ => 0 := by
  funext s
  rcases s with ⟨⟨d, p⟩, s⟩
  rcases s with s | s <;> cases p <;> exact (s.elim0 : _)

/-- A buffer that neither the loop's condition nor its body writes is the same before every trip. -/
theorem trip_keep {r : Ref sig .tc} (m : (ℓ : Loc nD τ sig) → Buf (Elt Ideal) ℓ) (c : Dev nD)
    (h : ∀ V : Valuation τ sig (Elt Ideal), afterL bodyI (after condOps V) (Proc.devRef .tc r) = V (Proc.devRef .tc r)) :
    ∀ k, atK m k c (Proc.devRef .tc r) = entryContents preI m c (Proc.devRef .tc r)
  | 0 => rfl
  | k + 1 => (h _).trans (trip_keep m c h k)

/-- Neither the loop's condition nor its body writes a reference outside the lists of what they write. -/
theorem body_keep {r : Ref sig .tc} (V : Valuation τ sig (Elt Ideal)) (hc : r ∉ condOps_W)
    (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) :
    afterL bodyI (after condOps V) (Proc.devRef .tc r) = V (Proc.devRef .tc r) := by
  simp only [afterL_cons, afterL_nil]
  rw [after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- What the stretch after the loop writes, in order. -/
abbrev tailW : List (Ref sig .tc) := [main_c_6, main_v31, main_v32, main_c_7, main_v33, main_v34, main_v35, main_v36, main_v37, main_v38]

/-- The stretch after the loop writes no other reference. -/
theorem tail_writes : (hostOps0_3 : List (HloOp τ sig (Elt Ideal))).Forall fun op => op.writes ⊆ (tailW.map (Proc.devRef (τ := τ) .tc)).toFinset :=
  forall_writes_sub_of_map rfl

/-- What no operation of the program writes ends as it was launched. -/
theorem final_keep {r : Ref sig .tc} (m : (ℓ : Loc nD τ sig) → Buf (Elt Ideal) ℓ) (c : Dev nD) (hc : r ∉ condOps_W)
    (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) (p0 : r ∉ hostOps0_W) (p1 : r ∉ hostOps0_1_W)
    (p2 : r ∉ hostOps0_2_W) (p3 : r ∉ tailW) :
    finalContents condOps preI bodyI postI 10000 m c (Proc.devRef .tc r) = m (c, Proc.devRef .tc r) := by
  simp only [finalContents, afterL_cons, afterL_nil]
  rw [after_of_writes_sub hostOps0_3 _ tail_writes p3, after_of_writes_sub condOps _ condOps_writes hc,
    show atTrip condOps bodyI (entryContents preI m) 10000 c (Proc.devRef .tc r) = entryContents preI m c (Proc.devRef .tc r)
      from trip_keep m c (fun V => body_keep V hc h0 h1 h2 h3 h4 h5) 10000]
  simp only [entryContents, afterL_cons, afterL_nil]
  rw [after_of_writes_sub hostOps0_2 _ hostOps0_2_writes p2, after_of_writes_sub hostOps0_1 _ hostOps0_1_writes p1,
    after_of_writes_sub hostOps0 _ hostOps0_writes p0]

/-- The reference runs, its arguments end as they were, and no counter is raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run _ _ _).mono (fun r h => ⟨fun c => ⟨?_, ?_, ?_, ?_, ?_⟩, no_counters _⟩) (run_fold m ρ)
  · exact (h c main_arg0 rfl).trans (final_keep m c (by decide) (by decide) (by decide) (by decide) (by decide) (by decide) (by decide) (by decide) (by decide) (by decide) (by decide))
  · exact (h c main_arg1 rfl).trans (final_keep m c (by decide) (by decide) (by decide) (by decide) (by decide) (by decide) (by decide) (by decide) (by decide) (by decide) (by decide))
  · exact (h c main_arg2 rfl).trans (final_keep m c (by decide) (by decide) (by decide) (by decide) (by decide) (by decide) (by decide) (by decide) (by decide) (by decide) (by decide))
  · exact (h c main_arg3 rfl).trans (final_keep m c (by decide) (by decide) (by decide) (by decide) (by decide) (by decide) (by decide) (by decide) (by decide) (by decide) (by decide))
  · exact (h c main_arg4 rfl).trans (final_keep m c (by decide) (by decide) (by decide) (by decide) (by decide) (by decide) (by decide) (by decide) (by decide) (by decide) (by decide))

end Cert.ReferenceIdeal.Whole

end
-- ==== Proof.Norm.lean ====
/- Normalising by the mean of the squares less the square of the mean, and normalising by the mean of the squared
   distances from the mean, agree at finite numbers. -/
module

public import Idealize.ShloMosaic.Lib.IdealHost

@[expose] public section

noncomputable section

namespace Cert.Norm

open Idealize.ShloMosaic

/-- The number of points, and the small constant, as the programs write them. -/
abbrev cN : EReal := Ideal.ofBits .f32 0x489C4000#32
abbrev cE : EReal := Ideal.ofBits .f32 0x3A83126F#32

/-- The number of points is 320000. -/
theorem cN_eq : cN = ((320000 : ℝ) : EReal) := by
  unfold cN
  simp [Ideal.ofBits, Ideal.ieee]
  rw [← EReal.coe_mul]
  norm_num

/-- The small constant is a positive real. -/
theorem cE_eq : ∃ e : ℝ, 0 < e ∧ cE = (e : EReal) := by
  refine ⟨8589935 * (2 : ℝ) ^ (-33 : ℤ), by positivity, ?_⟩
  unfold cE
  simp [Ideal.ofBits, Ideal.ieee]

/-- The kernel's normalised number, from the sum and the sum of the squares. -/
def ker (S Q x g b : EReal) : EReal :=
  x * (g * Ideal.rsqrt (Ideal.div Q cN - Ideal.div S cN * Ideal.div S cN + cE))
    + (b - Ideal.div S cN * (g * Ideal.rsqrt (Ideal.div Q cN - Ideal.div S cN * Ideal.div S cN + cE)))

/-- The reference's, from the sum and the sum of the squared distances. -/
def ref (S D x g b : EReal) : EReal :=
  Ideal.div (x - Ideal.div S cN) (Ideal.sqrt (Ideal.div D cN + cE)) * g + b

/-- The swish of a normalised number. -/
def swish (t : EReal) : EReal := t * Ideal.div 1 (1 + Ideal.exp (-t))

/-- A real divided by the number of points. -/
theorem div_cN (r : ℝ) : Ideal.div (r : EReal) cN = ((r / 320000 : ℝ) : EReal) := by
  rw [cN_eq, Ideal.div, if_neg (by exact_mod_cast (by norm_num : (320000 : ℝ) ≠ 0)), div_eq_mul_inv, ← EReal.coe_inv]
  rfl

/-- Reals' sums are sums of reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean of the squared distances from the mean. -/
theorem var_eq {ι : Type} [Fintype ι] (hc : (Fintype.card ι : ℝ) = 320000) (x : ι → ℝ) :
    (∑ i, (x i - (∑ j, x j) / 320000) * (x i - (∑ j, x j) / 320000)) / 320000
      = (∑ i, x i * x i) / 320000 - (∑ j, x j) / 320000 * ((∑ j, x j) / 320000) := by
  have h : ∀ i, (x i - (∑ j, x j) / 320000) * (x i - (∑ j, x j) / 320000)
      = x i * x i - 2 * ((∑ j, x j) / 320000) * x i + (∑ j, x j) / 320000 * ((∑ j, x j) / 320000) := fun i => by ring
  rw [Finset.sum_congr rfl fun i _ => h i, Finset.sum_add_distrib, Finset.sum_sub_distrib, ← Finset.mul_sum, Finset.sum_const,
    nsmul_eq_mul, Finset.card_univ, hc]
  ring

/-- The two normalised numbers agree where the numbers and the scale are finite. -/
theorem ker_eq_ref {ι : Type} [Fintype ι] (hc : (Fintype.card ι : ℝ) = 320000) (X : ι → EReal) (g b : EReal) (hX : ∀ i, ∃ r : ℝ, X i = r)
    (hg : ∃ r : ℝ, g = r) (i : ι) :
    ker (∑ j, X j) (∑ j, X j * X j) (X i) g b
      = ref (∑ j, X j) (∑ j, (X j - Ideal.div (∑ k, X k) cN) * (X j - Ideal.div (∑ k, X k) cN)) (X i) g b := by
  choose x hx using hX
  obtain ⟨g, rfl⟩ := hg
  obtain ⟨e, he, hE⟩ := cE_eq
  obtain rfl : X = fun i => (x i : EReal) := funext hx
  simp only
  rw [coe_sum, div_cN]
  simp only [← EReal.coe_sub, ← EReal.coe_mul]
  rw [coe_sum, coe_sum]
  unfold ker ref
  rw [div_cN, div_cN, div_cN, hE, ← EReal.coe_mul, ← EReal.coe_sub, ← EReal.coe_add, ← EReal.coe_sub, ← EReal.coe_add, ← var_eq hc x]
  set m : ℝ := (∑ j, x j) / 320000 with hm
  set v : ℝ := (∑ i, (x i - m) * (x i - m)) / 320000 with hv
  have hv0 : 0 ≤ v := div_nonneg (Finset.sum_nonneg fun i _ => mul_self_nonneg _) (by norm_num)
  have hp : 0 < v + e := by linarith
  have hs : 0 < Real.sqrt (v + e) := Real.sqrt_pos.mpr hp
  have h1 : Ideal.rsqrt ((v + e : ℝ) : EReal) = ((Real.sqrt (v + e))⁻¹ : ℝ) := by
    show (if v + e < 0 then ⊥ else if v + e = 0 then ⊤ else (((Real.sqrt (v + e))⁻¹ : ℝ) : EReal)) = _
    rw [if_neg (by linarith), if_neg hp.ne']
  have h2 : Ideal.sqrt ((v + e : ℝ) : EReal) = (Real.sqrt (v + e) : ℝ) := by
    show (if v + e < 0 then ⊥ else ((Real.sqrt (v + e) : ℝ) : EReal)) = _
    rw [if_neg (by linarith)]
  rw [h1, h2, Ideal.div, if_neg (by exact_mod_cast hs.ne'), ← EReal.coe_inv, ← EReal.coe_mul, ← EReal.coe_mul, ← EReal.coe_mul, ← EReal.coe_mul, ← EReal.coe_mul,
    sub_eq_add_neg b, add_comm b, ← add_assoc, ← EReal.coe_neg, ← EReal.coe_add]
  congr 2
  ring

end Cert.Norm

end
-- ==== Proof.KerPay.lean ====
/- The blocks that the two TensorCore bodies compute, entry by entry, at exact arithmetic. -/
module

public import proofs.«01_k».proof.Proof.Regions
public import proofs.«01_k».proof.Proof.Norm
public import Idealize.ShloMosaic.Lib.Pointwise

@[expose] public section

noncomputable section

namespace Cert.KernelIdeal.Whole

open Cert.KernelIdeal Cert.KernelIdeal.Gen
open Idealize.ShloMosaic Idealize.ShloMosaic.Tactic Idealize.ShloMosaic.TcCoe

/-- A block's products: each a sum over the 128 columns. -/
theorem pay4_apply (a : Vec Ideal S512x128 .f32) (w : Vec Ideal S64x128 .f32) (l : Fin 512) (u : Fin 64) :
    k0_pay4 a w (ix2 l u) = ∑ k : Fin 128, a (ix2 l k) * w (ix2 u k) := by
  unfold k0_pay4
  simp only [pointwise, zero_add]

/-- The sums grow by the block's sums. -/
theorem pay5_apply (a : Vec Ideal S512x128 .f32) (w : Vec Ideal S64x128 .f32) (q : Vec Ideal S1x64 .f32) (u : Fin 64) :
    k0_pay5 a w q (ix2 (n0 := 1) 0 u) = q (ix2 (n0 := 1) 0 u) + ∑ l : Fin 512, k0_pay4 a w (ix2 l u) := by
  unfold k0_pay5
  simp only [pointwise, zero_add]

/-- The sums of the squares grow by the block's. -/
theorem pay6_apply (a : Vec Ideal S512x128 .f32) (w : Vec Ideal S64x128 .f32) (q : Vec Ideal S1x64 .f32) (u : Fin 64) :
    k0_pay6 a w q (ix2 (n0 := 1) 0 u) = q (ix2 (n0 := 1) 0 u) + ∑ l : Fin 512, k0_pay4 a w (ix2 l u) * k0_pay4 a w (ix2 l u) := by
  unfold k0_pay6
  simp only [pointwise, zero_add]

/-- A normalised row of the second call, entry by entry. -/
theorem pay1_apply (S Q g b : Vec Ideal S1x64 .f32) (x : Vec Ideal S512x64 .f32) (l : Fin 512) (u : Fin 64) :
    k1_pay1 S Q g b x (ix2 l u) = Cert.Norm.swish (Cert.Norm.ker (S (ix2 (n0 := 1) 0 u)) (Q (ix2 (n0 := 1) 0 u)) (x (ix2 l u)) (g (ix2 (n0 := 1) 0 u)) (b (ix2 (n0 := 1) 0 u))) := by
  unfold k1_pay1
  simp only [pointwise, zero_sub]
  rfl

/-- The statistics start at zero. -/
theorem pay2_apply (z : S8x64.Idx) : k0_pay2 (F := Ideal) z = 0 := by
  show Ideal.ofBits .f32 0x00000000#32 = 0
  simp [Ideal.ofBits, Ideal.ieee]

/-- The first row of the statistics. -/
theorem row0_apply (X : S8x64.Idx → EReal) (u : Fin 64) : row0 (F := Ideal) X (ix2 (n0 := 1) 0 u) = X (ix2 0 u) := by
  unfold row0
  show X _ = X _
  congr 1
  funext a
  refine Fin.ext ?_
  match a with
  | ⟨0, _⟩ => rfl
  | ⟨1, _⟩ => show 0 + 1 * u.val = u.val; omega

/-- The second row of the statistics. -/
theorem row1_apply (X : S8x64.Idx → EReal) (u : Fin 64) : row1 (F := Ideal) X (ix2 (n0 := 1) 0 u) = X (ix2 1 u) := by
  unfold row1
  show X _ = X _
  congr 1
  funext a
  refine Fin.ext ?_
  match a with
  | ⟨0, _⟩ => rfl
  | ⟨1, _⟩ => show 0 + 1 * u.val = u.val; omega

end Cert.KernelIdeal.Whole

end
-- ==== Proof.KerValue.lean ====
/- The arrays of the two TensorCore calls at exact arithmetic: the products, the sums over all points, the points' values. -/
module

public import proofs.«01_k».proof.Proof.Counts
public import proofs.«01_k».proof.Proof.KerPay

@[expose] public section

noncomputable section

namespace Cert.KernelIdeal.Whole

open Cert.KernelIdeal Cert.KernelIdeal.Gen Cert.Words Cert.Sorted
open Idealize.ShloMosaic Idealize.ShloMosaic.Tactic Idealize.ShloMosaic.TcCoe
open Idealize.ShloMosaic.Pipeline (Dat)

variable (m : (ℓ : Loc nD τ sig) → Buf (Elt Ideal) ℓ)

abbrev a0 : S320000x128.Idx → EReal := V0 m (Proc.devRef .tc main_arg0)
abbrev a2 : S64x128.Idx → EReal := V0 m (Proc.devRef .tc main_arg2)
abbrev a3 : S64.Idx → EReal := V0 m (Proc.devRef .tc main_arg3)
abbrev a4 : S64.Idx → EReal := V0 m (Proc.devRef .tc main_arg4)

/-- A row of products. -/
def xK (r : Fin 320000) (u : Fin 64) : EReal := ∑ k : Fin 128, a0 m (ix2 r k) * a2 m (ix2 u k)

/-- The same at any row number. -/
def xN (u : Fin 64) (r : ℕ) : EReal := if h : r < 320000 then xK m ⟨r, h⟩ u else 0

/-- The points as the first call takes them. -/
theorem V1_a0 : V1 m (Proc.devRef .tc main_arg0) = V0 m (Proc.devRef .tc main_arg0) := by unfold V1 preOps; after_reads_simp

/-- The weights as the first call takes them. -/
theorem V1_a2 : V1 m (Proc.devRef .tc main_arg2) = V0 m (Proc.devRef .tc main_arg2) := by unfold V1 preOps; after_reads_simp

/-- The block of points of a grid point. -/
theorem index0_0 (t : Fin cfg0.N) : win0_0.index t 0 = t.val := by
  show (BitVec.ofNat 32 (grid0.coords t 0).val).toNat = t.val
  have h : cfg0.N = 625 := N_0
  have h' := t.isLt
  rw [coord0, BitVec.toNat_ofNat, Nat.mod_eq_of_lt (by omega)]

/-- A block of points, entry by entry. -/
theorem in0_apply (t : Fin cfg0.N) (l : Fin 512) (k : Fin 128) (h : 512 * t.val + l.val < 320000) :
    in0 (V1 m) t (ix2 l k) = a0 m (ix2 ⟨512 * t.val + l.val, h⟩ k) := by
  unfold in0
  rw [View.read_apply, V1_a0]
  refine congrArg (a0 m) (funext fun a => Fin.ext ?_)
  match a with
  | ⟨0, _⟩ => show win0_0.index t 0 * 512 + 1 * l.val = 512 * t.val + l.val; rw [index0_0]; omega
  | ⟨1, _⟩ => show 0 * 128 + 1 * k.val = k.val; omega

/-- The weights, entry by entry. -/
theorem in2_apply (t : Fin cfg0.N) (u : Fin 64) (k : Fin 128) : in2 (V1 m) t (ix2 u k) = a2 m (ix2 u k) := by
  unfold in2
  rw [View.read_apply, V1_a2]
  refine congrArg (a2 m) (funext fun a => Fin.ext ?_)
  match a with
  | ⟨0, _⟩ => show 0 * 64 + 1 * u.val = u.val; omega
  | ⟨1, _⟩ => show 0 * 128 + 1 * k.val = k.val; omega

/-- A block of products. -/
theorem blk_apply (t : Fin cfg0.N) (l : Fin 512) (u : Fin 64) : k0_pay4 (in0 (V1 m) t) (in2 (V1 m) t) (ix2 l u) = xN m u (512 * t.val + l.val) := by
  have hN : cfg0.N = 625 := N_0
  have h : 512 * t.val + l.val < 320000 := by have := t.isLt; have := l.isLt; omega
  rw [pay4_apply]
  unfold xN xK
  rw [dif_pos h]
  exact Finset.sum_congr rfl fun k _ => by rw [in0_apply m t l k h, in2_apply]

/-- The statistics after some blocks: the sum and the sum of the squares of the rows so far. -/
theorem statAt_rows (u : Fin 64) : ∀ (n : ℕ) (h : n < cfg0.N),
    statAt (V1 m) n h (ix2 0 u) = ∑ r ∈ Finset.range (512 * (n + 1)), xN m u r
    ∧ statAt (V1 m) n h (ix2 1 u) = ∑ r ∈ Finset.range (512 * (n + 1)), xN m u r * xN m u r := by
  have hstep (n : ℕ) (h : n < cfg0.N) (X : S8x64.Idx → EReal) (hX : X (ix2 0 u) = ∑ r ∈ Finset.range (512 * n), xN m u r
      ∧ X (ix2 1 u) = ∑ r ∈ Finset.range (512 * n), xN m u r * xN m u r) :
      statStep (F := Ideal) (in0 (V1 m) ⟨n, h⟩) (in2 (V1 m) ⟨n, h⟩) X (ix2 0 u) = ∑ r ∈ Finset.range (512 * (n + 1)), xN m u r
      ∧ statStep (F := Ideal) (in0 (V1 m) ⟨n, h⟩) (in2 (V1 m) ⟨n, h⟩) X (ix2 1 u) = ∑ r ∈ Finset.range (512 * (n + 1)), xN m u r * xN m u r := by
    constructor
    · show k0_pay5 _ _ (row0 (F := Ideal) X) (ix2 (n0 := 1) 0 u) = _
      rw [pay5_apply, row0_apply, hX.1, show 512 * (n + 1) = 512 * n + 512 from rfl, Finset.sum_range_add, Finset.sum_range (n := 512)]
      exact congrArg _ (Finset.sum_congr rfl fun l _ => blk_apply m ⟨n, h⟩ l u)
    · show k0_pay6 _ _ (row1 (F := Ideal) X) (ix2 (n0 := 1) 0 u) = _
      rw [pay6_apply, row1_apply, hX.2, show 512 * (n + 1) = 512 * n + 512 from rfl, Finset.sum_range_add, Finset.sum_range (n := 512)]
      exact congrArg _ (Finset.sum_congr rfl fun l _ => by rw [blk_apply m ⟨n, h⟩ l u])
  intro n
  induction n with
  | zero =>
    intro h
    exact hstep 0 h _ ⟨by rw [pay2_apply]; rfl, by rw [pay2_apply]; rfl⟩
  | succ n ih =>
    intro h
    exact hstep (n + 1) h _ (ih (by omega))

/-- A block of products at any entry. -/
theorem blk_idx (t : Fin cfg0.N) (z : S512x64.Idx) : k0_pay4 (in0 (V1 m) t) (in2 (V1 m) t) z = xN m (z 1) (512 * t.val + (z 0).val) := by
  have e : z = ix2 (z 0) (z 1) := funext fun a => match a with
    | ⟨0, _⟩ => rfl
    | ⟨1, _⟩ => rfl
  exact (congrArg _ e).trans (blk_apply m t (z 0) (z 1))

/-- The array of the statistics is one block. -/
theorem mem4 (t : Fin cfg0.N) (i : S8x64.Idx) : i ∈ ((View.whole main_v1_1).slice (win0_4.rect t)).set := by
  rw [View.set_slice_whole, Rect.mem_set_unit]
  intro a
  have h0 : (i 0 : ℕ) < 8 := (i 0).isLt
  have h1 : (i 1 : ℕ) < 64 := (i 1).isLt
  match a with
  | ⟨0, _⟩ => exact ⟨Nat.zero_le _, h0⟩
  | ⟨1, _⟩ => exact ⟨Nat.zero_le _, h1⟩

/-- The array of statistics after the first call. -/
theorem stats_arr (V : Valuation τ sig (Elt Ideal)) (c : Dev nD) :
    (dat0 V c).arrAt 4 cfg0.N = statAt V 624 (by have : cfg0.N = 625 := N_0; omega) := by
  have hN : cfg0.N = 625 := N_0
  refine (dat0 V c).arrAt_eq_of_cover 4 _ (fun t hf => ?_) fun i => ?_
  · have ht := (flush0_4 t).mp hf
    rcases t with ⟨t, h'⟩
    obtain rfl : t = 624 := by
      have h2 : t < cfg0.N := h'
      have h3 : t % 625 = 624 := ht
      omega
    show (cfg0.win 4).cut (grid0.coords _) ((dat0 V c).after 4 _) = _
    have hz' : (fun a => win0_4.index ⟨624, h'⟩ a * main_v1_1.ty.shape.size a) = fun _ => 0 := funext fun a => by fin_cases a <;> rfl
    exact (Memref.read_access_unit_zero (Elt Ideal) main_v1_1 hz' (fun a => by rw [congrFun hz' a]; simp) _).symm
  · exact ⟨⟨624, by omega⟩, (flush0_4 _).mpr rfl, mem4 _ i⟩

/-- The block of products of a grid point. -/
theorem index0_3 (t : Fin cfg0.N) : win0_3.index t 0 = t.val := by
  show (BitVec.ofNat 32 (grid0.coords t 0).val).toNat = t.val
  have h : cfg0.N = 625 := N_0
  have h' := t.isLt
  rw [coord0, BitVec.toNat_ofNat, Nat.mod_eq_of_lt (by omega)]

/-- The rows that a block of products holds. -/
theorem mem3 (t : Fin cfg0.N) (i : S320512x64.Idx) (h : 512 * t.val ≤ (i 0).val ∧ (i 0).val < 512 * t.val + 512) :
    i ∈ ((View.whole main_v1_0).slice (win0_3.rect t)).set := by
  rw [View.set_slice_whole, Rect.mem_set_unit]
  intro a
  have h1 : (i 1 : ℕ) < 64 := (i 1).isLt
  match a with
  | ⟨0, _⟩ =>
    show win0_3.index t 0 * 512 ≤ (i 0).val ∧ (i 0).val < win0_3.index t 0 * 512 + 512
    rw [index0_3]; omega
  | ⟨1, _⟩ => exact ⟨Nat.zero_le _, h1⟩

/-- The array of products after the first call. -/
theorem x_arr (c : Dev nD) (r : Fin 320512) (h : r.val < 320000) (u : Fin 64) :
    ((dat0 (V1 m) c).arrAt 3 cfg0.N : S320512x64.Idx → EReal) (ix2 r u) = xN m u r.val := by
  have hN : cfg0.N = 625 := N_0
  refine (dat0 (V1 m) c).arrAt_apply_of_mem 3 (fun z : S320512x64.Idx => xN m (z 1) (z 0).val) (fun t _ => ?_) cfg0.N
    ⟨r.val / 512, by omega⟩ _ (Fin.isLt _) (flush0_3 _) (mem3 _ _ ⟨by show 512 * (r.val / 512) ≤ r.val; omega, by show r.val < 512 * (r.val / 512) + 512; omega⟩)
  funext y
  rw [View.read_apply]
  show k0_pay4 (in0 (V1 m) t) (in2 (V1 m) t) (win0_3.xinj (grid0.coords t) y) = _
  rw [blk_idx]
  show xN m _ (512 * t.val + (y 0).val) = xN m _ (win0_3.index t 0 * 512 + 1 * (y 0).val)
  rw [index0_3, Nat.one_mul, Nat.mul_comm]
  congr 1
  refine Fin.ext ?_
  show (y 1).val = 0 * 64 + 1 * (y 1).val
  omega

end Cert.KernelIdeal.Whole

end
-- ==== Proof.SegMax.lean ====
/- The running maximum of sorted rows is the greatest value over the rows of one segment. -/
module

public import proofs.«01_k».proof.Proof.Runs
public import proofs.«01_k».proof.Proof.Sorted
public import Mathlib.Data.EReal.Basic
public import Mathlib.Data.Finset.Lattice.Fold

@[expose] public section

namespace Cert.SegMax

open Cert.Runs Cert.Sorted

/-- After a row, the carried maximum is the greatest value over the rows so far that are of that row's segment. -/
theorem run_eq_sup {id : ℕ → ℕ} {y : ℕ → EReal} {sb lo n : ℕ} (hm : ∀ r r', lo ≤ r → r ≤ r' → r' < lo + n → id r ≤ id r') :
    ∀ k, k < n → run max ⊥ id y sb lo (k + 1) = (Finset.range (k + 1)).sup fun j => if id (lo + j) = id (lo + k) then y (lo + j) else ⊥
  | 0, _ => by
    simp only [run, Finset.range_one, Finset.sup_singleton]
    split_ifs <;> simp
  | k + 1, hk => by
    have ih := run_eq_sup hm (y := y) (sb := sb) k (by omega)
    rw [Finset.range_add_one, Finset.sup_insert, if_pos rfl]
    show (if id (lo + (k + 1)) ≠ id (lo + k) then y (lo + (k + 1)) else max (run max ⊥ id y sb lo (k + 1)) (y (lo + (k + 1)))) = _
    by_cases h : id (lo + (k + 1)) = id (lo + k)
    · rw [if_neg (not_not.mpr h), ih, h]
      exact sup_comm _ _
    · rw [if_pos h, (Finset.sup_eq_bot_iff _ _).mpr fun j hj => if_neg fun e => ?_, sup_bot_eq]
      have h1 := hm (lo + j) (lo + k) (by omega) (by have := Finset.mem_range.mp hj; omega) (by omega)
      have h2 := hm (lo + k) (lo + (k + 1)) (by omega) (by omega) (by omega)
      omega

/-- At a segment's last row that is the greatest value over all the points of the segment. -/
theorem run_eq_all {id : ℕ → ℕ} {N t t' : ℕ} (hs : ∀ r r', r ≤ r' → r' < N → id r ≤ id r') (y : ℕ → EReal) (sb k : ℕ)
    (hk : below id N t + k < below id N t')
    (hlast : k + 1 = below id N t' - below id N t ∨ id (below id N t + (k + 1)) ≠ id (below id N t + k)) :
    run max ⊥ id y sb (below id N t) (k + 1)
      = Finset.univ.sup fun r : Fin N => if id r.val = id (below id N t + k) then y r.val else ⊥ := by
  have hN := below_le id N t'
  have hN0 := below_le id N t
  rw [run_eq_sup (n := below id N t' - below id N t) (fun r r' _ h1 h2 => hs r r' h1 (by omega)) k (by omega)]
  have hid : ¬ id (below id N t + k) < t := fun h => by
    have := (lt_below hs t (r := below id N t + k) (by omega)).mp h; omega
  have hid' : id (below id N t + k) < t' := (lt_below hs t' (r := below id N t + k) (by omega)).mpr hk
  refine le_antisymm (Finset.sup_le fun j hj => ?_) (Finset.sup_le fun r _ => ?_)
  · have hj := Finset.mem_range.mp hj
    exact Finset.le_sup (f := fun r : Fin N => if id r.val = id (below id N t + k) then y r.val else ⊥)
      (Finset.mem_univ (⟨below id N t + j, by omega⟩ : Fin N))
  · split_ifs with h
    · have h1 : below id N t ≤ r.val := Nat.not_lt.mp fun hc => hid (h ▸ (lt_below hs t r.isLt).mpr hc)
      have h2 : r.val < below id N t' := (lt_below hs t' r.isLt).mp (h ▸ hid')
      have h3 : r.val - below id N t ≤ k := by
        by_contra hc
        rcases hlast with hl | hl
        · omega
        · have h4 := hs (below id N t + k) (below id N t + (k + 1)) (by omega) (by omega)
          have h5 := hs (below id N t + (k + 1)) r.val (by omega) r.isLt
          omega
      refine le_trans ?_ (Finset.le_sup (f := fun j => if id (below id N t + j) = id (below id N t + k) then y (below id N t + j) else ⊥)
        (Finset.mem_range.mpr (show r.val - below id N t < k + 1 by omega)))
      simp only [show below id N t + (r.val - below id N t) = r.val by omega, h, if_true, le_refl]
    · exact bot_le

/-- Every point of a segment has a last row of its segment behind it. -/
theorem exists_last (id : ℕ → ℕ) {lo hi r : ℕ} (h0 : lo ≤ r) (h1 : r < hi) :
    ∃ k, lo + k < hi ∧ (k + 1 = hi - lo ∨ id (lo + (k + 1)) ≠ id (lo + k)) ∧ id (lo + k) = id r := by
  induction hd : hi - r generalizing r with
  | zero => omega
  | succ d ih =>
    by_cases hl : r + 1 = hi
    · exact ⟨r - lo, by omega, .inl (by omega), by rw [show lo + (r - lo) = r by omega]⟩
    · by_cases he : id (r + 1) = id r
      · obtain ⟨k, a, b, c⟩ := ih (r := r + 1) (by omega) (by omega) (by omega)
        exact ⟨k, a, b, c.trans he⟩
      · exact ⟨r - lo, by omega, .inr (by rw [show lo + (r - lo + 1) = r + 1 by omega, show lo + (r - lo) = r by omega]; exact he),
          by rw [show lo + (r - lo) = r by omega]⟩

end Cert.SegMax
-- ==== Proof.KerOut.lean ====
/- The points' values that the kernel computes at exact arithmetic, and the result they make. -/
module

public import proofs.«01_k».proof.Proof.KerValue
public import proofs.«01_k».proof.Proof.SegMax

@[expose] public section

noncomputable section

namespace Cert.KernelIdeal.Whole

open Cert.KernelIdeal Cert.KernelIdeal.Gen Cert.Words Cert.Sorted
open Idealize.ShloMosaic Idealize.ShloMosaic.Tactic Idealize.ShloMosaic.TcCoe
open Idealize.ShloMosaic.Pipeline (Dat)

variable (m : (ℓ : Loc nD τ sig) → Buf (Elt Ideal) ℓ)

/-- The second call's products are the first call's. -/
theorem V3_x : V3 m (Proc.devRef .tc main_v1_0) = V2 m (Proc.devRef .tc main_v1_0) := by unfold V3 midOps; after_reads_simp

/-- The second call's statistics are the first call's. -/
theorem V3_stats : V3 m (Proc.devRef .tc main_v1_1) = V2 m (Proc.devRef .tc main_v1_1) := by unfold V3 midOps; after_reads_simp

/-- The scale, as a row. -/
theorem V3_g : V3 m (Proc.devRef .tc main_v2) = shapeCast S1x64 (V2 m (Proc.devRef .tc main_arg3)) shapeCasts_S64_S1x64 := by
  unfold V3 midOps; after_reads_simp; try rfl

/-- The shift, as a row. -/
theorem V3_b : V3 m (Proc.devRef .tc main_v3) = shapeCast S1x64 (V2 m (Proc.devRef .tc main_arg4)) shapeCasts_S64_S1x64 := by
  unfold V3 midOps; after_reads_simp; try rfl

/-- The first call leaves the scale. -/
theorem V2_a3 : V2 m (Proc.devRef .tc main_arg3) = V0 m (Proc.devRef .tc main_arg3) := by
  unfold V2
  rw [Function.update_of_ne (ne_of (by decide)), Function.update_of_ne (ne_of (by decide)), Function.update_of_ne (ne_of (by decide))]
  unfold V1 preOps; after_reads_simp

/-- The first call leaves the shift. -/
theorem V2_a4 : V2 m (Proc.devRef .tc main_arg4) = V0 m (Proc.devRef .tc main_arg4) := by
  unfold V2
  rw [Function.update_of_ne (ne_of (by decide)), Function.update_of_ne (ne_of (by decide)), Function.update_of_ne (ne_of (by decide))]
  unfold V1 preOps; after_reads_simp

/-- The coordinate of a grid point of the second call is its number. -/
theorem coord1 (t : Fin cfg1.N) : (grid1.coords t 0).val = t.val := by
  have h : cfg1.N = 625 := N_1
  have h' := t.isLt
  rw [Pipeline.Grid.coords_val (G := grid1) t 0 (S := 1) (B := 625) (by decide) rfl]
  omega

/-- The block of products of a grid point. -/
theorem index1_0 (t : Fin cfg1.N) : win1_0.index t 0 = t.val := by
  show (BitVec.ofNat 32 (grid1.coords t 0).val).toNat = t.val
  have h : cfg1.N = 625 := N_1
  have h' := t.isLt
  rw [coord1, BitVec.toNat_ofNat, Nat.mod_eq_of_lt (by omega)]

/-- The block of normalised rows of a grid point. -/
theorem index1_4 (t : Fin cfg1.N) : win1_4.index t 0 = t.val := by
  show (BitVec.ofNat 32 (grid1.coords t 0).val).toNat = t.val
  have h : cfg1.N = 625 := N_1
  have h' := t.isLt
  rw [coord1, BitVec.toNat_ofNat, Nat.mod_eq_of_lt (by omega)]

/-- A block of products in the second call, entry by entry. -/
theorem x0_apply (t : Fin cfg1.N) (l : Fin 512) (u : Fin 64) : x0 (V3 m) t (ix2 l u) = xN m u (512 * t.val + l.val) := by
  have hN : cfg1.N = 625 := N_1
  have ht := t.isLt
  have hl := l.isLt
  unfold x0
  rw [View.read_apply, V3_x, V2_x]
  refine (congrArg ((dat0 (V1 m) d0).arrAt 3 cfg0.N : S320512x64.Idx → EReal) (funext fun a => Fin.ext ?_)).trans
    (x_arr m d0 ⟨512 * t.val + l.val, by omega⟩ (by show 512 * t.val + l.val < 320000; omega) u)
  match a with
  | ⟨0, _⟩ => show win1_0.index t 0 * 512 + 1 * l.val = 512 * t.val + l.val; rw [index1_0]; omega
  | ⟨1, _⟩ => show 0 * 64 + 1 * u.val = u.val; omega

/-- The statistics in the second call are those after the first call's last block. -/
theorem x1_eq (t : Fin cfg1.N) (i : Fin 8) (u : Fin 64) : x1 (V3 m) t (ix2 i u) = statAt (V1 m) 624 (by have : cfg0.N = 625 := N_0; omega) (ix2 i u) := by
  unfold x1
  rw [View.read_apply, V3_stats, V2_stats, stats_arr]
  refine congrArg (statAt (V1 m) 624 _) (funext fun a => Fin.ext ?_)
  match a with
  | ⟨0, _⟩ => show 0 * 8 + 1 * i.val = i.val; omega
  | ⟨1, _⟩ => show 0 * 64 + 1 * u.val = u.val; omega

/-- The scale in the second call, entry by entry. -/
theorem x2_apply (t : Fin cfg1.N) (u : Fin 64) : x2 (V3 m) t (ix2 (n0 := 1) 0 u) = a3 m (ix1 u) := by
  unfold x2
  rw [View.read_apply, V3_g, V2_a3]
  refine shapeCast_apply _ _ _ _ ?_
  show (S64.rowMajor (ix1 u)).val = _
  rw [Shape.rowMajor_val_two, Shape.rowMajor_val_one]
  show u.val = (0 * 1 + 1 * 0) * 64 + (0 * 64 + 1 * u.val)
  omega

/-- The shift in the second call, entry by entry. -/
theorem x3_apply (t : Fin cfg1.N) (u : Fin 64) : x3 (V3 m) t (ix2 (n0 := 1) 0 u) = a4 m (ix1 u) := by
  unfold x3
  rw [View.read_apply, V3_b, V2_a4]
  refine shapeCast_apply _ _ _ _ ?_
  show (S64.rowMajor (ix1 u)).val = _
  rw [Shape.rowMajor_val_two, Shape.rowMajor_val_one]
  show u.val = (0 * 1 + 1 * 0) * 64 + (0 * 64 + 1 * u.val)
  omega

/-- A point's value as the kernel computes it. -/
def yK (u : Fin 64) (r : ℕ) : EReal :=
  Cert.Norm.swish (Cert.Norm.ker (∑ r ∈ Finset.range 320000, xN m u r) (∑ r ∈ Finset.range 320000, xN m u r * xN m u r) (xN m u r) (a3 m (ix1 u)) (a4 m (ix1 u)))

/-- A block of normalised rows, entry by entry. -/
theorem yBlk_apply (t : Fin cfg1.N) (l : Fin 512) (u : Fin 64) : yBlk (V3 m) t (ix2 l u) = yK m u (512 * t.val + l.val) := by
  have hs := statAt_rows m u 624 (by have : cfg0.N = 625 := N_0; omega)
  unfold yBlk
  rw [pay1_apply, row0_apply, row1_apply, x0_apply, x2_apply, x3_apply, x1_eq, x1_eq, hs.1, hs.2]
  rfl

/-- The same at any entry of the block. -/
theorem yBlk_idx (t : Fin cfg1.N) (z : S512x64.Idx) : yBlk (V3 m) t z = yK m (z 1) (512 * t.val + (z 0).val) := by
  have e : z = ix2 (z 0) (z 1) := funext fun a => match a with
    | ⟨0, _⟩ => rfl
    | ⟨1, _⟩ => rfl
  exact (congrArg _ e).trans (yBlk_apply m t (z 0) (z 1))

/-- The rows that a block of the second call holds. -/
theorem mem1_4 (t : Fin cfg1.N) (i : S320512x64.Idx) (h : 512 * t.val ≤ (i 0).val ∧ (i 0).val < 512 * t.val + 512) :
    i ∈ ((View.whole main_v4).slice (win1_4.rect t)).set := by
  rw [View.set_slice_whole, Rect.mem_set_unit]
  intro a
  have h1 : (i 1 : ℕ) < 64 := (i 1).isLt
  match a with
  | ⟨0, _⟩ =>
    show win1_4.index t 0 * 512 ≤ (i 0).val ∧ (i 0).val < win1_4.index t 0 * 512 + 512
    rw [index1_4]; omega
  | ⟨1, _⟩ => exact ⟨Nat.zero_le _, h1⟩

/-- The array of the points' values after the second call. -/
theorem y_arr (r : Fin 320512) (h : r.val < 320000) (u : Fin 64) :
    ((dat1 (V3 m) d0).arrAt 4 cfg1.N : S320512x64.Idx → EReal) (ix2 r u) = yK m u r.val := by
  have hN : cfg1.N = 625 := N_1
  refine (dat1 (V3 m) d0).arrAt_apply_of_mem 4 (fun z : S320512x64.Idx => yK m (z 1) (z 0).val) (fun t _ => ?_) cfg1.N
    ⟨r.val / 512, by omega⟩ _ (Fin.isLt _) (flush1_4 _) (mem1_4 _ _ ⟨by show 512 * (r.val / 512) ≤ r.val; omega, by show r.val < 512 * (r.val / 512) + 512; omega⟩)
  funext y
  rw [View.read_apply]
  show yBlk (V3 m) t (win1_4.xinj (grid1.coords t) y) = _
  rw [yBlk_idx]
  show yK m _ (512 * t.val + (y 0).val) = yK m _ (win1_4.index t 0 * 512 + 1 * (y 0).val)
  rw [index1_4, Nat.one_mul, Nat.mul_comm]
  congr 1
  refine Fin.ext ?_
  show (y 1).val = 0 * 64 + 1 * (y 1).val
  omega

/-- What the SparseCore's calls read of the points' values. -/
theorem yOf_eq (r : ℕ) (h : r < 320000) (u : Fin 64) : yOf m r u.val = yK m u r := by
  unfold yOf
  rw [V4_y]
  have hu := u.isLt
  refine (congrArg ((dat1 (V3 m) d0).arrAt 4 cfg1.N : S320512x64.Idx → EReal) (funext fun a => Fin.ext ?_)).trans (y_arr m ⟨r, by omega⟩ h u)
  match a with
  | ⟨0, _⟩ => exact Nat.mod_eq_of_lt (by omega)
  | ⟨1, _⟩ => exact Nat.mod_eq_of_lt hu

/-- The first running maximum is minus infinity. -/
theorem bot_eq : (Sc1.bot (F := Ideal) : EReal) = ⊥ := by
  show Ideal.ofBits .f32 0xFF800000#32 = ⊥
  simp [Ideal.ofBits, Ideal.ieee]

variable {m}

/-- The first half of a result row. -/
theorem res_lo {x : S320000x128.Idx} {v : EReal} (h : ResAt (F := Ideal) (work m) x v) (r : Fin 320000) (u : Fin 64) (hx : x = ix2 r ⟨u.val, by omega⟩) : v = yK m u r.val := by
  obtain ⟨g, gf, _, _, rfl⟩ := h
  subst hx
  rw [work_y]
  unfold Sc2.outV
  show (if u.val < 64 then yOf m r.val u.val else _) = _
  rw [if_pos u.isLt]
  exact yOf_eq m r.val r.isLt u

/-- The second half of a result row. -/
theorem res_hi (hs : SortedIds m) {x : S320000x128.Idx} {v : EReal} (h : ResAt (F := Ideal) (work m) x v) (r : Fin 320000) (u : Fin 64) (hx : x = ix2 r ⟨64 + u.val, by omega⟩) :
    v = Finset.univ.sup fun r' : Fin 320000 => if idOf m r'.val = idOf m r.val then yK m u r'.val else ⊥ := by
  obtain ⟨g, gf, hg, hgf, rfl⟩ := h
  subst hx
  have hid := hs.lt r.val r.isLt
  obtain ⟨n, hn, hn0, hn1⟩ : ∃ n, n < 32 ∧ Sc1.seg n ≤ idOf m r.val ∧ idOf m r.val < Sc1.seg (n + 1) := by
    refine ⟨(32 * idOf m r.val + 31) / 10000, by omega, ?_, ?_⟩
    · unfold Sc1.seg; omega
    · unfold Sc1.seg; omega
  have hf := hg n hn
  unfold FeatAt Sc1.FeatOK at hf
  simp only [work_id, work_y, work_lo, cntOf_eq] at hf
  have h0 : below (idOf m) 320000 (Sc1.seg n) ≤ r.val := Nat.not_lt.mp fun hc => absurd ((lt_below hs.mono _ r.isLt).mpr hc) (by omega)
  have h1 : r.val < below (idOf m) 320000 (Sc1.seg (n + 1)) := (lt_below hs.mono _ r.isLt).mp hn1
  obtain ⟨k, hk, hl, he⟩ := Cert.SegMax.exists_last (idOf m) h0 h1
  have hz := hf k (by omega) hl (ix1 ⟨idOf m r.val * 64 + u.val, by have := u.isLt; omega⟩) u.val u.isLt (by rw [he]; rfl)
  rw [work_y, work_id]
  unfold Sc2.outV
  show (if 64 + u.val < 64 then _ else gf (idOf m r.val * 64 + (64 + u.val - 64))) = _
  rw [if_neg (show ¬ 64 + u.val < 64 by omega), show 64 + u.val - 64 = u.val by omega]
  rw [hgf] at hz
  refine hz.trans ?_
  unfold Sc1.runK
  rw [bot_eq]
  refine (Cert.SegMax.run_eq_all (N := 320000) hs.mono (fun r => yOf m r u.val) _ k hk hl).trans ?_
  refine Finset.sup_congr rfl fun r' _ => ?_
  rw [he, yOf_eq m r'.val r'.isLt u]

end Cert.KernelIdeal.Whole

end
-- ==== Proof.RefValue.lean ====
/- What the reference computes, entry by entry. -/
module

public import proofs.«01_k».proof.Proof.RefFrame
public import proofs.«01_k».proof.Proof.Norm
public import Idealize.ShloMosaic.Lib.Pointwise

@[expose] public section

noncomputable section

namespace Cert.ReferenceIdeal.Whole

open Idealize.ShloMosaic Idealize.ShloMosaic.StableHlo Idealize.SL.Sem Cert.ReferenceIdeal Cert.ReferenceIdeal.Gen
open Cert.ReferenceIdeal.Value

section Before
variable (V : Valuation τ sig (Elt Ideal))

abbrev A0 : S320000x128.Idx → EReal := V (Proc.devRef .tc main_arg0)
abbrev A2 : S64x128.Idx → EReal := V (Proc.devRef .tc main_arg2)
abbrev A3 : S64.Idx → EReal := V (Proc.devRef .tc main_arg3)
abbrev A4 : S64.Idx → EReal := V (Proc.devRef .tc main_arg4)
abbrev X1 : S320000x64.Idx → EReal := V (Proc.devRef .tc main_v1)
abbrev X4 : S64.Idx → EReal := V (Proc.devRef .tc main_v4)
abbrev X5 : S64.Idx → EReal := V (Proc.devRef .tc main_v5)
abbrev X27 : S320000x64.Idx → EReal := V (Proc.devRef .tc main_v27)

/-- A product: a sum over the 128 columns. -/
theorem at_v1 (r : Fin 320000) (u : Fin 64) : X1 (after hostOps0 V) (ix2 r u) = ∑ k : Fin 128, A0 V (ix2 r k) * A2 V (ix2 u k) := by
  unfold X1
  after_reads_simp
  simp only [pointwise, zero_add]

/-- The mean of a column. -/
theorem at_v4 (u : Fin 64) : X4 (after hostOps0 V) (ix1 u) = Ideal.div (∑ r : Fin 320000, X1 (after hostOps0 V) (ix2 r u)) Cert.Norm.cN := by
  have e : X4 (after hostOps0 V) = Host.divf (F := Ideal) (φ := .f32) (Host.reduceAdd (X1 (after hostOps0 V)) (constant S_ .f32 0x00000000#32) reducesTo_S320000x64_S64_d0 h_S_)
      (broadcastInDim S64 ![] bcast_S_S64 (constant S_ .f32 0x489C4000#32)) := by
    unfold X4 X1
    after_reads_simp
  rw [e]
  simp only [pointwise, zero_add]

/-- The distances from the mean, as the variance's function computes them. -/
def dist (x : FVec Ideal S320000x64 .f32) : FVec Ideal S320000x64 .f32 :=
  subf x (broadcastInDim S320000x64 ![0, 1] bcast_S1x64_S320000x64_0_1
    (Host.divf (broadcastInDim S1x64 ![1] bcast_S64_S1x64_1 (Host.reduceAdd x (constant S_ .f32 0x00000000#32) reducesTo_S320000x64_S64_d0 h_S_))
      (broadcastInDim S1x64 ![] bcast_S_S1x64 (constant S_ .f32 0x489C4000#32))))

/-- The number the sum of the squares is divided by. -/
def freedom (c : IVec S_ 32) : FVec Ideal S_ .f32 := subf (constant S_ .f32 0x489C4000#32) (sitofp .f32 c)

/-- The variance, as its function computes it. -/
theorem v5_eq : X5 (after hostOps0_1 V) = select (broadcastInDim S64 ![] bcast_S_S64 (cmpf .ogt (freedom (V (Proc.devRef .tc main_c))) (constant (F := Ideal) S_ .f32 0x00000000#32)))
    (Host.divf (Host.reduceAdd (mulf (dist (X1 V)) (dist (X1 V))) (constant S_ .f32 0x00000000#32) reducesTo_S320000x64_S64_d0 h_S_)
      (broadcastInDim S64 ![] bcast_S_S64 (freedom (V (Proc.devRef .tc main_c)))))
    (broadcastInDim S64 ![] bcast_S_S64 (constant (F := Ideal) S_ .f32 0x7FC00000#32)) := by
  unfold X5
  after_reads_simp
  simp only [TRef.ofBuf_toBuf]
  rfl

/-- The variance of a column: the mean of the squared distances from the mean. -/
theorem at_v5 (u : Fin 64) (hc : V (Proc.devRef .tc main_c) = constantI S_ 32 0#32) : X5 (after hostOps0_1 V) (ix1 u)
    = Ideal.div (∑ r : Fin 320000, (X1 V (ix2 r u) - Ideal.div (∑ r : Fin 320000, X1 V (ix2 r u)) Cert.Norm.cN)
      * (X1 V (ix2 r u) - Ideal.div (∑ r : Fin 320000, X1 V (ix2 r u)) Cert.Norm.cN)) Cert.Norm.cN := by
  rw [v5_eq, hc]
  have hf : freedom (constantI S_ 32 0#32) = fun _ => Cert.Norm.cN := by
    funext z
    show Cert.Norm.cN - (((0#32 : BitVec 32).toInt : ℝ) : EReal) = Cert.Norm.cN
    simp
  have hd : ∀ r, dist (X1 V) (ix2 r u) = X1 V (ix2 r u) - Ideal.div (∑ r : Fin 320000, X1 V (ix2 r u)) Cert.Norm.cN := fun r => by
    unfold dist
    simp only [pointwise, zero_add]
    rfl
  rw [hf]
  have hp : (0 : EReal) < Cert.Norm.cN := by rw [Cert.Norm.cN_eq]; exact_mod_cast (by norm_num : (0 : ℝ) < 320000)
  simp only [pointwise, zero_add, hd]
  rw [if_pos hp]

/-- A value: normalised, scaled, shifted and swished. -/
theorem at_v27 (r : Fin 320000) (u : Fin 64) : X27 (after hostOps0_2 V) (ix2 r u)
    = Cert.Norm.swish (Ideal.div (X1 V (ix2 r u) - X4 V (ix1 u)) (Ideal.sqrt (X5 V (ix1 u) + Cert.Norm.cE)) * A3 V (ix1 u) + A4 V (ix1 u)) := by
  unfold X27
  after_reads_simp
  simp only [pointwise, show ¬ (64 = 1) by decide, dif_neg, not_false_eq_true]
  rfl

end Before

end Cert.ReferenceIdeal.Whole

end
-- ==== Proof.RefLoop.lean ====
/- What the reference's loop leaves: at each segment's row, the greatest value over the points of that segment. -/
module

public import proofs.«01_k».proof.Proof.RefValue
public import Idealize.ShloMosaic.Lib.WordCmp

@[expose] public section

noncomputable section

namespace Cert.ReferenceIdeal.Whole

open Idealize.ShloMosaic Idealize.ShloMosaic.StableHlo Idealize.SL.Sem Cert.ReferenceIdeal Cert.ReferenceIdeal.Gen
open Cert.ReferenceIdeal.Value

/-- The literal of minus infinity. -/
theorem bot_lit : Ideal.ofBits .f32 0xFF800000#32 = ⊥ := by simp [Ideal.ofBits, Ideal.ieee]

/-- The greatest value in a column over the points of one segment. -/
def segMax (ids : S320000.Idx → BitVec 32) (x : S320000x64.Idx → EReal) (w : BitVec 32) (u : Fin 64) : EReal :=
  Finset.univ.sup fun r : Fin 320000 => if ids (ix1 r) = w then x (ix2 r u) else ⊥

/-- The reduction of one trip is that maximum. -/
theorem seg_row (ids : IVec S320000 32) (x : FVec Ideal S320000x64 .f32) (w : IVec S_ 32) (u : Fin 64) :
    Host.reduce (FloatOps.maximumf (F := Ideal)) (select (broadcastInDim S320000x64 ![0, 1] bcast_S320000x1_S320000x64_0_1
        (broadcastInDim S320000x1 ![0] bcast_S320000_S320000x1_0 (cmpi .eq ids (broadcastInDim S320000 ![] bcast_S_S320000 w)))) x
        (broadcastInDim S320000x64 ![] bcast_S_S320000x64 (id (constant S_ .f32 0xFF800000#32))))
      (constant S_ .f32 0xFF800000#32) reducesTo_S320000x64_S64_d0 h_S_ (ix1 u) = segMax ids x (w (Shape.Idx.first h_S_)) u := by
  simp only [pointwise]
  rw [show Shape.Idx.first h_S_ = ix0 from funext fun a => a.elim0]
  show Finset.fold max (Ideal.ofBits .f32 0xFF800000#32) (fun k : Fin 320000 => Scalar.select (IntOp.cmpi .eq (ids (ix1 k)) (w ix0)) (x (ix2 k u))
    (Ideal.ofBits .f32 0xFF800000#32)) Finset.univ = _
  rw [bot_lit]
  unfold segMax
  show Finset.sup Finset.univ _ = _
  refine Finset.sup_congr rfl fun r _ => ?_
  by_cases h : ids (ix1 r) = w ix0 <;> simp [Scalar.select, IntOp.cmpi, h, BitVec.ofBool, beq_eq_false_iff_ne.mpr]

/-- One trip writes the maximum of the trip's segment to its row and keeps the other rows. -/
theorem step_row (V : Valuation τ sig (Elt Ideal)) (k : ℕ) (hk : k < 10000) (h0 : V (Proc.devRef .tc main_v30_0) = iotaInDim S10000 32 0)
    (h3 : V (Proc.devRef .tc main_v30_3) = fun _ => Scf.iv 0#32 1#32 k) (s : Fin 10000) (u : Fin 64) :
    (step_main_v30_4 V : S10000x64.Idx → EReal) (ix2 s u) = if s.val = k then segMax (V (Proc.devRef .tc main_v30_1)) (V (Proc.devRef .tc main_v30_2)) (BitVec.ofNat 32 k) u
      else (V (Proc.devRef .tc main_v30_4) : S10000x64.Idx → EReal) (ix2 s u) := by
  have hiv : (Scf.iv 0#32 1#32 k).toInt = (k : ℤ) := by
    rw [Scf.toInt_iv (lb := 0#32) (ub := 10000#32) (st := 1#32) (by decide) (show k ≤ Scf.trips 0#32 10000#32 1#32 from hk.le)]
    simp
  have hs1 : S10000.Slices ![k] S1 := ⟨rfl, fun a => by fin_cases a; show k + 1 ≤ 10000; omega⟩
  have hs2 : S10000x64.Slices ![k, 0] S1x64 := ⟨rfl, fun a => match a with
    | ⟨0, _⟩ => (show k + 1 ≤ 10000 from hk)
    | ⟨1, _⟩ => (show 0 + 64 ≤ 64 from le_rfl)⟩
  unfold step_main_v30_4
  rw [h0, h3, id, Idealize.ShloMosaic.WordCmp.dynamicUpdateSlice_eq_update _ _ _ _ ![k, 0] hs2 (fun a => match a with
    | ⟨0, _⟩ => hiv
    | ⟨1, _⟩ => rfl),
    Idealize.ShloMosaic.WordCmp.dynamicSlice_eq_extract S1 _ _ _ ![k] hs1 (fun a => by fin_cases a; exact hiv), updateSlice_apply]
  by_cases h : s.val = k
  · rw [dif_pos (fun a => match a with
      | ⟨0, _⟩ => (show k ≤ s.val ∧ s.val < k + 1 by omega)
      | ⟨1, _⟩ => (show 0 ≤ u.val ∧ u.val < 0 + 64 by omega)), if_pos h]
    refine (broadcastInDim_apply _ _ _ _ (ix1 u) ?_).trans ?_
    · intro a
      match a with
      | ⟨0, _⟩ => rfl
    rw [seg_row]
    rfl
  · rw [dif_neg (fun hc => ?_), if_neg h]
    have := hc 0
    have h1 : k ≤ s.val ∧ s.val < k + 1 := this
    omega

/-- The trip keeps a buffer that it carries unchanged. -/
theorem trip_carry (V : Valuation τ sig (Elt Ideal)) (r : Ref sig .tc)
    (h : afterL bodyI (after condOps V) (Proc.devRef .tc r) = after condOps V (Proc.devRef .tc r)) (hc : r ∉ condOps_W) :
    afterL bodyI (after condOps V) (Proc.devRef .tc r) = V (Proc.devRef .tc r) :=
  h.trans (after_of_writes_sub condOps _ condOps_writes hc)

/-- After some trips the rows of the segments passed hold their maxima. -/
theorem loop_rows (m : (ℓ : Loc nD τ sig) → Buf (Elt Ideal) ℓ) (c : Dev nD) (h0 : entryContents preI m c (Proc.devRef .tc main_v30_0) = iotaInDim S10000 32 0) :
    ∀ k, k ≤ 10000 → ∀ (s : Fin 10000) (u : Fin 64), s.val < k → (atK m k c (Proc.devRef .tc main_v30_4) : S10000x64.Idx → EReal) (ix2 s u)
      = segMax (entryContents preI m c (Proc.devRef .tc main_v30_1)) (entryContents preI m c (Proc.devRef .tc main_v30_2)) (BitVec.ofNat 32 s.val) u
  | 0, _, _, _, h => absurd h (Nat.not_lt_zero _)
  | k + 1, hk, s, u, h => by
    have e : atK m (k + 1) c (Proc.devRef .tc main_v30_4) = step_main_v30_4 (atK m k c) :=
      (trip_agree (atK m k c) main_v30_4 (by decide)).trans (STEP_main_v30_4 _)
    have e0 : atK m k c (Proc.devRef .tc main_v30_0) = iotaInDim S10000 32 0 := (trip_keep m c (fun V => trip_carry V main_v30_0 (trip_main_v30_0 _) (by decide)) k).trans h0
    have e1 : atK m k c (Proc.devRef .tc main_v30_1) = entryContents preI m c (Proc.devRef .tc main_v30_1) := trip_keep m c (fun V => trip_carry V main_v30_1 (trip_main_v30_1 _) (by decide)) k
    have e2 : atK m k c (Proc.devRef .tc main_v30_2) = entryContents preI m c (Proc.devRef .tc main_v30_2) := trip_keep m c (fun V => trip_carry V main_v30_2 (trip_main_v30_2 _) (by decide)) k
    rw [e, step_row (atK m k c) k (by omega) e0 (atK_ctr m c k), e1, e2]
    split_ifs with hs
    · rw [hs]
    · exact loop_rows m c h0 k (by omega) s u (by omega)

end Cert.ReferenceIdeal.Whole

end
-- ==== Proof.RefOut.lean ====
/- The reference's result, entry by entry, as a function of its arguments. -/
module

public import proofs.«01_k».proof.Proof.RefLoop
public import Idealize.ShloMosaic.Lib.Routing.Ops

@[expose] public section

noncomputable section

namespace Cert.ReferenceIdeal.Whole

open Idealize.ShloMosaic Idealize.ShloMosaic.StableHlo Idealize.SL.Sem Cert.ReferenceIdeal Cert.ReferenceIdeal.Gen
open Cert.ReferenceIdeal.Value

section Tail
variable (V : Valuation τ sig (Elt Ideal))

abbrev I1 : S320000.Idx → BitVec 32 := V (Proc.devRef .tc main_arg1)
abbrev X30 : S10000x64.Idx → EReal := V (Proc.devRef .tc main_v30_4)
abbrev X38 : S320000x128.Idx → EReal := V (Proc.devRef .tc main_v38)

/-- The row the gather reads for each point: the point's segment, moved up by the number of segments if it is negative. -/
def rowOf (ids : IVec S320000 32) : IVec S320000x1 32 := broadcastInDim S320000x1 ![0] bcast_S320000_S320000x1_0
  (select (cmpi .slt ids (broadcastInDim S320000 ![] bcast_S_S320000 (constantI S_ 32 0#32)))
    (addi ids (broadcastInDim S320000 ![] bcast_S_S320000 (constantI S_ 32 10000#32))) ids)

/-- The result: the values beside the gathered maxima. -/
theorem v38_eq : X38 (after hostOps0_3 V) = concatenate S320000x128 1 [⟨S320000x64, X27 V⟩,
    ⟨S320000x64, Host.gather gather_S10000x64_S320000x1_S320000x64_1_0_n_n_0_1_164 (X30 V) (rowOf (I1 V))⟩]
    concatenates_S320000x64_S320000x64_S320000x128_d1 := by
  unfold X38
  after_reads_simp
  rfl

/-- The row that a point gathers is its segment's. -/
theorem rowOf_apply (ids : IVec S320000 32) (r : Fin 320000) (n : ℕ) (hn : n < 10000) (h : ids (ix1 r) = BitVec.ofNat 32 n) :
    rowOf ids (ix2 r (0 : Fin 1)) = BitVec.ofNat 32 n := by
  unfold rowOf
  simp only [pointwise]
  show Scalar.select (IntOp.cmpi .slt (ids (ix1 r)) 0#32) _ (ids (ix1 r)) = _
  have hc : IntOp.cmpi .slt (BitVec.ofNat 32 n) 0#32 = 0#1 := by
    have : (BitVec.ofNat 32 n).slt 0#32 = false := by
      rw [BitVec.slt, decide_eq_false_iff_not, show (0#32).toInt = 0 from rfl, BitVec.toInt_eq_toNat_cond, BitVec.toNat_ofNat, Nat.mod_eq_of_lt (by omega), if_pos (by omega)]
      omega
    simp [IntOp.cmpi, this]
  rw [h, hc]
  rfl

/-- The first half of a row of the result is the point's values. -/
theorem v38_lo (r : Fin 320000) (u : Fin 64) : X38 (after hostOps0_3 V) (ix2 r ⟨u.val, by omega⟩) = X27 V (ix2 r u) := by
  rw [v38_eq]
  refine concatenate_apply_piece (t := S320000x128) 1 _ _ _ 0 (by simp) S320000x64 (X27 V) rfl rfl 0 rfl (ix2 r u) (fun b hb => ?_) ?_
  · match b with
    | ⟨0, _⟩ => rfl
    | ⟨1, _⟩ => exact absurd rfl hb
  · show 0 + u.val = u.val
    omega

/-- The second half is the row of the point's segment. -/
theorem v38_hi (r : Fin 320000) (u : Fin 64) (n : Fin 10000) (h : I1 V (ix1 r) = BitVec.ofNat 32 n.val) :
    X38 (after hostOps0_3 V) (ix2 r ⟨64 + u.val, by omega⟩) = X30 V (ix2 n u) := by
  rw [v38_eq]
  refine (concatenate_apply_piece (t := S320000x128) 1 _ _ _ 1 (by simp) S320000x64
    (Host.gather gather_S10000x64_S320000x1_S320000x64_1_0_n_n_0_1_164 (X30 V) (rowOf (I1 V))) rfl rfl 64 rfl (ix2 r u) (fun b hb => ?_) ?_).trans ?_
  · match b with
    | ⟨0, _⟩ => rfl
    | ⟨1, _⟩ => exact absurd rfl hb
  · rfl
  · exact Routing.gather_row gather_S10000x64_S320000x1_S320000x64_1_0_n_n_0_1_164 rfl rfl rfl rfl rfl (X30 V) (rowOf (I1 V)) r u n (rowOf_apply _ r n.val n.isLt h) (by decide)

end Tail

section Whole
variable (m : (ℓ : Loc nD τ sig) → Buf (Elt Ideal) ℓ) (c : Dev nD)

/-- The values before the loop. -/
abbrev E : Valuation τ sig (Elt Ideal) := entryContents preI m c
/-- The arguments. -/
abbrev M : Valuation τ sig (Elt Ideal) := fun b => m (c, b)

/-- The memory before the loop. -/
theorem E_eq : E m c = after hostOps0_2 (after hostOps0_1 (after hostOps0 (M m c))) := by
  simp only [E, entryContents, afterL_cons, afterL_nil]

/-- The operations before the loop leave what they do not write. -/
theorem E_keep {r : Ref sig .tc} (p0 : r ∉ hostOps0_W) (p1 : r ∉ hostOps0_1_W) (p2 : r ∉ hostOps0_2_W) : E m c (Proc.devRef .tc r) = M m c (Proc.devRef .tc r) := by
  rw [E_eq, after_of_writes_sub hostOps0_2 _ hostOps0_2_writes p2, after_of_writes_sub hostOps0_1 _ hostOps0_1_writes p1,
    after_of_writes_sub hostOps0 _ hostOps0_writes p0]

/-- A row of products. -/
def xOf (r : Fin 320000) (u : Fin 64) : EReal := ∑ k : Fin 128, A0 (M m c) (ix2 r k) * A2 (M m c) (ix2 u k)

/-- A point's value. -/
def valOf (r : Fin 320000) (u : Fin 64) : EReal :=
  Cert.Norm.swish (Cert.Norm.ref (∑ r, xOf m c r u) (∑ r, (xOf m c r u - Ideal.div (∑ r, xOf m c r u) Cert.Norm.cN) * (xOf m c r u - Ideal.div (∑ r, xOf m c r u) Cert.Norm.cN))
    (xOf m c r u) (A3 (M m c) (ix1 u)) (A4 (M m c) (ix1 u)))

/-- The values before the loop, entry by entry. -/
theorem X27_eq (r : Fin 320000) (u : Fin 64) : X27 (E m c) (ix2 r u) = valOf m c r u := by
  have k1 {q : Ref sig .tc} (h : q ∉ hostOps0_1_W) := after_of_writes_sub (V := after hostOps0 (M m c)) hostOps0_1 hostOps0_1_writes h
  have k0 {q : Ref sig .tc} (h : q ∉ hostOps0_W) := after_of_writes_sub (V := M m c) hostOps0 hostOps0_writes h
  have e1 : X1 (after hostOps0_1 (after hostOps0 (M m c))) = X1 (after hostOps0 (M m c)) := k1 (by decide)
  have e4 : X4 (after hostOps0_1 (after hostOps0 (M m c))) = X4 (after hostOps0 (M m c)) := k1 (by decide)
  have e3 : A3 (after hostOps0_1 (after hostOps0 (M m c))) = A3 (M m c) := (k1 (by decide)).trans (k0 (by decide))
  have e3' : A4 (after hostOps0_1 (after hostOps0 (M m c))) = A4 (M m c) := (k1 (by decide)).trans (k0 (by decide))
  have ec : after hostOps0 (M m c) (Proc.devRef .tc main_c) = constantI S_ 32 0#32 := by after_reads_simp
  rw [E_eq, at_v27, at_v5 _ u ec, e1, e4, e3, e3', at_v4]
  have hx : ∀ r, xOf m c r u = X1 (after hostOps0 (M m c)) (ix2 r u) := fun r => (at_v1 (M m c) r u).symm
  unfold valOf
  simp only [hx]
  rfl

/-- The values after the loop. -/
abbrev T : Valuation τ sig (Elt Ideal) := after condOps (atK m 10000 c)

/-- The end of the run is the stretch after the loop, from the loop's end. -/
theorem final_eq : finalContents condOps preI bodyI postI 10000 m c = after hostOps0_3 (T m c) := by
  simp only [finalContents, afterL_cons, afterL_nil]

/-- The loop leaves what it does not write. -/
theorem T_keep {r : Ref sig .tc} (hc : r ∉ condOps_W)
    (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) : T m c (Proc.devRef .tc r) = E m c (Proc.devRef .tc r) :=
  (after_of_writes_sub condOps _ condOps_writes hc).trans (trip_keep m c (fun V => body_keep V hc h0 h1 h2 h3 h4 h5) 10000)

/-- What the loop starts with. -/
theorem E_carry (V : Valuation τ sig (Elt Ideal)) : after hostOps0_2 V (Proc.devRef .tc main_v30_0) = iotaInDim S10000 32 0
    ∧ after hostOps0_2 V (Proc.devRef .tc main_v30_1) = V (Proc.devRef .tc main_arg1)
    ∧ after hostOps0_2 V (Proc.devRef .tc main_v30_2) = after hostOps0_2 V (Proc.devRef .tc main_v27) := by
  refine ⟨?_, ?_, ?_⟩ <;> after_reads_simp <;> rfl

/-- A point's segment. -/
abbrev ids : S320000.Idx → BitVec 32 := I1 (M m c)

/-- The first half of a result row. -/
theorem out_lo (r : Fin 320000) (u : Fin 64) :
    X38 (finalContents condOps preI bodyI postI 10000 m c) (ix2 r ⟨u.val, by omega⟩) = valOf m c r u := by
  rw [final_eq, v38_lo, show X27 (T m c) = X27 (E m c) from T_keep m c (by decide) (by decide) (by decide) (by decide) (by decide) (by decide) (by decide), X27_eq]

/-- The second half of a result row. -/
theorem out_hi (r : Fin 320000) (u : Fin 64) (n : Fin 10000) (h : ids m c (ix1 r) = BitVec.ofNat 32 n.val) :
    X38 (finalContents condOps preI bodyI postI 10000 m c) (ix2 r ⟨64 + u.val, by omega⟩)
      = Finset.univ.sup fun r' : Fin 320000 => if ids m c (ix1 r') = ids m c (ix1 r) then valOf m c r' u else ⊥ := by
  have e1 : I1 (T m c) = ids m c := (T_keep m c (by decide) (by decide) (by decide) (by decide) (by decide) (by decide) (by decide)).trans
    (E_keep m c (by decide) (by decide) (by decide))
  have e30 : X30 (T m c) = (atK m 10000 c (Proc.devRef .tc main_v30_4) : S10000x64.Idx → EReal) := after_of_writes_sub condOps _ condOps_writes (by decide)
  have ec := E_carry (after hostOps0_1 (after hostOps0 (M m c)))
  rw [← E_eq] at ec
  have ei : E m c (Proc.devRef .tc main_v30_1) = ids m c := ec.2.1.trans ((after_of_writes_sub hostOps0_1 _ hostOps0_1_writes (by decide)).trans
    (after_of_writes_sub hostOps0 _ hostOps0_writes (by decide)))
  rw [final_eq, v38_hi (T m c) r u n (by rw [e1]; exact h), e30, loop_rows m c ec.1 10000 le_rfl n u n.isLt]
  show segMax (E m c (Proc.devRef .tc main_v30_1)) (E m c (Proc.devRef .tc main_v30_2)) _ u = _
  rw [ei, ec.2.2, ← h]
  unfold segMax
  refine Finset.sup_congr rfl fun r' _ => ?_
  rw [show (E m c (Proc.devRef .tc main_v27) : S320000x64.Idx → EReal) (ix2 r' u) = valOf m c r' u from X27_eq m c r' u]

end Whole

end Cert.ReferenceIdeal.Whole

end
-- ==== Proof.Equal.lean ====
/- At exact arithmetic the kernel's result is the reference's. -/
module

public import proofs.«01_k».proof.Proof.KerOut
public import proofs.«01_k».proof.Proof.RefOut

@[expose] public section

noncomputable section

namespace Cert.Equal

open Idealize.ShloMosaic Idealize.ShloMosaic.StableHlo Idealize.SL.Sem
open Cert.KernelIdeal.Whole (yK xK xN idOf a0 a2 a3 a4 V0 SortedIds ResAt work d0)
open Cert.ReferenceIdeal.Whole (valOf xOf M A0 A2 A3 A4 I1 X38)

/-- The two memories hold the same arguments. -/
structure Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD) : Prop where
  e0 : A0 (M m' c) = a0 m
  e1 : I1 (M m' c) = (V0 m (Proc.devRef .tc Cert.KernelIdeal.main_arg1) : (⟨1, ![320000]⟩ : Shape).Idx → BitVec 32)
  e2 : A2 (M m' c) = a2 m
  e3 : A3 (M m' c) = a3 m
  e4 : A4 (M m' c) = a4 m

/-- The arguments that the values divide and sum are real numbers. -/
structure Finite (m : (ℓ : Loc Cert.KernelIdeal.nD Cert.KernelIdeal.τ Cert.KernelIdeal.sig) → Buf (Elt Ideal) ℓ) : Prop where
  f0 : ∀ i, ∃ r : ℝ, a0 m i = (r : EReal)
  f2 : ∀ i, ∃ r : ℝ, a2 m i = (r : EReal)
  f3 : ∀ i, ∃ r : ℝ, a3 m i = (r : EReal)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.ReferenceIdeal.nD}

/-- The two programs have the same products. -/
theorem xOf_eq (h : Same m m' c) (r : Fin 320000) (u : Fin 64) : xOf m' c r u = xK m r u := by
  unfold xOf xK
  rw [h.e0, h.e2]

/-- A product of finite rows is finite. -/
theorem xK_real (hf : Finite m) (r : Fin 320000) (u : Fin 64) : ∃ x : ℝ, xK m r u = (x : EReal) := by
  choose p hp using fun k : Fin 128 => hf.f0 (ix2 r k)
  choose q hq using fun k : Fin 128 => hf.f2 (ix2 u k)
  refine ⟨∑ k, p k * q k, ?_⟩
  rw [← Cert.Norm.coe_sum]
  exact Finset.sum_congr rfl fun k _ => by rw [hp, hq, EReal.coe_mul]

/-- A product at a row's number is the row's product. -/
theorem xN_val (r : Fin 320000) (u : Fin 64) : xN m u r.val = xK m r u := dif_pos r.isLt

/-- The two values of a point are equal. -/
theorem val_eq (h : Same m m' c) (hf : Finite m) (r : Fin 320000) (u : Fin 64) : yK m u r.val = valOf m' c r u := by
  unfold yK valOf
  rw [Finset.sum_range, Finset.sum_range]
  simp only [xN_val, xOf_eq h]
  rw [h.e3, h.e4, Cert.Norm.ker_eq_ref (by rw [Fintype.card_fin]; norm_num) (fun r => xK m r u) _ _ (fun r => xK_real hf r u) (hf.f3 _) r]

/-- Every entry that the kernel can leave is the reference's. -/
theorem result_eq (h : Same m m' c) (hf : Finite m) (hs : SortedIds m) (x : (⟨2, ![320000, 128]⟩ : Shape).Idx) (v : EReal)
    (hv : ResAt (F := Ideal) (work m) x v) :
    v = X38 (finalContents Cert.ReferenceIdeal.Value.condOps Cert.ReferenceIdeal.Value.preI Cert.ReferenceIdeal.Value.bodyI Cert.ReferenceIdeal.Value.postI 10000 m' c) x := by
  have hx : x = ix2 (x 0) (x 1) := funext fun a => match a with
    | ⟨0, _⟩ => rfl
    | ⟨1, _⟩ => rfl
  have h1 : (x 1).val < 128 := (x 1).isLt
  have hi : ∀ r : Fin 320000, idOf m r.val = (I1 (M m' c) (ix1 r)).toNat := fun r => by
    unfold idOf
    rw [dif_pos r.isLt, h.e1]
  by_cases hc : (x 1).val < 64
  · have hx' : x = ix2 (x 0) ⟨(⟨(x 1).val, hc⟩ : Fin 64).val, by omega⟩ := hx
    refine (Cert.KernelIdeal.Whole.res_lo hv (x 0) ⟨(x 1).val, hc⟩ hx').trans (Eq.trans ?_ (congrArg (X38 _) hx'.symm))
    exact (val_eq h hf (x 0) _).trans (Cert.ReferenceIdeal.Whole.out_lo m' c (x 0) ⟨(x 1).val, hc⟩).symm
  · have hx' : x = ix2 (x 0) ⟨64 + (⟨(x 1).val - 64, by omega⟩ : Fin 64).val, by show 64 + ((x 1).val - 64) < 128; omega⟩ :=
      hx.trans (congrArg (ix2 (x 0)) (Fin.ext (by show (x 1).val = 64 + ((x 1).val - 64); omega)))
    have hw : I1 (M m' c) (ix1 (x 0)) = BitVec.ofNat 32 (⟨idOf m (x 0).val, hs.lt _ (x 0).isLt⟩ : Fin 10000).val := by
      show _ = BitVec.ofNat 32 (idOf m (x 0).val)
      rw [hi (x 0), BitVec.ofNat_toNat, BitVec.setWidth_eq]
    refine (Cert.KernelIdeal.Whole.res_hi hs hv (x 0) ⟨(x 1).val - 64, by omega⟩ hx').trans (Eq.trans ?_ (congrArg (X38 _) hx'.symm))
    refine Eq.trans ?_ (Cert.ReferenceIdeal.Whole.out_hi m' c (x 0) ⟨(x 1).val - 64, by omega⟩ _ hw).symm
    refine Finset.sup_congr rfl fun r' _ => ?_
    rw [val_eq h hf r', hi r', hi (x 0)]
    exact if_congr BitVec.toNat_inj rfl rfl

end Cert.Equal

end
-- ==== Proof.PreFinite.lean ====
/- What the second precondition says: the segment numbers are in range and do not decrease, and the points, the weights
   and the scale are finite. -/
module

public import proofs.«01_k».proof.Proof.Pre
public import Idealize.ShloMosaic.Lib.ReduceAll
public import Idealize.ShloMosaic.Lib.Affine
public import Idealize.ShloMosaic.Lib.Pointwise
public import Idealize.ShloMosaic.Lib.Pipeline.Value

@[expose] public section
namespace Cert.Pre

open Idealize.ShloMosaic

/-- The precondition's stated facts. -/
theorem factsF : Cert.Pre_sorted_finite.Facts :=
  ⟨by decide, by decide, by decide, by decide, by decide, by decide, by decide, by decide, by decide, by decide, by decide, by decide⟩

attribute [local instance] factsF

/-- An extended real whose absolute value is below infinity is a real number. -/
theorem finite_of {v : Ideal .f32} (e : FloatOps.cmpf .olt (FloatOps.hostAbsf v) (FloatOps.ofBits .f32 0x7F800000#32) = 1#1) :
    ∃ r : ℝ, v = (r : EReal) := by
  have hinf : (FloatOps.ofBits (F := Ideal) .f32 0x7F800000#32) = (⊤ : EReal) := by
    show Ideal.ofBits .f32 0x7F800000#32 = _
    simp [Ideal.ofBits, Ideal.ieee]
  rw [hinf, Ideal.cmpf_def] at e
  have e2 : max (v : EReal) (-v) < ⊤ := by
    by_contra hc
    have : Ideal.cmp .olt (max (v : EReal) (-v)) (⊤ : EReal) = 0#1 := by simp [Ideal.cmp, hc]
    exact absurd (e.symm.trans this) (by decide)
  have hv : (v : EReal) ≠ ⊤ := fun h => by rw [h] at e2; simp at e2
  have hv' : (v : EReal) ≠ ⊥ := fun h => by rw [h] at e2; simp at e2
  exact ⟨(v : EReal).toReal, (EReal.coe_toReal hv hv').symm⟩

/-- The second precondition gives the facts of the segment numbers, and the three arrays finite. -/
theorem of_finite (x0 : FVec Ideal ⟨2, ![320000, 128]⟩ .f32) (a : IVec S320000 32) (x2 : FVec Ideal ⟨2, ![64, 128]⟩ .f32)
    (x3 x4 : FVec Ideal ⟨1, ![64]⟩ .f32) (h : Cert.Pre_sorted_finite.fn (F := Ideal) x0 a x2 x3 x4 = fun _ => 1#1) :
    IdsOK a ∧ (∀ i, ∃ r : ℝ, x0 i = (r : EReal)) ∧ (∀ i, ∃ r : ℝ, x2 i = (r : EReal)) ∧ ∀ i, ∃ r : ℝ, x3 i = (r : EReal) := by
  have e := congrFun h (fun i => i.elim0)
  unfold Cert.Pre_sorted_finite.fn Cert.Pre_sorted_finite.fn_part1 at e
  obtain ⟨e10, e24⟩ := and_one e
  obtain ⟨e5, e9⟩ := and_one e10
  obtain ⟨e19, e23⟩ := and_one e24
  obtain ⟨e14, e18⟩ := and_one e19
  refine ⟨idsOK (fun i => ?_) fun k hk => ?_, fun i => finite_of ?_, fun i => finite_of ?_, fun i => finite_of ?_⟩
  · exact Host.reduce_andi_all _ _ _ _ _ e5 i
  · have := Host.reduce_andi_all _ _ _ _ _ e9 (ix1 ⟨k, by omega⟩)
    refine (congrArg₂ (fun u v => IntOp.cmpi .sge u v) ?_ ?_).trans this
    · exact (extractStridedSlice_apply _ _ _ _ _ fun b => by fin_cases b; show k + 1 = 1 + k; omega).symm
    · exact (extractStridedSlice_apply _ _ _ _ _ fun b => by fin_cases b; show k = 0 + k; omega).symm
  · exact Host.reduce_andi_all _ _ _ _ _ e14 i
  · exact Host.reduce_andi_all _ _ _ _ _ e18 i
  · exact Host.reduce_andi_all _ _ _ _ _ e23 i

end Cert.Pre
end
-- ==== Proof.lean ====
module

public import proofs.«01_k».proof.Defs
public import proofs.«01_k».proof.Proof.Frames
public import proofs.«01_k».proof.Proof.KerFrame
public import proofs.«01_k».proof.Proof.RefFrame
public import proofs.«01_k».proof.Proof.Equal
public import proofs.«01_k».proof.Proof.PreFinite
public import Idealize.ShloMosaic.Adequacy
public import Idealize.ShloMosaic.Init

@[expose] public section

noncomputable section

namespace Cert.Proof

open Idealize.ShloMosaic Idealize.ShloMosaic.StableHlo Idealize.SL.Sem

attribute [local instance] Cert.KernelIdeal.Gen.facts Cert.ReferenceIdeal.Gen.facts Cert.Pre.factsF

/-- At exact arithmetic, on sorted segment numbers and finite arguments, the kernel and the reference end with the same result. -/
theorem algebraic : Cert.algebraic_KernelIdeal_ReferenceIdeal_pre_sorted_finite := by
  intro m g m' g' hp harg
  obtain ⟨hids, h0, h2, h3⟩ := Cert.Pre.of_finite _ _ _ _ _ (hp Cert.KernelIdeal.Whole.d0)
  have hs := Cert.KernelIdeal.Whole.sortedIds_of m hids
  have hfin : Cert.Equal.Finite m := ⟨h0, h2, h3⟩
  refine ⟨fun c => finalContents Cert.ReferenceIdeal.Value.condOps Cert.ReferenceIdeal.Value.preI Cert.ReferenceIdeal.Value.bodyI
    Cert.ReferenceIdeal.Value.postI 10000 m' c (Proc.devRef .tc Cert.ReferenceIdeal.main_v38), ?_, ?_⟩
  · refine (θ_run _ _ _).mono (fun r h c => ⟨?_, (h.1 c).2⟩) (Cert.KernelIdeal.Whole.run_main m (Cert.KernelIdeal.Whole.work_ok hs) g)
    have hc : c = Cert.KernelIdeal.Whole.d0 := Subsingleton.elim (α := Fin 1) _ _
    have ha := harg c
    have hsame : Cert.Equal.Same m m' c := by
      subst hc
      exact ⟨ha.1, ha.2.1, ha.2.2.1, ha.2.2.2.1, ha.2.2.2.2⟩
    funext x
    exact Cert.Equal.result_eq hsame hfin hs x _ ((h.1 c).1 x)
  · refine (θ_run _ _ _).mono (fun r h c => ⟨h c Cert.ReferenceIdeal.main_v38 rfl, ?_, ?_, ?_, ?_, ?_⟩) (Cert.ReferenceIdeal.Value.run_fold m' g')
    · exact (h c Cert.ReferenceIdeal.main_arg0 rfl).trans (Cert.ReferenceIdeal.Whole.final_keep m' c (by decide) (by decide) (by decide) (by decide) (by decide) (by decide) (by decide) (by decide) (by decide) (by decide) (by decide))
    · exact (h c Cert.ReferenceIdeal.main_arg1 rfl).trans (Cert.ReferenceIdeal.Whole.final_keep m' c (by decide) (by decide) (by decide) (by decide) (by decide) (by decide) (by decide) (by decide) (by decide) (by decide) (by decide))
    · exact (h c Cert.ReferenceIdeal.main_arg2 rfl).trans (Cert.ReferenceIdeal.Whole.final_keep m' c (by decide) (by decide) (by decide) (by decide) (by decide) (by decide) (by decide) (by decide) (by decide) (by decide) (by decide))
    · exact (h c Cert.ReferenceIdeal.main_arg3 rfl).trans (Cert.ReferenceIdeal.Whole.final_keep m' c (by decide) (by decide) (by decide) (by decide) (by decide) (by decide) (by decide) (by decide) (by decide) (by decide) (by decide))
    · exact (h c Cert.ReferenceIdeal.main_arg4 rfl).trans (Cert.ReferenceIdeal.Whole.final_keep m' c (by decide) (by decide) (by decide) (by decide) (by decide) (by decide) (by decide) (by decide) (by decide) (by decide) (by decide))

/-- Every claim of the certificate. -/
theorem claim : Cert.Claim :=
  ⟨Cert.Kernel.Gen.facts, Cert.KernelIdeal.Gen.facts, Cert.ReferenceIdeal.Gen.facts, Cert.Pre.factsS, Cert.Pre.factsF,
    fun m g h => Cert.Kernel.Whole.frame m (Cert.Pre.ids_of_segments _ _ _ _ _ (h 0)) g,
    fun m g h => Cert.KernelIdeal.Whole.frame m (Cert.KernelIdeal.Whole.sortedIds_of m (Cert.Pre.ids_of_segments _ _ _ _ _ (h 0))) g,
    fun m g h => Cert.KernelIdeal.Whole.frame m (Cert.KernelIdeal.Whole.sortedIds_of m (Cert.Pre.of_finite _ _ _ _ _ (h 0)).1) g,
    fun m g _ => Cert.ReferenceIdeal.Whole.frame m g, fun m g _ => Cert.ReferenceIdeal.Whole.frame m g, trivial, algebraic⟩

end Cert.Proof

end
